-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ExpertUp [hPre_experts_up : Cert.Pre_experts_up.Facts] (m : (ℓ : Loc Cert.ExpertUp.nD Cert.ExpertUp.τ Cert.ExpertUp.sig) → Buf (Elt Bits) ℓ) : Prop :=
  ∀ c : Dev Cert.ExpertUp.nD,
    (Cert.Pre_experts_up.fn (F := Bits) (m ((c.tc : Thread Cert.ExpertUp.nD Cert.ExpertUp.τ).loc Cert.ExpertUp.main_arg0)) (m ((c.tc : Thread Cert.ExpertUp.nD Cert.ExpertUp.τ).loc Cert.ExpertUp.main_arg1)) (m ((c.tc : Thread Cert.ExpertUp.nD Cert.ExpertUp.τ).loc Cert.ExpertUp.main_arg2)) (m ((c.tc : Thread Cert.ExpertUp.nD Cert.ExpertUp.τ).loc Cert.ExpertUp.main_arg3))) = (fun _ => 1#1)

def Pre_ExpertUpIdeal [hPre_experts_up : Cert.Pre_experts_up.Facts] (m : (ℓ : Loc Cert.ExpertUpIdeal.nD Cert.ExpertUpIdeal.τ Cert.ExpertUpIdeal.sig) → Buf (Elt Ideal) ℓ) : Prop :=
  ∀ c : Dev Cert.ExpertUpIdeal.nD,
    (Cert.Pre_experts_up.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3))) = (fun _ => 1#1)

def Pre_ExpertUpRefIdeal (m : (ℓ : Loc Cert.ExpertUpRefIdeal.nD Cert.ExpertUpRefIdeal.τ Cert.ExpertUpRefIdeal.sig) → Buf (Elt Ideal) ℓ) : Prop :=
  True

def Pre_ExpertUpRefIdeal_experts_up [hPre_experts_up : Cert.Pre_experts_up.Facts] (m : (ℓ : Loc Cert.ExpertUpRefIdeal.nD Cert.ExpertUpRefIdeal.τ Cert.ExpertUpRefIdeal.sig) → Buf (Elt Ideal) ℓ) : Prop :=
  ∀ c : Dev Cert.ExpertUpRefIdeal.nD,
    (Cert.Pre_experts_up.fn (F := Ideal) (m ((c.tc : Thread Cert.ExpertUpRefIdeal.nD Cert.ExpertUpRefIdeal.τ).loc Cert.ExpertUpRefIdeal.main_arg0)) (m ((c.tc : Thread Cert.ExpertUpRefIdeal.nD Cert.ExpertUpRefIdeal.τ).loc Cert.ExpertUpRefIdeal.main_arg1)) (m ((c.tc : Thread Cert.ExpertUpRefIdeal.nD Cert.ExpertUpRefIdeal.τ).loc Cert.ExpertUpRefIdeal.main_arg2)) (m ((c.tc : Thread Cert.ExpertUpRefIdeal.nD Cert.ExpertUpRefIdeal.τ).loc Cert.ExpertUpRefIdeal.main_arg3))) = (fun _ => 1#1)

def Pre_ExpertDown [hPre_experts_down : Cert.Pre_experts_down.Facts] (m : (ℓ : Loc Cert.ExpertDown.nD Cert.ExpertDown.τ Cert.ExpertDown.sig) → Buf (Elt Bits) ℓ) : Prop :=
  ∀ c : Dev Cert.ExpertDown.nD,
    (Cert.Pre_experts_down.fn (F := Bits) (m ((c.tc : Thread Cert.ExpertDown.nD Cert.ExpertDown.τ).loc Cert.ExpertDown.main_arg0)) (m ((c.tc : Thread Cert.ExpertDown.nD Cert.ExpertDown.τ).loc Cert.ExpertDown.main_arg1)) (m ((c.tc : Thread Cert.ExpertDown.nD Cert.ExpertDown.τ).loc Cert.ExpertDown.main_arg2))) = (fun _ => 1#1)

def Pre_ExpertDownIdeal [hPre_experts_down : Cert.Pre_experts_down.Facts] (m : (ℓ : Loc Cert.ExpertDownIdeal.nD Cert.ExpertDownIdeal.τ Cert.ExpertDownIdeal.sig) → Buf (Elt Ideal) ℓ) : Prop :=
  ∀ c : Dev Cert.ExpertDownIdeal.nD,
    (Cert.Pre_experts_down.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2))) = (fun _ => 1#1)

def Pre_ExpertDownRefIdeal (m : (ℓ : Loc Cert.ExpertDownRefIdeal.nD Cert.ExpertDownRefIdeal.τ Cert.ExpertDownRefIdeal.sig) → Buf (Elt Ideal) ℓ) : Prop :=
  True

def Pre_ExpertDownRefIdeal_experts_down [hPre_experts_down : Cert.Pre_experts_down.Facts] (m : (ℓ : Loc Cert.ExpertDownRefIdeal.nD Cert.ExpertDownRefIdeal.τ Cert.ExpertDownRefIdeal.sig) → Buf (Elt Ideal) ℓ) : Prop :=
  ∀ c : Dev Cert.ExpertDownRefIdeal.nD,
    (Cert.Pre_experts_down.fn (F := Ideal) (m ((c.tc : Thread Cert.ExpertDownRefIdeal.nD Cert.ExpertDownRefIdeal.τ).loc Cert.ExpertDownRefIdeal.main_arg0)) (m ((c.tc : Thread Cert.ExpertDownRefIdeal.nD Cert.ExpertDownRefIdeal.τ).loc Cert.ExpertDownRefIdeal.main_arg1)) (m ((c.tc : Thread Cert.ExpertDownRefIdeal.nD Cert.ExpertDownRefIdeal.τ).loc Cert.ExpertDownRefIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_ValueGate (m : (ℓ : Loc Cert.ValueGate.nD Cert.ValueGate.τ Cert.ValueGate.sig) → Buf (Elt Bits) ℓ) : Prop :=
  True

def Pre_ValueGateIdeal (m : (ℓ : Loc Cert.ValueGateIdeal.nD Cert.ValueGateIdeal.τ Cert.ValueGateIdeal.sig) → Buf (Elt Ideal) ℓ) : Prop :=
  True

def Pre_ValueGateRefIdeal (m : (ℓ : Loc Cert.ValueGateRefIdeal.nD Cert.ValueGateRefIdeal.τ Cert.ValueGateRefIdeal.sig) → Buf (Elt Ideal) ℓ) : Prop :=
  True

def Pre_LastPle (m : (ℓ : Loc Cert.LastPle.nD Cert.LastPle.τ Cert.LastPle.sig) → Buf (Elt Bits) ℓ) : Prop :=
  True

def Pre_LastPleIdeal (m : (ℓ : Loc Cert.LastPleIdeal.nD Cert.LastPleIdeal.τ Cert.LastPleIdeal.sig) → Buf (Elt Ideal) ℓ) : Prop :=
  True

def Pre_LastPleRefIdeal (m : (ℓ : Loc Cert.LastPleRefIdeal.nD Cert.LastPleRefIdeal.τ Cert.LastPleRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_RetQk (m : (ℓ : Loc Cert.RetQk.nD Cert.RetQk.τ Cert.RetQk.sig) → Buf (Elt Bits) ℓ) : Prop :=
  True

def Pre_RetQkIdeal (m : (ℓ : Loc Cert.RetQkIdeal.nD Cert.RetQkIdeal.τ Cert.RetQkIdeal.sig) → Buf (Elt Ideal) ℓ) : Prop :=
  True

def Pre_RetQkRefIdeal (m : (ℓ : Loc Cert.RetQkRefIdeal.nD Cert.RetQkRefIdeal.τ Cert.RetQkRefIdeal.sig) → Buf (Elt Ideal) ℓ) : Prop :=
  True

def Pre_FirstPle (m : (ℓ : Loc Cert.FirstPle.nD Cert.FirstPle.τ Cert.FirstPle.sig) → Buf (Elt Bits) ℓ) : Prop :=
  True

def Pre_FirstPleIdeal (m : (ℓ : Loc Cert.FirstPleIdeal.nD Cert.FirstPleIdeal.τ Cert.FirstPleIdeal.sig) → Buf (Elt Ideal) ℓ) : Prop :=
  True

def Pre_FirstPleRefIdeal (m : (ℓ : Loc Cert.FirstPleRefIdeal.nD Cert.FirstPleRefIdeal.τ Cert.FirstPleRefIdeal.sig) → Buf (Elt Ideal) ℓ) : Prop :=
  True

def Pre_MidPle (m : (ℓ : Loc Cert.MidPle.nD Cert.MidPle.τ Cert.MidPle.sig) → Buf (Elt Bits) ℓ) : Prop :=
  True

def Pre_MidPleIdeal (m : (ℓ : Loc Cert.MidPleIdeal.nD Cert.MidPleIdeal.τ Cert.MidPleIdeal.sig) → Buf (Elt Ideal) ℓ) : Prop :=
  True

def Pre_MidPleRefIdeal (m : (ℓ : Loc Cert.MidPleRefIdeal.nD Cert.MidPleRefIdeal.τ Cert.MidPleRefIdeal.sig) → Buf (Elt Ideal) ℓ) : Prop :=
  True

def Pre_MlaLatent (m : (ℓ : Loc Cert.MlaLatent.nD Cert.MlaLatent.τ Cert.MlaLatent.sig) → Buf (Elt Bits) ℓ) : Prop :=
  True

def Pre_MlaLatentIdeal (m : (ℓ : Loc Cert.MlaLatentIdeal.nD Cert.MlaLatentIdeal.τ Cert.MlaLatentIdeal.sig) → Buf (Elt Ideal) ℓ) : Prop :=
  True

def Pre_MlaLatentRefIdeal (m : (ℓ : Loc Cert.MlaLatentRefIdeal.nD Cert.MlaLatentRefIdeal.τ Cert.MlaLatentRefIdeal.sig) → Buf (Elt Ideal) ℓ) : Prop :=
  True

def Pre_MlaKey (m : (ℓ : Loc Cert.MlaKey.nD Cert.MlaKey.τ Cert.MlaKey.sig) → Buf (Elt Bits) ℓ) : Prop :=
  True

def Pre_MlaKeyIdeal (m : (ℓ : Loc Cert.MlaKeyIdeal.nD Cert.MlaKeyIdeal.τ Cert.MlaKeyIdeal.sig) → Buf (Elt Ideal) ℓ) : Prop :=
  True

def Pre_MlaKeyRefIdeal (m : (ℓ : Loc Cert.MlaKeyRefIdeal.nD Cert.MlaKeyRefIdeal.τ Cert.MlaKeyRefIdeal.sig) → Buf (Elt Ideal) ℓ) : Prop :=
  True

def Pre_MlaValue (m : (ℓ : Loc Cert.MlaValue.nD Cert.MlaValue.τ Cert.MlaValue.sig) → Buf (Elt Bits) ℓ) : Prop :=
  True

def Pre_MlaValueIdeal (m : (ℓ : Loc Cert.MlaValueIdeal.nD Cert.MlaValueIdeal.τ Cert.MlaValueIdeal.sig) → Buf (Elt Ideal) ℓ) : Prop :=
  True

def Pre_MlaValueRefIdeal (m : (ℓ : Loc Cert.MlaValueRefIdeal.nD Cert.MlaValueRefIdeal.τ Cert.MlaValueRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ExpertUp [hExpertUp : Cert.ExpertUp.Facts] [hPre_experts_up : Cert.Pre_experts_up.Facts] : Prop :=
  ∀ (m : (ℓ : Loc Cert.ExpertUp.nD Cert.ExpertUp.τ Cert.ExpertUp.sig) → Buf (Elt Bits) ℓ) (g : Dev Cert.ExpertUp.nD → PrngReg), Pre_ExpertUp m →
    θ_run (Cert.ExpertUp.defs (F := Bits)) (onTc (τ := Cert.ExpertUp.τ) (Cert.ExpertUp.main (F := Bits))) ⟨m, fun _ => 0, g⟩ (fun r => (∀ c : Dev Cert.ExpertUp.nD,
      r.2.mem ((c.tc : Thread Cert.ExpertUp.nD Cert.ExpertUp.τ).loc Cert.ExpertUp.main_arg0) = m ((c.tc : Thread Cert.ExpertUp.nD Cert.ExpertUp.τ).loc Cert.ExpertUp.main_arg0)
      ∧ r.2.mem ((c.tc : Thread Cert.ExpertUp.nD Cert.ExpertUp.τ).loc Cert.ExpertUp.main_arg1) = m ((c.tc : Thread Cert.ExpertUp.nD Cert.ExpertUp.τ).loc Cert.ExpertUp.main_arg1)
      ∧ r.2.mem ((c.tc : Thread Cert.ExpertUp.nD Cert.ExpertUp.τ).loc Cert.ExpertUp.main_arg2) = m ((c.tc : Thread Cert.ExpertUp.nD Cert.ExpertUp.τ).loc Cert.ExpertUp.main_arg2)
      ∧ r.2.mem ((c.tc : Thread Cert.ExpertUp.nD Cert.ExpertUp.τ).loc Cert.ExpertUp.main_arg3) = m ((c.tc : Thread Cert.ExpertUp.nD Cert.ExpertUp.τ).loc Cert.ExpertUp.main_arg3))
      ∧ r.2.sem = fun _ => 0)

def quiescent_ExpertUpIdeal [hExpertUpIdeal : Cert.ExpertUpIdeal.Facts] [hPre_experts_up : Cert.Pre_experts_up.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg), Pre_ExpertUpIdeal m →
    θ_run (Cert.ExpertUpIdeal.defs (F := Ideal)) (onTc (τ := Cert.ExpertUpIdeal.τ) (Cert.ExpertUpIdeal.main (F := Ideal))) ⟨m, fun _ => 0, g⟩ (fun r => (∀ c : Dev Cert.ExpertUpIdeal.nD,
      r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
      ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
      ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
      ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3))
      ∧ r.2.sem = fun _ => 0)

def quiescent_ExpertUpRefIdeal [hExpertUpRefIdeal : Cert.ExpertUpRefIdeal.Facts] : Prop :=
  ∀ (m : (ℓ : Loc Cert.ExpertUpRefIdeal.nD Cert.ExpertUpRefIdeal.τ Cert.ExpertUpRefIdeal.sig) → Buf (Elt Ideal) ℓ) (g : Dev Cert.ExpertUpRefIdeal.nD → PrngReg), Pre_ExpertUpRefIdeal m →
    θ_run (Cert.ExpertUpRefIdeal.defs (F := Ideal)) (onTc (τ := Cert.ExpertUpRefIdeal.τ) (Cert.ExpertUpRefIdeal.main (F := Ideal))) ⟨m, fun _ => 0, g⟩ (fun r => (∀ c : Dev Cert.ExpertUpRefIdeal.nD,
      r.2.mem ((c.tc : Thread Cert.ExpertUpRefIdeal.nD Cert.ExpertUpRefIdeal.τ).loc Cert.ExpertUpRefIdeal.main_arg0) = m ((c.tc : Thread Cert.ExpertUpRefIdeal.nD Cert.ExpertUpRefIdeal.τ).loc Cert.ExpertUpRefIdeal.main_arg0)
      ∧ r.2.mem ((c.tc : Thread Cert.ExpertUpRefIdeal.nD Cert.ExpertUpRefIdeal.τ).loc Cert.ExpertUpRefIdeal.main_arg1) = m ((c.tc : Thread Cert.ExpertUpRefIdeal.nD Cert.ExpertUpRefIdeal.τ).loc Cert.ExpertUpRefIdeal.main_arg1)
      ∧ r.2.mem ((c.tc : Thread Cert.ExpertUpRefIdeal.nD Cert.ExpertUpRefIdeal.τ).loc Cert.ExpertUpRefIdeal.main_arg2) = m ((c.tc : Thread Cert.ExpertUpRefIdeal.nD Cert.ExpertUpRefIdeal.τ).loc Cert.ExpertUpRefIdeal.main_arg2)
      ∧ r.2.mem ((c.tc : Thread Cert.ExpertUpRefIdeal.nD Cert.ExpertUpRefIdeal.τ).loc Cert.ExpertUpRefIdeal.main_arg3) = m ((c.tc : Thread Cert.ExpertUpRefIdeal.nD Cert.ExpertUpRefIdeal.τ).loc Cert.ExpertUpRefIdeal.main_arg3))
      ∧ r.2.sem = fun _ => 0)

def quiescent_ExpertUpRefIdeal_pre_experts_up [hExpertUpRefIdeal : Cert.ExpertUpRefIdeal.Facts] [hPre_experts_up : Cert.Pre_experts_up.Facts] : Prop :=
  ∀ (m : (ℓ : Loc Cert.ExpertUpRefIdeal.nD Cert.ExpertUpRefIdeal.τ Cert.ExpertUpRefIdeal.sig) → Buf (Elt Ideal) ℓ) (g : Dev Cert.ExpertUpRefIdeal.nD → PrngReg), Pre_ExpertUpRefIdeal_experts_up m →
    θ_run (Cert.ExpertUpRefIdeal.defs (F := Ideal)) (onTc (τ := Cert.ExpertUpRefIdeal.τ) (Cert.ExpertUpRefIdeal.main (F := Ideal))) ⟨m, fun _ => 0, g⟩ (fun r => (∀ c : Dev Cert.ExpertUpRefIdeal.nD,
      r.2.mem ((c.tc : Thread Cert.ExpertUpRefIdeal.nD Cert.ExpertUpRefIdeal.τ).loc Cert.ExpertUpRefIdeal.main_arg0) = m ((c.tc : Thread Cert.ExpertUpRefIdeal.nD Cert.ExpertUpRefIdeal.τ).loc Cert.ExpertUpRefIdeal.main_arg0)
      ∧ r.2.mem ((c.tc : Thread Cert.ExpertUpRefIdeal.nD Cert.ExpertUpRefIdeal.τ).loc Cert.ExpertUpRefIdeal.main_arg1) = m ((c.tc : Thread Cert.ExpertUpRefIdeal.nD Cert.ExpertUpRefIdeal.τ).loc Cert.ExpertUpRefIdeal.main_arg1)
      ∧ r.2.mem ((c.tc : Thread Cert.ExpertUpRefIdeal.nD Cert.ExpertUpRefIdeal.τ).loc Cert.ExpertUpRefIdeal.main_arg2) = m ((c.tc : Thread Cert.ExpertUpRefIdeal.nD Cert.ExpertUpRefIdeal.τ).loc Cert.ExpertUpRefIdeal.main_arg2)
      ∧ r.2.mem ((c.tc : Thread Cert.ExpertUpRefIdeal.nD Cert.ExpertUpRefIdeal.τ).loc Cert.ExpertUpRefIdeal.main_arg3) = m ((c.tc : Thread Cert.ExpertUpRefIdeal.nD Cert.ExpertUpRefIdeal.τ).loc Cert.ExpertUpRefIdeal.main_arg3))
      ∧ r.2.sem = fun _ => 0)

def quiescent_ExpertDown [hExpertDown : Cert.ExpertDown.Facts] [hPre_experts_down : Cert.Pre_experts_down.Facts] : Prop :=
  ∀ (m : (ℓ : Loc Cert.ExpertDown.nD Cert.ExpertDown.τ Cert.ExpertDown.sig) → Buf (Elt Bits) ℓ) (g : Dev Cert.ExpertDown.nD → PrngReg), Pre_ExpertDown m →
    θ_run (Cert.ExpertDown.defs (F := Bits)) (onTc (τ := Cert.ExpertDown.τ) (Cert.ExpertDown.main (F := Bits))) ⟨m, fun _ => 0, g⟩ (fun r => (∀ c : Dev Cert.ExpertDown.nD,
      r.2.mem ((c.tc : Thread Cert.ExpertDown.nD Cert.ExpertDown.τ).loc Cert.ExpertDown.main_arg0) = m ((c.tc : Thread Cert.ExpertDown.nD Cert.ExpertDown.τ).loc Cert.ExpertDown.main_arg0)
      ∧ r.2.mem ((c.tc : Thread Cert.ExpertDown.nD Cert.ExpertDown.τ).loc Cert.ExpertDown.main_arg1) = m ((c.tc : Thread Cert.ExpertDown.nD Cert.ExpertDown.τ).loc Cert.ExpertDown.main_arg1)
      ∧ r.2.mem ((c.tc : Thread Cert.ExpertDown.nD Cert.ExpertDown.τ).loc Cert.ExpertDown.main_arg2) = m ((c.tc : Thread Cert.ExpertDown.nD Cert.ExpertDown.τ).loc Cert.ExpertDown.main_arg2))
      ∧ r.2.sem = fun _ => 0)

def quiescent_ExpertDownIdeal [hExpertDownIdeal : Cert.ExpertDownIdeal.Facts] [hPre_experts_down : Cert.Pre_experts_down.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg), Pre_ExpertDownIdeal m →
    θ_run (Cert.ExpertDownIdeal.defs (F := Ideal)) (onTc (τ := Cert.ExpertDownIdeal.τ) (Cert.ExpertDownIdeal.main (F := Ideal))) ⟨m, fun _ => 0, g⟩ (fun r => (∀ c : Dev Cert.ExpertDownIdeal.nD,
      r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
      ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
      ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2))
      ∧ r.2.sem = fun _ => 0)

def quiescent_ExpertDownRefIdeal [hExpertDownRefIdeal : Cert.ExpertDownRefIdeal.Facts] : Prop :=
  ∀ (m : (ℓ : Loc Cert.ExpertDownRefIdeal.nD Cert.ExpertDownRefIdeal.τ Cert.ExpertDownRefIdeal.sig) → Buf (Elt Ideal) ℓ) (g : Dev Cert.ExpertDownRefIdeal.nD → PrngReg), Pre_ExpertDownRefIdeal m →
    θ_run (Cert.ExpertDownRefIdeal.defs (F := Ideal)) (onTc (τ := Cert.ExpertDownRefIdeal.τ) (Cert.ExpertDownRefIdeal.main (F := Ideal))) ⟨m, fun _ => 0, g⟩ (fun r => (∀ c : Dev Cert.ExpertDownRefIdeal.nD,
      r.2.mem ((c.tc : Thread Cert.ExpertDownRefIdeal.nD Cert.ExpertDownRefIdeal.τ).loc Cert.ExpertDownRefIdeal.main_arg0) = m ((c.tc : Thread Cert.ExpertDownRefIdeal.nD Cert.ExpertDownRefIdeal.τ).loc Cert.ExpertDownRefIdeal.main_arg0)
      ∧ r.2.mem ((c.tc : Thread Cert.ExpertDownRefIdeal.nD Cert.ExpertDownRefIdeal.τ).loc Cert.ExpertDownRefIdeal.main_arg1) = m ((c.tc : Thread Cert.ExpertDownRefIdeal.nD Cert.ExpertDownRefIdeal.τ).loc Cert.ExpertDownRefIdeal.main_arg1)
      ∧ r.2.mem ((c.tc : Thread Cert.ExpertDownRefIdeal.nD Cert.ExpertDownRefIdeal.τ).loc Cert.ExpertDownRefIdeal.main_arg2) = m ((c.tc : Thread Cert.ExpertDownRefIdeal.nD Cert.ExpertDownRefIdeal.τ).loc Cert.ExpertDownRefIdeal.main_arg2))
      ∧ r.2.sem = fun _ => 0)

def quiescent_ExpertDownRefIdeal_pre_experts_down [hExpertDownRefIdeal : Cert.ExpertDownRefIdeal.Facts] [hPre_experts_down : Cert.Pre_experts_down.Facts] : Prop :=
  ∀ (m : (ℓ : Loc Cert.ExpertDownRefIdeal.nD Cert.ExpertDownRefIdeal.τ Cert.ExpertDownRefIdeal.sig) → Buf (Elt Ideal) ℓ) (g : Dev Cert.ExpertDownRefIdeal.nD → PrngReg), Pre_ExpertDownRefIdeal_experts_down m →
    θ_run (Cert.ExpertDownRefIdeal.defs (F := Ideal)) (onTc (τ := Cert.ExpertDownRefIdeal.τ) (Cert.ExpertDownRefIdeal.main (F := Ideal))) ⟨m, fun _ => 0, g⟩ (fun r => (∀ c : Dev Cert.ExpertDownRefIdeal.nD,
      r.2.mem ((c.tc : Thread Cert.ExpertDownRefIdeal.nD Cert.ExpertDownRefIdeal.τ).loc Cert.ExpertDownRefIdeal.main_arg0) = m ((c.tc : Thread Cert.ExpertDownRefIdeal.nD Cert.ExpertDownRefIdeal.τ).loc Cert.ExpertDownRefIdeal.main_arg0)
      ∧ r.2.mem ((c.tc : Thread Cert.ExpertDownRefIdeal.nD Cert.ExpertDownRefIdeal.τ).loc Cert.ExpertDownRefIdeal.main_arg1) = m ((c.tc : Thread Cert.ExpertDownRefIdeal.nD Cert.ExpertDownRefIdeal.τ).loc Cert.ExpertDownRefIdeal.main_arg1)
      ∧ r.2.mem ((c.tc : Thread Cert.ExpertDownRefIdeal.nD Cert.ExpertDownRefIdeal.τ).loc Cert.ExpertDownRefIdeal.main_arg2) = m ((c.tc : Thread Cert.ExpertDownRefIdeal.nD Cert.ExpertDownRefIdeal.τ).loc Cert.ExpertDownRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_ValueGate [hValueGate : Cert.ValueGate.Facts] : Prop :=
  ∀ (m : (ℓ : Loc Cert.ValueGate.nD Cert.ValueGate.τ Cert.ValueGate.sig) → Buf (Elt Bits) ℓ) (g : Dev Cert.ValueGate.nD → PrngReg), Pre_ValueGate m →
    θ_run (Cert.ValueGate.defs (F := Bits)) (onTc (τ := Cert.ValueGate.τ) (Cert.ValueGate.main (F := Bits))) ⟨m, fun _ => 0, g⟩ (fun r => (∀ c : Dev Cert.ValueGate.nD,
      r.2.mem ((c.tc : Thread Cert.ValueGate.nD Cert.ValueGate.τ).loc Cert.ValueGate.main_arg0) = m ((c.tc : Thread Cert.ValueGate.nD Cert.ValueGate.τ).loc Cert.ValueGate.main_arg0)
      ∧ r.2.mem ((c.tc : Thread Cert.ValueGate.nD Cert.ValueGate.τ).loc Cert.ValueGate.main_arg1) = m ((c.tc : Thread Cert.ValueGate.nD Cert.ValueGate.τ).loc Cert.ValueGate.main_arg1))
      ∧ r.2.sem = fun _ => 0)

def quiescent_ValueGateIdeal [hValueGateIdeal : Cert.ValueGateIdeal.Facts] : Prop :=
  ∀ (m : (ℓ : Loc Cert.ValueGateIdeal.nD Cert.ValueGateIdeal.τ Cert.ValueGateIdeal.sig) → Buf (Elt Ideal) ℓ) (g : Dev Cert.ValueGateIdeal.nD → PrngReg), Pre_ValueGateIdeal m →
    θ_run (Cert.ValueGateIdeal.defs (F := Ideal)) (onTc (τ := Cert.ValueGateIdeal.τ) (Cert.ValueGateIdeal.main (F := Ideal))) ⟨m, fun _ => 0, g⟩ (fun r => (∀ c : Dev Cert.ValueGateIdeal.nD,
      r.2.mem ((c.tc : Thread Cert.ValueGateIdeal.nD Cert.ValueGateIdeal.τ).loc Cert.ValueGateIdeal.main_arg0) = m ((c.tc : Thread Cert.ValueGateIdeal.nD Cert.ValueGateIdeal.τ).loc Cert.ValueGateIdeal.main_arg0)
      ∧ r.2.mem ((c.tc : Thread Cert.ValueGateIdeal.nD Cert.ValueGateIdeal.τ).loc Cert.ValueGateIdeal.main_arg1) = m ((c.tc : Thread Cert.ValueGateIdeal.nD Cert.ValueGateIdeal.τ).loc Cert.ValueGateIdeal.main_arg1))
      ∧ r.2.sem = fun _ => 0)

def quiescent_ValueGateRefIdeal [hValueGateRefIdeal : Cert.ValueGateRefIdeal.Facts] : Prop :=
  ∀ (m : (ℓ : Loc Cert.ValueGateRefIdeal.nD Cert.ValueGateRefIdeal.τ Cert.ValueGateRefIdeal.sig) → Buf (Elt Ideal) ℓ) (g : Dev Cert.ValueGateRefIdeal.nD → PrngReg), Pre_ValueGateRefIdeal m →
    θ_run (Cert.ValueGateRefIdeal.defs (F := Ideal)) (onTc (τ := Cert.ValueGateRefIdeal.τ) (Cert.ValueGateRefIdeal.main (F := Ideal))) ⟨m, fun _ => 0, g⟩ (fun r => (∀ c : Dev Cert.ValueGateRefIdeal.nD,
      r.2.mem ((c.tc : Thread Cert.ValueGateRefIdeal.nD Cert.ValueGateRefIdeal.τ).loc Cert.ValueGateRefIdeal.main_arg0) = m ((c.tc : Thread Cert.ValueGateRefIdeal.nD Cert.ValueGateRefIdeal.τ).loc Cert.ValueGateRefIdeal.main_arg0)
      ∧ r.2.mem ((c.tc : Thread Cert.ValueGateRefIdeal.nD Cert.ValueGateRefIdeal.τ).loc Cert.ValueGateRefIdeal.main_arg1) = m ((c.tc : Thread Cert.ValueGateRefIdeal.nD Cert.ValueGateRefIdeal.τ).loc Cert.ValueGateRefIdeal.main_arg1))
      ∧ r.2.sem = fun _ => 0)

def quiescent_LastPle [hLastPle : Cert.LastPle.Facts] : Prop :=
  ∀ (m : (ℓ : Loc Cert.LastPle.nD Cert.LastPle.τ Cert.LastPle.sig) → Buf (Elt Bits) ℓ) (g : Dev Cert.LastPle.nD → PrngReg), Pre_LastPle m →
    θ_run (Cert.LastPle.defs (F := Bits)) (onTc (τ := Cert.LastPle.τ) (Cert.LastPle.main (F := Bits))) ⟨m, fun _ => 0, g⟩ (fun r => (∀ c : Dev Cert.LastPle.nD,
      r.2.mem ((c.tc : Thread Cert.LastPle.nD Cert.LastPle.τ).loc Cert.LastPle.main_arg0) = m ((c.tc : Thread Cert.LastPle.nD Cert.LastPle.τ).loc Cert.LastPle.main_arg0)
      ∧ r.2.mem ((c.tc : Thread Cert.LastPle.nD Cert.LastPle.τ).loc Cert.LastPle.main_arg1) = m ((c.tc : Thread Cert.LastPle.nD Cert.LastPle.τ).loc Cert.LastPle.main_arg1)
      ∧ r.2.mem ((c.tc : Thread Cert.LastPle.nD Cert.LastPle.τ).loc Cert.LastPle.main_arg2) = m ((c.tc : Thread Cert.LastPle.nD Cert.LastPle.τ).loc Cert.LastPle.main_arg2)
      ∧ r.2.mem ((c.tc : Thread Cert.LastPle.nD Cert.LastPle.τ).loc Cert.LastPle.main_arg3) = m ((c.tc : Thread Cert.LastPle.nD Cert.LastPle.τ).loc Cert.LastPle.main_arg3)
      ∧ r.2.mem ((c.tc : Thread Cert.LastPle.nD Cert.LastPle.τ).loc Cert.LastPle.main_arg4) = m ((c.tc : Thread Cert.LastPle.nD Cert.LastPle.τ).loc Cert.LastPle.main_arg4)
      ∧ r.2.mem ((c.tc : Thread Cert.LastPle.nD Cert.LastPle.τ).loc Cert.LastPle.main_arg5) = m ((c.tc : Thread Cert.LastPle.nD Cert.LastPle.τ).loc Cert.LastPle.main_arg5)
      ∧ r.2.mem ((c.tc : Thread Cert.LastPle.nD Cert.LastPle.τ).loc Cert.LastPle.main_arg6) = m ((c.tc : Thread Cert.LastPle.nD Cert.LastPle.τ).loc Cert.LastPle.main_arg6))
      ∧ r.2.sem = fun _ => 0)

def quiescent_LastPleIdeal [hLastPleIdeal : Cert.LastPleIdeal.Facts] : Prop :=
  ∀ (m : (ℓ : Loc Cert.LastPleIdeal.nD Cert.LastPleIdeal.τ Cert.LastPleIdeal.sig) → Buf (Elt Ideal) ℓ) (g : Dev Cert.LastPleIdeal.nD → PrngReg), Pre_LastPleIdeal m →
    θ_run (Cert.LastPleIdeal.defs (F := Ideal)) (onTc (τ := Cert.LastPleIdeal.τ) (Cert.LastPleIdeal.main (F := Ideal))) ⟨m, fun _ => 0, g⟩ (fun r => (∀ c : Dev Cert.LastPleIdeal.nD,
      r.2.mem ((c.tc : Thread Cert.LastPleIdeal.nD Cert.LastPleIdeal.τ).loc Cert.LastPleIdeal.main_arg0) = m ((c.tc : Thread Cert.LastPleIdeal.nD Cert.LastPleIdeal.τ).loc Cert.LastPleIdeal.main_arg0)
      ∧ r.2.mem ((c.tc : Thread Cert.LastPleIdeal.nD Cert.LastPleIdeal.τ).loc Cert.LastPleIdeal.main_arg1) = m ((c.tc : Thread Cert.LastPleIdeal.nD Cert.LastPleIdeal.τ).loc Cert.LastPleIdeal.main_arg1)
      ∧ r.2.mem ((c.tc : Thread Cert.LastPleIdeal.nD Cert.LastPleIdeal.τ).loc Cert.LastPleIdeal.main_arg2) = m ((c.tc : Thread Cert.LastPleIdeal.nD Cert.LastPleIdeal.τ).loc Cert.LastPleIdeal.main_arg2)
      ∧ r.2.mem ((c.tc : Thread Cert.LastPleIdeal.nD Cert.LastPleIdeal.τ).loc Cert.LastPleIdeal.main_arg3) = m ((c.tc : Thread Cert.LastPleIdeal.nD Cert.LastPleIdeal.τ).loc Cert.LastPleIdeal.main_arg3)
      ∧ r.2.mem ((c.tc : Thread Cert.LastPleIdeal.nD Cert.LastPleIdeal.τ).loc Cert.LastPleIdeal.main_arg4) = m ((c.tc : Thread Cert.LastPleIdeal.nD Cert.LastPleIdeal.τ).loc Cert.LastPleIdeal.main_arg4)
      ∧ r.2.mem ((c.tc : Thread Cert.LastPleIdeal.nD Cert.LastPleIdeal.τ).loc Cert.LastPleIdeal.main_arg5) = m ((c.tc : Thread Cert.LastPleIdeal.nD Cert.LastPleIdeal.τ).loc Cert.LastPleIdeal.main_arg5)
      ∧ r.2.mem ((c.tc : Thread Cert.LastPleIdeal.nD Cert.LastPleIdeal.τ).loc Cert.LastPleIdeal.main_arg6) = m ((c.tc : Thread Cert.LastPleIdeal.nD Cert.LastPleIdeal.τ).loc Cert.LastPleIdeal.main_arg6))
      ∧ r.2.sem = fun _ => 0)

def quiescent_LastPleRefIdeal [hLastPleRefIdeal : Cert.LastPleRefIdeal.Facts] : Prop :=
  ∀ (m : (ℓ : Loc Cert.LastPleRefIdeal.nD Cert.LastPleRefIdeal.τ Cert.LastPleRefIdeal.sig) → Buf (Elt Ideal) ℓ) (g : Dev Cert.LastPleRefIdeal.nD → PrngReg), Pre_LastPleRefIdeal m →
    θ_run (Cert.LastPleRefIdeal.defs (F := Ideal)) (onTc (τ := Cert.LastPleRefIdeal.τ) (Cert.LastPleRefIdeal.main (F := Ideal))) ⟨m, fun _ => 0, g⟩ (fun r => (∀ c : Dev Cert.LastPleRefIdeal.nD,
      r.2.mem ((c.tc : Thread Cert.LastPleRefIdeal.nD Cert.LastPleRefIdeal.τ).loc Cert.LastPleRefIdeal.main_arg0) = m ((c.tc : Thread Cert.LastPleRefIdeal.nD Cert.LastPleRefIdeal.τ).loc Cert.LastPleRefIdeal.main_arg0)
      ∧ r.2.mem ((c.tc : Thread Cert.LastPleRefIdeal.nD Cert.LastPleRefIdeal.τ).loc Cert.LastPleRefIdeal.main_arg1) = m ((c.tc : Thread Cert.LastPleRefIdeal.nD Cert.LastPleRefIdeal.τ).loc Cert.LastPleRefIdeal.main_arg1)
      ∧ r.2.mem ((c.tc : Thread Cert.LastPleRefIdeal.nD Cert.LastPleRefIdeal.τ).loc Cert.LastPleRefIdeal.main_arg2) = m ((c.tc : Thread Cert.LastPleRefIdeal.nD Cert.LastPleRefIdeal.τ).loc Cert.LastPleRefIdeal.main_arg2)
      ∧ r.2.mem ((c.tc : Thread Cert.LastPleRefIdeal.nD Cert.LastPleRefIdeal.τ).loc Cert.LastPleRefIdeal.main_arg3) = m ((c.tc : Thread Cert.LastPleRefIdeal.nD Cert.LastPleRefIdeal.τ).loc Cert.LastPleRefIdeal.main_arg3)
      ∧ r.2.mem ((c.tc : Thread Cert.LastPleRefIdeal.nD Cert.LastPleRefIdeal.τ).loc Cert.LastPleRefIdeal.main_arg4) = m ((c.tc : Thread Cert.LastPleRefIdeal.nD Cert.LastPleRefIdeal.τ).loc Cert.LastPleRefIdeal.main_arg4)
      ∧ r.2.mem ((c.tc : Thread Cert.LastPleRefIdeal.nD Cert.LastPleRefIdeal.τ).loc Cert.LastPleRefIdeal.main_arg5) = m ((c.tc : Thread Cert.LastPleRefIdeal.nD Cert.LastPleRefIdeal.τ).loc Cert.LastPleRefIdeal.main_arg5)
      ∧ r.2.mem ((c.tc : Thread Cert.LastPleRefIdeal.nD Cert.LastPleRefIdeal.τ).loc Cert.LastPleRefIdeal.main_arg6) = m ((c.tc : Thread Cert.LastPleRefIdeal.nD Cert.LastPleRefIdeal.τ).loc Cert.LastPleRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2)
      ∧ r.2.mem ((c.tc : Thread Cert.MlaOut.nD Cert.MlaOut.τ).loc Cert.MlaOut.main_arg3) = m ((c.tc : Thread Cert.MlaOut.nD Cert.MlaOut.τ).loc Cert.MlaOut.main_arg3))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
      ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1)
      ∧ r.2.mem ((c.tc : Thread Cert.MlaOutRefIdeal.nD Cert.MlaOutRefIdeal.τ).loc Cert.MlaOutRefIdeal.main_arg2) = m ((c.tc : Thread Cert.MlaOutRefIdeal.nD Cert.MlaOutRefIdeal.τ).loc Cert.MlaOutRefIdeal.main_arg2)
      ∧ r.2.mem ((c.tc : Thread Cert.MlaOutRefIdeal.nD Cert.MlaOutRefIdeal.τ).loc Cert.MlaOutRefIdeal.main_arg3) = m ((c.tc : Thread Cert.MlaOutRefIdeal.nD Cert.MlaOutRefIdeal.τ).loc Cert.MlaOutRefIdeal.main_arg3))
      ∧ r.2.sem = fun _ => 0)

def quiescent_RetQk [hRetQk : Cert.RetQk.Facts] : Prop :=
  ∀ (m : (ℓ : Loc Cert.RetQk.nD Cert.RetQk.τ Cert.RetQk.sig) → Buf (Elt Bits) ℓ) (g : Dev Cert.RetQk.nD → PrngReg), Pre_RetQk m →
    θ_run (Cert.RetQk.defs (F := Bits)) (onTc (τ := Cert.RetQk.τ) (Cert.RetQk.main (F := Bits))) ⟨m, fun _ => 0, g⟩ (fun r => (∀ c : Dev Cert.RetQk.nD,
      r.2.mem ((c.tc : Thread Cert.RetQk.nD Cert.RetQk.τ).loc Cert.RetQk.main_arg0) = m ((c.tc : Thread Cert.RetQk.nD Cert.RetQk.τ).loc Cert.RetQk.main_arg0)
      ∧ r.2.mem ((c.tc : Thread Cert.RetQk.nD Cert.RetQk.τ).loc Cert.RetQk.main_arg1) = m ((c.tc : Thread Cert.RetQk.nD Cert.RetQk.τ).loc Cert.RetQk.main_arg1))
      ∧ r.2.sem = fun _ => 0)

def quiescent_RetQkIdeal [hRetQkIdeal : Cert.RetQkIdeal.Facts] : Prop :=
  ∀ (m : (ℓ : Loc Cert.RetQkIdeal.nD Cert.RetQkIdeal.τ Cert.RetQkIdeal.sig) → Buf (Elt Ideal) ℓ) (g : Dev Cert.RetQkIdeal.nD → PrngReg), Pre_RetQkIdeal m →
    θ_run (Cert.RetQkIdeal.defs (F := Ideal)) (onTc (τ := Cert.RetQkIdeal.τ) (Cert.RetQkIdeal.main (F := Ideal))) ⟨m, fun _ => 0, g⟩ (fun r => (∀ c : Dev Cert.RetQkIdeal.nD,
      r.2.mem ((c.tc : Thread Cert.RetQkIdeal.nD Cert.RetQkIdeal.τ).loc Cert.RetQkIdeal.main_arg0) = m ((c.tc : Thread Cert.RetQkIdeal.nD Cert.RetQkIdeal.τ).loc Cert.RetQkIdeal.main_arg0)
      ∧ r.2.mem ((c.tc : Thread Cert.RetQkIdeal.nD Cert.RetQkIdeal.τ).loc Cert.RetQkIdeal.main_arg1) = m ((c.tc : Thread Cert.RetQkIdeal.nD Cert.RetQkIdeal.τ).loc Cert.RetQkIdeal.main_arg1))
      ∧ r.2.sem = fun _ => 0)

def quiescent_RetQkRefIdeal [hRetQkRefIdeal : Cert.RetQkRefIdeal.Facts] : Prop :=
  ∀ (m : (ℓ : Loc Cert.RetQkRefIdeal.nD Cert.RetQkRefIdeal.τ Cert.RetQkRefIdeal.sig) → Buf (Elt Ideal) ℓ) (g : Dev Cert.RetQkRefIdeal.nD → PrngReg), Pre_RetQkRefIdeal m →
    θ_run (Cert.RetQkRefIdeal.defs (F := Ideal)) (onTc (τ := Cert.RetQkRefIdeal.τ) (Cert.RetQkRefIdeal.main (F := Ideal))) ⟨m, fun _ => 0, g⟩ (fun r => (∀ c : Dev Cert.RetQkRefIdeal.nD,
      r.2.mem ((c.tc : Thread Cert.RetQkRefIdeal.nD Cert.RetQkRefIdeal.τ).loc Cert.RetQkRefIdeal.main_arg0) = m ((c.tc : Thread Cert.RetQkRefIdeal.nD Cert.RetQkRefIdeal.τ).loc Cert.RetQkRefIdeal.main_arg0)
      ∧ r.2.mem ((c.tc : Thread Cert.RetQkRefIdeal.nD Cert.RetQkRefIdeal.τ).loc Cert.RetQkRefIdeal.main_arg1) = m ((c.tc : Thread Cert.RetQkRefIdeal.nD Cert.RetQkRefIdeal.τ).loc Cert.RetQkRefIdeal.main_arg1))
      ∧ r.2.sem = fun _ => 0)

def quiescent_FirstPle [hFirstPle : Cert.FirstPle.Facts] : Prop :=
  ∀ (m : (ℓ : Loc Cert.FirstPle.nD Cert.FirstPle.τ Cert.FirstPle.sig) → Buf (Elt Bits) ℓ) (g : Dev Cert.FirstPle.nD → PrngReg), Pre_FirstPle m →
    θ_run (Cert.FirstPle.defs (F := Bits)) (onTc (τ := Cert.FirstPle.τ) (Cert.FirstPle.main (F := Bits))) ⟨m, fun _ => 0, g⟩ (fun r => (∀ c : Dev Cert.FirstPle.nD,
      r.2.mem ((c.tc : Thread Cert.FirstPle.nD Cert.FirstPle.τ).loc Cert.FirstPle.main_arg0) = m ((c.tc : Thread Cert.FirstPle.nD Cert.FirstPle.τ).loc Cert.FirstPle.main_arg0)
      ∧ r.2.mem ((c.tc : Thread Cert.FirstPle.nD Cert.FirstPle.τ).loc Cert.FirstPle.main_arg1) = m ((c.tc : Thread Cert.FirstPle.nD Cert.FirstPle.τ).loc Cert.FirstPle.main_arg1)
      ∧ r.2.mem ((c.tc : Thread Cert.FirstPle.nD Cert.FirstPle.τ).loc Cert.FirstPle.main_arg2) = m ((c.tc : Thread Cert.FirstPle.nD Cert.FirstPle.τ).loc Cert.FirstPle.main_arg2)
      ∧ r.2.mem ((c.tc : Thread Cert.FirstPle.nD Cert.FirstPle.τ).loc Cert.FirstPle.main_arg3) = m ((c.tc : Thread Cert.FirstPle.nD Cert.FirstPle.τ).loc Cert.FirstPle.main_arg3)
      ∧ r.2.mem ((c.tc : Thread Cert.FirstPle.nD Cert.FirstPle.τ).loc Cert.FirstPle.main_arg4) = m ((c.tc : Thread Cert.FirstPle.nD Cert.FirstPle.τ).loc Cert.FirstPle.main_arg4)
      ∧ r.2.mem ((c.tc : Thread Cert.FirstPle.nD Cert.FirstPle.τ).loc Cert.FirstPle.main_arg5) = m ((c.tc : Thread Cert.FirstPle.nD Cert.FirstPle.τ).loc Cert.FirstPle.main_arg5))
      ∧ r.2.sem = fun _ => 0)

def quiescent_FirstPleIdeal [hFirstPleIdeal : Cert.FirstPleIdeal.Facts] : Prop :=
  ∀ (m : (ℓ : Loc Cert.FirstPleIdeal.nD Cert.FirstPleIdeal.τ Cert.FirstPleIdeal.sig) → Buf (Elt Ideal) ℓ) (g : Dev Cert.FirstPleIdeal.nD → PrngReg), Pre_FirstPleIdeal m →
    θ_run (Cert.FirstPleIdeal.defs (F := Ideal)) (onTc (τ := Cert.FirstPleIdeal.τ) (Cert.FirstPleIdeal.main (F := Ideal))) ⟨m, fun _ => 0, g⟩ (fun r => (∀ c : Dev Cert.FirstPleIdeal.nD,
      r.2.mem ((c.tc : Thread Cert.FirstPleIdeal.nD Cert.FirstPleIdeal.τ).loc Cert.FirstPleIdeal.main_arg0) = m ((c.tc : Thread Cert.FirstPleIdeal.nD Cert.FirstPleIdeal.τ).loc Cert.FirstPleIdeal.main_arg0)
      ∧ r.2.mem ((c.tc : Thread Cert.FirstPleIdeal.nD Cert.FirstPleIdeal.τ).loc Cert.FirstPleIdeal.main_arg1) = m ((c.tc : Thread Cert.FirstPleIdeal.nD Cert.FirstPleIdeal.τ).loc Cert.FirstPleIdeal.main_arg1)
      ∧ r.2.mem ((c.tc : Thread Cert.FirstPleIdeal.nD Cert.FirstPleIdeal.τ).loc Cert.FirstPleIdeal.main_arg2) = m ((c.tc : Thread Cert.FirstPleIdeal.nD Cert.FirstPleIdeal.τ).loc Cert.FirstPleIdeal.main_arg2)
      ∧ r.2.mem ((c.tc : Thread Cert.FirstPleIdeal.nD Cert.FirstPleIdeal.τ).loc Cert.FirstPleIdeal.main_arg3) = m ((c.tc : Thread Cert.FirstPleIdeal.nD Cert.FirstPleIdeal.τ).loc Cert.FirstPleIdeal.main_arg3)
      ∧ r.2.mem ((c.tc : Thread Cert.FirstPleIdeal.nD Cert.FirstPleIdeal.τ).loc Cert.FirstPleIdeal.main_arg4) = m ((c.tc : Thread Cert.FirstPleIdeal.nD Cert.FirstPleIdeal.τ).loc Cert.FirstPleIdeal.main_arg4)
      ∧ r.2.mem ((c.tc : Thread Cert.FirstPleIdeal.nD Cert.FirstPleIdeal.τ).loc Cert.FirstPleIdeal.main_arg5) = m ((c.tc : Thread Cert.FirstPleIdeal.nD Cert.FirstPleIdeal.τ).loc Cert.FirstPleIdeal.main_arg5))
      ∧ r.2.sem = fun _ => 0)

def quiescent_FirstPleRefIdeal [hFirstPleRefIdeal : Cert.FirstPleRefIdeal.Facts] : Prop :=
  ∀ (m : (ℓ : Loc Cert.FirstPleRefIdeal.nD Cert.FirstPleRefIdeal.τ Cert.FirstPleRefIdeal.sig) → Buf (Elt Ideal) ℓ) (g : Dev Cert.FirstPleRefIdeal.nD → PrngReg), Pre_FirstPleRefIdeal m →
    θ_run (Cert.FirstPleRefIdeal.defs (F := Ideal)) (onTc (τ := Cert.FirstPleRefIdeal.τ) (Cert.FirstPleRefIdeal.main (F := Ideal))) ⟨m, fun _ => 0, g⟩ (fun r => (∀ c : Dev Cert.FirstPleRefIdeal.nD,
      r.2.mem ((c.tc : Thread Cert.FirstPleRefIdeal.nD Cert.FirstPleRefIdeal.τ).loc Cert.FirstPleRefIdeal.main_arg0) = m ((c.tc : Thread Cert.FirstPleRefIdeal.nD Cert.FirstPleRefIdeal.τ).loc Cert.FirstPleRefIdeal.main_arg0)
      ∧ r.2.mem ((c.tc : Thread Cert.FirstPleRefIdeal.nD Cert.FirstPleRefIdeal.τ).loc Cert.FirstPleRefIdeal.main_arg1) = m ((c.tc : Thread Cert.FirstPleRefIdeal.nD Cert.FirstPleRefIdeal.τ).loc Cert.FirstPleRefIdeal.main_arg1)
      ∧ r.2.mem ((c.tc : Thread Cert.FirstPleRefIdeal.nD Cert.FirstPleRefIdeal.τ).loc Cert.FirstPleRefIdeal.main_arg2) = m ((c.tc : Thread Cert.FirstPleRefIdeal.nD Cert.FirstPleRefIdeal.τ).loc Cert.FirstPleRefIdeal.main_arg2)
      ∧ r.2.mem ((c.tc : Thread Cert.FirstPleRefIdeal.nD Cert.FirstPleRefIdeal.τ).loc Cert.FirstPleRefIdeal.main_arg3) = m ((c.tc : Thread Cert.FirstPleRefIdeal.nD Cert.FirstPleRefIdeal.τ).loc Cert.FirstPleRefIdeal.main_arg3)
      ∧ r.2.mem ((c.tc : Thread Cert.FirstPleRefIdeal.nD Cert.FirstPleRefIdeal.τ).loc Cert.FirstPleRefIdeal.main_arg4) = m ((c.tc : Thread Cert.FirstPleRefIdeal.nD Cert.FirstPleRefIdeal.τ).loc Cert.FirstPleRefIdeal.main_arg4)
      ∧ r.2.mem ((c.tc : Thread Cert.FirstPleRefIdeal.nD Cert.FirstPleRefIdeal.τ).loc Cert.FirstPleRefIdeal.main_arg5) = m ((c.tc : Thread Cert.FirstPleRefIdeal.nD Cert.FirstPleRefIdeal.τ).loc Cert.FirstPleRefIdeal.main_arg5))
      ∧ r.2.sem = fun _ => 0)

def quiescent_MidPle [hMidPle : Cert.MidPle.Facts] : Prop :=
  ∀ (m : (ℓ : Loc Cert.MidPle.nD Cert.MidPle.τ Cert.MidPle.sig) → Buf (Elt Bits) ℓ) (g : Dev Cert.MidPle.nD → PrngReg), Pre_MidPle m →
    θ_run (Cert.MidPle.defs (F := Bits)) (onTc (τ := Cert.MidPle.τ) (Cert.MidPle.main (F := Bits))) ⟨m, fun _ => 0, g⟩ (fun r => (∀ c : Dev Cert.MidPle.nD,
      r.2.mem ((c.tc : Thread Cert.MidPle.nD Cert.MidPle.τ).loc Cert.MidPle.main_arg0) = m ((c.tc : Thread Cert.MidPle.nD Cert.MidPle.τ).loc Cert.MidPle.main_arg0)
      ∧ r.2.mem ((c.tc : Thread Cert.MidPle.nD Cert.MidPle.τ).loc Cert.MidPle.main_arg1) = m ((c.tc : Thread Cert.MidPle.nD Cert.MidPle.τ).loc Cert.MidPle.main_arg1)
      ∧ r.2.mem ((c.tc : Thread Cert.MidPle.nD Cert.MidPle.τ).loc Cert.MidPle.main_arg2) = m ((c.tc : Thread Cert.MidPle.nD Cert.MidPle.τ).loc Cert.MidPle.main_arg2)
      ∧ r.2.mem ((c.tc : Thread Cert.MidPle.nD Cert.MidPle.τ).loc Cert.MidPle.main_arg3) = m ((c.tc : Thread Cert.MidPle.nD Cert.MidPle.τ).loc Cert.MidPle.main_arg3)
      ∧ r.2.mem ((c.tc : Thread Cert.MidPle.nD Cert.MidPle.τ).loc Cert.MidPle.main_arg4) = m ((c.tc : Thread Cert.MidPle.nD Cert.MidPle.τ).loc Cert.MidPle.main_arg4)
      ∧ r.2.mem ((c.tc : Thread Cert.MidPle.nD Cert.MidPle.τ).loc Cert.MidPle.main_arg5) = m ((c.tc : Thread Cert.MidPle.nD Cert.MidPle.τ).loc Cert.MidPle.main_arg5)
      ∧ r.2.mem ((c.tc : Thread Cert.MidPle.nD Cert.MidPle.τ).loc Cert.MidPle.main_arg6) = m ((c.tc : Thread Cert.MidPle.nD Cert.MidPle.τ).loc Cert.MidPle.main_arg6))
      ∧ r.2.sem = fun _ => 0)

def quiescent_MidPleIdeal [hMidPleIdeal : Cert.MidPleIdeal.Facts] : Prop :=
  ∀ (m : (ℓ : Loc Cert.MidPleIdeal.nD Cert.MidPleIdeal.τ Cert.MidPleIdeal.sig) → Buf (Elt Ideal) ℓ) (g : Dev Cert.MidPleIdeal.nD → PrngReg), Pre_MidPleIdeal m →
    θ_run (Cert.MidPleIdeal.defs (F := Ideal)) (onTc (τ := Cert.MidPleIdeal.τ) (Cert.MidPleIdeal.main (F := Ideal))) ⟨m, fun _ => 0, g⟩ (fun r => (∀ c : Dev Cert.MidPleIdeal.nD,
      r.2.mem ((c.tc : Thread Cert.MidPleIdeal.nD Cert.MidPleIdeal.τ).loc Cert.MidPleIdeal.main_arg0) = m ((c.tc : Thread Cert.MidPleIdeal.nD Cert.MidPleIdeal.τ).loc Cert.MidPleIdeal.main_arg0)
      ∧ r.2.mem ((c.tc : Thread Cert.MidPleIdeal.nD Cert.MidPleIdeal.τ).loc Cert.MidPleIdeal.main_arg1) = m ((c.tc : Thread Cert.MidPleIdeal.nD Cert.MidPleIdeal.τ).loc Cert.MidPleIdeal.main_arg1)
      ∧ r.2.mem ((c.tc : Thread Cert.MidPleIdeal.nD Cert.MidPleIdeal.τ).loc Cert.MidPleIdeal.main_arg2) = m ((c.tc : Thread Cert.MidPleIdeal.nD Cert.MidPleIdeal.τ).loc Cert.MidPleIdeal.main_arg2)
      ∧ r.2.mem ((c.tc : Thread Cert.MidPleIdeal.nD Cert.MidPleIdeal.τ).loc Cert.MidPleIdeal.main_arg3) = m ((c.tc : Thread Cert.MidPleIdeal.nD Cert.MidPleIdeal.τ).loc Cert.MidPleIdeal.main_arg3)
      ∧ r.2.mem ((c.tc : Thread Cert.MidPleIdeal.nD Cert.MidPleIdeal.τ).loc Cert.MidPleIdeal.main_arg4) = m ((c.tc : Thread Cert.MidPleIdeal.nD Cert.MidPleIdeal.τ).loc Cert.MidPleIdeal.main_arg4)
      ∧ r.2.mem ((c.tc : Thread Cert.MidPleIdeal.nD Cert.MidPleIdeal.τ).loc Cert.MidPleIdeal.main_arg5) = m ((c.tc : Thread Cert.MidPleIdeal.nD Cert.MidPleIdeal.τ).loc Cert.MidPleIdeal.main_arg5)
      ∧ r.2.mem ((c.tc : Thread Cert.MidPleIdeal.nD Cert.MidPleIdeal.τ).loc Cert.MidPleIdeal.main_arg6) = m ((c.tc : Thread Cert.MidPleIdeal.nD Cert.MidPleIdeal.τ).loc Cert.MidPleIdeal.main_arg6))
      ∧ r.2.sem = fun _ => 0)

def quiescent_MidPleRefIdeal [hMidPleRefIdeal : Cert.MidPleRefIdeal.Facts] : Prop :=
  ∀ (m : (ℓ : Loc Cert.MidPleRefIdeal.nD Cert.MidPleRefIdeal.τ Cert.MidPleRefIdeal.sig) → Buf (Elt Ideal) ℓ) (g : Dev Cert.MidPleRefIdeal.nD → PrngReg), Pre_MidPleRefIdeal m →
    θ_run (Cert.MidPleRefIdeal.defs (F := Ideal)) (onTc (τ := Cert.MidPleRefIdeal.τ) (Cert.MidPleRefIdeal.main (F := Ideal))) ⟨m, fun _ => 0, g⟩ (fun r => (∀ c : Dev Cert.MidPleRefIdeal.nD,
      r.2.mem ((c.tc : Thread Cert.MidPleRefIdeal.nD Cert.MidPleRefIdeal.τ).loc Cert.MidPleRefIdeal.main_arg0) = m ((c.tc : Thread Cert.MidPleRefIdeal.nD Cert.MidPleRefIdeal.τ).loc Cert.MidPleRefIdeal.main_arg0)
      ∧ r.2.mem ((c.tc : Thread Cert.MidPleRefIdeal.nD Cert.MidPleRefIdeal.τ).loc Cert.MidPleRefIdeal.main_arg1) = m ((c.tc : Thread Cert.MidPleRefIdeal.nD Cert.MidPleRefIdeal.τ).loc Cert.MidPleRefIdeal.main_arg1)
      ∧ r.2.mem ((c.tc : Thread Cert.MidPleRefIdeal.nD Cert.MidPleRefIdeal.τ).loc Cert.MidPleRefIdeal.main_arg2) = m ((c.tc : Thread Cert.MidPleRefIdeal.nD Cert.MidPleRefIdeal.τ).loc Cert.MidPleRefIdeal.main_arg2)
      ∧ r.2.mem ((c.tc : Thread Cert.MidPleRefIdeal.nD Cert.MidPleRefIdeal.τ).loc Cert.MidPleRefIdeal.main_arg3) = m ((c.tc : Thread Cert.MidPleRefIdeal.nD Cert.MidPleRefIdeal.τ).loc Cert.MidPleRefIdeal.main_arg3)
      ∧ r.2.mem ((c.tc : Thread Cert.MidPleRefIdeal.nD Cert.MidPleRefIdeal.τ).loc Cert.MidPleRefIdeal.main_arg4) = m ((c.tc : Thread Cert.MidPleRefIdeal.nD Cert.MidPleRefIdeal.τ).loc Cert.MidPleRefIdeal.main_arg4)
      ∧ r.2.mem ((c.tc : Thread Cert.MidPleRefIdeal.nD Cert.MidPleRefIdeal.τ).loc Cert.MidPleRefIdeal.main_arg5) = m ((c.tc : Thread Cert.MidPleRefIdeal.nD Cert.MidPleRefIdeal.τ).loc Cert.MidPleRefIdeal.main_arg5)
      ∧ r.2.mem ((c.tc : Thread Cert.MidPleRefIdeal.nD Cert.MidPleRefIdeal.τ).loc Cert.MidPleRefIdeal.main_arg6) = m ((c.tc : Thread Cert.MidPleRefIdeal.nD Cert.MidPleRefIdeal.τ).loc Cert.MidPleRefIdeal.main_arg6))
      ∧ r.2.sem = fun _ => 0)

def quiescent_MlaLatent [hMlaLatent : Cert.MlaLatent.Facts] : Prop :=
  ∀ (m : (ℓ : Loc Cert.MlaLatent.nD Cert.MlaLatent.τ Cert.MlaLatent.sig) → Buf (Elt Bits) ℓ) (g : Dev Cert.MlaLatent.nD → PrngReg), Pre_MlaLatent m →
    θ_run (Cert.MlaLatent.defs (F := Bits)) (onTc (τ := Cert.MlaLatent.τ) (Cert.MlaLatent.main (F := Bits))) ⟨m, fun _ => 0, g⟩ (fun r => (∀ c : Dev Cert.MlaLatent.nD,
      r.2.mem ((c.tc : Thread Cert.MlaLatent.nD Cert.MlaLatent.τ).loc Cert.MlaLatent.main_arg0) = m ((c.tc : Thread Cert.MlaLatent.nD Cert.MlaLatent.τ).loc Cert.MlaLatent.main_arg0)
      ∧ r.2.mem ((c.tc : Thread Cert.MlaLatent.nD Cert.MlaLatent.τ).loc Cert.MlaLatent.main_arg1) = m ((c.tc : Thread Cert.MlaLatent.nD Cert.MlaLatent.τ).loc Cert.MlaLatent.main_arg1)
      ∧ r.2.mem ((c.tc : Thread Cert.MlaLatent.nD Cert.MlaLatent.τ).loc Cert.MlaLatent.main_arg2) = m ((c.tc : Thread Cert.MlaLatent.nD Cert.MlaLatent.τ).loc Cert.MlaLatent.main_arg2)
      ∧ r.2.mem ((c.tc : Thread Cert.MlaLatent.nD Cert.MlaLatent.τ).loc Cert.MlaLatent.main_arg3) = m ((c.tc : Thread Cert.MlaLatent.nD Cert.MlaLatent.τ).loc Cert.MlaLatent.main_arg3))
      ∧ r.2.sem = fun _ => 0)

def quiescent_MlaLatentIdeal [hMlaLatentIdeal : Cert.MlaLatentIdeal.Facts] : Prop :=
  ∀ (m : (ℓ : Loc Cert.MlaLatentIdeal.nD Cert.MlaLatentIdeal.τ Cert.MlaLatentIdeal.sig) → Buf (Elt Ideal) ℓ) (g : Dev Cert.MlaLatentIdeal.nD → PrngReg), Pre_MlaLatentIdeal m →
    θ_run (Cert.MlaLatentIdeal.defs (F := Ideal)) (onTc (τ := Cert.MlaLatentIdeal.τ) (Cert.MlaLatentIdeal.main (F := Ideal))) ⟨m, fun _ => 0, g⟩ (fun r => (∀ c : Dev Cert.MlaLatentIdeal.nD,
      r.2.mem ((c.tc : Thread Cert.MlaLatentIdeal.nD Cert.MlaLatentIdeal.τ).loc Cert.MlaLatentIdeal.main_arg0) = m ((c.tc : Thread Cert.MlaLatentIdeal.nD Cert.MlaLatentIdeal.τ).loc Cert.MlaLatentIdeal.main_arg0)
      ∧ r.2.mem ((c.tc : Thread Cert.MlaLatentIdeal.nD Cert.MlaLatentIdeal.τ).loc Cert.MlaLatentIdeal.main_arg1) = m ((c.tc : Thread Cert.MlaLatentIdeal.nD Cert.MlaLatentIdeal.τ).loc Cert.MlaLatentIdeal.main_arg1)
      ∧ r.2.mem ((c.tc : Thread Cert.MlaLatentIdeal.nD Cert.MlaLatentIdeal.τ).loc Cert.MlaLatentIdeal.main_arg2) = m ((c.tc : Thread Cert.MlaLatentIdeal.nD Cert.MlaLatentIdeal.τ).loc Cert.MlaLatentIdeal.main_arg2)
      ∧ r.2.mem ((c.tc : Thread Cert.MlaLatentIdeal.nD Cert.MlaLatentIdeal.τ).loc Cert.MlaLatentIdeal.main_arg3) = m ((c.tc : Thread Cert.MlaLatentIdeal.nD Cert.MlaLatentIdeal.τ).loc Cert.MlaLatentIdeal.main_arg3))
      ∧ r.2.sem = fun _ => 0)

def quiescent_MlaLatentRefIdeal [hMlaLatentRefIdeal : Cert.MlaLatentRefIdeal.Facts] : Prop :=
  ∀ (m : (ℓ : Loc Cert.MlaLatentRefIdeal.nD Cert.MlaLatentRefIdeal.τ Cert.MlaLatentRefIdeal.sig) → Buf (Elt Ideal) ℓ) (g : Dev Cert.MlaLatentRefIdeal.nD → PrngReg), Pre_MlaLatentRefIdeal m →
    θ_run (Cert.MlaLatentRefIdeal.defs (F := Ideal)) (onTc (τ := Cert.MlaLatentRefIdeal.τ) (Cert.MlaLatentRefIdeal.main (F := Ideal))) ⟨m, fun _ => 0, g⟩ (fun r => (∀ c : Dev Cert.MlaLatentRefIdeal.nD,
      r.2.mem ((c.tc : Thread Cert.MlaLatentRefIdeal.nD Cert.MlaLatentRefIdeal.τ).loc Cert.MlaLatentRefIdeal.main_arg0) = m ((c.tc : Thread Cert.MlaLatentRefIdeal.nD Cert.MlaLatentRefIdeal.τ).loc Cert.MlaLatentRefIdeal.main_arg0)
      ∧ r.2.mem ((c.tc : Thread Cert.MlaLatentRefIdeal.nD Cert.MlaLatentRefIdeal.τ).loc Cert.MlaLatentRefIdeal.main_arg1) = m ((c.tc : Thread Cert.MlaLatentRefIdeal.nD Cert.MlaLatentRefIdeal.τ).loc Cert.MlaLatentRefIdeal.main_arg1)
      ∧ r.2.mem ((c.tc : Thread Cert.MlaLatentRefIdeal.nD Cert.MlaLatentRefIdeal.τ).loc Cert.MlaLatentRefIdeal.main_arg2) = m ((c.tc : Thread Cert.MlaLatentRefIdeal.nD Cert.MlaLatentRefIdeal.τ).loc Cert.MlaLatentRefIdeal.main_arg2)
      ∧ r.2.mem ((c.tc : Thread Cert.MlaLatentRefIdeal.nD Cert.MlaLatentRefIdeal.τ).loc Cert.MlaLatentRefIdeal.main_arg3) = m ((c.tc : Thread Cert.MlaLatentRefIdeal.nD Cert.MlaLatentRefIdeal.τ).loc Cert.MlaLatentRefIdeal.main_arg3))
      ∧ r.2.sem = fun _ => 0)

def quiescent_MlaKey [hMlaKey : Cert.MlaKey.Facts] : Prop :=
  ∀ (m : (ℓ : Loc Cert.MlaKey.nD Cert.MlaKey.τ Cert.MlaKey.sig) → Buf (Elt Bits) ℓ) (g : Dev Cert.MlaKey.nD → PrngReg), Pre_MlaKey m →
    θ_run (Cert.MlaKey.defs (F := Bits)) (onTc (τ := Cert.MlaKey.τ) (Cert.MlaKey.main (F := Bits))) ⟨m, fun _ => 0, g⟩ (fun r => (∀ c : Dev Cert.MlaKey.nD,
      r.2.mem ((c.tc : Thread Cert.MlaKey.nD Cert.MlaKey.τ).loc Cert.MlaKey.main_arg0) = m ((c.tc : Thread Cert.MlaKey.nD Cert.MlaKey.τ).loc Cert.MlaKey.main_arg0)
      ∧ r.2.mem ((c.tc : Thread Cert.MlaKey.nD Cert.MlaKey.τ).loc Cert.MlaKey.main_arg1) = m ((c.tc : Thread Cert.MlaKey.nD Cert.MlaKey.τ).loc Cert.MlaKey.main_arg1))
      ∧ r.2.sem = fun _ => 0)

def quiescent_MlaKeyIdeal [hMlaKeyIdeal : Cert.MlaKeyIdeal.Facts] : Prop :=
  ∀ (m : (ℓ : Loc Cert.MlaKeyIdeal.nD Cert.MlaKeyIdeal.τ Cert.MlaKeyIdeal.sig) → Buf (Elt Ideal) ℓ) (g : Dev Cert.MlaKeyIdeal.nD → PrngReg), Pre_MlaKeyIdeal m →
    θ_run (Cert.MlaKeyIdeal.defs (F := Ideal)) (onTc (τ := Cert.MlaKeyIdeal.τ) (Cert.MlaKeyIdeal.main (F := Ideal))) ⟨m, fun _ => 0, g⟩ (fun r => (∀ c : Dev Cert.MlaKeyIdeal.nD,
      r.2.mem ((c.tc : Thread Cert.MlaKeyIdeal.nD Cert.MlaKeyIdeal.τ).loc Cert.MlaKeyIdeal.main_arg0) = m ((c.tc : Thread Cert.MlaKeyIdeal.nD Cert.MlaKeyIdeal.τ).loc Cert.MlaKeyIdeal.main_arg0)
      ∧ r.2.mem ((c.tc : Thread Cert.MlaKeyIdeal.nD Cert.MlaKeyIdeal.τ).loc Cert.MlaKeyIdeal.main_arg1) = m ((c.tc : Thread Cert.MlaKeyIdeal.nD Cert.MlaKeyIdeal.τ).loc Cert.MlaKeyIdeal.main_arg1))
      ∧ r.2.sem = fun _ => 0)

def quiescent_MlaKeyRefIdeal [hMlaKeyRefIdeal : Cert.MlaKeyRefIdeal.Facts] : Prop :=
  ∀ (m : (ℓ : Loc Cert.MlaKeyRefIdeal.nD Cert.MlaKeyRefIdeal.τ Cert.MlaKeyRefIdeal.sig) → Buf (Elt Ideal) ℓ) (g : Dev Cert.MlaKeyRefIdeal.nD → PrngReg), Pre_MlaKeyRefIdeal m →
    θ_run (Cert.MlaKeyRefIdeal.defs (F := Ideal)) (onTc (τ := Cert.MlaKeyRefIdeal.τ) (Cert.MlaKeyRefIdeal.main (F := Ideal))) ⟨m, fun _ => 0, g⟩ (fun r => (∀ c : Dev Cert.MlaKeyRefIdeal.nD,
      r.2.mem ((c.tc : Thread Cert.MlaKeyRefIdeal.nD Cert.MlaKeyRefIdeal.τ).loc Cert.MlaKeyRefIdeal.main_arg0) = m ((c.tc : Thread Cert.MlaKeyRefIdeal.nD Cert.MlaKeyRefIdeal.τ).loc Cert.MlaKeyRefIdeal.main_arg0)
      ∧ r.2.mem ((c.tc : Thread Cert.MlaKeyRefIdeal.nD Cert.MlaKeyRefIdeal.τ).loc Cert.MlaKeyRefIdeal.main_arg1) = m ((c.tc : Thread Cert.MlaKeyRefIdeal.nD Cert.MlaKeyRefIdeal.τ).loc Cert.MlaKeyRefIdeal.main_arg1))
      ∧ r.2.sem = fun _ => 0)

def quiescent_MlaValue [hMlaValue : Cert.MlaValue.Facts] : Prop :=
  ∀ (m : (ℓ : Loc Cert.MlaValue.nD Cert.MlaValue.τ Cert.MlaValue.sig) → Buf (Elt Bits) ℓ) (g : Dev Cert.MlaValue.nD → PrngReg), Pre_MlaValue m →
    θ_run (Cert.MlaValue.defs (F := Bits)) (onTc (τ := Cert.MlaValue.τ) (Cert.MlaValue.main (F := Bits))) ⟨m, fun _ => 0, g⟩ (fun r => (∀ c : Dev Cert.MlaValue.nD,
      r.2.mem ((c.tc : Thread Cert.MlaValue.nD Cert.MlaValue.τ).loc Cert.MlaValue.main_arg0) = m ((c.tc : Thread Cert.MlaValue.nD Cert.MlaValue.τ).loc Cert.MlaValue.main_arg0)
      ∧ r.2.mem ((c.tc : Thread Cert.MlaValue.nD Cert.MlaValue.τ).loc Cert.MlaValue.main_arg1) = m ((c.tc : Thread Cert.MlaValue.nD Cert.MlaValue.τ).loc Cert.MlaValue.main_arg1))
      ∧ r.2.sem = fun _ => 0)

def quiescent_MlaValueIdeal [hMlaValueIdeal : Cert.MlaValueIdeal.Facts] : Prop :=
  ∀ (m : (ℓ : Loc Cert.MlaValueIdeal.nD Cert.MlaValueIdeal.τ Cert.MlaValueIdeal.sig) → Buf (Elt Ideal) ℓ) (g : Dev Cert.MlaValueIdeal.nD → PrngReg), Pre_MlaValueIdeal m →
    θ_run (Cert.MlaValueIdeal.defs (F := Ideal)) (onTc (τ := Cert.MlaValueIdeal.τ) (Cert.MlaValueIdeal.main (F := Ideal))) ⟨m, fun _ => 0, g⟩ (fun r => (∀ c : Dev Cert.MlaValueIdeal.nD,
      r.2.mem ((c.tc : Thread Cert.MlaValueIdeal.nD Cert.MlaValueIdeal.τ).loc Cert.MlaValueIdeal.main_arg0) = m ((c.tc : Thread Cert.MlaValueIdeal.nD Cert.MlaValueIdeal.τ).loc Cert.MlaValueIdeal.main_arg0)
      ∧ r.2.mem ((c.tc : Thread Cert.MlaValueIdeal.nD Cert.MlaValueIdeal.τ).loc Cert.MlaValueIdeal.main_arg1) = m ((c.tc : Thread Cert.MlaValueIdeal.nD Cert.MlaValueIdeal.τ).loc Cert.MlaValueIdeal.main_arg1))
      ∧ r.2.sem = fun _ => 0)

def quiescent_MlaValueRefIdeal [hMlaValueRefIdeal : Cert.MlaValueRefIdeal.Facts] : Prop :=
  ∀ (m : (ℓ : Loc Cert.MlaValueRefIdeal.nD Cert.MlaValueRefIdeal.τ Cert.MlaValueRefIdeal.sig) → Buf (Elt Ideal) ℓ) (g : Dev Cert.MlaValueRefIdeal.nD → PrngReg), Pre_MlaValueRefIdeal m →
    θ_run (Cert.MlaValueRefIdeal.defs (F := Ideal)) (onTc (τ := Cert.MlaValueRefIdeal.τ) (Cert.MlaValueRefIdeal.main (F := Ideal))) ⟨m, fun _ => 0, g⟩ (fun r => (∀ c : Dev Cert.MlaValueRefIdeal.nD,
      r.2.mem ((c.tc : Thread Cert.MlaValueRefIdeal.nD Cert.MlaValueRefIdeal.τ).loc Cert.MlaValueRefIdeal.main_arg0) = m ((c.tc : Thread Cert.MlaValueRefIdeal.nD Cert.MlaValueRefIdeal.τ).loc Cert.MlaValueRefIdeal.main_arg0)
      ∧ r.2.mem ((c.tc : Thread Cert.MlaValueRefIdeal.nD Cert.MlaValueRefIdeal.τ).loc Cert.MlaValueRefIdeal.main_arg1) = m ((c.tc : Thread Cert.MlaValueRefIdeal.nD Cert.MlaValueRefIdeal.τ).loc Cert.MlaValueRefIdeal.main_arg1))
      ∧ r.2.sem = fun _ => 0)

def preserves_Kernel_KernelIdeal : Prop :=
  IdealRules.named_const.Statement Cert.KernelIdeal.κ "scale" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ExpertUp_ExpertUpIdeal : Prop :=
  True

def algebraic_ExpertUpIdeal_ExpertUpRefIdeal [hExpertUpIdeal : Cert.ExpertUpIdeal.Facts] [hExpertUpRefIdeal : Cert.ExpertUpRefIdeal.Facts] [hPre_experts_up : Cert.Pre_experts_up.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg)
    (m' : (ℓ : Loc Cert.ExpertUpRefIdeal.nD Cert.ExpertUpRefIdeal.τ Cert.ExpertUpRefIdeal.sig) → Buf (Elt Ideal) ℓ) (g' : Dev Cert.ExpertUpRefIdeal.nD → PrngReg), Pre_ExpertUpIdeal m →
    (∀ c : Dev Cert.ExpertUpIdeal.nD,
      m' ((c.tc : Thread Cert.ExpertUpRefIdeal.nD Cert.ExpertUpRefIdeal.τ).loc Cert.ExpertUpRefIdeal.main_arg0) = m ((c.tc : Thread Cert.ExpertUpIdeal.nD Cert.ExpertUpIdeal.τ).loc Cert.ExpertUpIdeal.main_arg0)
      ∧ m' ((c.tc : Thread Cert.ExpertUpRefIdeal.nD Cert.ExpertUpRefIdeal.τ).loc Cert.ExpertUpRefIdeal.main_arg1) = m ((c.tc : Thread Cert.ExpertUpIdeal.nD Cert.ExpertUpIdeal.τ).loc Cert.ExpertUpIdeal.main_arg1)
      ∧ m' ((c.tc : Thread Cert.ExpertUpRefIdeal.nD Cert.ExpertUpRefIdeal.τ).loc Cert.ExpertUpRefIdeal.main_arg2) = m ((c.tc : Thread Cert.ExpertUpIdeal.nD Cert.ExpertUpIdeal.τ).loc Cert.ExpertUpIdeal.main_arg2)
      ∧ m' ((c.tc : Thread Cert.ExpertUpRefIdeal.nD Cert.ExpertUpRefIdeal.τ).loc Cert.ExpertUpRefIdeal.main_arg3) = m ((c.tc : Thread Cert.ExpertUpIdeal.nD Cert.ExpertUpIdeal.τ).loc Cert.ExpertUpIdeal.main_arg3)) →
    ∃ (v0 : (c : Dev Cert.ExpertUpIdeal.nD) → Buf (Elt Ideal) ((c.tc : Thread Cert.ExpertUpIdeal.nD Cert.ExpertUpIdeal.τ).loc Cert.ExpertUpIdeal.main_v3)),
      θ_run (Cert.ExpertUpIdeal.defs (F := Ideal)) (onTc (τ := Cert.ExpertUpIdeal.τ) (Cert.ExpertUpIdeal.main (F := Ideal))) ⟨m, fun _ => 0, g⟩ (fun r => ∀ c : Dev Cert.ExpertUpIdeal.nD,
          r.2.mem ((c.tc : Thread Cert.ExpertUpIdeal.nD Cert.ExpertUpIdeal.τ).loc Cert.ExpertUpIdeal.main_v3) = v0 c
          ∧ r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
          ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
          ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
          ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3))
      ∧ θ_run (Cert.ExpertUpRefIdeal.defs (F := Ideal)) (onTc (τ := Cert.ExpertUpRefIdeal.τ) (Cert.ExpertUpRefIdeal.main (F := Ideal))) ⟨m', fun _ => 0, g'⟩ (fun r => ∀ c : Dev Cert.ExpertUpRefIdeal.nD,
          r.2.mem ((c.tc : Thread Cert.ExpertUpRefIdeal.nD Cert.ExpertUpRefIdeal.τ).loc Cert.ExpertUpRefIdeal.main_v12) = v0 c
          ∧ r.2.mem ((c.tc : Thread Cert.ExpertUpRefIdeal.nD Cert.ExpertUpRefIdeal.τ).loc Cert.ExpertUpRefIdeal.main_arg0) = m' ((c.tc : Thread Cert.ExpertUpRefIdeal.nD Cert.ExpertUpRefIdeal.τ).loc Cert.ExpertUpRefIdeal.main_arg0)
          ∧ r.2.mem ((c.tc : Thread Cert.ExpertUpRefIdeal.nD Cert.ExpertUpRefIdeal.τ).loc Cert.ExpertUpRefIdeal.main_arg1) = m' ((c.tc : Thread Cert.ExpertUpRefIdeal.nD Cert.ExpertUpRefIdeal.τ).loc Cert.ExpertUpRefIdeal.main_arg1)
          ∧ r.2.mem ((c.tc : Thread Cert.ExpertUpRefIdeal.nD Cert.ExpertUpRefIdeal.τ).loc Cert.ExpertUpRefIdeal.main_arg2) = m' ((c.tc : Thread Cert.ExpertUpRefIdeal.nD Cert.ExpertUpRefIdeal.τ).loc Cert.ExpertUpRefIdeal.main_arg2)
          ∧ r.2.mem ((c.tc : Thread Cert.ExpertUpRefIdeal.nD Cert.ExpertUpRefIdeal.τ).loc Cert.ExpertUpRefIdeal.main_arg3) = m' ((c.tc : Thread Cert.ExpertUpRefIdeal.nD Cert.ExpertUpRefIdeal.τ).loc Cert.ExpertUpRefIdeal.main_arg3))

def preserves_ExpertDown_ExpertDownIdeal : Prop :=
  True

def algebraic_ExpertDownIdeal_ExpertDownRefIdeal [hExpertDownIdeal : Cert.ExpertDownIdeal.Facts] [hExpertDownRefIdeal : Cert.ExpertDownRefIdeal.Facts] [hPre_experts_down : Cert.Pre_experts_down.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg)
    (m' : (ℓ : Loc Cert.ExpertDownRefIdeal.nD Cert.ExpertDownRefIdeal.τ Cert.ExpertDownRefIdeal.sig) → Buf (Elt Ideal) ℓ) (g' : Dev Cert.ExpertDownRefIdeal.nD → PrngReg), Pre_ExpertDownIdeal m →
    (∀ c : Dev Cert.ExpertDownIdeal.nD,
      m' ((c.tc : Thread Cert.ExpertDownRefIdeal.nD Cert.ExpertDownRefIdeal.τ).loc Cert.ExpertDownRefIdeal.main_arg0) = m ((c.tc : Thread Cert.ExpertDownIdeal.nD Cert.ExpertDownIdeal.τ).loc Cert.ExpertDownIdeal.main_arg0)
      ∧ m' ((c.tc : Thread Cert.ExpertDownRefIdeal.nD Cert.ExpertDownRefIdeal.τ).loc Cert.ExpertDownRefIdeal.main_arg1) = m ((c.tc : Thread Cert.ExpertDownIdeal.nD Cert.ExpertDownIdeal.τ).loc Cert.ExpertDownIdeal.main_arg1)
      ∧ m' ((c.tc : Thread Cert.ExpertDownRefIdeal.nD Cert.ExpertDownRefIdeal.τ).loc Cert.ExpertDownRefIdeal.main_arg2) = m ((c.tc : Thread Cert.ExpertDownIdeal.nD Cert.ExpertDownIdeal.τ).loc Cert.ExpertDownIdeal.main_arg2)) →
    ∃ (v0 : (c : Dev Cert.ExpertDownIdeal.nD) → Buf (Elt Ideal) ((c.tc : Thread Cert.ExpertDownIdeal.nD Cert.ExpertDownIdeal.τ).loc Cert.ExpertDownIdeal.main_v2)),
      θ_run (Cert.ExpertDownIdeal.defs (F := Ideal)) (onTc (τ := Cert.ExpertDownIdeal.τ) (Cert.ExpertDownIdeal.main (F := Ideal))) ⟨m, fun _ => 0, g⟩ (fun r => ∀ c : Dev Cert.ExpertDownIdeal.nD,
          r.2.mem ((c.tc : Thread Cert.ExpertDownIdeal.nD Cert.ExpertDownIdeal.τ).loc Cert.ExpertDownIdeal.main_v2) = v0 c
          ∧ r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
          ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
          ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2))
      ∧ θ_run (Cert.ExpertDownRefIdeal.defs (F := Ideal)) (onTc (τ := Cert.ExpertDownRefIdeal.τ) (Cert.ExpertDownRefIdeal.main (F := Ideal))) ⟨m', fun _ => 0, g'⟩ (fun r => ∀ c : Dev Cert.ExpertDownRefIdeal.nD,
          r.2.mem ((c.tc : Thread Cert.ExpertDownRefIdeal.nD Cert.ExpertDownRefIdeal.τ).loc Cert.ExpertDownRefIdeal.main_v6) = v0 c
          ∧ r.2.mem ((c.tc : Thread Cert.ExpertDownRefIdeal.nD Cert.ExpertDownRefIdeal.τ).loc Cert.ExpertDownRefIdeal.main_arg0) = m' ((c.tc : Thread Cert.ExpertDownRefIdeal.nD Cert.ExpertDownRefIdeal.τ).loc Cert.ExpertDownRefIdeal.main_arg0)
          ∧ r.2.mem ((c.tc : Thread Cert.ExpertDownRefIdeal.nD Cert.ExpertDownRefIdeal.τ).loc Cert.ExpertDownRefIdeal.main_arg1) = m' ((c.tc : Thread Cert.ExpertDownRefIdeal.nD Cert.ExpertDownRefIdeal.τ).loc Cert.ExpertDownRefIdeal.main_arg1)
          ∧ r.2.mem ((c.tc : Thread Cert.ExpertDownRefIdeal.nD Cert.ExpertDownRefIdeal.τ).loc Cert.ExpertDownRefIdeal.main_arg2) = m' ((c.tc : Thread Cert.ExpertDownRefIdeal.nD Cert.ExpertDownRefIdeal.τ).loc Cert.ExpertDownRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v9) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_ValueGate_ValueGateIdeal : Prop :=
  True

def algebraic_ValueGateIdeal_ValueGateRefIdeal [hValueGateIdeal : Cert.ValueGateIdeal.Facts] [hValueGateRefIdeal : Cert.ValueGateRefIdeal.Facts] : Prop :=
  ∀ (m : (ℓ : Loc Cert.ValueGateIdeal.nD Cert.ValueGateIdeal.τ Cert.ValueGateIdeal.sig) → Buf (Elt Ideal) ℓ) (g : Dev Cert.ValueGateIdeal.nD → PrngReg)
    (m' : (ℓ : Loc Cert.ValueGateRefIdeal.nD Cert.ValueGateRefIdeal.τ Cert.ValueGateRefIdeal.sig) → Buf (Elt Ideal) ℓ) (g' : Dev Cert.ValueGateRefIdeal.nD → PrngReg), Pre_ValueGateIdeal m →
    (∀ c : Dev Cert.ValueGateIdeal.nD,
      m' ((c.tc : Thread Cert.ValueGateRefIdeal.nD Cert.ValueGateRefIdeal.τ).loc Cert.ValueGateRefIdeal.main_arg0) = m ((c.tc : Thread Cert.ValueGateIdeal.nD Cert.ValueGateIdeal.τ).loc Cert.ValueGateIdeal.main_arg0)
      ∧ m' ((c.tc : Thread Cert.ValueGateRefIdeal.nD Cert.ValueGateRefIdeal.τ).loc Cert.ValueGateRefIdeal.main_arg1) = m ((c.tc : Thread Cert.ValueGateIdeal.nD Cert.ValueGateIdeal.τ).loc Cert.ValueGateIdeal.main_arg1)) →
    ∃ (v0 : (c : Dev Cert.ValueGateIdeal.nD) → Buf (Elt Ideal) ((c.tc : Thread Cert.ValueGateIdeal.nD Cert.ValueGateIdeal.τ).loc Cert.ValueGateIdeal.main_v3)),
      θ_run (Cert.ValueGateIdeal.defs (F := Ideal)) (onTc (τ := Cert.ValueGateIdeal.τ) (Cert.ValueGateIdeal.main (F := Ideal))) ⟨m, fun _ => 0, g⟩ (fun r => ∀ c : Dev Cert.ValueGateIdeal.nD,
          r.2.mem ((c.tc : Thread Cert.ValueGateIdeal.nD Cert.ValueGateIdeal.τ).loc Cert.ValueGateIdeal.main_v3) = v0 c
          ∧ r.2.mem ((c.tc : Thread Cert.ValueGateIdeal.nD Cert.ValueGateIdeal.τ).loc Cert.ValueGateIdeal.main_arg0) = m ((c.tc : Thread Cert.ValueGateIdeal.nD Cert.ValueGateIdeal.τ).loc Cert.ValueGateIdeal.main_arg0)
          ∧ r.2.mem ((c.tc : Thread Cert.ValueGateIdeal.nD Cert.ValueGateIdeal.τ).loc Cert.ValueGateIdeal.main_arg1) = m ((c.tc : Thread Cert.ValueGateIdeal.nD Cert.ValueGateIdeal.τ).loc Cert.ValueGateIdeal.main_arg1))
      ∧ θ_run (Cert.ValueGateRefIdeal.defs (F := Ideal)) (onTc (τ := Cert.ValueGateRefIdeal.τ) (Cert.ValueGateRefIdeal.main (F := Ideal))) ⟨m', fun _ => 0, g'⟩ (fun r => ∀ c : Dev Cert.ValueGateRefIdeal.nD,
          r.2.mem ((c.tc : Thread Cert.ValueGateRefIdeal.nD Cert.ValueGateRefIdeal.τ).loc Cert.ValueGateRefIdeal.main_v10) = v0 c
          ∧ r.2.mem ((c.tc : Thread Cert.ValueGateRefIdeal.nD Cert.ValueGateRefIdeal.τ).loc Cert.ValueGateRefIdeal.main_arg0) = m' ((c.tc : Thread Cert.ValueGateRefIdeal.nD Cert.ValueGateRefIdeal.τ).loc Cert.ValueGateRefIdeal.main_arg0)
          ∧ r.2.mem ((c.tc : Thread Cert.ValueGateRefIdeal.nD Cert.ValueGateRefIdeal.τ).loc Cert.ValueGateRefIdeal.main_arg1) = m' ((c.tc : Thread Cert.ValueGateRefIdeal.nD Cert.ValueGateRefIdeal.τ).loc Cert.ValueGateRefIdeal.main_arg1))

def preserves_LastPle_LastPleIdeal : Prop :=
  True

def algebraic_LastPleIdeal_LastPleRefIdeal [hLastPleIdeal : Cert.LastPleIdeal.Facts] [hLastPleRefIdeal : Cert.LastPleRefIdeal.Facts] : Prop :=
  ∀ (m : (ℓ : Loc Cert.LastPleIdeal.nD Cert.LastPleIdeal.τ Cert.LastPleIdeal.sig) → Buf (Elt Ideal) ℓ) (g : Dev Cert.LastPleIdeal.nD → PrngReg)
    (m' : (ℓ : Loc Cert.LastPleRefIdeal.nD Cert.LastPleRefIdeal.τ Cert.LastPleRefIdeal.sig) → Buf (Elt Ideal) ℓ) (g' : Dev Cert.LastPleRefIdeal.nD → PrngReg), Pre_LastPleIdeal m →
    (∀ c : Dev Cert.LastPleIdeal.nD,
      m' ((c.tc : Thread Cert.LastPleRefIdeal.nD Cert.LastPleRefIdeal.τ).loc Cert.LastPleRefIdeal.main_arg0) = m ((c.tc : Thread Cert.LastPleIdeal.nD Cert.LastPleIdeal.τ).loc Cert.LastPleIdeal.main_arg0)
      ∧ m' ((c.tc : Thread Cert.LastPleRefIdeal.nD Cert.LastPleRefIdeal.τ).loc Cert.LastPleRefIdeal.main_arg1) = m ((c.tc : Thread Cert.LastPleIdeal.nD Cert.LastPleIdeal.τ).loc Cert.LastPleIdeal.main_arg1)
      ∧ m' ((c.tc : Thread Cert.LastPleRefIdeal.nD Cert.LastPleRefIdeal.τ).loc Cert.LastPleRefIdeal.main_arg2) = m ((c.tc : Thread Cert.LastPleIdeal.nD Cert.LastPleIdeal.τ).loc Cert.LastPleIdeal.main_arg2)
      ∧ m' ((c.tc : Thread Cert.LastPleRefIdeal.nD Cert.LastPleRefIdeal.τ).loc Cert.LastPleRefIdeal.main_arg3) = m ((c.tc : Thread Cert.LastPleIdeal.nD Cert.LastPleIdeal.τ).loc Cert.LastPleIdeal.main_arg3)
      ∧ m' ((c.tc : Thread Cert.LastPleRefIdeal.nD Cert.LastPleRefIdeal.τ).loc Cert.LastPleRefIdeal.main_arg4) = m ((c.tc : Thread Cert.LastPleIdeal.nD Cert.LastPleIdeal.τ).loc Cert.LastPleIdeal.main_arg4)
      ∧ m' ((c.tc : Thread Cert.LastPleRefIdeal.nD Cert.LastPleRefIdeal.τ).loc Cert.LastPleRefIdeal.main_arg5) = m ((c.tc : Thread Cert.LastPleIdeal.nD Cert.LastPleIdeal.τ).loc Cert.LastPleIdeal.main_arg5)
      ∧ m' ((c.tc : Thread Cert.LastPleRefIdeal.nD Cert.LastPleRefIdeal.τ).loc Cert.LastPleRefIdeal.main_arg6) = m ((c.tc : Thread Cert.LastPleIdeal.nD Cert.LastPleIdeal.τ).loc Cert.LastPleIdeal.main_arg6)) →
    ∃ (v0 : (c : Dev Cert.LastPleIdeal.nD) → Buf (Elt Ideal) ((c.tc : Thread Cert.LastPleIdeal.nD Cert.LastPleIdeal.τ).loc Cert.LastPleIdeal.main_v10)),
      θ_run (Cert.LastPleIdeal.defs (F := Ideal)) (onTc (τ := Cert.LastPleIdeal.τ) (Cert.LastPleIdeal.main (F := Ideal))) ⟨m, fun _ => 0, g⟩ (fun r => ∀ c : Dev Cert.LastPleIdeal.nD,
          r.2.mem ((c.tc : Thread Cert.LastPleIdeal.nD Cert.LastPleIdeal.τ).loc Cert.LastPleIdeal.main_v10) = v0 c
          ∧ r.2.mem ((c.tc : Thread Cert.LastPleIdeal.nD Cert.LastPleIdeal.τ).loc Cert.LastPleIdeal.main_arg0) = m ((c.tc : Thread Cert.LastPleIdeal.nD Cert.LastPleIdeal.τ).loc Cert.LastPleIdeal.main_arg0)
          ∧ r.2.mem ((c.tc : Thread Cert.LastPleIdeal.nD Cert.LastPleIdeal.τ).loc Cert.LastPleIdeal.main_arg1) = m ((c.tc : Thread Cert.LastPleIdeal.nD Cert.LastPleIdeal.τ).loc Cert.LastPleIdeal.main_arg1)
          ∧ r.2.mem ((c.tc : Thread Cert.LastPleIdeal.nD Cert.LastPleIdeal.τ).loc Cert.LastPleIdeal.main_arg2) = m ((c.tc : Thread Cert.LastPleIdeal.nD Cert.LastPleIdeal.τ).loc Cert.LastPleIdeal.main_arg2)
          ∧ r.2.mem ((c.tc : Thread Cert.LastPleIdeal.nD Cert.LastPleIdeal.τ).loc Cert.LastPleIdeal.main_arg3) = m ((c.tc : Thread Cert.LastPleIdeal.nD Cert.LastPleIdeal.τ).loc Cert.LastPleIdeal.main_arg3)
          ∧ r.2.mem ((c.tc : Thread Cert.LastPleIdeal.nD Cert.LastPleIdeal.τ).loc Cert.LastPleIdeal.main_arg4) = m ((c.tc : Thread Cert.LastPleIdeal.nD Cert.LastPleIdeal.τ).loc Cert.LastPleIdeal.main_arg4)
          ∧ r.2.mem ((c.tc : Thread Cert.LastPleIdeal.nD Cert.LastPleIdeal.τ).loc Cert.LastPleIdeal.main_arg5) = m ((c.tc : Thread Cert.LastPleIdeal.nD Cert.LastPleIdeal.τ).loc Cert.LastPleIdeal.main_arg5)
          ∧ r.2.mem ((c.tc : Thread Cert.LastPleIdeal.nD Cert.LastPleIdeal.τ).loc Cert.LastPleIdeal.main_arg6) = m ((c.tc : Thread Cert.LastPleIdeal.nD Cert.LastPleIdeal.τ).loc Cert.LastPleIdeal.main_arg6))
      ∧ θ_run (Cert.LastPleRefIdeal.defs (F := Ideal)) (onTc (τ := Cert.LastPleRefIdeal.τ) (Cert.LastPleRefIdeal.main (F := Ideal))) ⟨m', fun _ => 0, g'⟩ (fun r => ∀ c : Dev Cert.LastPleRefIdeal.nD,
          r.2.mem ((c.tc : Thread Cert.LastPleRefIdeal.nD Cert.LastPleRefIdeal.τ).loc Cert.LastPleRefIdeal.main_v45) = v0 c
          ∧ r.2.mem ((c.tc : Thread Cert.LastPleRefIdeal.nD Cert.LastPleRefIdeal.τ).loc Cert.LastPleRefIdeal.main_arg0) = m' ((c.tc : Thread Cert.LastPleRefIdeal.nD Cert.LastPleRefIdeal.τ).loc Cert.LastPleRefIdeal.main_arg0)
          ∧ r.2.mem ((c.tc : Thread Cert.LastPleRefIdeal.nD Cert.LastPleRefIdeal.τ).loc Cert.LastPleRefIdeal.main_arg1) = m' ((c.tc : Thread Cert.LastPleRefIdeal.nD Cert.LastPleRefIdeal.τ).loc Cert.LastPleRefIdeal.main_arg1)
          ∧ r.2.mem ((c.tc : Thread Cert.LastPleRefIdeal.nD Cert.LastPleRefIdeal.τ).loc Cert.LastPleRefIdeal.main_arg2) = m' ((c.tc : Thread Cert.LastPleRefIdeal.nD Cert.LastPleRefIdeal.τ).loc Cert.LastPleRefIdeal.main_arg2)
          ∧ r.2.mem ((c.tc : Thread Cert.LastPleRefIdeal.nD Cert.LastPleRefIdeal.τ).loc Cert.LastPleRefIdeal.main_arg3) = m' ((c.tc : Thread Cert.LastPleRefIdeal.nD Cert.LastPleRefIdeal.τ).loc Cert.LastPleRefIdeal.main_arg3)
          ∧ r.2.mem ((c.tc : Thread Cert.LastPleRefIdeal.nD Cert.LastPleRefIdeal.τ).loc Cert.LastPleRefIdeal.main_arg4) = m' ((c.tc : Thread Cert.LastPleRefIdeal.nD Cert.LastPleRefIdeal.τ).loc Cert.LastPleRefIdeal.main_arg4)
          ∧ r.2.mem ((c.tc : Thread Cert.LastPleRefIdeal.nD Cert.LastPleRefIdeal.τ).loc Cert.LastPleRefIdeal.main_arg5) = m' ((c.tc : Thread Cert.LastPleRefIdeal.nD Cert.LastPleRefIdeal.τ).loc Cert.LastPleRefIdeal.main_arg5)
          ∧ r.2.mem ((c.tc : Thread Cert.LastPleRefIdeal.nD Cert.LastPleRefIdeal.τ).loc Cert.LastPleRefIdeal.main_arg6) = m' ((c.tc : Thread Cert.LastPleRefIdeal.nD Cert.LastPleRefIdeal.τ).loc Cert.LastPleRefIdeal.main_arg6))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v7_0)) (v1 : (c : Dev Cert.FfnDownIdeal.nD) → Buf (Elt Ideal) ((c.tc : Thread Cert.FfnDownIdeal.nD Cert.FfnDownIdeal.τ).loc Cert.FfnDownIdeal.main_v7_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7_0) = v0 c
          ∧ r.2.mem ((c.tc : Thread Cert.FfnDownIdeal.nD Cert.FfnDownIdeal.τ).loc Cert.FfnDownIdeal.main_v7_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_v21) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v7_0)) (v1 : (c : Dev Cert.RetOutIdeal.nD) → Buf (Elt Ideal) ((c.tc : Thread Cert.RetOutIdeal.nD Cert.RetOutIdeal.τ).loc Cert.RetOutIdeal.main_v7_1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v7_0) = v0 c
          ∧ r.2.mem ((c.tc : Thread Cert.RetOutIdeal.nD Cert.RetOutIdeal.τ).loc Cert.RetOutIdeal.main_v7_1) = v1 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v4) = v0 c
          ∧ r.2.mem ((c.tc : Thread Cert.RetOutRefIdeal.nD Cert.RetOutRefIdeal.τ).loc Cert.RetOutRefIdeal.main_v21) = v1 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)
      ∧ m' ((c.tc : Thread Cert.MlaOutRefIdeal.nD Cert.MlaOutRefIdeal.τ).loc Cert.MlaOutRefIdeal.main_arg2) = m ((c.tc : Thread Cert.MlaOutIdeal.nD Cert.MlaOutIdeal.τ).loc Cert.MlaOutIdeal.main_arg2)
      ∧ m' ((c.tc : Thread Cert.MlaOutRefIdeal.nD Cert.MlaOutRefIdeal.τ).loc Cert.MlaOutRefIdeal.main_arg3) = m ((c.tc : Thread Cert.MlaOutIdeal.nD Cert.MlaOutIdeal.τ).loc Cert.MlaOutIdeal.main_arg3)) →
    ∃ (v0 : (c : Dev Cert.MlaOutIdeal.nD) → Buf (Elt Ideal) ((c.tc : Thread Cert.MlaOutIdeal.nD Cert.MlaOutIdeal.τ).loc Cert.MlaOutIdeal.main_v7_0)) (v1 : (c : Dev Cert.MlaOutIdeal.nD) → Buf (Elt Ideal) ((c.tc : Thread Cert.MlaOutIdeal.nD Cert.MlaOutIdeal.τ).loc Cert.MlaOutIdeal.main_v7_1)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v7_0) = v0 c
          ∧ r.2.mem ((c.tc : Thread Cert.MlaOutIdeal.nD Cert.MlaOutIdeal.τ).loc Cert.MlaOutIdeal.main_v7_1) = v1 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
          ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v4) = v0 c
          ∧ r.2.mem ((c.tc : Thread Cert.MlaOutRefIdeal.nD Cert.MlaOutRefIdeal.τ).loc Cert.MlaOutRefIdeal.main_v21) = v1 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1)
          ∧ r.2.mem ((c.tc : Thread Cert.MlaOutRefIdeal.nD Cert.MlaOutRefIdeal.τ).loc Cert.MlaOutRefIdeal.main_arg2) = m' ((c.tc : Thread Cert.MlaOutRefIdeal.nD Cert.MlaOutRefIdeal.τ).loc Cert.MlaOutRefIdeal.main_arg2)
          ∧ r.2.mem ((c.tc : Thread Cert.MlaOutRefIdeal.nD Cert.MlaOutRefIdeal.τ).loc Cert.MlaOutRefIdeal.main_arg3) = m' ((c.tc : Thread Cert.MlaOutRefIdeal.nD Cert.MlaOutRefIdeal.τ).loc Cert.MlaOutRefIdeal.main_arg3))

def preserves_RetQk_RetQkIdeal : Prop :=
  True

def algebraic_RetQkIdeal_RetQkRefIdeal [hRetQkIdeal : Cert.RetQkIdeal.Facts] [hRetQkRefIdeal : Cert.RetQkRefIdeal.Facts] : Prop :=
  ∀ (m : (ℓ : Loc Cert.RetQkIdeal.nD Cert.RetQkIdeal.τ Cert.RetQkIdeal.sig) → Buf (Elt Ideal) ℓ) (g : Dev Cert.RetQkIdeal.nD → PrngReg)
    (m' : (ℓ : Loc Cert.RetQkRefIdeal.nD Cert.RetQkRefIdeal.τ Cert.RetQkRefIdeal.sig) → Buf (Elt Ideal) ℓ) (g' : Dev Cert.RetQkRefIdeal.nD → PrngReg), Pre_RetQkIdeal m →
    (∀ c : Dev Cert.RetQkIdeal.nD,
      m' ((c.tc : Thread Cert.RetQkRefIdeal.nD Cert.RetQkRefIdeal.τ).loc Cert.RetQkRefIdeal.main_arg0) = m ((c.tc : Thread Cert.RetQkIdeal.nD Cert.RetQkIdeal.τ).loc Cert.RetQkIdeal.main_arg0)
      ∧ m' ((c.tc : Thread Cert.RetQkRefIdeal.nD Cert.RetQkRefIdeal.τ).loc Cert.RetQkRefIdeal.main_arg1) = m ((c.tc : Thread Cert.RetQkIdeal.nD Cert.RetQkIdeal.τ).loc Cert.RetQkIdeal.main_arg1)) →
    ∃ (v0 : (c : Dev Cert.RetQkIdeal.nD) → Buf (Elt Ideal) ((c.tc : Thread Cert.RetQkIdeal.nD Cert.RetQkIdeal.τ).loc Cert.RetQkIdeal.main_v25)),
      θ_run (Cert.RetQkIdeal.defs (F := Ideal)) (onTc (τ := Cert.RetQkIdeal.τ) (Cert.RetQkIdeal.main (F := Ideal))) ⟨m, fun _ => 0, g⟩ (fun r => ∀ c : Dev Cert.RetQkIdeal.nD,
          r.2.mem ((c.tc : Thread Cert.RetQkIdeal.nD Cert.RetQkIdeal.τ).loc Cert.RetQkIdeal.main_v25) = v0 c
          ∧ r.2.mem ((c.tc : Thread Cert.RetQkIdeal.nD Cert.RetQkIdeal.τ).loc Cert.RetQkIdeal.main_arg0) = m ((c.tc : Thread Cert.RetQkIdeal.nD Cert.RetQkIdeal.τ).loc Cert.RetQkIdeal.main_arg0)
          ∧ r.2.mem ((c.tc : Thread Cert.RetQkIdeal.nD Cert.RetQkIdeal.τ).loc Cert.RetQkIdeal.main_arg1) = m ((c.tc : Thread Cert.RetQkIdeal.nD Cert.RetQkIdeal.τ).loc Cert.RetQkIdeal.main_arg1))
      ∧ θ_run (Cert.RetQkRefIdeal.defs (F := Ideal)) (onTc (τ := Cert.RetQkRefIdeal.τ) (Cert.RetQkRefIdeal.main (F := Ideal))) ⟨m', fun _ => 0, g'⟩ (fun r => ∀ c : Dev Cert.RetQkRefIdeal.nD,
          r.2.mem ((c.tc : Thread Cert.RetQkRefIdeal.nD Cert.RetQkRefIdeal.τ).loc Cert.RetQkRefIdeal.main_v90) = v0 c
          ∧ r.2.mem ((c.tc : Thread Cert.RetQkRefIdeal.nD Cert.RetQkRefIdeal.τ).loc Cert.RetQkRefIdeal.main_arg0) = m' ((c.tc : Thread Cert.RetQkRefIdeal.nD Cert.RetQkRefIdeal.τ).loc Cert.RetQkRefIdeal.main_arg0)
          ∧ r.2.mem ((c.tc : Thread Cert.RetQkRefIdeal.nD Cert.RetQkRefIdeal.τ).loc Cert.RetQkRefIdeal.main_arg1) = m' ((c.tc : Thread Cert.RetQkRefIdeal.nD Cert.RetQkRefIdeal.τ).loc Cert.RetQkRefIdeal.main_arg1))

def preserves_FirstPle_FirstPleIdeal : Prop :=
  True

def algebraic_FirstPleIdeal_FirstPleRefIdeal [hFirstPleIdeal : Cert.FirstPleIdeal.Facts] [hFirstPleRefIdeal : Cert.FirstPleRefIdeal.Facts] : Prop :=
  ∀ (m : (ℓ : Loc Cert.FirstPleIdeal.nD Cert.FirstPleIdeal.τ Cert.FirstPleIdeal.sig) → Buf (Elt Ideal) ℓ) (g : Dev Cert.FirstPleIdeal.nD → PrngReg)
    (m' : (ℓ : Loc Cert.FirstPleRefIdeal.nD Cert.FirstPleRefIdeal.τ Cert.FirstPleRefIdeal.sig) → Buf (Elt Ideal) ℓ) (g' : Dev Cert.FirstPleRefIdeal.nD → PrngReg), Pre_FirstPleIdeal m →
    (∀ c : Dev Cert.FirstPleIdeal.nD,
      m' ((c.tc : Thread Cert.FirstPleRefIdeal.nD Cert.FirstPleRefIdeal.τ).loc Cert.FirstPleRefIdeal.main_arg0) = m ((c.tc : Thread Cert.FirstPleIdeal.nD Cert.FirstPleIdeal.τ).loc Cert.FirstPleIdeal.main_arg0)
      ∧ m' ((c.tc : Thread Cert.FirstPleRefIdeal.nD Cert.FirstPleRefIdeal.τ).loc Cert.FirstPleRefIdeal.main_arg1) = m ((c.tc : Thread Cert.FirstPleIdeal.nD Cert.FirstPleIdeal.τ).loc Cert.FirstPleIdeal.main_arg1)
      ∧ m' ((c.tc : Thread Cert.FirstPleRefIdeal.nD Cert.FirstPleRefIdeal.τ).loc Cert.FirstPleRefIdeal.main_arg2) = m ((c.tc : Thread Cert.FirstPleIdeal.nD Cert.FirstPleIdeal.τ).loc Cert.FirstPleIdeal.main_arg2)
      ∧ m' ((c.tc : Thread Cert.FirstPleRefIdeal.nD Cert.FirstPleRefIdeal.τ).loc Cert.FirstPleRefIdeal.main_arg3) = m ((c.tc : Thread Cert.FirstPleIdeal.nD Cert.FirstPleIdeal.τ).loc Cert.FirstPleIdeal.main_arg3)
      ∧ m' ((c.tc : Thread Cert.FirstPleRefIdeal.nD Cert.FirstPleRefIdeal.τ).loc Cert.FirstPleRefIdeal.main_arg4) = m ((c.tc : Thread Cert.FirstPleIdeal.nD Cert.FirstPleIdeal.τ).loc Cert.FirstPleIdeal.main_arg4)
      ∧ m' ((c.tc : Thread Cert.FirstPleRefIdeal.nD Cert.FirstPleRefIdeal.τ).loc Cert.FirstPleRefIdeal.main_arg5) = m ((c.tc : Thread Cert.FirstPleIdeal.nD Cert.FirstPleIdeal.τ).loc Cert.FirstPleIdeal.main_arg5)) →
    ∃ (v0 : (c : Dev Cert.FirstPleIdeal.nD) → Buf (Elt Ideal) ((c.tc : Thread Cert.FirstPleIdeal.nD Cert.FirstPleIdeal.τ).loc Cert.FirstPleIdeal.main_v9_0)) (v1 : (c : Dev Cert.FirstPleIdeal.nD) → Buf (Elt Ideal) ((c.tc : Thread Cert.FirstPleIdeal.nD Cert.FirstPleIdeal.τ).loc Cert.FirstPleIdeal.main_v9_1)),
      θ_run (Cert.FirstPleIdeal.defs (F := Ideal)) (onTc (τ := Cert.FirstPleIdeal.τ) (Cert.FirstPleIdeal.main (F := Ideal))) ⟨m, fun _ => 0, g⟩ (fun r => ∀ c : Dev Cert.FirstPleIdeal.nD,
          r.2.mem ((c.tc : Thread Cert.FirstPleIdeal.nD Cert.FirstPleIdeal.τ).loc Cert.FirstPleIdeal.main_v9_0) = v0 c
          ∧ r.2.mem ((c.tc : Thread Cert.FirstPleIdeal.nD Cert.FirstPleIdeal.τ).loc Cert.FirstPleIdeal.main_v9_1) = v1 c
          ∧ r.2.mem ((c.tc : Thread Cert.FirstPleIdeal.nD Cert.FirstPleIdeal.τ).loc Cert.FirstPleIdeal.main_arg0) = m ((c.tc : Thread Cert.FirstPleIdeal.nD Cert.FirstPleIdeal.τ).loc Cert.FirstPleIdeal.main_arg0)
          ∧ r.2.mem ((c.tc : Thread Cert.FirstPleIdeal.nD Cert.FirstPleIdeal.τ).loc Cert.FirstPleIdeal.main_arg1) = m ((c.tc : Thread Cert.FirstPleIdeal.nD Cert.FirstPleIdeal.τ).loc Cert.FirstPleIdeal.main_arg1)
          ∧ r.2.mem ((c.tc : Thread Cert.FirstPleIdeal.nD Cert.FirstPleIdeal.τ).loc Cert.FirstPleIdeal.main_arg2) = m ((c.tc : Thread Cert.FirstPleIdeal.nD Cert.FirstPleIdeal.τ).loc Cert.FirstPleIdeal.main_arg2)
          ∧ r.2.mem ((c.tc : Thread Cert.FirstPleIdeal.nD Cert.FirstPleIdeal.τ).loc Cert.FirstPleIdeal.main_arg3) = m ((c.tc : Thread Cert.FirstPleIdeal.nD Cert.FirstPleIdeal.τ).loc Cert.FirstPleIdeal.main_arg3)
          ∧ r.2.mem ((c.tc : Thread Cert.FirstPleIdeal.nD Cert.FirstPleIdeal.τ).loc Cert.FirstPleIdeal.main_arg4) = m ((c.tc : Thread Cert.FirstPleIdeal.nD Cert.FirstPleIdeal.τ).loc Cert.FirstPleIdeal.main_arg4)
          ∧ r.2.mem ((c.tc : Thread Cert.FirstPleIdeal.nD Cert.FirstPleIdeal.τ).loc Cert.FirstPleIdeal.main_arg5) = m ((c.tc : Thread Cert.FirstPleIdeal.nD Cert.FirstPleIdeal.τ).loc Cert.FirstPleIdeal.main_arg5))
      ∧ θ_run (Cert.FirstPleRefIdeal.defs (F := Ideal)) (onTc (τ := Cert.FirstPleRefIdeal.τ) (Cert.FirstPleRefIdeal.main (F := Ideal))) ⟨m', fun _ => 0, g'⟩ (fun r => ∀ c : Dev Cert.FirstPleRefIdeal.nD,
          r.2.mem ((c.tc : Thread Cert.FirstPleRefIdeal.nD Cert.FirstPleRefIdeal.τ).loc Cert.FirstPleRefIdeal.main_v16) = v0 c
          ∧ r.2.mem ((c.tc : Thread Cert.FirstPleRefIdeal.nD Cert.FirstPleRefIdeal.τ).loc Cert.FirstPleRefIdeal.main_v33) = v1 c
          ∧ r.2.mem ((c.tc : Thread Cert.FirstPleRefIdeal.nD Cert.FirstPleRefIdeal.τ).loc Cert.FirstPleRefIdeal.main_arg0) = m' ((c.tc : Thread Cert.FirstPleRefIdeal.nD Cert.FirstPleRefIdeal.τ).loc Cert.FirstPleRefIdeal.main_arg0)
          ∧ r.2.mem ((c.tc : Thread Cert.FirstPleRefIdeal.nD Cert.FirstPleRefIdeal.τ).loc Cert.FirstPleRefIdeal.main_arg1) = m' ((c.tc : Thread Cert.FirstPleRefIdeal.nD Cert.FirstPleRefIdeal.τ).loc Cert.FirstPleRefIdeal.main_arg1)
          ∧ r.2.mem ((c.tc : Thread Cert.FirstPleRefIdeal.nD Cert.FirstPleRefIdeal.τ).loc Cert.FirstPleRefIdeal.main_arg2) = m' ((c.tc : Thread Cert.FirstPleRefIdeal.nD Cert.FirstPleRefIdeal.τ).loc Cert.FirstPleRefIdeal.main_arg2)
          ∧ r.2.mem ((c.tc : Thread Cert.FirstPleRefIdeal.nD Cert.FirstPleRefIdeal.τ).loc Cert.FirstPleRefIdeal.main_arg3) = m' ((c.tc : Thread Cert.FirstPleRefIdeal.nD Cert.FirstPleRefIdeal.τ).loc Cert.FirstPleRefIdeal.main_arg3)
          ∧ r.2.mem ((c.tc : Thread Cert.FirstPleRefIdeal.nD Cert.FirstPleRefIdeal.τ).loc Cert.FirstPleRefIdeal.main_arg4) = m' ((c.tc : Thread Cert.FirstPleRefIdeal.nD Cert.FirstPleRefIdeal.τ).loc Cert.FirstPleRefIdeal.main_arg4)
          ∧ r.2.mem ((c.tc : Thread Cert.FirstPleRefIdeal.nD Cert.FirstPleRefIdeal.τ).loc Cert.FirstPleRefIdeal.main_arg5) = m' ((c.tc : Thread Cert.FirstPleRefIdeal.nD Cert.FirstPleRefIdeal.τ).loc Cert.FirstPleRefIdeal.main_arg5))

def preserves_MidPle_MidPleIdeal : Prop :=
  True

def algebraic_MidPleIdeal_MidPleRefIdeal [hMidPleIdeal : Cert.MidPleIdeal.Facts] [hMidPleRefIdeal : Cert.MidPleRefIdeal.Facts] : Prop :=
  ∀ (m : (ℓ : Loc Cert.MidPleIdeal.nD Cert.MidPleIdeal.τ Cert.MidPleIdeal.sig) → Buf (Elt Ideal) ℓ) (g : Dev Cert.MidPleIdeal.nD → PrngReg)
    (m' : (ℓ : Loc Cert.MidPleRefIdeal.nD Cert.MidPleRefIdeal.τ Cert.MidPleRefIdeal.sig) → Buf (Elt Ideal) ℓ) (g' : Dev Cert.MidPleRefIdeal.nD → PrngReg), Pre_MidPleIdeal m →
    (∀ c : Dev Cert.MidPleIdeal.nD,
      m' ((c.tc : Thread Cert.MidPleRefIdeal.nD Cert.MidPleRefIdeal.τ).loc Cert.MidPleRefIdeal.main_arg0) = m ((c.tc : Thread Cert.MidPleIdeal.nD Cert.MidPleIdeal.τ).loc Cert.MidPleIdeal.main_arg0)
      ∧ m' ((c.tc : Thread Cert.MidPleRefIdeal.nD Cert.MidPleRefIdeal.τ).loc Cert.MidPleRefIdeal.main_arg1) = m ((c.tc : Thread Cert.MidPleIdeal.nD Cert.MidPleIdeal.τ).loc Cert.MidPleIdeal.main_arg1)
      ∧ m' ((c.tc : Thread Cert.MidPleRefIdeal.nD Cert.MidPleRefIdeal.τ).loc Cert.MidPleRefIdeal.main_arg2) = m ((c.tc : Thread Cert.MidPleIdeal.nD Cert.MidPleIdeal.τ).loc Cert.MidPleIdeal.main_arg2)
      ∧ m' ((c.tc : Thread Cert.MidPleRefIdeal.nD Cert.MidPleRefIdeal.τ).loc Cert.MidPleRefIdeal.main_arg3) = m ((c.tc : Thread Cert.MidPleIdeal.nD Cert.MidPleIdeal.τ).loc Cert.MidPleIdeal.main_arg3)
      ∧ m' ((c.tc : Thread Cert.MidPleRefIdeal.nD Cert.MidPleRefIdeal.τ).loc Cert.MidPleRefIdeal.main_arg4) = m ((c.tc : Thread Cert.MidPleIdeal.nD Cert.MidPleIdeal.τ).loc Cert.MidPleIdeal.main_arg4)
      ∧ m' ((c.tc : Thread Cert.MidPleRefIdeal.nD Cert.MidPleRefIdeal.τ).loc Cert.MidPleRefIdeal.main_arg5) = m ((c.tc : Thread Cert.MidPleIdeal.nD Cert.MidPleIdeal.τ).loc Cert.MidPleIdeal.main_arg5)
      ∧ m' ((c.tc : Thread Cert.MidPleRefIdeal.nD Cert.MidPleRefIdeal.τ).loc Cert.MidPleRefIdeal.main_arg6) = m ((c.tc : Thread Cert.MidPleIdeal.nD Cert.MidPleIdeal.τ).loc Cert.MidPleIdeal.main_arg6)) →
    ∃ (v0 : (c : Dev Cert.MidPleIdeal.nD) → Buf (Elt Ideal) ((c.tc : Thread Cert.MidPleIdeal.nD Cert.MidPleIdeal.τ).loc Cert.MidPleIdeal.main_v12_0)) (v1 : (c : Dev Cert.MidPleIdeal.nD) → Buf (Elt Ideal) ((c.tc : Thread Cert.MidPleIdeal.nD Cert.MidPleIdeal.τ).loc Cert.MidPleIdeal.main_v12_1)),
      θ_run (Cert.MidPleIdeal.defs (F := Ideal)) (onTc (τ := Cert.MidPleIdeal.τ) (Cert.MidPleIdeal.main (F := Ideal))) ⟨m, fun _ => 0, g⟩ (fun r => ∀ c : Dev Cert.MidPleIdeal.nD,
          r.2.mem ((c.tc : Thread Cert.MidPleIdeal.nD Cert.MidPleIdeal.τ).loc Cert.MidPleIdeal.main_v12_0) = v0 c
          ∧ r.2.mem ((c.tc : Thread Cert.MidPleIdeal.nD Cert.MidPleIdeal.τ).loc Cert.MidPleIdeal.main_v12_1) = v1 c
          ∧ r.2.mem ((c.tc : Thread Cert.MidPleIdeal.nD Cert.MidPleIdeal.τ).loc Cert.MidPleIdeal.main_arg0) = m ((c.tc : Thread Cert.MidPleIdeal.nD Cert.MidPleIdeal.τ).loc Cert.MidPleIdeal.main_arg0)
          ∧ r.2.mem ((c.tc : Thread Cert.MidPleIdeal.nD Cert.MidPleIdeal.τ).loc Cert.MidPleIdeal.main_arg1) = m ((c.tc : Thread Cert.MidPleIdeal.nD Cert.MidPleIdeal.τ).loc Cert.MidPleIdeal.main_arg1)
          ∧ r.2.mem ((c.tc : Thread Cert.MidPleIdeal.nD Cert.MidPleIdeal.τ).loc Cert.MidPleIdeal.main_arg2) = m ((c.tc : Thread Cert.MidPleIdeal.nD Cert.MidPleIdeal.τ).loc Cert.MidPleIdeal.main_arg2)
          ∧ r.2.mem ((c.tc : Thread Cert.MidPleIdeal.nD Cert.MidPleIdeal.τ).loc Cert.MidPleIdeal.main_arg3) = m ((c.tc : Thread Cert.MidPleIdeal.nD Cert.MidPleIdeal.τ).loc Cert.MidPleIdeal.main_arg3)
          ∧ r.2.mem ((c.tc : Thread Cert.MidPleIdeal.nD Cert.MidPleIdeal.τ).loc Cert.MidPleIdeal.main_arg4) = m ((c.tc : Thread Cert.MidPleIdeal.nD Cert.MidPleIdeal.τ).loc Cert.MidPleIdeal.main_arg4)
          ∧ r.2.mem ((c.tc : Thread Cert.MidPleIdeal.nD Cert.MidPleIdeal.τ).loc Cert.MidPleIdeal.main_arg5) = m ((c.tc : Thread Cert.MidPleIdeal.nD Cert.MidPleIdeal.τ).loc Cert.MidPleIdeal.main_arg5)
          ∧ r.2.mem ((c.tc : Thread Cert.MidPleIdeal.nD Cert.MidPleIdeal.τ).loc Cert.MidPleIdeal.main_arg6) = m ((c.tc : Thread Cert.MidPleIdeal.nD Cert.MidPleIdeal.τ).loc Cert.MidPleIdeal.main_arg6))
      ∧ θ_run (Cert.MidPleRefIdeal.defs (F := Ideal)) (onTc (τ := Cert.MidPleRefIdeal.τ) (Cert.MidPleRefIdeal.main (F := Ideal))) ⟨m', fun _ => 0, g'⟩ (fun r => ∀ c : Dev Cert.MidPleRefIdeal.nD,
          r.2.mem ((c.tc : Thread Cert.MidPleRefIdeal.nD Cert.MidPleRefIdeal.τ).loc Cert.MidPleRefIdeal.main_v32) = v0 c
          ∧ r.2.mem ((c.tc : Thread Cert.MidPleRefIdeal.nD Cert.MidPleRefIdeal.τ).loc Cert.MidPleRefIdeal.main_v49) = v1 c
          ∧ r.2.mem ((c.tc : Thread Cert.MidPleRefIdeal.nD Cert.MidPleRefIdeal.τ).loc Cert.MidPleRefIdeal.main_arg0) = m' ((c.tc : Thread Cert.MidPleRefIdeal.nD Cert.MidPleRefIdeal.τ).loc Cert.MidPleRefIdeal.main_arg0)
          ∧ r.2.mem ((c.tc : Thread Cert.MidPleRefIdeal.nD Cert.MidPleRefIdeal.τ).loc Cert.MidPleRefIdeal.main_arg1) = m' ((c.tc : Thread Cert.MidPleRefIdeal.nD Cert.MidPleRefIdeal.τ).loc Cert.MidPleRefIdeal.main_arg1)
          ∧ r.2.mem ((c.tc : Thread Cert.MidPleRefIdeal.nD Cert.MidPleRefIdeal.τ).loc Cert.MidPleRefIdeal.main_arg2) = m' ((c.tc : Thread Cert.MidPleRefIdeal.nD Cert.MidPleRefIdeal.τ).loc Cert.MidPleRefIdeal.main_arg2)
          ∧ r.2.mem ((c.tc : Thread Cert.MidPleRefIdeal.nD Cert.MidPleRefIdeal.τ).loc Cert.MidPleRefIdeal.main_arg3) = m' ((c.tc : Thread Cert.MidPleRefIdeal.nD Cert.MidPleRefIdeal.τ).loc Cert.MidPleRefIdeal.main_arg3)
          ∧ r.2.mem ((c.tc : Thread Cert.MidPleRefIdeal.nD Cert.MidPleRefIdeal.τ).loc Cert.MidPleRefIdeal.main_arg4) = m' ((c.tc : Thread Cert.MidPleRefIdeal.nD Cert.MidPleRefIdeal.τ).loc Cert.MidPleRefIdeal.main_arg4)
          ∧ r.2.mem ((c.tc : Thread Cert.MidPleRefIdeal.nD Cert.MidPleRefIdeal.τ).loc Cert.MidPleRefIdeal.main_arg5) = m' ((c.tc : Thread Cert.MidPleRefIdeal.nD Cert.MidPleRefIdeal.τ).loc Cert.MidPleRefIdeal.main_arg5)
          ∧ r.2.mem ((c.tc : Thread Cert.MidPleRefIdeal.nD Cert.MidPleRefIdeal.τ).loc Cert.MidPleRefIdeal.main_arg6) = m' ((c.tc : Thread Cert.MidPleRefIdeal.nD Cert.MidPleRefIdeal.τ).loc Cert.MidPleRefIdeal.main_arg6))

def preserves_MlaLatent_MlaLatentIdeal : Prop :=
  True

def algebraic_MlaLatentIdeal_MlaLatentRefIdeal [hMlaLatentIdeal : Cert.MlaLatentIdeal.Facts] [hMlaLatentRefIdeal : Cert.MlaLatentRefIdeal.Facts] : Prop :=
  ∀ (m : (ℓ : Loc Cert.MlaLatentIdeal.nD Cert.MlaLatentIdeal.τ Cert.MlaLatentIdeal.sig) → Buf (Elt Ideal) ℓ) (g : Dev Cert.MlaLatentIdeal.nD → PrngReg)
    (m' : (ℓ : Loc Cert.MlaLatentRefIdeal.nD Cert.MlaLatentRefIdeal.τ Cert.MlaLatentRefIdeal.sig) → Buf (Elt Ideal) ℓ) (g' : Dev Cert.MlaLatentRefIdeal.nD → PrngReg), Pre_MlaLatentIdeal m →
    (∀ c : Dev Cert.MlaLatentIdeal.nD,
      m' ((c.tc : Thread Cert.MlaLatentRefIdeal.nD Cert.MlaLatentRefIdeal.τ).loc Cert.MlaLatentRefIdeal.main_arg0) = m ((c.tc : Thread Cert.MlaLatentIdeal.nD Cert.MlaLatentIdeal.τ).loc Cert.MlaLatentIdeal.main_arg0)
      ∧ m' ((c.tc : Thread Cert.MlaLatentRefIdeal.nD Cert.MlaLatentRefIdeal.τ).loc Cert.MlaLatentRefIdeal.main_arg1) = m ((c.tc : Thread Cert.MlaLatentIdeal.nD Cert.MlaLatentIdeal.τ).loc Cert.MlaLatentIdeal.main_arg1)
      ∧ m' ((c.tc : Thread Cert.MlaLatentRefIdeal.nD Cert.MlaLatentRefIdeal.τ).loc Cert.MlaLatentRefIdeal.main_arg2) = m ((c.tc : Thread Cert.MlaLatentIdeal.nD Cert.MlaLatentIdeal.τ).loc Cert.MlaLatentIdeal.main_arg2)
      ∧ m' ((c.tc : Thread Cert.MlaLatentRefIdeal.nD Cert.MlaLatentRefIdeal.τ).loc Cert.MlaLatentRefIdeal.main_arg3) = m ((c.tc : Thread Cert.MlaLatentIdeal.nD Cert.MlaLatentIdeal.τ).loc Cert.MlaLatentIdeal.main_arg3)) →
    ∃ (v0 : (c : Dev Cert.MlaLatentIdeal.nD) → Buf (Elt Ideal) ((c.tc : Thread Cert.MlaLatentIdeal.nD Cert.MlaLatentIdeal.τ).loc Cert.MlaLatentIdeal.main_v12)),
      θ_run (Cert.MlaLatentIdeal.defs (F := Ideal)) (onTc (τ := Cert.MlaLatentIdeal.τ) (Cert.MlaLatentIdeal.main (F := Ideal))) ⟨m, fun _ => 0, g⟩ (fun r => ∀ c : Dev Cert.MlaLatentIdeal.nD,
          r.2.mem ((c.tc : Thread Cert.MlaLatentIdeal.nD Cert.MlaLatentIdeal.τ).loc Cert.MlaLatentIdeal.main_v12) = v0 c
          ∧ r.2.mem ((c.tc : Thread Cert.MlaLatentIdeal.nD Cert.MlaLatentIdeal.τ).loc Cert.MlaLatentIdeal.main_arg0) = m ((c.tc : Thread Cert.MlaLatentIdeal.nD Cert.MlaLatentIdeal.τ).loc Cert.MlaLatentIdeal.main_arg0)
          ∧ r.2.mem ((c.tc : Thread Cert.MlaLatentIdeal.nD Cert.MlaLatentIdeal.τ).loc Cert.MlaLatentIdeal.main_arg1) = m ((c.tc : Thread Cert.MlaLatentIdeal.nD Cert.MlaLatentIdeal.τ).loc Cert.MlaLatentIdeal.main_arg1)
          ∧ r.2.mem ((c.tc : Thread Cert.MlaLatentIdeal.nD Cert.MlaLatentIdeal.τ).loc Cert.MlaLatentIdeal.main_arg2) = m ((c.tc : Thread Cert.MlaLatentIdeal.nD Cert.MlaLatentIdeal.τ).loc Cert.MlaLatentIdeal.main_arg2)
          ∧ r.2.mem ((c.tc : Thread Cert.MlaLatentIdeal.nD Cert.MlaLatentIdeal.τ).loc Cert.MlaLatentIdeal.main_arg3) = m ((c.tc : Thread Cert.MlaLatentIdeal.nD Cert.MlaLatentIdeal.τ).loc Cert.MlaLatentIdeal.main_arg3))
      ∧ θ_run (Cert.MlaLatentRefIdeal.defs (F := Ideal)) (onTc (τ := Cert.MlaLatentRefIdeal.τ) (Cert.MlaLatentRefIdeal.main (F := Ideal))) ⟨m', fun _ => 0, g'⟩ (fun r => ∀ c : Dev Cert.MlaLatentRefIdeal.nD,
          r.2.mem ((c.tc : Thread Cert.MlaLatentRefIdeal.nD Cert.MlaLatentRefIdeal.τ).loc Cert.MlaLatentRefIdeal.main_v39) = v0 c
          ∧ r.2.mem ((c.tc : Thread Cert.MlaLatentRefIdeal.nD Cert.MlaLatentRefIdeal.τ).loc Cert.MlaLatentRefIdeal.main_arg0) = m' ((c.tc : Thread Cert.MlaLatentRefIdeal.nD Cert.MlaLatentRefIdeal.τ).loc Cert.MlaLatentRefIdeal.main_arg0)
          ∧ r.2.mem ((c.tc : Thread Cert.MlaLatentRefIdeal.nD Cert.MlaLatentRefIdeal.τ).loc Cert.MlaLatentRefIdeal.main_arg1) = m' ((c.tc : Thread Cert.MlaLatentRefIdeal.nD Cert.MlaLatentRefIdeal.τ).loc Cert.MlaLatentRefIdeal.main_arg1)
          ∧ r.2.mem ((c.tc : Thread Cert.MlaLatentRefIdeal.nD Cert.MlaLatentRefIdeal.τ).loc Cert.MlaLatentRefIdeal.main_arg2) = m' ((c.tc : Thread Cert.MlaLatentRefIdeal.nD Cert.MlaLatentRefIdeal.τ).loc Cert.MlaLatentRefIdeal.main_arg2)
          ∧ r.2.mem ((c.tc : Thread Cert.MlaLatentRefIdeal.nD Cert.MlaLatentRefIdeal.τ).loc Cert.MlaLatentRefIdeal.main_arg3) = m' ((c.tc : Thread Cert.MlaLatentRefIdeal.nD Cert.MlaLatentRefIdeal.τ).loc Cert.MlaLatentRefIdeal.main_arg3))

def preserves_MlaKey_MlaKeyIdeal : Prop :=
  True

def algebraic_MlaKeyIdeal_MlaKeyRefIdeal [hMlaKeyIdeal : Cert.MlaKeyIdeal.Facts] [hMlaKeyRefIdeal : Cert.MlaKeyRefIdeal.Facts] : Prop :=
  ∀ (m : (ℓ : Loc Cert.MlaKeyIdeal.nD Cert.MlaKeyIdeal.τ Cert.MlaKeyIdeal.sig) → Buf (Elt Ideal) ℓ) (g : Dev Cert.MlaKeyIdeal.nD → PrngReg)
    (m' : (ℓ : Loc Cert.MlaKeyRefIdeal.nD Cert.MlaKeyRefIdeal.τ Cert.MlaKeyRefIdeal.sig) → Buf (Elt Ideal) ℓ) (g' : Dev Cert.MlaKeyRefIdeal.nD → PrngReg), Pre_MlaKeyIdeal m →
    (∀ c : Dev Cert.MlaKeyIdeal.nD,
      m' ((c.tc : Thread Cert.MlaKeyRefIdeal.nD Cert.MlaKeyRefIdeal.τ).loc Cert.MlaKeyRefIdeal.main_arg0) = m ((c.tc : Thread Cert.MlaKeyIdeal.nD Cert.MlaKeyIdeal.τ).loc Cert.MlaKeyIdeal.main_arg0)
      ∧ m' ((c.tc : Thread Cert.MlaKeyRefIdeal.nD Cert.MlaKeyRefIdeal.τ).loc Cert.MlaKeyRefIdeal.main_arg1) = m ((c.tc : Thread Cert.MlaKeyIdeal.nD Cert.MlaKeyIdeal.τ).loc Cert.MlaKeyIdeal.main_arg1)) →
    ∃ (v0 : (c : Dev Cert.MlaKeyIdeal.nD) → Buf (Elt Ideal) ((c.tc : Thread Cert.MlaKeyIdeal.nD Cert.MlaKeyIdeal.τ).loc Cert.MlaKeyIdeal.main_v8)),
      θ_run (Cert.MlaKeyIdeal.defs (F := Ideal)) (onTc (τ := Cert.MlaKeyIdeal.τ) (Cert.MlaKeyIdeal.main (F := Ideal))) ⟨m, fun _ => 0, g⟩ (fun r => ∀ c : Dev Cert.MlaKeyIdeal.nD,
          r.2.mem ((c.tc : Thread Cert.MlaKeyIdeal.nD Cert.MlaKeyIdeal.τ).loc Cert.MlaKeyIdeal.main_v8) = v0 c
          ∧ r.2.mem ((c.tc : Thread Cert.MlaKeyIdeal.nD Cert.MlaKeyIdeal.τ).loc Cert.MlaKeyIdeal.main_arg0) = m ((c.tc : Thread Cert.MlaKeyIdeal.nD Cert.MlaKeyIdeal.τ).loc Cert.MlaKeyIdeal.main_arg0)
          ∧ r.2.mem ((c.tc : Thread Cert.MlaKeyIdeal.nD Cert.MlaKeyIdeal.τ).loc Cert.MlaKeyIdeal.main_arg1) = m ((c.tc : Thread Cert.MlaKeyIdeal.nD Cert.MlaKeyIdeal.τ).loc Cert.MlaKeyIdeal.main_arg1))
      ∧ θ_run (Cert.MlaKeyRefIdeal.defs (F := Ideal)) (onTc (τ := Cert.MlaKeyRefIdeal.τ) (Cert.MlaKeyRefIdeal.main (F := Ideal))) ⟨m', fun _ => 0, g'⟩ (fun r => ∀ c : Dev Cert.MlaKeyRefIdeal.nD,
          r.2.mem ((c.tc : Thread Cert.MlaKeyRefIdeal.nD Cert.MlaKeyRefIdeal.τ).loc Cert.MlaKeyRefIdeal.main_v7) = v0 c
          ∧ r.2.mem ((c.tc : Thread Cert.MlaKeyRefIdeal.nD Cert.MlaKeyRefIdeal.τ).loc Cert.MlaKeyRefIdeal.main_arg0) = m' ((c.tc : Thread Cert.MlaKeyRefIdeal.nD Cert.MlaKeyRefIdeal.τ).loc Cert.MlaKeyRefIdeal.main_arg0)
          ∧ r.2.mem ((c.tc : Thread Cert.MlaKeyRefIdeal.nD Cert.MlaKeyRefIdeal.τ).loc Cert.MlaKeyRefIdeal.main_arg1) = m' ((c.tc : Thread Cert.MlaKeyRefIdeal.nD Cert.MlaKeyRefIdeal.τ).loc Cert.MlaKeyRefIdeal.main_arg1))

def preserves_MlaValue_MlaValueIdeal : Prop :=
  True

def algebraic_MlaValueIdeal_MlaValueRefIdeal [hMlaValueIdeal : Cert.MlaValueIdeal.Facts] [hMlaValueRefIdeal : Cert.MlaValueRefIdeal.Facts] : Prop :=
  ∀ (m : (ℓ : Loc Cert.MlaValueIdeal.nD Cert.MlaValueIdeal.τ Cert.MlaValueIdeal.sig) → Buf (Elt Ideal) ℓ) (g : Dev Cert.MlaValueIdeal.nD → PrngReg)
    (m' : (ℓ : Loc Cert.MlaValueRefIdeal.nD Cert.MlaValueRefIdeal.τ Cert.MlaValueRefIdeal.sig) → Buf (Elt Ideal) ℓ) (g' : Dev Cert.MlaValueRefIdeal.nD → PrngReg), Pre_MlaValueIdeal m →
    (∀ c : Dev Cert.MlaValueIdeal.nD,
      m' ((c.tc : Thread Cert.MlaValueRefIdeal.nD Cert.MlaValueRefIdeal.τ).loc Cert.MlaValueRefIdeal.main_arg0) = m ((c.tc : Thread Cert.MlaValueIdeal.nD Cert.MlaValueIdeal.τ).loc Cert.MlaValueIdeal.main_arg0)
      ∧ m' ((c.tc : Thread Cert.MlaValueRefIdeal.nD Cert.MlaValueRefIdeal.τ).loc Cert.MlaValueRefIdeal.main_arg1) = m ((c.tc : Thread Cert.MlaValueIdeal.nD Cert.MlaValueIdeal.τ).loc Cert.MlaValueIdeal.main_arg1)) →
    ∃ (v0 : (c : Dev Cert.MlaValueIdeal.nD) → Buf (Elt Ideal) ((c.tc : Thread Cert.MlaValueIdeal.nD Cert.MlaValueIdeal.τ).loc Cert.MlaValueIdeal.main_v8)),
      θ_run (Cert.MlaValueIdeal.defs (F := Ideal)) (onTc (τ := Cert.MlaValueIdeal.τ) (Cert.MlaValueIdeal.main (F := Ideal))) ⟨m, fun _ => 0, g⟩ (fun r => ∀ c : Dev Cert.MlaValueIdeal.nD,
          r.2.mem ((c.tc : Thread Cert.MlaValueIdeal.nD Cert.MlaValueIdeal.τ).loc Cert.MlaValueIdeal.main_v8) = v0 c
          ∧ r.2.mem ((c.tc : Thread Cert.MlaValueIdeal.nD Cert.MlaValueIdeal.τ).loc Cert.MlaValueIdeal.main_arg0) = m ((c.tc : Thread Cert.MlaValueIdeal.nD Cert.MlaValueIdeal.τ).loc Cert.MlaValueIdeal.main_arg0)
          ∧ r.2.mem ((c.tc : Thread Cert.MlaValueIdeal.nD Cert.MlaValueIdeal.τ).loc Cert.MlaValueIdeal.main_arg1) = m ((c.tc : Thread Cert.MlaValueIdeal.nD Cert.MlaValueIdeal.τ).loc Cert.MlaValueIdeal.main_arg1))
      ∧ θ_run (Cert.MlaValueRefIdeal.defs (F := Ideal)) (onTc (τ := Cert.MlaValueRefIdeal.τ) (Cert.MlaValueRefIdeal.main (F := Ideal))) ⟨m', fun _ => 0, g'⟩ (fun r => ∀ c : Dev Cert.MlaValueRefIdeal.nD,
          r.2.mem ((c.tc : Thread Cert.MlaValueRefIdeal.nD Cert.MlaValueRefIdeal.τ).loc Cert.MlaValueRefIdeal.main_v7) = v0 c
          ∧ r.2.mem ((c.tc : Thread Cert.MlaValueRefIdeal.nD Cert.MlaValueRefIdeal.τ).loc Cert.MlaValueRefIdeal.main_arg0) = m' ((c.tc : Thread Cert.MlaValueRefIdeal.nD Cert.MlaValueRefIdeal.τ).loc Cert.MlaValueRefIdeal.main_arg0)
          ∧ r.2.mem ((c.tc : Thread Cert.MlaValueRefIdeal.nD Cert.MlaValueRefIdeal.τ).loc Cert.MlaValueRefIdeal.main_arg1) = m' ((c.tc : Thread Cert.MlaValueRefIdeal.nD Cert.MlaValueRefIdeal.τ).loc Cert.MlaValueRefIdeal.main_arg1))

def Claim : Prop :=
  ∃ (hKernel : Cert.Kernel.Facts) (hKernelIdeal : Cert.KernelIdeal.Facts) (hReferenceIdeal : Cert.ReferenceIdeal.Facts) (hExpertUp : Cert.ExpertUp.Facts) (hExpertUpIdeal : Cert.ExpertUpIdeal.Facts) (hExpertUpRefIdeal : Cert.ExpertUpRefIdeal.Facts) (hExpertDown : Cert.ExpertDown.Facts) (hExpertDownIdeal : Cert.ExpertDownIdeal.Facts) (hExpertDownRefIdeal : Cert.ExpertDownRefIdeal.Facts) (hFfnUp : Cert.FfnUp.Facts) (hFfnUpIdeal : Cert.FfnUpIdeal.Facts) (hFfnUpRefIdeal : Cert.FfnUpRefIdeal.Facts) (hValueGate : Cert.ValueGate.Facts) (hValueGateIdeal : Cert.ValueGateIdeal.Facts) (hValueGateRefIdeal : Cert.ValueGateRefIdeal.Facts) (hLastPle : Cert.LastPle.Facts) (hLastPleIdeal : Cert.LastPleIdeal.Facts) (hLastPleRefIdeal : Cert.LastPleRefIdeal.Facts) (hFfnDown : Cert.FfnDown.Facts) (hFfnDownIdeal : Cert.FfnDownIdeal.Facts) (hFfnDownRefIdeal : Cert.FfnDownRefIdeal.Facts) (hRetOut : Cert.RetOut.Facts) (hRetOutIdeal : Cert.RetOutIdeal.Facts) (hRetOutRefIdeal : Cert.RetOutRefIdeal.Facts) (hMlaOut : Cert.MlaOut.Facts) (hMlaOutIdeal : Cert.MlaOutIdeal.Facts) (hMlaOutRefIdeal : Cert.MlaOutRefIdeal.Facts) (hRetQk : Cert.RetQk.Facts) (hRetQkIdeal : Cert.RetQkIdeal.Facts) (hRetQkRefIdeal : Cert.RetQkRefIdeal.Facts) (hFirstPle : Cert.FirstPle.Facts) (hFirstPleIdeal : Cert.FirstPleIdeal.Facts) (hFirstPleRefIdeal : Cert.FirstPleRefIdeal.Facts) (hMidPle : Cert.MidPle.Facts) (hMidPleIdeal : Cert.MidPleIdeal.Facts) (hMidPleRefIdeal : Cert.MidPleRefIdeal.Facts) (hMlaLatent : Cert.MlaLatent.Facts) (hMlaLatentIdeal : Cert.MlaLatentIdeal.Facts) (hMlaLatentRefIdeal : Cert.MlaLatentRefIdeal.Facts) (hMlaKey : Cert.MlaKey.Facts) (hMlaKeyIdeal : Cert.MlaKeyIdeal.Facts) (hMlaKeyRefIdeal : Cert.MlaKeyRefIdeal.Facts) (hMlaValue : Cert.MlaValue.Facts) (hMlaValueIdeal : Cert.MlaValueIdeal.Facts) (hMlaValueRefIdeal : Cert.MlaValueRefIdeal.Facts) (hPre_finite : Cert.Pre_finite.Facts) (hPre_experts_up : Cert.Pre_experts_up.Facts) (hPre_experts_down : Cert.Pre_experts_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ExpertUp (hExpertUp := hExpertUp) (hPre_experts_up := hPre_experts_up)
    ∧ quiescent_ExpertUpIdeal (hExpertUpIdeal := hExpertUpIdeal) (hPre_experts_up := hPre_experts_up)
    ∧ quiescent_ExpertUpRefIdeal (hExpertUpRefIdeal := hExpertUpRefIdeal)
    ∧ quiescent_ExpertUpRefIdeal_pre_experts_up (hExpertUpRefIdeal := hExpertUpRefIdeal) (hPre_experts_up := hPre_experts_up)
    ∧ quiescent_ExpertDown (hExpertDown := hExpertDown) (hPre_experts_down := hPre_experts_down)
    ∧ quiescent_ExpertDownIdeal (hExpertDownIdeal := hExpertDownIdeal) (hPre_experts_down := hPre_experts_down)
    ∧ quiescent_ExpertDownRefIdeal (hExpertDownRefIdeal := hExpertDownRefIdeal)
    ∧ quiescent_ExpertDownRefIdeal_pre_experts_down (hExpertDownRefIdeal := hExpertDownRefIdeal) (hPre_experts_down := hPre_experts_down)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_ValueGate (hValueGate := hValueGate)
    ∧ quiescent_ValueGateIdeal (hValueGateIdeal := hValueGateIdeal)
    ∧ quiescent_ValueGateRefIdeal (hValueGateRefIdeal := hValueGateRefIdeal)
    ∧ quiescent_LastPle (hLastPle := hLastPle)
    ∧ quiescent_LastPleIdeal (hLastPleIdeal := hLastPleIdeal)
    ∧ quiescent_LastPleRefIdeal (hLastPleRefIdeal := hLastPleRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_RetQk (hRetQk := hRetQk)
    ∧ quiescent_RetQkIdeal (hRetQkIdeal := hRetQkIdeal)
    ∧ quiescent_RetQkRefIdeal (hRetQkRefIdeal := hRetQkRefIdeal)
    ∧ quiescent_FirstPle (hFirstPle := hFirstPle)
    ∧ quiescent_FirstPleIdeal (hFirstPleIdeal := hFirstPleIdeal)
    ∧ quiescent_FirstPleRefIdeal (hFirstPleRefIdeal := hFirstPleRefIdeal)
    ∧ quiescent_MidPle (hMidPle := hMidPle)
    ∧ quiescent_MidPleIdeal (hMidPleIdeal := hMidPleIdeal)
    ∧ quiescent_MidPleRefIdeal (hMidPleRefIdeal := hMidPleRefIdeal)
    ∧ quiescent_MlaLatent (hMlaLatent := hMlaLatent)
    ∧ quiescent_MlaLatentIdeal (hMlaLatentIdeal := hMlaLatentIdeal)
    ∧ quiescent_MlaLatentRefIdeal (hMlaLatentRefIdeal := hMlaLatentRefIdeal)
    ∧ quiescent_MlaKey (hMlaKey := hMlaKey)
    ∧ quiescent_MlaKeyIdeal (hMlaKeyIdeal := hMlaKeyIdeal)
    ∧ quiescent_MlaKeyRefIdeal (hMlaKeyRefIdeal := hMlaKeyRefIdeal)
    ∧ quiescent_MlaValue (hMlaValue := hMlaValue)
    ∧ quiescent_MlaValueIdeal (hMlaValueIdeal := hMlaValueIdeal)
    ∧ quiescent_MlaValueRefIdeal (hMlaValueRefIdeal := hMlaValueRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ExpertUp_ExpertUpIdeal
    ∧ algebraic_ExpertUpIdeal_ExpertUpRefIdeal (hExpertUpIdeal := hExpertUpIdeal) (hExpertUpRefIdeal := hExpertUpRefIdeal) (hPre_experts_up := hPre_experts_up)
    ∧ preserves_ExpertDown_ExpertDownIdeal
    ∧ algebraic_ExpertDownIdeal_ExpertDownRefIdeal (hExpertDownIdeal := hExpertDownIdeal) (hExpertDownRefIdeal := hExpertDownRefIdeal) (hPre_experts_down := hPre_experts_down)
    ∧ preserves_FfnUp_FfnUpIdeal
    ∧ algebraic_FfnUpIdeal_FfnUpRefIdeal (hFfnUpIdeal := hFfnUpIdeal) (hFfnUpRefIdeal := hFfnUpRefIdeal)
    ∧ preserves_ValueGate_ValueGateIdeal
    ∧ algebraic_ValueGateIdeal_ValueGateRefIdeal (hValueGateIdeal := hValueGateIdeal) (hValueGateRefIdeal := hValueGateRefIdeal)
    ∧ preserves_LastPle_LastPleIdeal
    ∧ algebraic_LastPleIdeal_LastPleRefIdeal (hLastPleIdeal := hLastPleIdeal) (hLastPleRefIdeal := hLastPleRefIdeal)
    ∧ preserves_FfnDown_FfnDownIdeal
    ∧ algebraic_FfnDownIdeal_FfnDownRefIdeal (hFfnDownIdeal := hFfnDownIdeal) (hFfnDownRefIdeal := hFfnDownRefIdeal)
    ∧ preserves_RetOut_RetOutIdeal
    ∧ algebraic_RetOutIdeal_RetOutRefIdeal (hRetOutIdeal := hRetOutIdeal) (hRetOutRefIdeal := hRetOutRefIdeal)
    ∧ preserves_MlaOut_MlaOutIdeal
    ∧ algebraic_MlaOutIdeal_MlaOutRefIdeal (hMlaOutIdeal := hMlaOutIdeal) (hMlaOutRefIdeal := hMlaOutRefIdeal)
    ∧ preserves_RetQk_RetQkIdeal
    ∧ algebraic_RetQkIdeal_RetQkRefIdeal (hRetQkIdeal := hRetQkIdeal) (hRetQkRefIdeal := hRetQkRefIdeal)
    ∧ preserves_FirstPle_FirstPleIdeal
    ∧ algebraic_FirstPleIdeal_FirstPleRefIdeal (hFirstPleIdeal := hFirstPleIdeal) (hFirstPleRefIdeal := hFirstPleRefIdeal)
    ∧ preserves_MidPle_MidPleIdeal
    ∧ algebraic_MidPleIdeal_MidPleRefIdeal (hMidPleIdeal := hMidPleIdeal) (hMidPleRefIdeal := hMidPleRefIdeal)
    ∧ preserves_MlaLatent_MlaLatentIdeal
    ∧ algebraic_MlaLatentIdeal_MlaLatentRefIdeal (hMlaLatentIdeal := hMlaLatentIdeal) (hMlaLatentRefIdeal := hMlaLatentRefIdeal)
    ∧ preserves_MlaKey_MlaKeyIdeal
    ∧ algebraic_MlaKeyIdeal_MlaKeyRefIdeal (hMlaKeyIdeal := hMlaKeyIdeal) (hMlaKeyRefIdeal := hMlaKeyRefIdeal)
    ∧ preserves_MlaValue_MlaValueIdeal
    ∧ algebraic_MlaValueIdeal_MlaValueRefIdeal (hMlaValueIdeal := hMlaValueIdeal) (hMlaValueRefIdeal := hMlaValueRefIdeal)
-- ==== Pre_experts_down.lean ====
abbrev S69632x5632 : Shape := ⟨2, ![69632, 5632]⟩
abbrev S136 : Shape := ⟨1, ![136]⟩
abbrev S2x8x5632x2048 : Shape := ⟨4, ![2, 8, 5632, 2048]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S69632x5632 .f32) (main_arg1 : IVec S136 32) (main_arg2 : FVec F S2x8x5632x2048 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_experts_up.lean ====
abbrev S69632x2048 : Shape := ⟨2, ![69632, 2048]⟩
abbrev S136 : Shape := ⟨1, ![136]⟩
abbrev S2x8x2048x5632 : Shape := ⟨4, ![2, 8, 2048, 5632]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S69632x2048 .f32) (main_arg1 : IVec S136 32) (main_arg2 : FVec F S2x8x2048x5632 .f32) (main_arg3 : FVec F S2x8x2048x5632 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite.lean ====
abbrev S4x8192x16x128 : Shape := ⟨4, ![4, 8192, 16, 128]⟩
abbrev S4x8192x16x64 : Shape := ⟨4, ![4, 8192, 16, 64]⟩
abbrev S4x8192x64 : Shape := ⟨3, ![4, 8192, 64]⟩
abbrev S_ : Shape := ⟨0, ![]⟩

class Facts : Prop where
  bcast_S_S4x8192x16x128 : S_.BroadcastsInDim S4x8192x16x128 (![] : Fin 0 → Fin S4x8192x16x128.rank)
  reducesTo_S4x8192x16x128_S_d0_1_2_3 : S4x8192x16x128.ReducesTo [0, 1, 2, 3] S_
  h_S_ : 0 < S_.numel
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn_part1 {F : FTy → Type} [FloatOps F] (main_arg4 : FVec F S4x8192x16x128 .f32) (main_v13 : IVec S_ 1) (main_v16 : IVec S4x8192x64 1) : IVec S_ 1 :=
  let main_c_5 : IVec S_ 1 := constantI S_ 1 1#1
  let main_v17 : IVec S_ 1 := (fun x v => Host.reduce IntOp.andi x v reducesTo_S4x8192x64_S_d0_1_2 h_S_) main_v16 main_c_5
  let main_v18 : IVec S_ 1 := andi main_v13 main_v17
  let main_v19 : FVec F S4x8192x16x128 .f32 := Host.absf main_arg4
  let main_cst_6 : FVec F S_ .f32 := constant S_ .f32 0x7F800000#32
  let main_v20 : FVec F S4x8192x16x128 .f32 := broadcastInDim S4x8192x16x128 ![] bcast_S_S4x8192x16x128 main_cst_6
  let main_v21 : IVec S4x8192x16x128 1 := cmpf .olt main_v19 main_v20
  let main_c_7 : IVec S_ 1 := constantI S_ 1 1#1
  let main_v22 : IVec S_ 1 := (fun x v => Host.reduce IntOp.andi x v reducesTo_S4x8192x16x128_S_d0_1_2_3 h_S_) main_v21 main_c_7
  let main_v23 : IVec S_ 1 := andi main_v18 main_v22
  main_v23

def fn {F : FTy → Type} [FloatOps F] (main_arg0 : FVec F S4x8192x16x128 .f32) (main_arg1 : FVec F S4x8192x16x64 .f32) (main_arg2 : FVec F S4x8192x16x128 .f32) (main_arg3 : FVec F S4x8192x64 .f32) (main_arg4 : FVec F S4x8192x16x128 .f32) : IVec S_ 1 :=
  let main_v0 : FVec F S4x8192x16x128 .f32 := Host.absf main_arg0
  let main_cst : FVec F S_ .f32 := constant S_ .f32 0x7F800000#32
  let main_v1 : FVec F S4x8192x16x128 .f32 := broadcastInDim S4x8192x16x128 ![] bcast_S_S4x8192x16x128 main_cst
  let main_v2 : IVec S4x8192x16x128 1 := cmpf .olt main_v0 main_v1
  let main_c : IVec S_ 1 := constantI S_ 1 1#1
  let main_v3 : IVec S_ 1 := (fun x v => Host.reduce IntOp.andi x v reducesTo_S4x8192x16x128_S_d0_1_2_3 h_S_) main_v2 main_c
  let main_v4 : FVec F S4x8192x16x64 .f32 := Host.absf main_arg1
  let main_cst_0 : FVec F S_ .f32 := constant S_ .f32 0x7F800000#32
  let main_v5 : FVec F S4x8192x16x64 .f32 := broadcastInDim S4x8192x16x64 ![] bcast_S_S4x8192x16x64 main_cst_0
  let main_v6 : IVec S4x8192x16x64 1 := cmpf .olt main_v4 main_v5
  let main_c_1 : IVec S_ 1 := constantI S_ 1 1#1
  let main_v7 : IVec S_ 1 := (fun x v => Host.reduce IntOp.andi x v reducesTo_S4x8192x16x64_S_d0_1_2_3 h_S_) main_v6 main_c_1
  let main_v8 : IVec S_ 1 := andi main_v3 main_v7
  let main_v9 : FVec F S4x8192x16x128 .f32 := Host.absf main_arg2
  let main_cst_2 : FVec F S_ .f32 := constant S_ .f32 0x7F800000#32
  let main_v10 : FVec F S4x8192x16x128 .f32 := broadcastInDim S4x8192x16x128 ![] bcast_S_S4x8192x16x128 main_cst_2
  let main_v11 : IVec S4x8192x16x128 1 := cmpf .olt main_v9 main_v10
  let main_c_3 : IVec S_ 1 := constantI S_ 1 1#1
  let main_v12 : IVec S_ 1 := (fun x v => Host.reduce IntOp.andi x v reducesTo_S4x8192x16x128_S_d0_1_2_3 h_S_) main_v11 main_c_3
  let main_v13 : IVec S_ 1 := andi main_v8 main_v12
  let main_v14 : FVec F S4x8192x64 .f32 := Host.absf main_arg3
  let main_cst_4 : FVec F S_ .f32 := constant S_ .f32 0x7F800000#32
  let main_v15 : FVec F S4x8192x64 .f32 := broadcastInDim S4x8192x64 ![] bcast_S_S4x8192x64 main_cst_4
  let main_v16 : IVec S4x8192x64 1 := cmpf .olt main_v14 main_v15
  fn_part1 (F := F) main_arg4 main_v13 main_v16
-- ==== Kernel.lean ====
abbrev S4x8192x16x128 : Shape := ⟨4, ![4, 8192, 16, 128]⟩
abbrev S4x8192x16x64 : Shape := ⟨4, ![4, 8192, 16, 64]⟩
abbrev S4x8192x64 : Shape := ⟨3, ![4, 8192, 64]⟩
abbrev S_ : Shape := ⟨0, ![]⟩
abbrev S4x8192x16x256 : Shape := ⟨4, ![4, 8192, 16, 256]⟩
abbrev S32768x4096 : Shape := ⟨2, ![32768, 4096]⟩
abbrev S32768x2048 : Shape := ⟨2, ![32768, 2048]⟩
abbrev S4x8192x128 : Shape := ⟨3, ![4, 8192, 128]⟩
abbrev S32768x128 : Shape := ⟨2, ![32768, 128]⟩
abbrev S1024x256 : Shape := ⟨2, ![1024, 256]⟩
abbrev S8192x128 : Shape := ⟨2, ![8192, 128]⟩
abbrev S1024x128 : Shape := ⟨2, ![1024, 128]⟩
abbrev S8192x256 : Shape := ⟨2, ![8192, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 20
  | .vmem => 11
  | .smem => 0
  | _ => 0

abbrev bufTy : (tb : Table) → Fin (tcTables nBuf tb) → BufTy
  | .hbm, ⟨0, _⟩ => ⟨S4x8192x16x128, .f32⟩
  | .hbm, ⟨1, _⟩ => ⟨S4x8192x16x64, .f32⟩
  | .hbm, ⟨2, _⟩ => ⟨S4x8192x16x128, .f32⟩
  | .hbm, ⟨3, _⟩ => ⟨S4x8192x64, .f32⟩
  | .hbm, ⟨4, _⟩ => ⟨S4x8192x16x128, .f32⟩
  | .hbm, ⟨5, _⟩ => ⟨S_, .f32⟩
  | .hbm, ⟨6, _⟩ => ⟨S4x8192x16x64, .f32⟩
  | .hbm, ⟨7, _⟩ => ⟨S4x8192x16x256, .f32⟩
  | .hbm, ⟨8, _⟩ => ⟨S32768x4096, .f32⟩
  | .hbm, ⟨9, _⟩ => ⟨S32768x4096, .bf16⟩
  | .hbm, ⟨10, _⟩ => ⟨S32768x2048, .f32⟩
  | .hbm, ⟨11, _⟩ => ⟨S32768x2048, .bf16⟩
  | .hbm, ⟨12, _⟩ => ⟨S_, .f32⟩
  | .hbm, ⟨13, _⟩ => ⟨S4x8192x64, .f32⟩
  | .hbm, ⟨14, _⟩ => ⟨S4x8192x128, .f32⟩
  | .hbm, ⟨15, _⟩ => ⟨S32768x128, .f32⟩
  | .hbm, ⟨16, _⟩ => ⟨S32768x128, .bf16⟩
  | .hbm, ⟨17, _⟩ => ⟨S32768x2048, .f32⟩
  | .hbm, ⟨18, _⟩ => ⟨S32768x2048, .bf16⟩
  | .hbm, ⟨19, _⟩ => ⟨S32768x2048, .bf16⟩
  | .local _ .vmem, ⟨0, _⟩ => ⟨S1024x256, .bf16⟩
  | .local _ .vmem, ⟨1, _⟩ => ⟨S1024x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .bf16⟩
  | .local _ .vmem, ⟨9, _⟩ => ⟨S1024x128, .bf16⟩
  | .local _ .vmem, ⟨10, _⟩ => ⟨S8192x256, .bf16⟩
  | _, _ => ⟨S4x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 8], ![false, false, false]⟩

@[reducible] def k0_t1_loop : Scf.Loop 32 :=
  let c0_i32_5 : BitVec 32 := 0#32
  let c8_i32 : BitVec 32 := 8#32
  let v12 : BitVec 32 := Scalar.addi c0_i32_5 c8_i32
  let c1_i32 : BitVec 32 := 1#32
  ⟨c0_i32_5, v12, c1_i32⟩
def k0_mult1 (k0_t1 : Fin k0_t1_loop.trips) : BitVec 32 :=
  let c0_i32_5 : BitVec 32 := 0#32
  let c1_i32 : BitVec 32 := 1#32
  let arg9 : BitVec 32 := Scf.iv c0_i32_5 c1_i32 k0_t1
  let c1024_i32 : BitVec 32 := 1024#32
  let v18 : BitVec 32 := Scalar.muli arg9 c1024_i32
  v18
def k0_off1 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c1024_i32 : BitVec 32 := 1024#32
  let v18 : BitVec 32 := Scalar.muli arg9 c1024_i32
  let v19 : BitVec 32 := v18
  let v20 : Index := Scalar.indexCast v19
  let c0_9 : Index := 0#32
  ![v20.toNat, 0]
def k0_off2 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c1024_i32 : BitVec 32 := 1024#32
  let v18 : BitVec 32 := Scalar.muli arg9 c1024_i32
  let v19 : BitVec 32 := v18
  let v22 : Index := Scalar.indexCast v19
  let c0_10 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "scale" => some (((Real.sqrt 192)⁻¹ * (Real.log 2)⁻¹ : ℝ) : EReal)
  | _ => none
-- ==== ReferenceIdeal.lean ====
abbrev S4x8192x16x128 : Shape := ⟨4, ![4, 8192, 16, 128]⟩
abbrev S4x8192x16x64 : Shape := ⟨4, ![4, 8192, 16, 64]⟩
abbrev S4x8192x64 : Shape := ⟨3, ![4, 8192, 64]⟩
abbrev S4x16x8192x8192 : Shape := ⟨4, ![4, 16, 8192, 8192]⟩
abbrev S4x8192x8192x16 : Shape := ⟨4, ![4, 8192, 8192, 16]⟩
abbrev S_ : Shape := ⟨0, ![]⟩
abbrev S4x16x8192 : Shape := ⟨3, ![4, 16, 8192]⟩
abbrev S4x16x8192x1 : Shape := ⟨4, ![4, 16, 8192, 1]⟩
abbrev S4x16x128x8192 : Shape := ⟨4, ![4, 16, 128, 8192]⟩
abbrev S32768x2048 : Shape := ⟨2, ![32768, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x16x128, .f32⟩
  | .hbm, ⟨1, _⟩ => ⟨S4x8192x16x64, .f32⟩
  | .hbm, ⟨2, _⟩ => ⟨S4x8192x16x128, .f32⟩
  | .hbm, ⟨3, _⟩ => ⟨S4x8192x64, .f32⟩
  | .hbm, ⟨4, _⟩ => ⟨S4x8192x16x128, .f32⟩
  | .hbm, ⟨5, _⟩ => ⟨S4x16x8192x8192, .f32⟩
  | .hbm, ⟨6, _⟩ => ⟨S4x8192x8192x16, .f32⟩
  | .hbm, ⟨7, _⟩ => ⟨S4x16x8192x8192, .f32⟩
  | .hbm, ⟨8, _⟩ => ⟨S4x16x8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16x8192x8192, .f32⟩
  | .hbm, ⟨14, _⟩ => ⟨S4x16x8192x8192, .f32⟩
  | .hbm, ⟨15, _⟩ => ⟨S_, .f32⟩
  | .hbm, ⟨16, _⟩ => ⟨S4x16x8192, .f32⟩
  | .hbm, ⟨17, _⟩ => ⟨S_, .f32⟩
  | .hbm, ⟨18, _⟩ => ⟨S4x16x8192, .f32⟩
  | .hbm, ⟨19, _⟩ => ⟨S4x16x8192, .f32⟩
  | .hbm, ⟨20, _⟩ => ⟨S4x16x8192x1, .f32⟩
  | .hbm, ⟨21, _⟩ => ⟨S4x16x8192x8192, .f32⟩
  | .hbm, ⟨22, _⟩ => ⟨S4x16x8192x8192, .f32⟩
  | .hbm, ⟨23, _⟩ => ⟨S4x16x8192x8192, .f32⟩
  | .hbm, ⟨24, _⟩ => ⟨S_, .f32⟩
  | .hbm, ⟨25, _⟩ => ⟨S4x16x8192, .f32⟩
  | .hbm, ⟨26, _⟩ => ⟨S4x16x8192x1, .f32⟩
  | .hbm, ⟨27, _⟩ => ⟨S4x16x8192x8192, .f32⟩
  | .hbm, ⟨28, _⟩ => ⟨S4x16x8192x8192, .f32⟩
  | .hbm, ⟨29, _⟩ => ⟨S4x16x128x8192, .f32⟩
  | .hbm, ⟨30, _⟩ => ⟨S4x8192x16x128, .f32⟩
  | .hbm, ⟨31, _⟩ => ⟨S32768x2048, .f32⟩
  | .hbm, ⟨32, _⟩ => ⟨S32768x2048, .bf16⟩
  | _, _ => ⟨S4x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== ExpertUp.lean ====
abbrev S69632x2048 : Shape := ⟨2, ![69632, 2048]⟩
abbrev S136 : Shape := ⟨1, ![136]⟩
abbrev S2x8x2048x5632 : Shape := ⟨4, ![2, 8, 2048, 5632]⟩
abbrev S69632x5632 : Shape := ⟨2, ![69632, 5632]⟩
abbrev S512x2048 : Shape := ⟨2, ![512, 2048]⟩
abbrev S1x1x2048x1408 : Shape := ⟨4, ![1, 1, 2048, 1408]⟩
abbrev S1 : Shape := ⟨1, ![1]⟩
abbrev S512x1408 : Shape := ⟨2, ![512, 1408]⟩
abbrev S2048x1408 : Shape := ⟨2, ![2048, 1408]⟩

abbrev nBuf : Space → Nat
  | .hbm => 7
  | .vmem => 8
  | .smem => 1
  | _ => 0

abbrev bufTy : (tb : Table) → Fin (tcTables nBuf tb) → BufTy
  | .hbm, ⟨0, _⟩ => ⟨S69632x2048, .f32⟩
  | .hbm, ⟨1, _⟩ => ⟨S2x8x2048x5632, .f32⟩
  | .hbm, ⟨2, _⟩ => ⟨S2x8x2048x5632, .f32⟩
  | .hbm, ⟨3, _⟩ => ⟨S69632x2048, .bf16⟩
  | .hbm, ⟨4, _⟩ => ⟨S2x8x2048x5632, .bf16⟩
  | .hbm, ⟨5, _⟩ => ⟨S2x8x2048x5632, .bf16⟩
  | .hbm, ⟨6, _⟩ => ⟨S69632x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .bf16⟩
  | .local _ .vmem, ⟨7, _⟩ => ⟨S512x1408, .bf16⟩
  | .local _ .smem, ⟨0, _⟩ => ⟨S136, .i32⟩
  | _, _ => ⟨S69632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 136], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertUpRefIdeal.lean ====
abbrev S69632x2048 : Shape := ⟨2, ![69632, 2048]⟩
abbrev S136 : Shape := ⟨1, ![136]⟩
abbrev S2x8x2048x5632 : Shape := ⟨4, ![2, 8, 2048, 5632]⟩
abbrev S136x512x2048 : Shape := ⟨3, ![136, 512, 2048]⟩
abbrev S1x8x2048x5632 : Shape := ⟨4, ![1, 8, 2048, 5632]⟩
abbrev S8x2048x5632 : Shape := ⟨3, ![8, 2048, 5632]⟩
abbrev S136x1 : Shape := ⟨2, ![136, 1]⟩
abbrev S136x2048x5632 : Shape := ⟨3, ![136, 2048, 5632]⟩
abbrev S136x512x5632 : Shape := ⟨3, ![136, 512, 5632]⟩
abbrev S_ : Shape := ⟨0, ![]⟩
abbrev S69632x5632 : Shape := ⟨2, ![69632, 5632]⟩

abbrev nBuf : Space → Nat
  | .hbm => 27
  | .vmem => 0
  | .smem => 0
  | _ => 0

abbrev bufTy : (tb : Table) → Fin (tcTables nBuf tb) → BufTy
  | .hbm, ⟨0, _⟩ => ⟨S69632x2048, .f32⟩
  | .hbm, ⟨1, _⟩ => ⟨S136, .i32⟩
  | .hbm, ⟨2, _⟩ => ⟨S2x8x2048x5632, .f32⟩
  | .hbm, ⟨3, _⟩ => ⟨S2x8x2048x5632, .f32⟩
  | .hbm, ⟨4, _⟩ => ⟨S136x512x2048, .f32⟩
  | .hbm, ⟨5, _⟩ => ⟨S1x8x2048x5632, .f32⟩
  | .hbm, ⟨6, _⟩ => ⟨S8x2048x5632, .f32⟩
  | .hbm, ⟨7, _⟩ => ⟨S136x1, .i32⟩
  | .hbm, ⟨8, _⟩ => ⟨S136x2048x5632, .f32⟩
  | .hbm, ⟨9, _⟩ => ⟨S136x512x5632, .f32⟩
  | .hbm, ⟨10, _⟩ => ⟨S1x8x2048x5632, .f32⟩
  | .hbm, ⟨11, _⟩ => ⟨S8x2048x5632, .f32⟩
  | .hbm, ⟨12, _⟩ => ⟨S136x1, .i32⟩
  | .hbm, ⟨13, _⟩ => ⟨S136x2048x5632, .f32⟩
  | .hbm, ⟨14, _⟩ => ⟨S136x512x5632, .f32⟩
  | .hbm, ⟨15, _⟩ => ⟨S136x512x5632, .f32⟩
  | .hbm, ⟨16, _⟩ => ⟨S136x512x5632, .f32⟩
  | .hbm, ⟨17, _⟩ => ⟨S_, .f32⟩
  | .hbm, ⟨18, _⟩ => ⟨S136x512x5632, .f32⟩
  | .hbm, ⟨19, _⟩ => ⟨S136x512x5632, .f32⟩
  | .hbm, ⟨20, _⟩ => ⟨S_, .f32⟩
  | .hbm, ⟨21, _⟩ => ⟨S136x512x5632, .f32⟩
  | .hbm, ⟨22, _⟩ => ⟨S136x512x5632, .f32⟩
  | .hbm, ⟨23, _⟩ => ⟨S136x512x5632, .f32⟩
  | .hbm, ⟨24, _⟩ => ⟨S136x512x5632, .f32⟩
  | .hbm, ⟨25, _⟩ => ⟨S69632x5632, .f32⟩
  | .hbm, ⟨26, _⟩ => ⟨S69632x5632, .bf16⟩
  | _, _ => ⟨S69632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_call2_v0 : Ref sig .tc := ⟨.hbm, 15, rfl⟩
abbrev main_call2_v1 : Ref sig .tc := ⟨.hbm, 16, rfl⟩
abbrev main_call2_cst : Ref sig .tc := ⟨.hbm, 17, rfl⟩
abbrev main_call2_v2 : Ref sig .tc := ⟨.hbm, 18, rfl⟩
abbrev main_call2_v3 : Ref sig .tc := ⟨.hbm, 19, rfl⟩
abbrev main_call2_cst_0 : Ref sig .tc := ⟨.hbm, 20, rfl⟩
abbrev main_call2_v4 : Ref sig .tc := ⟨.hbm, 21, rfl⟩
abbrev main_call2_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== ExpertDown.lean ====
abbrev S69632x5632 : Shape := ⟨2, ![69632, 5632]⟩
abbrev S136 : Shape := ⟨1, ![136]⟩
abbrev S2x8x5632x2048 : Shape := ⟨4, ![2, 8, 5632, 2048]⟩
abbrev S69632x2048 : Shape := ⟨2, ![69632, 2048]⟩
abbrev S512x5632 : Shape := ⟨2, ![512, 5632]⟩
abbrev S1x1x5632x1024 : Shape := ⟨4, ![1, 1, 5632, 1024]⟩
abbrev S1 : Shape := ⟨1, ![1]⟩
abbrev S512x1024 : Shape := ⟨2, ![512, 1024]⟩
abbrev S5632x1024 : Shape := ⟨2, ![5632, 1024]⟩

abbrev nBuf : Space → Nat
  | .hbm => 5
  | .vmem => 6
  | .smem => 1
  | _ => 0

abbrev bufTy : (tb : Table) → Fin (tcTables nBuf tb) → BufTy
  | .hbm, ⟨0, _⟩ => ⟨S69632x5632, .f32⟩
  | .hbm, ⟨1, _⟩ => ⟨S2x8x5632x2048, .f32⟩
  | .hbm, ⟨2, _⟩ => ⟨S69632x5632, .bf16⟩
  | .hbm, ⟨3, _⟩ => ⟨S2x8x5632x2048, .bf16⟩
  | .hbm, ⟨4, _⟩ => ⟨S69632x2048, .bf16⟩
  | .local _ .vmem, ⟨0, _⟩ => ⟨S512x5632, .bf16⟩
  | .local _ .vmem, ⟨1, _⟩ => ⟨S512x5632, .bf16⟩
  | .local _ .vmem, ⟨2, _⟩ => ⟨S1x1x5632x1024, .bf16⟩
  | .local _ .vmem, ⟨3, _⟩ => ⟨S1x1x5632x1024, .bf16⟩
  | .local _ .vmem, ⟨4, _⟩ => ⟨S512x1024, .bf16⟩
  | .local _ .vmem, ⟨5, _⟩ => ⟨S512x1024, .bf16⟩
  | .local _ .smem, ⟨0, _⟩ => ⟨S136, .i32⟩
  | _, _ => ⟨S69632x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 136], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ExpertDownRefIdeal.lean ====
abbrev S69632x5632 : Shape := ⟨2, ![69632, 5632]⟩
abbrev S136 : Shape := ⟨1, ![136]⟩
abbrev S2x8x5632x2048 : Shape := ⟨4, ![2, 8, 5632, 2048]⟩
abbrev S136x512x5632 : Shape := ⟨3, ![136, 512, 5632]⟩
abbrev S1x8x5632x2048 : Shape := ⟨4, ![1, 8, 5632, 2048]⟩
abbrev S8x5632x2048 : Shape := ⟨3, ![8, 5632, 2048]⟩
abbrev S136x1 : Shape := ⟨2, ![136, 1]⟩
abbrev S136x5632x2048 : Shape := ⟨3, ![136, 5632, 2048]⟩
abbrev S136x512x2048 : Shape := ⟨3, ![136, 512, 2048]⟩
abbrev S69632x2048 : Shape := ⟨2, ![69632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S69632x5632, .f32⟩
  | .hbm, ⟨1, _⟩ => ⟨S136, .i32⟩
  | .hbm, ⟨2, _⟩ => ⟨S2x8x5632x2048, .f32⟩
  | .hbm, ⟨3, _⟩ => ⟨S136x512x5632, .f32⟩
  | .hbm, ⟨4, _⟩ => ⟨S1x8x5632x2048, .f32⟩
  | .hbm, ⟨5, _⟩ => ⟨S8x5632x2048, .f32⟩
  | .hbm, ⟨6, _⟩ => ⟨S136x1, .i32⟩
  | .hbm, ⟨7, _⟩ => ⟨S136x5632x2048, .f32⟩
  | .hbm, ⟨8, _⟩ => ⟨S136x512x2048, .f32⟩
  | .hbm, ⟨9, _⟩ => ⟨S69632x2048, .f32⟩
  | .hbm, ⟨10, _⟩ => ⟨S69632x2048, .bf16⟩
  | _, _ => ⟨S69632x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnUp.lean ====
abbrev S4x8192x2048 : Shape := ⟨3, ![4, 8192, 2048]⟩
abbrev S2x2048x5632 : Shape := ⟨3, ![2, 2048, 5632]⟩
abbrev S32768x2048 : Shape := ⟨2, ![32768, 2048]⟩
abbrev S32768x5632 : Shape := ⟨2, ![32768, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2x2048x5632, .f32⟩
  | .hbm, ⟨2, _⟩ => ⟨S2x2048x5632, .f32⟩
  | .hbm, ⟨3, _⟩ => ⟨S32768x2048, .f32⟩
  | .hbm, ⟨4, _⟩ => ⟨S32768x2048, .bf16⟩
  | .hbm, ⟨5, _⟩ => ⟨S2x2048x5632, .bf16⟩
  | .hbm, ⟨6, _⟩ => ⟨S2x2048x5632, .bf16⟩
  | .hbm, ⟨7, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x512, .bf16⟩
  | .local _ .vmem, ⟨7, _⟩ => ⟨S1024x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S4x8192x2048 : Shape := ⟨3, ![4, 8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4x8192x5632 : Shape := ⟨3, ![4, 8192, 5632]⟩
abbrev S_ : Shape := ⟨0, ![]⟩
abbrev S32768x5632 : Shape := ⟨2, ![32768, 5632]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S4x8192x5632, .f32⟩
  | .hbm, ⟨6, _⟩ => ⟨S4x8192x5632, .f32⟩
  | .hbm, ⟨7, _⟩ => ⟨S4x8192x5632, .f32⟩
  | .hbm, ⟨8, _⟩ => ⟨S_, .f32⟩
  | .hbm, ⟨9, _⟩ => ⟨S4x8192x5632, .f32⟩
  | .hbm, ⟨10, _⟩ => ⟨S4x8192x5632, .f32⟩
  | .hbm, ⟨11, _⟩ => ⟨S_, .f32⟩
  | .hbm, ⟨12, _⟩ => ⟨S4x8192x5632, .f32⟩
  | .hbm, ⟨13, _⟩ => ⟨S4x8192x5632, .f32⟩
  | .hbm, ⟨14, _⟩ => ⟨S4x8192x5632, .f32⟩
  | .hbm, ⟨15, _⟩ => ⟨S1x2048x5632, .f32⟩
  | .hbm, ⟨16, _⟩ => ⟨S2048x5632, .f32⟩
  | .hbm, ⟨17, _⟩ => ⟨S4x8192x5632, .f32⟩
  | .hbm, ⟨18, _⟩ => ⟨S4x8192x5632, .f32⟩
  | .hbm, ⟨19, _⟩ => ⟨S32768x5632, .f32⟩
  | .hbm, ⟨20, _⟩ => ⟨S32768x5632, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== ValueGate.lean ====
abbrev S4x8192x2048 : Shape := ⟨3, ![4, 8192, 2048]⟩
abbrev S2x2048x12288 : Shape := ⟨3, ![2, 2048, 12288]⟩
abbrev S32768x2048 : Shape := ⟨2, ![32768, 2048]⟩
abbrev S32768x8192 : Shape := ⟨2, ![32768, 8192]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2x2048x12288, .f32⟩
  | .hbm, ⟨2, _⟩ => ⟨S32768x2048, .f32⟩
  | .hbm, ⟨3, _⟩ => ⟨S32768x2048, .bf16⟩
  | .hbm, ⟨4, _⟩ => ⟨S2x2048x12288, .bf16⟩
  | .hbm, ⟨5, _⟩ => ⟨S32768x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValueGateRefIdeal.lean ====
abbrev S4x8192x2048 : Shape := ⟨3, ![4, 8192, 2048]⟩
abbrev S2x2048x12288 : Shape := ⟨3, ![2, 2048, 12288]⟩
abbrev S1x2048x12288 : Shape := ⟨3, ![1, 2048, 12288]⟩
abbrev S2048x12288 : Shape := ⟨2, ![2048, 12288]⟩
abbrev S2048x2048 : Shape := ⟨2, ![2048, 2048]⟩
abbrev S2048x4096 : Shape := ⟨2, ![2048, 4096]⟩
abbrev S4x8192x4096 : Shape := ⟨3, ![4, 8192, 4096]⟩
abbrev S4x8192x8192 : Shape := ⟨3, ![4, 8192, 8192]⟩
abbrev S32768x8192 : Shape := ⟨2, ![32768, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048x12288, .f32⟩
  | .hbm, ⟨2, _⟩ => ⟨S1x2048x12288, .f32⟩
  | .hbm, ⟨3, _⟩ => ⟨S2048x12288, .f32⟩
  | .hbm, ⟨4, _⟩ => ⟨S2048x2048, .f32⟩
  | .hbm, ⟨5, _⟩ => ⟨S2048x2048, .f32⟩
  | .hbm, ⟨6, _⟩ => ⟨S2048x4096, .f32⟩
  | .hbm, ⟨7, _⟩ => ⟨S2048x4096, .f32⟩
  | .hbm, ⟨8, _⟩ => ⟨S4x8192x4096, .f32⟩
  | .hbm, ⟨9, _⟩ => ⟨S4x8192x4096, .f32⟩
  | .hbm, ⟨10, _⟩ => ⟨S4x8192x8192, .f32⟩
  | .hbm, ⟨11, _⟩ => ⟨S32768x8192, .f32⟩
  | .hbm, ⟨12, _⟩ => ⟨S32768x8192, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== LastPle.lean ====
abbrev S4x8192x2048 : Shape := ⟨3, ![4, 8192, 2048]⟩
abbrev S4x2048 : Shape := ⟨2, ![4, 2048]⟩
abbrev S4x2048x2048 : Shape := ⟨3, ![4, 2048, 2048]⟩
abbrev S4x4x8192x256 : Shape := ⟨4, ![4, 4, 8192, 256]⟩
abbrev S4x256x2048 : Shape := ⟨3, ![4, 256, 2048]⟩
abbrev S2048 : Shape := ⟨1, ![2048]⟩
abbrev S32768x2048 : Shape := ⟨2, ![32768, 2048]⟩
abbrev S1x2048 : Shape := ⟨2, ![1, 2048]⟩
abbrev S4x32768x256 : Shape := ⟨3, ![4, 32768, 256]⟩
abbrev S256x2048 : Shape := ⟨2, ![256, 2048]⟩
abbrev S1x2048x2048 : Shape := ⟨3, ![1, 2048, 2048]⟩
abbrev S1x256x256 : Shape := ⟨3, ![1, 256, 256]⟩
abbrev S1x256x2048 : Shape := ⟨3, ![1, 256, 2048]⟩
abbrev S256 : Shape := ⟨1, ![256]⟩
abbrev S256x1 : Shape := ⟨2, ![256, 1]⟩
abbrev S2048x2048 : Shape := ⟨2, ![2048, 2048]⟩
abbrev S256x256 : Shape := ⟨2, ![256, 256]⟩

abbrev nBuf : Space → Nat
  | .hbm => 18
  | .vmem => 12
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x2048, .f32⟩
  | .hbm, ⟨3, _⟩ => ⟨S4x2048x2048, .f32⟩
  | .hbm, ⟨4, _⟩ => ⟨S4x4x8192x256, .f32⟩
  | .hbm, ⟨5, _⟩ => ⟨S4x256x2048, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S32768x2048, .bf16⟩
  | .hbm, ⟨10, _⟩ => ⟨S1x2048, .f32⟩
  | .hbm, ⟨11, _⟩ => ⟨S2048, .f32⟩
  | .hbm, ⟨12, _⟩ => ⟨S4x2048x2048, .bf16⟩
  | .hbm, ⟨13, _⟩ => ⟨S4x32768x256, .f32⟩
  | .hbm, ⟨14, _⟩ => ⟨S4x256x2048, .bf16⟩
  | .hbm, ⟨15, _⟩ => ⟨S1x2048, .f32⟩
  | .hbm, ⟨16, _⟩ => ⟨S1x2048, .f32⟩
  | .hbm, ⟨17, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048x2048, .bf16⟩
  | .local _ .vmem, ⟨6, _⟩ => ⟨S1x256x256, .f32⟩
  | .local _ .vmem, ⟨7, _⟩ => ⟨S1x256x256, .f32⟩
  | .local _ .vmem, ⟨8, _⟩ => ⟨S1x256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LastPleRefIdeal.lean ====
abbrev S4x8192x2048 : Shape := ⟨3, ![4, 8192, 2048]⟩
abbrev S4x2048 : Shape := ⟨2, ![4, 2048]⟩
abbrev S4x2048x2048 : Shape := ⟨3, ![4, 2048, 2048]⟩
abbrev S4x4x8192x256 : Shape := ⟨4, ![4, 4, 8192, 256]⟩
abbrev S4x256x2048 : Shape := ⟨3, ![4, 256, 2048]⟩
abbrev S2048 : Shape := ⟨1, ![2048]⟩
abbrev S1x2048 : Shape := ⟨2, ![1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x4x8192x256 : Shape := ⟨4, ![1, 4, 8192, 256]⟩
abbrev S4x8192x256 : Shape := ⟨3, ![4, 8192, 256]⟩
abbrev S1x256x2048 : Shape := ⟨3, ![1, 256, 2048]⟩
abbrev S256x2048 : Shape := ⟨2, ![256, 2048]⟩
abbrev S32768x2048 : Shape := ⟨2, ![32768, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x2048, .f32⟩
  | .hbm, ⟨3, _⟩ => ⟨S4x2048x2048, .f32⟩
  | .hbm, ⟨4, _⟩ => ⟨S4x4x8192x256, .f32⟩
  | .hbm, ⟨5, _⟩ => ⟨S4x256x2048, .f32⟩
  | .hbm, ⟨6, _⟩ => ⟨S2048, .f32⟩
  | .hbm, ⟨7, _⟩ => ⟨S4x8192x2048, .f32⟩
  | .hbm, ⟨8, _⟩ => ⟨S1x2048, .f32⟩
  | .hbm, ⟨9, _⟩ => ⟨S2048, .f32⟩
  | .hbm, ⟨10, _⟩ => ⟨S4x8192x2048, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x2048, .f32⟩
  | .hbm, ⟨22, _⟩ => ⟨S4x8192x2048, .f32⟩
  | .hbm, ⟨23, _⟩ => ⟨S1x1x2048, .f32⟩
  | .hbm, ⟨24, _⟩ => ⟨S4x8192x2048, .f32⟩
  | .hbm, ⟨25, _⟩ => ⟨S4x8192x2048, .f32⟩
  | .hbm, ⟨26, _⟩ => ⟨S1x2048x2048, .f32⟩
  | .hbm, ⟨27, _⟩ => ⟨S2048x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S_, .f32⟩
  | .hbm, ⟨32, _⟩ => ⟨S4x8192x2048, .f32⟩
  | .hbm, ⟨33, _⟩ => ⟨S4x8192x2048, .f32⟩
  | .hbm, ⟨34, _⟩ => ⟨S_, .f32⟩
  | .hbm, ⟨35, _⟩ => ⟨S4x8192x2048, .f32⟩
  | .hbm, ⟨36, _⟩ => ⟨S4x8192x2048, .f32⟩
  | .hbm, ⟨37, _⟩ => ⟨S1x4x8192x256, .f32⟩
  | .hbm, ⟨38, _⟩ => ⟨S4x8192x256, .f32⟩
  | .hbm, ⟨39, _⟩ => ⟨S1x256x2048, .f32⟩
  | .hbm, ⟨40, _⟩ => ⟨S256x2048, .f32⟩
  | .hbm, ⟨41, _⟩ => ⟨S4x8192x2048, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x2048, .f32⟩
  | .hbm, ⟨56, _⟩ => ⟨S4x8192x2048, .f32⟩
  | .hbm, ⟨57, _⟩ => ⟨S1x1x2048, .f32⟩
  | .hbm, ⟨58, _⟩ => ⟨S4x8192x2048, .f32⟩
  | .hbm, ⟨59, _⟩ => ⟨S4x8192x2048, .f32⟩
  | .hbm, ⟨60, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== FfnDown.lean ====
abbrev S4x8192x5632 : Shape := ⟨3, ![4, 8192, 5632]⟩
abbrev S2x5632x2048 : Shape := ⟨3, ![2, 5632, 2048]⟩
abbrev S4x8192x2048 : Shape := ⟨3, ![4, 8192, 2048]⟩
abbrev S4x2048 : Shape := ⟨2, ![4, 2048]⟩
abbrev S32768x5632 : Shape := ⟨2, ![32768, 5632]⟩
abbrev S32768x2048 : Shape := ⟨2, ![32768, 2048]⟩
abbrev S1x2048 : Shape := ⟨2, ![1, 2048]⟩
abbrev S2048 : Shape := ⟨1, ![2048]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4x8192x5632, .f32⟩
  | .hbm, ⟨1, _⟩ => ⟨S2x5632x2048, .f32⟩
  | .hbm, ⟨2, _⟩ => ⟨S4x8192x2048, .f32⟩
  | .hbm, ⟨3, _⟩ => ⟨S4x2048, .f32⟩
  | .hbm, ⟨4, _⟩ => ⟨S32768x5632, .f32⟩
  | .hbm, ⟨5, _⟩ => ⟨S32768x5632, .bf16⟩
  | .hbm, ⟨6, _⟩ => ⟨S2x5632x2048, .bf16⟩
  | .hbm, ⟨7, _⟩ => ⟨S32768x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S4x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def k0_cond3 (i : grid0.Coords) : BitVec 1 :=
  let arg1 : BitVec 32 := BitVec.ofNat 32 (i 1).val
  let c3_i32_7 : BitVec 32 := 3#32
  let v13 : BitVec 1 := Scalar.cmpi .eq arg1 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnDownRefIdeal.lean ====
abbrev S4x8192x5632 : Shape := ⟨3, ![4, 8192, 5632]⟩
abbrev S2x5632x2048 : Shape := ⟨3, ![2, 5632, 2048]⟩
abbrev S4x8192x2048 : Shape := ⟨3, ![4, 8192, 2048]⟩
abbrev S4x2048 : Shape := ⟨2, ![4, 2048]⟩
abbrev S1x5632x2048 : Shape := ⟨3, ![1, 5632, 2048]⟩
abbrev S5632x2048 : Shape := ⟨2, ![5632, 2048]⟩
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x5632, .f32⟩
  | .hbm, ⟨1, _⟩ => ⟨S2x5632x2048, .f32⟩
  | .hbm, ⟨2, _⟩ => ⟨S4x8192x2048, .f32⟩
  | .hbm, ⟨3, _⟩ => ⟨S4x2048, .f32⟩
  | .hbm, ⟨4, _⟩ => ⟨S1x5632x2048, .f32⟩
  | .hbm, ⟨5, _⟩ => ⟨S5632x2048, .f32⟩
  | .hbm, ⟨6, _⟩ => ⟨S4x8192x2048, .f32⟩
  | .hbm, ⟨7, _⟩ => ⟨S4x8192x2048, .f32⟩
  | .hbm, ⟨8, _⟩ => ⟨S32768x2048, .f32⟩
  | .hbm, ⟨9, _⟩ => ⟨S1x2048, .f32⟩
  | .hbm, ⟨10, _⟩ => ⟨S2048, .f32⟩
  | .hbm, ⟨11, _⟩ => ⟨S4x8192x2048, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x2048, .f32⟩
  | .hbm, ⟨23, _⟩ => ⟨S4x8192x2048, .f32⟩
  | .hbm, ⟨24, _⟩ => ⟨S1x1x2048, .f32⟩
  | .hbm, ⟨25, _⟩ => ⟨S4x8192x2048, .f32⟩
  | .hbm, ⟨26, _⟩ => ⟨S4x8192x2048, .f32⟩
  | .hbm, ⟨27, _⟩ => ⟨S32768x2048, .f32⟩
  | .hbm, ⟨28, _⟩ => ⟨S32768x2048, .bf16⟩
  | _, _ => ⟨S4x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== RetOut.lean ====
abbrev S4x8192x4096 : Shape := ⟨3, ![4, 8192, 4096]⟩
abbrev S2x4096x2048 : Shape := ⟨3, ![2, 4096, 2048]⟩
abbrev S4x8192x2048 : Shape := ⟨3, ![4, 8192, 2048]⟩
abbrev S4x2048 : Shape := ⟨2, ![4, 2048]⟩
abbrev S32768x4096 : Shape := ⟨2, ![32768, 4096]⟩
abbrev S32768x2048 : Shape := ⟨2, ![32768, 2048]⟩
abbrev S1x2048 : Shape := ⟨2, ![1, 2048]⟩
abbrev S2048 : Shape := ⟨1, ![2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4x8192x4096, .f32⟩
  | .hbm, ⟨1, _⟩ => ⟨S2x4096x2048, .f32⟩
  | .hbm, ⟨2, _⟩ => ⟨S4x8192x2048, .f32⟩
  | .hbm, ⟨3, _⟩ => ⟨S4x2048, .f32⟩
  | .hbm, ⟨4, _⟩ => ⟨S32768x4096, .f32⟩
  | .hbm, ⟨5, _⟩ => ⟨S32768x4096, .bf16⟩
  | .hbm, ⟨6, _⟩ => ⟨S2x4096x2048, .bf16⟩
  | .hbm, ⟨7, _⟩ => ⟨S32768x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def k0_cond3 (i : grid0.Coords) : BitVec 1 :=
  let arg1 : BitVec 32 := BitVec.ofNat 32 (i 1).val
  let c3_i32_7 : BitVec 32 := 3#32
  let v13 : BitVec 1 := Scalar.cmpi .eq arg1 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RetOutRefIdeal.lean ====
abbrev S4x8192x4096 : Shape := ⟨3, ![4, 8192, 4096]⟩
abbrev S2x4096x2048 : Shape := ⟨3, ![2, 4096, 2048]⟩
abbrev S4x8192x2048 : Shape := ⟨3, ![4, 8192, 2048]⟩
abbrev S4x2048 : Shape := ⟨2, ![4, 2048]⟩
abbrev S1x4096x2048 : Shape := ⟨3, ![1, 4096, 2048]⟩
abbrev S4096x2048 : Shape := ⟨2, ![4096, 2048]⟩
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S2x4096x2048, .f32⟩
  | .hbm, ⟨2, _⟩ => ⟨S4x8192x2048, .f32⟩
  | .hbm, ⟨3, _⟩ => ⟨S4x2048, .f32⟩
  | .hbm, ⟨4, _⟩ => ⟨S1x4096x2048, .f32⟩
  | .hbm, ⟨5, _⟩ => ⟨S4096x2048, .f32⟩
  | .hbm, ⟨6, _⟩ => ⟨S4x8192x2048, .f32⟩
  | .hbm, ⟨7, _⟩ => ⟨S4x8192x2048, .f32⟩
  | .hbm, ⟨8, _⟩ => ⟨S32768x2048, .f32⟩
  | .hbm, ⟨9, _⟩ => ⟨S1x2048, .f32⟩
  | .hbm, ⟨10, _⟩ => ⟨S2048, .f32⟩
  | .hbm, ⟨11, _⟩ => ⟨S4x8192x2048, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x2048, .f32⟩
  | .hbm, ⟨23, _⟩ => ⟨S4x8192x2048, .f32⟩
  | .hbm, ⟨24, _⟩ => ⟨S1x1x2048, .f32⟩
  | .hbm, ⟨25, _⟩ => ⟨S4x8192x2048, .f32⟩
  | .hbm, ⟨26, _⟩ => ⟨S4x8192x2048, .f32⟩
  | .hbm, ⟨27, _⟩ => ⟨S32768x2048, .f32⟩
  | .hbm, ⟨28, _⟩ => ⟨S32768x2048, .bf16⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MlaOut.lean ====
abbrev S4x8192x2048 : Shape := ⟨3, ![4, 8192, 2048]⟩
abbrev S2x2048x2048 : Shape := ⟨3, ![2, 2048, 2048]⟩
abbrev S4x2048 : Shape := ⟨2, ![4, 2048]⟩
abbrev S32768x2048 : Shape := ⟨2, ![32768, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x8192x2048, .f32⟩
  | .hbm, ⟨1, _⟩ => ⟨S2x2048x2048, .f32⟩
  | .hbm, ⟨2, _⟩ => ⟨S4x8192x2048, .f32⟩
  | .hbm, ⟨3, _⟩ => ⟨S4x2048, .f32⟩
  | .hbm, ⟨4, _⟩ => ⟨S32768x2048, .f32⟩
  | .hbm, ⟨5, _⟩ => ⟨S32768x2048, .bf16⟩
  | .hbm, ⟨6, _⟩ => ⟨S2x2048x2048, .bf16⟩
  | .hbm, ⟨7, _⟩ => ⟨S32768x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlaOutRefIdeal.lean ====
abbrev S4x8192x2048 : Shape := ⟨3, ![4, 8192, 2048]⟩
abbrev S2x2048x2048 : Shape := ⟨3, ![2, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048x2048, .f32⟩
  | .hbm, ⟨2, _⟩ => ⟨S4x8192x2048, .f32⟩
  | .hbm, ⟨3, _⟩ => ⟨S4x2048, .f32⟩
  | .hbm, ⟨4, _⟩ => ⟨S1x2048x2048, .f32⟩
  | .hbm, ⟨5, _⟩ => ⟨S2048x2048, .f32⟩
  | .hbm, ⟨6, _⟩ => ⟨S4x8192x2048, .f32⟩
  | .hbm, ⟨7, _⟩ => ⟨S4x8192x2048, .f32⟩
  | .hbm, ⟨8, _⟩ => ⟨S32768x2048, .f32⟩
  | .hbm, ⟨9, _⟩ => ⟨S1x2048, .f32⟩
  | .hbm, ⟨10, _⟩ => ⟨S2048, .f32⟩
  | .hbm, ⟨11, _⟩ => ⟨S4x8192x2048, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x2048, .f32⟩
  | .hbm, ⟨23, _⟩ => ⟨S4x8192x2048, .f32⟩
  | .hbm, ⟨24, _⟩ => ⟨S1x1x2048, .f32⟩
  | .hbm, ⟨25, _⟩ => ⟨S4x8192x2048, .f32⟩
  | .hbm, ⟨26, _⟩ => ⟨S4x8192x2048, .f32⟩
  | .hbm, ⟨27, _⟩ => ⟨S32768x2048, .f32⟩
  | .hbm, ⟨28, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== RetQk.lean ====
abbrev S4x8192x2048 : Shape := ⟨3, ![4, 8192, 2048]⟩
abbrev S2x2048x12288 : Shape := ⟨3, ![2, 2048, 12288]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S2048 : Shape := ⟨1, ![2048]⟩
abbrev S4096 : Shape := ⟨1, ![4096]⟩
abbrev S32768x2048 : Shape := ⟨2, ![32768, 2048]⟩
abbrev S1x4096 : Shape := ⟨2, ![1, 4096]⟩
abbrev S32768x4096 : Shape := ⟨2, ![32768, 4096]⟩
abbrev S1024x2048 : Shape := ⟨2, ![1024, 2048]⟩
abbrev S1x2048x512 : Shape := ⟨3, ![1, 2048, 512]⟩
abbrev S1024x128 : Shape := ⟨2, ![1024, 128]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 34
  | .vmem => 12
  | .smem => 0
  | _ => 0

abbrev bufTy : (tb : Table) → Fin (tcTables nBuf tb) → BufTy
  | .hbm, ⟨0, _⟩ => ⟨S4x8192x2048, .f32⟩
  | .hbm, ⟨1, _⟩ => ⟨S2x2048x12288, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S4096, .f32⟩
  | .hbm, ⟨29, _⟩ => ⟨S32768x2048, .f32⟩
  | .hbm, ⟨30, _⟩ => ⟨S32768x2048, .bf16⟩
  | .hbm, ⟨31, _⟩ => ⟨S2x2048x12288, .bf16⟩
  | .hbm, ⟨32, _⟩ => ⟨S1x4096, .f32⟩
  | .hbm, ⟨33, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetQkRefIdeal.lean ====
abbrev S4x8192x2048 : Shape := ⟨3, ![4, 8192, 2048]⟩
abbrev S2x2048x12288 : Shape := ⟨3, ![2, 2048, 12288]⟩
abbrev S8192 : Shape := ⟨1, ![8192]⟩
abbrev S1x2048x12288 : Shape := ⟨3, ![1, 2048, 12288]⟩
abbrev S2048x12288 : Shape := ⟨2, ![2048, 12288]⟩
abbrev S2048x2048 : Shape := ⟨2, ![2048, 2048]⟩
abbrev S2048x4096 : Shape := ⟨2, ![2048, 4096]⟩
abbrev S4x8192x8x256 : Shape := ⟨4, ![4, 8192, 8, 256]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S4x8192x8x128 : Shape := ⟨4, ![4, 8192, 8, 128]⟩
abbrev S1x8192x1x128 : Shape := ⟨4, ![1, 8192, 1, 128]⟩
abbrev S32768x2048 : Shape := ⟨2, ![32768, 2048]⟩
abbrev S32768x4096 : Shape := ⟨2, ![32768, 4096]⟩

abbrev nBuf : Space → Nat
  | .hbm => 102
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048x12288, .f32⟩
  | .hbm, ⟨2, _⟩ => ⟨S8192, .i32⟩
  | .hbm, ⟨3, _⟩ => ⟨S1x2048x12288, .f32⟩
  | .hbm, ⟨4, _⟩ => ⟨S2048x12288, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S4x8192x2048, .f32⟩
  | .hbm, ⟨10, _⟩ => ⟨S4x8192x8x256, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S8192, .f32⟩
  | .hbm, ⟨26, _⟩ => ⟨S8192x1, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x1x128, .f32⟩
  | .hbm, ⟨33, _⟩ => ⟨S8192x128, .f32⟩
  | .hbm, ⟨34, _⟩ => ⟨S8192x1x128, .f32⟩
  | .hbm, ⟨35, _⟩ => ⟨S4x8192x8x128, .f32⟩
  | .hbm, ⟨36, _⟩ => ⟨S4x8192x8x128, .f32⟩
  | .hbm, ⟨37, _⟩ => ⟨S1x8192x1x128, .f32⟩
  | .hbm, ⟨38, _⟩ => ⟨S4x8192x8x128, .f32⟩
  | .hbm, ⟨39, _⟩ => ⟨S4x8192x8x128, .f32⟩
  | .hbm, ⟨40, _⟩ => ⟨S1x8192x1x128, .f32⟩
  | .hbm, ⟨41, _⟩ => ⟨S4x8192x8x128, .f32⟩
  | .hbm, ⟨42, _⟩ => ⟨S4x8192x8x128, .f32⟩
  | .hbm, ⟨43, _⟩ => ⟨S4x8192x8x128, .f32⟩
  | .hbm, ⟨44, _⟩ => ⟨S1x8192x1x128, .f32⟩
  | .hbm, ⟨45, _⟩ => ⟨S4x8192x8x128, .f32⟩
  | .hbm, ⟨46, _⟩ => ⟨S4x8192x8x128, .f32⟩
  | .hbm, ⟨47, _⟩ => ⟨S1x8192x1x128, .f32⟩
  | .hbm, ⟨48, _⟩ => ⟨S4x8192x8x128, .f32⟩
  | .hbm, ⟨49, _⟩ => ⟨S4x8192x8x128, .f32⟩
  | .hbm, ⟨50, _⟩ => ⟨S4x8192x8x128, .f32⟩
  | .hbm, ⟨51, _⟩ => ⟨S4x8192x8x256, .f32⟩
  | .hbm, ⟨52, _⟩ => ⟨S4x8192x2048, .f32⟩
  | .hbm, ⟨53, _⟩ => ⟨S4x8192x8x256, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S8192, .f32⟩
  | .hbm, ⟨69, _⟩ => ⟨S8192x1, .f32⟩
  | .hbm, ⟨70, _⟩ => ⟨S1x128, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x1x128, .f32⟩
  | .hbm, ⟨76, _⟩ => ⟨S8192x128, .f32⟩
  | .hbm, ⟨77, _⟩ => ⟨S8192x1x128, .f32⟩
  | .hbm, ⟨78, _⟩ => ⟨S4x8192x8x128, .f32⟩
  | .hbm, ⟨79, _⟩ => ⟨S4x8192x8x128, .f32⟩
  | .hbm, ⟨80, _⟩ => ⟨S1x8192x1x128, .f32⟩
  | .hbm, ⟨81, _⟩ => ⟨S4x8192x8x128, .f32⟩
  | .hbm, ⟨82, _⟩ => ⟨S4x8192x8x128, .f32⟩
  | .hbm, ⟨83, _⟩ => ⟨S1x8192x1x128, .f32⟩
  | .hbm, ⟨84, _⟩ => ⟨S4x8192x8x128, .f32⟩
  | .hbm, ⟨85, _⟩ => ⟨S4x8192x8x128, .f32⟩
  | .hbm, ⟨86, _⟩ => ⟨S4x8192x8x128, .f32⟩
  | .hbm, ⟨87, _⟩ => ⟨S1x8192x1x128, .f32⟩
  | .hbm, ⟨88, _⟩ => ⟨S4x8192x8x128, .f32⟩
  | .hbm, ⟨89, _⟩ => ⟨S4x8192x8x128, .f32⟩
  | .hbm, ⟨90, _⟩ => ⟨S1x8192x1x128, .f32⟩
  | .hbm, ⟨91, _⟩ => ⟨S4x8192x8x128, .f32⟩
  | .hbm, ⟨92, _⟩ => ⟨S4x8192x8x128, .f32⟩
  | .hbm, ⟨93, _⟩ => ⟨S4x8192x8x128, .f32⟩
  | .hbm, ⟨94, _⟩ => ⟨S4x8192x8x256, .f32⟩
  | .hbm, ⟨95, _⟩ => ⟨S_, .f32⟩
  | .hbm, ⟨96, _⟩ => ⟨S4x8192x8x256, .f32⟩
  | .hbm, ⟨97, _⟩ => ⟨S4x8192x8x256, .f32⟩
  | .hbm, ⟨98, _⟩ => ⟨S32768x2048, .f32⟩
  | .hbm, ⟨99, _⟩ => ⟨S32768x2048, .f32⟩
  | .hbm, ⟨100, _⟩ => ⟨S32768x4096, .f32⟩
  | .hbm, ⟨101, _⟩ => ⟨S32768x4096, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_5 : Ref sig .tc := ⟨.hbm, 62, rfl⟩
abbrev main_v54 : Ref sig .tc := ⟨.hbm, 63, rfl⟩
abbrev main_v55 : Ref sig .tc := ⟨.hbm, 64, rfl⟩
abbrev main_cst_6 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_7 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩

abbrev nD : Nat := 1
abbrev τ : Topo := Topo.v7x

variable {F : FTy → Type} [FloatOps F]
-- ==== FirstPle.lean ====
abbrev S4x8192x2048 : Shape := ⟨3, ![4, 8192, 2048]⟩
abbrev S4x2048x2048 : Shape := ⟨3, ![4, 2048, 2048]⟩
abbrev S4x4x8192x256 : Shape := ⟨4, ![4, 4, 8192, 256]⟩
abbrev S4x256x2048 : Shape := ⟨3, ![4, 256, 2048]⟩
abbrev S4x2048 : Shape := ⟨2, ![4, 2048]⟩
abbrev S32768x2048 : Shape := ⟨2, ![32768, 2048]⟩
abbrev S4x32768x256 : Shape := ⟨3, ![4, 32768, 256]⟩
abbrev S1x2048 : Shape := ⟨2, ![1, 2048]⟩
abbrev S2048 : Shape := ⟨1, ![2048]⟩
abbrev S256x2048 : Shape := ⟨2, ![256, 2048]⟩
abbrev S1x2048x2048 : Shape := ⟨3, ![1, 2048, 2048]⟩
abbrev S1x256x256 : Shape := ⟨3, ![1, 256, 256]⟩
abbrev S1x256x2048 : Shape := ⟨3, ![1, 256, 2048]⟩
abbrev S2048x2048 : Shape := ⟨2, ![2048, 2048]⟩
abbrev S256x256 : Shape := ⟨2, ![256, 256]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x2048x2048, .f32⟩
  | .hbm, ⟨3, _⟩ => ⟨S4x4x8192x256, .f32⟩
  | .hbm, ⟨4, _⟩ => ⟨S4x256x2048, .f32⟩
  | .hbm, ⟨5, _⟩ => ⟨S4x2048, .f32⟩
  | .hbm, ⟨6, _⟩ => ⟨S32768x2048, .f32⟩
  | .hbm, ⟨7, _⟩ => ⟨S32768x2048, .f32⟩
  | .hbm, ⟨8, _⟩ => ⟨S32768x2048, .bf16⟩
  | .hbm, ⟨9, _⟩ => ⟨S4x2048x2048, .bf16⟩
  | .hbm, ⟨10, _⟩ => ⟨S4x32768x256, .f32⟩
  | .hbm, ⟨11, _⟩ => ⟨S4x256x2048, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S32768x2048, .f32⟩
  | .hbm, ⟨16, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048x2048, .bf16⟩
  | .local _ .vmem, ⟨5, _⟩ => ⟨S1x256x256, .f32⟩
  | .local _ .vmem, ⟨6, _⟩ => ⟨S1x256x256, .f32⟩
  | .local _ .vmem, ⟨7, _⟩ => ⟨S1x256x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FirstPleRefIdeal.lean ====
abbrev S4x8192x2048 : Shape := ⟨3, ![4, 8192, 2048]⟩
abbrev S4x2048x2048 : Shape := ⟨3, ![4, 2048, 2048]⟩
abbrev S4x4x8192x256 : Shape := ⟨4, ![4, 4, 8192, 256]⟩
abbrev S4x256x2048 : Shape := ⟨3, ![4, 256, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S1x4x8192x256 : Shape := ⟨4, ![1, 4, 8192, 256]⟩
abbrev S4x8192x256 : Shape := ⟨3, ![4, 8192, 256]⟩
abbrev S1x256x2048 : Shape := ⟨3, ![1, 256, 2048]⟩
abbrev S256x2048 : Shape := ⟨2, ![256, 2048]⟩
abbrev S32768x2048 : Shape := ⟨2, ![32768, 2048]⟩
abbrev S1x2048 : Shape := ⟨2, ![1, 2048]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x2048x2048, .f32⟩
  | .hbm, ⟨3, _⟩ => ⟨S4x4x8192x256, .f32⟩
  | .hbm, ⟨4, _⟩ => ⟨S4x256x2048, .f32⟩
  | .hbm, ⟨5, _⟩ => ⟨S4x2048, .f32⟩
  | .hbm, ⟨6, _⟩ => ⟨S1x2048x2048, .f32⟩
  | .hbm, ⟨7, _⟩ => ⟨S2048x2048, .f32⟩
  | .hbm, ⟨8, _⟩ => ⟨S4x8192x2048, .f32⟩
  | .hbm, ⟨9, _⟩ => ⟨S4x8192x2048, .f32⟩
  | .hbm, ⟨10, _⟩ => ⟨S4x8192x2048, .f32⟩
  | .hbm, ⟨11, _⟩ => ⟨S_, .f32⟩
  | .hbm, ⟨12, _⟩ => ⟨S4x8192x2048, .f32⟩
  | .hbm, ⟨13, _⟩ => ⟨S4x8192x2048, .f32⟩
  | .hbm, ⟨14, _⟩ => ⟨S_, .f32⟩
  | .hbm, ⟨15, _⟩ => ⟨S4x8192x2048, .f32⟩
  | .hbm, ⟨16, _⟩ => ⟨S4x8192x2048, .f32⟩
  | .hbm, ⟨17, _⟩ => ⟨S1x4x8192x256, .f32⟩
  | .hbm, ⟨18, _⟩ => ⟨S4x8192x256, .f32⟩
  | .hbm, ⟨19, _⟩ => ⟨S1x256x2048, .f32⟩
  | .hbm, ⟨20, _⟩ => ⟨S256x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S32768x2048, .f32⟩
  | .hbm, ⟨25, _⟩ => ⟨S1x2048, .f32⟩
  | .hbm, ⟨26, _⟩ => ⟨S2048, .f32⟩
  | .hbm, ⟨27, _⟩ => ⟨S4x8192x2048, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x2048, .f32⟩
  | .hbm, ⟨39, _⟩ => ⟨S4x8192x2048, .f32⟩
  | .hbm, ⟨40, _⟩ => ⟨S1x1x2048, .f32⟩
  | .hbm, ⟨41, _⟩ => ⟨S4x8192x2048, .f32⟩
  | .hbm, ⟨42, _⟩ => ⟨S4x8192x2048, .f32⟩
  | .hbm, ⟨43, _⟩ => ⟨S32768x2048, .f32⟩
  | .hbm, ⟨44, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== MidPle.lean ====
abbrev S4x8192x2048 : Shape := ⟨3, ![4, 8192, 2048]⟩
abbrev S4x2048 : Shape := ⟨2, ![4, 2048]⟩
abbrev S4x2048x2048 : Shape := ⟨3, ![4, 2048, 2048]⟩
abbrev S4x4x8192x256 : Shape := ⟨4, ![4, 4, 8192, 256]⟩
abbrev S4x256x2048 : Shape := ⟨3, ![4, 256, 2048]⟩
abbrev S32768x2048 : Shape := ⟨2, ![32768, 2048]⟩
abbrev S1x2048 : Shape := ⟨2, ![1, 2048]⟩
abbrev S2048 : Shape := ⟨1, ![2048]⟩
abbrev S4x32768x256 : Shape := ⟨3, ![4, 32768, 256]⟩
abbrev S256x2048 : Shape := ⟨2, ![256, 2048]⟩
abbrev S1x2048x2048 : Shape := ⟨3, ![1, 2048, 2048]⟩
abbrev S1x256x256 : Shape := ⟨3, ![1, 256, 256]⟩
abbrev S1x256x2048 : Shape := ⟨3, ![1, 256, 2048]⟩
abbrev S256 : Shape := ⟨1, ![256]⟩
abbrev S256x1 : Shape := ⟨2, ![256, 1]⟩
abbrev S2048x2048 : Shape := ⟨2, ![2048, 2048]⟩
abbrev S256x256 : Shape := ⟨2, ![256, 256]⟩

abbrev nBuf : Space → Nat
  | .hbm => 21
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x2048, .f32⟩
  | .hbm, ⟨3, _⟩ => ⟨S4x2048x2048, .f32⟩
  | .hbm, ⟨4, _⟩ => ⟨S4x4x8192x256, .f32⟩
  | .hbm, ⟨5, _⟩ => ⟨S4x256x2048, .f32⟩
  | .hbm, ⟨6, _⟩ => ⟨S4x2048, .f32⟩
  | .hbm, ⟨7, _⟩ => ⟨S32768x2048, .f32⟩
  | .hbm, ⟨8, _⟩ => ⟨S32768x2048, .f32⟩
  | .hbm, ⟨9, _⟩ => ⟨S32768x2048, .bf16⟩
  | .hbm, ⟨10, _⟩ => ⟨S1x2048, .f32⟩
  | .hbm, ⟨11, _⟩ => ⟨S2048, .f32⟩
  | .hbm, ⟨12, _⟩ => ⟨S4x2048x2048, .bf16⟩
  | .hbm, ⟨13, _⟩ => ⟨S4x32768x256, .f32⟩
  | .hbm, ⟨14, _⟩ => ⟨S4x256x2048, .bf16⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S32768x2048, .f32⟩
  | .hbm, ⟨20, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048x2048, .bf16⟩
  | .local _ .vmem, ⟨6, _⟩ => ⟨S1x256x256, .f32⟩
  | .local _ .vmem, ⟨7, _⟩ => ⟨S1x256x256, .f32⟩
  | .local _ .vmem, ⟨8, _⟩ => ⟨S1x256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidPleRefIdeal.lean ====
abbrev S4x8192x2048 : Shape := ⟨3, ![4, 8192, 2048]⟩
abbrev S4x2048 : Shape := ⟨2, ![4, 2048]⟩
abbrev S4x2048x2048 : Shape := ⟨3, ![4, 2048, 2048]⟩
abbrev S4x4x8192x256 : Shape := ⟨4, ![4, 4, 8192, 256]⟩
abbrev S4x256x2048 : Shape := ⟨3, ![4, 256, 2048]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x4x8192x256 : Shape := ⟨4, ![1, 4, 8192, 256]⟩
abbrev S4x8192x256 : Shape := ⟨3, ![4, 8192, 256]⟩
abbrev S1x256x2048 : Shape := ⟨3, ![1, 256, 2048]⟩
abbrev S256x2048 : Shape := ⟨2, ![256, 2048]⟩
abbrev S32768x2048 : Shape := ⟨2, ![32768, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x2048, .f32⟩
  | .hbm, ⟨3, _⟩ => ⟨S4x2048x2048, .f32⟩
  | .hbm, ⟨4, _⟩ => ⟨S4x4x8192x256, .f32⟩
  | .hbm, ⟨5, _⟩ => ⟨S4x256x2048, .f32⟩
  | .hbm, ⟨6, _⟩ => ⟨S4x2048, .f32⟩
  | .hbm, ⟨7, _⟩ => ⟨S4x8192x2048, .f32⟩
  | .hbm, ⟨8, _⟩ => ⟨S1x2048, .f32⟩
  | .hbm, ⟨9, _⟩ => ⟨S2048, .f32⟩
  | .hbm, ⟨10, _⟩ => ⟨S4x8192x2048, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x2048, .f32⟩
  | .hbm, ⟨22, _⟩ => ⟨S4x8192x2048, .f32⟩
  | .hbm, ⟨23, _⟩ => ⟨S1x1x2048, .f32⟩
  | .hbm, ⟨24, _⟩ => ⟨S4x8192x2048, .f32⟩
  | .hbm, ⟨25, _⟩ => ⟨S4x8192x2048, .f32⟩
  | .hbm, ⟨26, _⟩ => ⟨S1x2048x2048, .f32⟩
  | .hbm, ⟨27, _⟩ => ⟨S2048x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S_, .f32⟩
  | .hbm, ⟨32, _⟩ => ⟨S4x8192x2048, .f32⟩
  | .hbm, ⟨33, _⟩ => ⟨S4x8192x2048, .f32⟩
  | .hbm, ⟨34, _⟩ => ⟨S_, .f32⟩
  | .hbm, ⟨35, _⟩ => ⟨S4x8192x2048, .f32⟩
  | .hbm, ⟨36, _⟩ => ⟨S4x8192x2048, .f32⟩
  | .hbm, ⟨37, _⟩ => ⟨S1x4x8192x256, .f32⟩
  | .hbm, ⟨38, _⟩ => ⟨S4x8192x256, .f32⟩
  | .hbm, ⟨39, _⟩ => ⟨S1x256x2048, .f32⟩
  | .hbm, ⟨40, _⟩ => ⟨S256x2048, .f32⟩
  | .hbm, ⟨41, _⟩ => ⟨S4x8192x2048, .f32⟩
  | .hbm, ⟨42, _⟩ => ⟨S4x8192x2048, .f32⟩
  | .hbm, ⟨43, _⟩ => ⟨S4x8192x2048, .f32⟩
  | .hbm, ⟨44, _⟩ => ⟨S32768x2048, .f32⟩
  | .hbm, ⟨45, _⟩ => ⟨S1x2048, .f32⟩
  | .hbm, ⟨46, _⟩ => ⟨S2048, .f32⟩
  | .hbm, ⟨47, _⟩ => ⟨S4x8192x2048, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x2048, .f32⟩
  | .hbm, ⟨59, _⟩ => ⟨S4x8192x2048, .f32⟩
  | .hbm, ⟨60, _⟩ => ⟨S1x1x2048, .f32⟩
  | .hbm, ⟨61, _⟩ => ⟨S4x8192x2048, .f32⟩
  | .hbm, ⟨62, _⟩ => ⟨S4x8192x2048, .f32⟩
  | .hbm, ⟨63, _⟩ => ⟨S32768x2048, .f32⟩
  | .hbm, ⟨64, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== MlaLatent.lean ====
abbrev S4x8192x2048 : Shape := ⟨3, ![4, 8192, 2048]⟩
abbrev S2x2048x1088 : Shape := ⟨3, ![2, 2048, 1088]⟩
abbrev S2x512 : Shape := ⟨2, ![2, 512]⟩
abbrev S1x512 : Shape := ⟨2, ![1, 512]⟩
abbrev S512 : Shape := ⟨1, ![512]⟩
abbrev S1024 : Shape := ⟨1, ![1024]⟩
abbrev S1x1024 : Shape := ⟨2, ![1, 1024]⟩
abbrev S32768x2048 : Shape := ⟨2, ![32768, 2048]⟩
abbrev S1x2048x1088 : Shape := ⟨3, ![1, 2048, 1088]⟩
abbrev S2048x1088 : Shape := ⟨2, ![2048, 1088]⟩
abbrev S2048x1024 : Shape := ⟨2, ![2048, 1024]⟩
abbrev S32768x1024 : Shape := ⟨2, ![32768, 1024]⟩
abbrev S1024x2048 : Shape := ⟨2, ![1024, 2048]⟩
abbrev S2048x512 : Shape := ⟨2, ![2048, 512]⟩
abbrev S1024x512 : Shape := ⟨2, ![1024, 512]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2x2048x1088, .f32⟩
  | .hbm, ⟨2, _⟩ => ⟨S2x512, .f32⟩
  | .hbm, ⟨3, _⟩ => ⟨S2x512, .f32⟩
  | .hbm, ⟨4, _⟩ => ⟨S1x512, .f32⟩
  | .hbm, ⟨5, _⟩ => ⟨S512, .f32⟩
  | .hbm, ⟨6, _⟩ => ⟨S1x512, .f32⟩
  | .hbm, ⟨7, _⟩ => ⟨S512, .f32⟩
  | .hbm, ⟨8, _⟩ => ⟨S1024, .f32⟩
  | .hbm, ⟨9, _⟩ => ⟨S1x1024, .f32⟩
  | .hbm, ⟨10, _⟩ => ⟨S32768x2048, .f32⟩
  | .hbm, ⟨11, _⟩ => ⟨S32768x2048, .bf16⟩
  | .hbm, ⟨12, _⟩ => ⟨S1x2048x1088, .f32⟩
  | .hbm, ⟨13, _⟩ => ⟨S2048x1088, .f32⟩
  | .hbm, ⟨14, _⟩ => ⟨S2048x1024, .f32⟩
  | .hbm, ⟨15, _⟩ => ⟨S2048x1024, .bf16⟩
  | .hbm, ⟨16, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaLatentRefIdeal.lean ====
abbrev S4x8192x2048 : Shape := ⟨3, ![4, 8192, 2048]⟩
abbrev S2x2048x1088 : Shape := ⟨3, ![2, 2048, 1088]⟩
abbrev S2x512 : Shape := ⟨2, ![2, 512]⟩
abbrev S1x2048x1088 : Shape := ⟨3, ![1, 2048, 1088]⟩
abbrev S2048x1088 : Shape := ⟨2, ![2048, 1088]⟩
abbrev S2048x512 : Shape := ⟨2, ![2048, 512]⟩
abbrev S2048x64 : Shape := ⟨2, ![2048, 64]⟩
abbrev S4x8192x512 : Shape := ⟨3, ![4, 8192, 512]⟩
abbrev S1x512 : Shape := ⟨2, ![1, 512]⟩
abbrev S512 : Shape := ⟨1, ![512]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S4x8192x1024 : Shape := ⟨3, ![4, 8192, 1024]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048x1088, .f32⟩
  | .hbm, ⟨2, _⟩ => ⟨S2x512, .f32⟩
  | .hbm, ⟨3, _⟩ => ⟨S2x512, .f32⟩
  | .hbm, ⟨4, _⟩ => ⟨S1x2048x1088, .f32⟩
  | .hbm, ⟨5, _⟩ => ⟨S2048x1088, .f32⟩
  | .hbm, ⟨6, _⟩ => ⟨S2048x512, .f32⟩
  | .hbm, ⟨7, _⟩ => ⟨S2048x512, .f32⟩
  | .hbm, ⟨8, _⟩ => ⟨S2048x64, .f32⟩
  | .hbm, ⟨9, _⟩ => ⟨S4x8192x512, .f32⟩
  | .hbm, ⟨10, _⟩ => ⟨S1x512, .f32⟩
  | .hbm, ⟨11, _⟩ => ⟨S512, .f32⟩
  | .hbm, ⟨12, _⟩ => ⟨S4x8192x512, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x512, .f32⟩
  | .hbm, ⟨24, _⟩ => ⟨S4x8192x512, .f32⟩
  | .hbm, ⟨25, _⟩ => ⟨S1x1x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S1x512, .f32⟩
  | .hbm, ⟨30, _⟩ => ⟨S512, .f32⟩
  | .hbm, ⟨31, _⟩ => ⟨S4x8192x512, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x512, .f32⟩
  | .hbm, ⟨43, _⟩ => ⟨S4x8192x512, .f32⟩
  | .hbm, ⟨44, _⟩ => ⟨S1x1x512, .f32⟩
  | .hbm, ⟨45, _⟩ => ⟨S4x8192x512, .f32⟩
  | .hbm, ⟨46, _⟩ => ⟨S4x8192x512, .f32⟩
  | .hbm, ⟨47, _⟩ => ⟨S4x8192x1024, .f32⟩
  | .hbm, ⟨48, _⟩ => ⟨S32768x1024, .f32⟩
  | .hbm, ⟨49, _⟩ => ⟨S32768x1024, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== MlaKey.lean ====
abbrev S4x8192x1024 : Shape := ⟨3, ![4, 8192, 1024]⟩
abbrev S2x512x4096 : Shape := ⟨3, ![2, 512, 4096]⟩
abbrev S1x512x4096 : Shape := ⟨3, ![1, 512, 4096]⟩
abbrev S512x4096 : Shape := ⟨2, ![512, 4096]⟩
abbrev S512x16x256 : Shape := ⟨3, ![512, 16, 256]⟩
abbrev S32768x1024 : Shape := ⟨2, ![32768, 1024]⟩
abbrev S512x16x128 : Shape := ⟨3, ![512, 16, 128]⟩
abbrev S512x2048 : Shape := ⟨2, ![512, 2048]⟩
abbrev S32768x2048 : Shape := ⟨2, ![32768, 2048]⟩
abbrev S1024x512 : Shape := ⟨2, ![1024, 512]⟩
abbrev S512x512 : Shape := ⟨2, ![512, 512]⟩

abbrev nBuf : Space → Nat
  | .hbm => 11
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S2x512x4096, .f32⟩
  | .hbm, ⟨2, _⟩ => ⟨S1x512x4096, .f32⟩
  | .hbm, ⟨3, _⟩ => ⟨S512x4096, .f32⟩
  | .hbm, ⟨4, _⟩ => ⟨S512x16x256, .f32⟩
  | .hbm, ⟨5, _⟩ => ⟨S32768x1024, .f32⟩
  | .hbm, ⟨6, _⟩ => ⟨S32768x1024, .bf16⟩
  | .hbm, ⟨7, _⟩ => ⟨S512x16x128, .f32⟩
  | .hbm, ⟨8, _⟩ => ⟨S512x2048, .f32⟩
  | .hbm, ⟨9, _⟩ => ⟨S512x2048, .bf16⟩
  | .hbm, ⟨10, _⟩ => ⟨S32768x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaKeyRefIdeal.lean ====
abbrev S4x8192x1024 : Shape := ⟨3, ![4, 8192, 1024]⟩
abbrev S2x512x4096 : Shape := ⟨3, ![2, 512, 4096]⟩
abbrev S4x8192x512 : Shape := ⟨3, ![4, 8192, 512]⟩
abbrev S1x512x4096 : Shape := ⟨3, ![1, 512, 4096]⟩
abbrev S512x4096 : Shape := ⟨2, ![512, 4096]⟩
abbrev S4x8192x4096 : Shape := ⟨3, ![4, 8192, 4096]⟩
abbrev S4x8192x16x256 : Shape := ⟨4, ![4, 8192, 16, 256]⟩
abbrev S4x8192x16x128 : Shape := ⟨4, ![4, 8192, 16, 128]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x512x4096, .f32⟩
  | .hbm, ⟨2, _⟩ => ⟨S4x8192x512, .f32⟩
  | .hbm, ⟨3, _⟩ => ⟨S1x512x4096, .f32⟩
  | .hbm, ⟨4, _⟩ => ⟨S512x4096, .f32⟩
  | .hbm, ⟨5, _⟩ => ⟨S4x8192x4096, .f32⟩
  | .hbm, ⟨6, _⟩ => ⟨S4x8192x16x256, .f32⟩
  | .hbm, ⟨7, _⟩ => ⟨S4x8192x16x128, .f32⟩
  | .hbm, ⟨8, _⟩ => ⟨S32768x2048, .f32⟩
  | .hbm, ⟨9, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MlaValue.lean ====
abbrev S4x8192x1024 : Shape := ⟨3, ![4, 8192, 1024]⟩
abbrev S2x512x4096 : Shape := ⟨3, ![2, 512, 4096]⟩
abbrev S1x512x4096 : Shape := ⟨3, ![1, 512, 4096]⟩
abbrev S512x4096 : Shape := ⟨2, ![512, 4096]⟩
abbrev S512x16x256 : Shape := ⟨3, ![512, 16, 256]⟩
abbrev S32768x1024 : Shape := ⟨2, ![32768, 1024]⟩
abbrev S512x16x128 : Shape := ⟨3, ![512, 16, 128]⟩
abbrev S512x2048 : Shape := ⟨2, ![512, 2048]⟩
abbrev S32768x2048 : Shape := ⟨2, ![32768, 2048]⟩
abbrev S1024x512 : Shape := ⟨2, ![1024, 512]⟩
abbrev S512x512 : Shape := ⟨2, ![512, 512]⟩

abbrev nBuf : Space → Nat
  | .hbm => 11
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S2x512x4096, .f32⟩
  | .hbm, ⟨2, _⟩ => ⟨S1x512x4096, .f32⟩
  | .hbm, ⟨3, _⟩ => ⟨S512x4096, .f32⟩
  | .hbm, ⟨4, _⟩ => ⟨S512x16x256, .f32⟩
  | .hbm, ⟨5, _⟩ => ⟨S32768x1024, .f32⟩
  | .hbm, ⟨6, _⟩ => ⟨S32768x1024, .bf16⟩
  | .hbm, ⟨7, _⟩ => ⟨S512x16x128, .f32⟩
  | .hbm, ⟨8, _⟩ => ⟨S512x2048, .f32⟩
  | .hbm, ⟨9, _⟩ => ⟨S512x2048, .bf16⟩
  | .hbm, ⟨10, _⟩ => ⟨S32768x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaValueRefIdeal.lean ====
abbrev S4x8192x1024 : Shape := ⟨3, ![4, 8192, 1024]⟩
abbrev S2x512x4096 : Shape := ⟨3, ![2, 512, 4096]⟩
abbrev S4x8192x512 : Shape := ⟨3, ![4, 8192, 512]⟩
abbrev S1x512x4096 : Shape := ⟨3, ![1, 512, 4096]⟩
abbrev S512x4096 : Shape := ⟨2, ![512, 4096]⟩
abbrev S4x8192x4096 : Shape := ⟨3, ![4, 8192, 4096]⟩
abbrev S4x8192x16x256 : Shape := ⟨4, ![4, 8192, 16, 256]⟩
abbrev S4x8192x16x128 : Shape := ⟨4, ![4, 8192, 16, 128]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x512x4096, .f32⟩
  | .hbm, ⟨2, _⟩ => ⟨S4x8192x512, .f32⟩
  | .hbm, ⟨3, _⟩ => ⟨S1x512x4096, .f32⟩
  | .hbm, ⟨4, _⟩ => ⟨S512x4096, .f32⟩
  | .hbm, ⟨5, _⟩ => ⟨S4x8192x4096, .f32⟩
  | .hbm, ⟨6, _⟩ => ⟨S4x8192x16x256, .f32⟩
  | .hbm, ⟨7, _⟩ => ⟨S4x8192x16x128, .f32⟩
  | .hbm, ⟨8, _⟩ => ⟨S32768x2048, .f32⟩
  | .hbm, ⟨9, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.Take.lean ====
/-
  Planes of a stack taken by a table of indices: the gather that `jnp.take(w, be, axis=0, mode="clip")` is, read at an
  index, and an index word that lies in a range.
-/
module

public import Idealize.ShloMosaic.Lib.Pointwise
public import Idealize.ShloMosaic.Lib.ReduceAll

@[expose] public section

noncomputable section

namespace Cert.Take

open Idealize.ShloMosaic

/-- The dimension numbers of a take of `[A, B]`-planes from a stack `[N, A, B]` by `n` indices. -/
abbrev planeDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- **The take at `(b, k, j)`**: element `(k, j)` of the plane that index `b` names, clamped into the stack. -/
theorem take_apply {α : Type} {N A B n : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (b : Fin n) (k : Fin A) (j : Fin B) :
    Host.gather (planeDims N A B n wf) x idx (ix3 b k j)
      = x (ix3 ⟨min (idx (ix2 b 0)).toInt.toNat (N - 1), by omega⟩ k j) := by
  unfold Host.gather
  congr 1
  funext a
  refine Fin.ext ?_
  show (planeDims N A B n wf).start (ix3 b k j) idx a + (planeDims N A B n wf).batchCoord (ix3 b k j) a
      + (planeDims N A B n wf).offCoord (ix3 b k j) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (planeDims N A B n wf).startIndexMap from List.mem_singleton.mpr rfl)]
    have hsi : (planeDims N A B n wf).siIdx (ix3 b k j) ⟨List.idxOf (0 : Fin 3) (planeDims N A B n wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · unfold GatherDims.start GatherDims.offCoord
    rw [dif_neg (show (1 : Fin 3) ∉ ([0] : List (Fin 3)) by decide),
      dif_pos ((GatherDims.mem_sKept _ _).mpr ⟨show (1 : Fin 3) ∉ ([0] : List (Fin 3)) by decide, List.not_mem_nil⟩)]
    simp only [Nat.zero_add, Nat.add_zero]
    rfl
  · unfold GatherDims.start GatherDims.offCoord
    rw [dif_neg (show (2 : Fin 3) ∉ ([0] : List (Fin 3)) by decide),
      dif_pos ((GatherDims.mem_sKept _ _).mpr ⟨show (2 : Fin 3) ∉ ([0] : List (Fin 3)) by decide, List.not_mem_nil⟩)]
    simp only [Nat.zero_add, Nat.add_zero]
    rfl

/-- A word that is at least `0` and below `8`, both signed, names one of eight planes. -/
theorem word_range (v : BitVec 32) (h : IntOp.andi (IntOp.cmpi .sge v 0#32) (IntOp.cmpi .slt v 8#32) = 1#1) :
    v.toNat < 8 ∧ min v.toInt.toNat (8 - 1) = v.toNat := by
  obtain ⟨h0, h1⟩ := IntOp.andi_eq_one.1 h
  have e0 : 0 ≤ v.toInt := by
    by_contra hn
    simp [IntOp.cmpi, BitVec.sle, hn] at h0
  have e1 : v.toInt < 8 := by
    by_contra hn
    simp [IntOp.cmpi, BitVec.slt, hn] at h1
  have e2 : v.toInt = v.toNat := by
    have := v.isLt
    rw [BitVec.toInt_eq_toNat_cond] at e0 ⊢
    split at e0 <;> rename_i hc
    · rw [if_pos hc]
    · omega
  omega

/-- Every word of the table names one of eight planes. -/
def Named {n : Nat} (be : IVec ⟨1, ![n]⟩ 32) : Prop :=
  ∀ b : Fin n, (be (ix1 b)).toNat < 8 ∧ min (be (ix1 b)).toInt.toNat (8 - 1) = (be (ix1 b)).toNat

/-- The plane of an entry of the table: its word, clamped into the eight planes. -/
def expert {n : Nat} (be : IVec ⟨1, ![n]⟩ 32) (b : Fin n) : Fin 8 := ⟨min (be (ix1 b)).toInt.toNat (8 - 1), by omega⟩

end Cert.Take
-- ==== Proof.Gate.lean ====
/-
  The gate of the feed-forward layers: `silu g * u`, with `silu g = g / (1 + exp (-g))` written as the product of `g` with
  the logistic function.
-/
module

public import Idealize.ShloMosaic.Lib.Pointwise

@[expose] public section

noncomputable section

namespace Cert.Gate

open Idealize.ShloMosaic

/-- `silu g * u`. -/
def gated (g u : EReal) : EReal :=
  g * Ideal.div 1 (1 + Ideal.exp (-g)) * u

/-- The gate with its sign change written as a difference. -/
theorem gated_sub (g u : EReal) : g * Ideal.div 1 (1 + Ideal.exp (0 - g)) * u = gated g u := by
  rw [zero_sub]
  rfl

end Cert.Gate
-- ==== Proof.ExpertUp.lean ====
/-
  The gate and up products of the experts: the kernel takes rows sorted into blocks of 512, each block all of one expert,
  and a table that says which. At row `i` (block `i / 512`) and column `j` both the kernel's array and the reference's
  result hold `g · sigmoid g · u`, `g` and `u` the products of the row with column `j` of that expert's gate and up weights,
  of layer 0.
-/
module

public import proofs.«01_k».proof.Proof.Gen.ExpertUp.Frame
public import proofs.«01_k».proof.Proof.Gen.ExpertUpIdeal.Frame
public import proofs.«01_k».proof.Proof.Gen.ExpertUpRefIdeal.Run
public import proofs.«01_k».proof.Pre_experts_up
public import proofs.«01_k».proof.Proof.Take
public import proofs.«01_k».proof.Proof.Gate
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.Value
public import Idealize.ShloMosaic.Lib.Pipeline.ValueKit.Geometry

@[expose] public section

noncomputable section

namespace Cert.ExpertUpProof

open Idealize.ShloMosaic Idealize.ShloMosaic.TcCoe Idealize.SL.Sem
open Cert.Take (Named expert)

/-! ## The precondition -/

section Precondition

open Cert.Pre_experts_up

/-- The shape relations the predicate states. -/
instance preFacts : Cert.Pre_experts_up.Facts where
  bcast_S_S136 := by decide
  reducesTo_S136_S_d0 := by decide
  h_S_ := by decide

instance : Subsingleton S_.Idx := ⟨fun a b => funext fun k => k.elim0⟩

/-- **The precondition read back.** -/
theorem named_of_pre {F : FTy → Type} [FloatOps F] (u : FVec F S69632x2048 .f32) (be : IVec S136 32) (wg wu : FVec F S2x8x2048x5632 .f32)
    (h : fn u be wg wu = fun _ => 1#1) : Named be := by
  have h0 := congrFun h ix0
  unfold fn at h0
  dsimp only at h0
  exact fun b => Cert.Take.word_range _ (Host.reduce_andi_all _ _ _ _ _ h0 (ix1 b))

end Precondition

section Kernel

open Cert.ExpertUpIdeal Cert.ExpertUpIdeal.Gen

/-- A row's product with a column of its expert's weight. -/
def dot (x : FVec Ideal S69632x2048 .f32) (be : IVec S136 32) (w : FVec Ideal S2x8x2048x5632 .f32) (i : Fin 69632) (j : Fin 5632) : EReal :=
  ∑ k : Fin 2048, (x (ix2 i k) : EReal) * w (ix4 0 (expert be ⟨i.val / 512, by omega⟩) k j)

/-- The gated products of the rows with their experts' weights. -/
def upArr (x : FVec Ideal S69632x2048 .f32) (be : IVec S136 32) (wg wu : FVec Ideal S2x8x2048x5632 .f32) : FVec Ideal S69632x5632 .bf16 := fun j =>
  (Cert.Gate.gated (dot x be wg (j 0) (j 1)) (dot x be wu (j 0) (j 1)) : EReal)

variable (m : (ℓ : Loc nD τ sig) → Buf (Elt Ideal) ℓ) (c : Dev nD)

/-- The argument arrays on device `c`. -/
def aX : FVec Ideal S69632x2048 .f32 := m ((c : Thread nD τ).loc main_arg0)
def aE : IVec S136 32 := m ((c : Thread nD τ).loc main_arg1)
def aG : FVec Ideal S2x8x2048x5632 .f32 := m ((c : Thread nD τ).loc main_arg2)
def aU : FVec Ideal S2x8x2048x5632 .f32 := m ((c : Thread nD τ).loc main_arg3)

/-- The table the index maps read is the argument. -/
theorem tbl_eq (b : Fin 136) : (tbl m 0 : IVec S136 32) (ix1 b) = aE m 0 (ix1 b) :=
  congrFun (V_main_arg1 m 0) (ix1 b)

/-- The weight block a grid point asks for: the expert its table names for the block of rows. -/
theorem at_word {F : FTy → Type} [FloatOps F] (pf : pre0.Contents (Elt F)) (i : grid0.Coords) :
    cc0_transform_1 (F := F) k0_off1_inb numel1_S1 pf i = ![0, ((pf 0 : IVec S136 32) (ix1 (i 1))).toNat, 0, (i 0).val] := by
  have h0 : (i 0).val < 4 := (i 0).isLt
  have h1 : (i 1).val < 136 := (i 1).isLt
  unfold cc0_transform_1
  refine congrArg₂ (fun (x y : Nat) => (![0, x, 0, y] : Fin 4 → Nat)) ?_ ?_
  · refine congrArg (fun x : S136.Idx => ((pf 0 : IVec S136 32) x).toNat) (funext fun a => Fin.ext ?_)
    match a with
    | ⟨0, _⟩ =>
      change (BitVec.ofNat 32 (i 1).val).toNat + 1 * 0 = (i 1).val
      rw [BitVec.toNat_ofNat]
      omega
  · change (BitVec.ofNat 32 (i 0).val).toNat = _
    rw [BitVec.toNat_ofNat]
    omega

/-- **The side condition of the table**: a named expert's block lies in the weights. -/
theorem ok {F : FTy → Type} [FloatOps F] (m : (ℓ : Loc nD τ sig) → Buf (Elt F) ℓ)
    (h : Named (m (((0 : Dev nD) : Thread nD τ).loc main_arg1))) : Ok m := by
  have key : ∀ i a, (cc0_transform_1 (F := F) k0_off1_inb numel1_S1 (tbl m) i a + 1) * S1x1x2048x1408.size a ≤ S2x8x2048x5632.size a := by
    intro i a
    have e := at_word (tbl m) i
    rw [show (tbl m 0 : IVec S136 32) (ix1 (i 1)) = (m (((0 : Dev nD) : Thread nD τ).loc main_arg1) : IVec S136 32) (ix1 (i 1)) from
      congrFun (V_main_arg1 m 0) (ix1 (i 1))] at e
    have h1 := (h (i 1)).1
    have h0 : (i 0).val < 4 := (i 0).isLt
    rw [e]
    match a with
    | ⟨0, _⟩ =>
      change (0 + 1) * 1 ≤ 2
      omega
    | ⟨1, _⟩ =>
      change ((m (((0 : Dev nD) : Thread nD τ).loc main_arg1) : IVec S136 32) (ix1 (i 1))).toNat.succ * 1 ≤ 8
      omega
    | ⟨2, _⟩ =>
      change (0 + 1) * 2048 ≤ 2048
      omega
    | ⟨3, _⟩ =>
      change ((i 0).val + 1) * 1408 ≤ 5632
      omega
  exact ⟨fun i => ⟨key i, .inr (Affine.block_words_dvd (of_decide_eq_true rfl) (by decide))⟩,
    fun i => ⟨key i, .inr (Affine.block_words_dvd (of_decide_eq_true rfl) (by decide))⟩⟩

/-- The same of the program at words of bits. -/
theorem ok_bits (m : (ℓ : Loc Cert.ExpertUp.nD Cert.ExpertUp.τ Cert.ExpertUp.sig) → Buf (Elt Bits) ℓ)
    (h : Named (m (((0 : Dev Cert.ExpertUp.nD) : Thread Cert.ExpertUp.nD Cert.ExpertUp.τ).loc Cert.ExpertUp.main_arg1))) :
    Cert.ExpertUp.Gen.Ok m :=
  ok (F := Bits) m h

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The gated products of the blocks at an index. -/
theorem pay_apply (x0 : Vec Ideal S512x2048 .bf16) (x1 x2 : Vec Ideal S1x1x2048x1408 .bf16) (r : Fin 512) (n : Fin 1408) :
    (k0_pay1 x0 x1 x2 (ix2 r n) : EReal) = Cert.Gate.gated (∑ k : Fin 2048, (x0 (ix2 r k) : EReal) * x1 (ix4 0 0 k n))
      (∑ k : Fin 2048, (x0 (ix2 r k) : EReal) * x2 (ix4 0 0 k n)) := by
  pointwise [k0_pay1]
  exact Cert.Gate.gated_sub _ _

/-- What the body leaves: the gated products of its blocks. -/
theorem out_eq (i : grid0.Coords) (a3 : Memref sig .tc .vmem S512x2048 .bf16) (h3 : a3.IsWhole)
    (a4 : Memref sig .tc .vmem S1x1x2048x1408 .bf16) (h4 : a4.IsWhole) (a5 : Memref sig .tc .vmem S1x1x2048x1408 .bf16) (h5 : a5.IsWhole)
    (a6 : Memref sig .tc .vmem S512x1408 .bf16) (h6 : a6.IsWhole)
    (x0 : Vec Ideal S512x2048 .bf16) (x1 x2 : Vec Ideal S1x1x2048x1408 .bf16) (xt : TbBuf0 (F := Ideal) c tbM0_0) :
    out0_A_3 c i a3 h3 a4 h4 a5 h5 a6 h6 x0 x1 x2 xt = k0_pay1 x0 x1 x2 := by
  unfold out0_A_3
  rw [View.read_writes_eq_canon _ _ _ (cover0_A_3 c i a3 h3 a4 h4 a5 h5 a6 h6 x0 x1 x2 xt)]
  unfold kernelRun0_A
  dsimp only
  (sl_unfold_words)
  rw [View.canon_unit_zero hz2]
  simp only [View.readAt_eq_ld, h3.read_unread, h4.read_unread, h5.read_unread, View.ld_unit_zero (S := S512x2048) hz2,
    View.ld_unit_zero (S := S1x1x2048x1408) hz4]

/-- The rows. -/
theorem V_x (j : S69632x2048.Idx) : (V (F := Ideal) m c main_v0 j : EReal) = aX m c j := by
  unfold V
  after_reads_at
  rfl

/-- The gate weights. -/
theorem V_g (j : S2x8x2048x5632.Idx) : (V (F := Ideal) m c main_v1 j : EReal) = aG m c j := by
  unfold V
  after_reads_at
  rfl

/-- The up weights. -/
theorem V_w (j : S2x8x2048x5632.Idx) : (V (F := Ideal) m c main_v2 j : EReal) = aU m c j := by
  unfold V
  after_reads_at
  rfl

variable (hO : Ok m)

theorem lt_N (t : Fin (cfgM m hO).N) : t.val < 544 := lt_of_lt_of_eq t.isLt (show (cfgM m hO).N = 544 from rfl)

/-- A point's coordinates: the column block slow, the row block fast. -/
theorem coords : ∀ t : Fin grid0.N, (grid0.coords t 0).val = t.val / 136 ∧ (grid0.coords t 1).val = t.val % 136 := by decide +kernel

theorem ix_0 (t : Fin (cfgM m hO).N) : ((cfgM m hO).win 0).index t = ![t.val % 136, 0] :=
  (by decide +kernel : ∀ t : Fin grid0.N, cc0_transform_0 (grid0.coords t) = ![t.val % 136, 0]) t
theorem ix_3 (t : Fin (cfgM m hO).N) : ((cfgM m hO).win 3).index t = ![t.val % 136, t.val / 136] :=
  (by decide +kernel : ∀ t : Fin grid0.N, cc0_transform_3 (grid0.coords t) = ![t.val % 136, t.val / 136]) t
theorem ix_1 (t : Fin (cfgM m hO).N) :
    ((cfgM m hO).win 1).index t = ![0, (aE m 0 (ix1 ⟨t.val % 136, by omega⟩)).toNat, 0, t.val / 136] := by
  have e := (at_word (tbl m) (grid0.coords t)).trans
    (congrArg (fun x : BitVec 32 => (![0, x.toNat, 0, (grid0.coords t 0).val] : Fin 4 → Nat)) (tbl_eq m (grid0.coords t 1)))
  obtain ⟨c0, c1⟩ := coords t
  rw [c0] at e
  refine e.trans ?_
  rw [show grid0.coords t 1 = (⟨t.val % 136, by omega⟩ : Fin 136) from Fin.ext c1]

theorem ix_2 (t : Fin (cfgM m hO).N) :
    ((cfgM m hO).win 2).index t = ![0, (aE m 0 (ix1 ⟨t.val % 136, by omega⟩)).toNat, 0, t.val / 136] := ix_1 m hO t

/-- The row block of point `t`. -/
theorem iblk_0 (t : Fin (cfgM m hO).N) (r : Fin 512) (k : Fin 2048) :
    iblk m hO c 0 t (ix2 (n0 := 512) (n1 := 2048) r k)
      = V m c main_v0 (ix2 (n0 := 69632) (n1 := 2048) ⟨512 * (t.val % 136) + r.val, by omega⟩ k) := by
  refine congrArg (V m c main_v0) (funext fun a => Fin.ext ?_)
  refine (Pipeline.Window.rect_emb_val ((cfgM m hO).win 0) t _ a).trans ?_
  rw [ix_0 m hO t]
  match a with
  | ⟨0, _⟩ =>
    change t.val % 136 * 512 + r.val = 512 * (t.val % 136) + r.val
    omega
  | ⟨1, _⟩ =>
    change 0 * 2048 + k.val = k.val
    omega

/-- Where index `(k, n)` of point `t`'s block lies in the weights. -/
theorem weight_emb (h : Named (aE m 0)) (t : Fin (cfgM m hO).N) (k : Fin 2048) (n : Fin 1408) (a : Fin 4) :
    ![0, (aE m 0 (ix1 ⟨t.val % 136, by omega⟩)).toNat, 0, t.val / 136] a * S1x1x2048x1408.size a
        + (ix4 (n0 := 1) (n1 := 1) (n2 := 2048) (n3 := 1408) 0 0 k n a).val
      = (ix4 (n0 := 2) (n1 := 8) (n2 := 2048) (n3 := 5632) 0 (expert (aE m 0) ⟨t.val % 136, by omega⟩) k
          ⟨1408 * (t.val / 136) + n.val, by have := lt_N m hO t; omega⟩ a).val := by
  match a with
  | ⟨0, _⟩ =>
    change 0 * 1 + 0 = 0
    omega
  | ⟨1, _⟩ =>
    have e := (h ⟨t.val % 136, by omega⟩).2
    change (aE m 0 (ix1 ⟨t.val % 136, by omega⟩)).toNat * 1 + 0 = min (aE m 0 (ix1 ⟨t.val % 136, by omega⟩)).toInt.toNat (8 - 1)
    rw [e]
    omega
  | ⟨2, _⟩ =>
    change 0 * 2048 + k.val = k.val
    omega
  | ⟨3, _⟩ =>
    change t.val / 136 * 1408 + n.val = 1408 * (t.val / 136) + n.val
    omega

/-- The gate weights' block of point `t`. -/
theorem iblk_1 (h : Named (aE m 0)) (t : Fin (cfgM m hO).N) (k : Fin 2048) (n : Fin 1408) :
    iblk m hO c 1 t (ix4 (n0 := 1) (n1 := 1) (n2 := 2048) (n3 := 1408) 0 0 k n)
      = V m c main_v1 (ix4 (n0 := 2) (n1 := 8) (n2 := 2048) (n3 := 5632) 0 (expert (aE m 0) ⟨t.val % 136, by omega⟩) k
          ⟨1408 * (t.val / 136) + n.val, by have := lt_N m hO t; omega⟩) := by
  refine congrArg (V m c main_v1) (funext fun a => Fin.ext ?_)
  refine (Pipeline.Window.rect_emb_val ((cfgM m hO).win 1) t _ a).trans ?_
  rw [ix_1 m hO t]
  exact weight_emb m hO h t k n a

/-- The up weights' block of point `t`. -/
theorem iblk_2 (h : Named (aE m 0)) (t : Fin (cfgM m hO).N) (k : Fin 2048) (n : Fin 1408) :
    iblk m hO c 2 t (ix4 (n0 := 1) (n1 := 1) (n2 := 2048) (n3 := 1408) 0 0 k n)
      = V m c main_v2 (ix4 (n0 := 2) (n1 := 8) (n2 := 2048) (n3 := 5632) 0 (expert (aE m 0) ⟨t.val % 136, by omega⟩) k
          ⟨1408 * (t.val / 136) + n.val, by have := lt_N m hO t; omega⟩) := by
  refine congrArg (V m c main_v2) (funext fun a => Fin.ext ?_)
  refine (Pipeline.Window.rect_emb_val ((cfgM m hO).win 2) t _ a).trans ?_
  rw [ix_2 m hO t]
  exact weight_emb m hO h t k n a

/-- The rows' blocks and the column blocks cover the result. -/
theorem covers : ((cfgM m hO).win 3).Covers := by
  refine ⟨fun a => by fin_cases a <;> exact Nat.succ_pos _, fun (β : (a : Fin 2) → Fin (((cfgM m hO).win 3).nblk a)) => ?_⟩
  have h0 : (β 0).val < 136 := lt_of_lt_of_eq (β 0).isLt (show (69632 + 512 - 1) / 512 = 136 by norm_num)
  have h1 : (β 1).val < 4 := lt_of_lt_of_eq (β 1).isLt (show (5632 + 1408 - 1) / 1408 = 4 by norm_num)
  have eN : (cfgM m hO).N = 544 := rfl
  refine ⟨⟨136 * (β 1).val + (β 0).val, by exact lt_of_lt_of_eq (by omega : _ < 544) eN.symm⟩, flush0_3 (adm m hO) _, fun a => ⟨?_, .inl rfl⟩⟩
  rw [ix_3 m hO]
  match a with
  | ⟨0, _⟩ =>
    change (136 * (β 1).val + (β 0).val) % 136 = (β 0).val
    omega
  | ⟨1, _⟩ =>
    change (136 * (β 1).val + (β 0).val) / 136 = (β 1).val
    omega

/-- What point `t` leaves at an index of its block, which lies at `j` of the result. -/
theorem block_apply (h : Named (aE m 0)) (t : Fin (cfgM m hO).N) (r : Fin 512) (n : Fin 1408) (j : S69632x5632.Idx)
    (h0 : (j 0).val = 512 * (t.val % 136) + r.val) (h1 : (j 1).val = 1408 * (t.val / 136) + n.val) :
    (outsAt0 m hO c t (ix2 (n0 := 512) (n1 := 1408) r n) : EReal) = upArr (aX m c) (aE m 0) (aG m c) (aU m c) j := by
  have ht := lt_N m hO t
  have e0 : j 0 = (⟨512 * (t.val % 136) + r.val, by omega⟩ : Fin 69632) := Fin.ext h0
  have e1 : j 1 = (⟨1408 * (t.val / 136) + n.val, by omega⟩ : Fin 5632) := Fin.ext h1
  have eb : (⟨(512 * (t.val % 136) + r.val) / 512, by omega⟩ : Fin 136) = ⟨t.val % 136, by omega⟩ := Fin.ext (by dsimp only; omega)
  unfold outsAt0
  refine (congrFun (out_eq c _ _ _ _ _ _ _ _ _ (iblk m hO c 0 t) (iblk m hO c 1 t) (iblk m hO c 2 t) _) (ix2 r n)).trans
    ((pay_apply _ _ _ r n).trans ?_)
  unfold upArr dot
  rw [e0, e1]
  dsimp only
  rw [eb]
  refine congrArg₂ Cert.Gate.gated (Finset.sum_congr rfl fun k _ => congrArg₂ (fun x y : EReal => x * y) ?_ ?_)
    (Finset.sum_congr rfl fun k _ => congrArg₂ (fun x y : EReal => x * y) ?_ ?_)
  · exact (iblk_0 m c hO t r k).trans (V_x m c _)
  · exact (iblk_1 m c hO h t k n).trans (V_g m c _)
  · exact (iblk_0 m c hO t r k).trans (V_x m c _)
  · exact (iblk_2 m c hO h t k n).trans (V_w m c _)

/-- Where index `y` of point `t`'s block lies in the result. -/
def place (t : Fin (cfgM m hO).N) (y : S512x1408.Idx) : S69632x5632.Idx := (((cfgM m hO).win 3).rect t).emb y

theorem place_0 (t : Fin (cfgM m hO).N) (y : S512x1408.Idx) : (place m hO t y 0).val = 512 * (t.val % 136) + (y 0).val := by
  refine (Pipeline.Window.rect_emb_val ((cfgM m hO).win 3) t y (0 : Fin 2)).trans ?_
  rw [ix_3 m hO t]
  change t.val % 136 * 512 + (y 0).val = _
  omega

theorem place_1 (t : Fin (cfgM m hO).N) (y : S512x1408.Idx) : (place m hO t y 1).val = 1408 * (t.val / 136) + (y 1).val := by
  refine (Pipeline.Window.rect_emb_val ((cfgM m hO).win 3) t y (1 : Fin 2)).trans ?_
  rw [ix_3 m hO t]
  change t.val / 136 * 1408 + (y 1).val = _
  omega

theorem block_at (h : Named (aE m 0)) (t : Fin (cfgM m hO).N) (y : S512x1408.Idx) :
    (outsAt0 m hO c t y : EReal) = upArr (aX m c) (aE m 0) (aG m c) (aU m c) (place m hO t y) :=
  (congrArg (outsAt0 m hO c t) (eq_ix2 y)).trans (block_apply m c hO h t (y 0) (y 1) _ (place_0 m hO t y) (place_1 m hO t y))

/-- **The kernel's array after the run** holds the gated products. -/
theorem final (h : Named (aE m 0)) : (dats m hO 0 c).arrAt 3 (cfgM m hO).N = upArr (aX m c) (aE m 0) (aG m c) (aU m c) := by
  refine (dats m hO 0 c).arrAt_eq_of_covers 3 _ (covers m hO) fun t hf y => ?_
  blk_simp
  rw [after0_3]
  exact block_at m c hO h t y

end Kernel

section Reference

open Cert.ExpertUpRefIdeal Cert.ExpertUpRefIdeal.Gen

/-- The reference's weights: each block of rows has its expert's, of layer 0. -/
def rW (be : IVec S136 32) (w : FVec Ideal S2x8x2048x5632 .f32) : FVec Ideal S136x2048x5632 .f32 :=
  Host.gather gather_S8x2048x5632_S136x1_S136x2048x5632_12_0_n_n_0_1_120485632
    (shapeCast S8x2048x5632 (extractStridedSlice S1x8x2048x5632 ![0, 0, 0, 0] w slices_S2x8x2048x5632_S1x8x2048x5632_0_0_0_0)
      shapeCasts_S1x8x2048x5632_S8x2048x5632)
    (broadcastInDim S136x1 ![0] bcast_S136_S136x1_0 be)

/-- The reference's products of the rows with the weights of their blocks. -/
def rDot (x : FVec Ideal S69632x2048 .f32) (w : FVec Ideal S136x2048x5632 .f32) : FVec Ideal S136x512x5632 .f32 :=
  Host.dotGeneral dot_S136x512x2048_S136x2048x5632_S136x512x5632_2_1_1_2_0_0 none
    (shapeCast S136x512x2048 x shapeCasts_S69632x2048_S136x512x2048) w

/-- The reference's result, from the two products. -/
def rFn (g u : FVec Ideal S136x512x5632 .f32) : FVec Ideal S69632x5632 .bf16 :=
  truncf .bf16 (shapeCast S69632x5632 (mulf (mulf g (Host.divf (broadcastInDim S136x512x5632 ![] bcast_S_S136x512x5632 (constant S_ .f32 0x3F800000#32))
    (addf (broadcastInDim S136x512x5632 ![] bcast_S_S136x512x5632 (constant S_ .f32 0x3F800000#32)) (Host.exp (Host.negf g))))) u)
    shapeCasts_S136x512x5632_S69632x5632) bitsLt_bf16_f32

/-- Layer 0 of the stack, at an index. -/
theorem layer_apply (w : FVec Ideal S2x8x2048x5632 .f32) (e : Fin 8) (k : Fin 2048) (j : Fin 5632) :
    (shapeCast S8x2048x5632 (extractStridedSlice S1x8x2048x5632 ![0, 0, 0, 0] w slices_S2x8x2048x5632_S1x8x2048x5632_0_0_0_0)
      shapeCasts_S1x8x2048x5632_S8x2048x5632 (ix3 e k j) : EReal) = w (ix4 0 e k j) := by
  pointwise

/-- A block's weights are its expert's. -/
theorem rW_apply (be : IVec S136 32) (w : FVec Ideal S2x8x2048x5632 .f32) (b : Fin 136) (k : Fin 2048) (j : Fin 5632) :
    (rW be w (ix3 b k j) : EReal) = w (ix4 0 (expert be b) k j) := by
  refine (Cert.Take.take_apply (by decide) gather_S8x2048x5632_S136x1_S136x2048x5632_12_0_n_n_0_1_120485632.wf _ _ b k j).trans ?_
  refine (layer_apply w _ k j).trans ?_
  have e : broadcastInDim S136x1 ![0] bcast_S136_S136x1_0 be (ix2 b 0) = be (ix1 b) := by pointwise
  refine congrArg (fun x : Fin 8 => (w (ix4 0 x k j) : EReal)) (Fin.ext ?_)
  exact congrArg (fun v : BitVec 32 => min v.toInt.toNat (8 - 1)) e

/-- A product at an index: row `r` of block `b`. -/
theorem rDot_apply (x : FVec Ideal S69632x2048 .f32) (w : FVec Ideal S136x2048x5632 .f32) (b : Fin 136) (r : Fin 512) (j : Fin 5632) :
    (rDot x w (ix3 b r j) : EReal) = ∑ k : Fin 2048, (x (ix2 ⟨b.val * 512 + r.val, by omega⟩ k) : EReal) * w (ix3 b k j) := by
  pointwise [rDot]

/-- The result at an index. -/
theorem rFn_apply (g u : FVec Ideal S136x512x5632 .f32) (i : Fin 69632) (j : Fin 5632) :
    (rFn g u (ix2 i j) : EReal) = Cert.Gate.gated (g (ix3 ⟨i.val / 512, by omega⟩ ⟨i.val % 512, by omega⟩ j))
      (u (ix3 ⟨i.val / 512, by omega⟩ ⟨i.val % 512, by omega⟩ j)) := by
  pointwise [rFn]
  rfl

/-- A product with the experts' weights, at row `i`. -/
theorem rDot_dot (x : FVec Ideal S69632x2048 .f32) (be : IVec S136 32) (w : FVec Ideal S2x8x2048x5632 .f32) (i : Fin 69632) (j : Fin 5632) :
    (rDot x (rW be w) (ix3 ⟨i.val / 512, by omega⟩ ⟨i.val % 512, by omega⟩ j) : EReal) = dot x be w i j := by
  refine (rDot_apply x _ _ _ j).trans ?_
  unfold dot
  have e : (⟨i.val / 512 * 512 + i.val % 512, by omega⟩ : Fin 69632) = i := Fin.ext (by dsimp only; omega)
  simp only [e]
  exact Finset.sum_congr rfl fun k _ => congrArg (fun y : EReal => (x (ix2 i k) : EReal) * y) (rW_apply be w _ k j)

/-- **The reference's result** holds the gated products. -/
theorem ref_eq (x : FVec Ideal S69632x2048 .f32) (be : IVec S136 32) (wg wu : FVec Ideal S2x8x2048x5632 .f32) :
    rFn (rDot x (rW be wg)) (rDot x (rW be wu)) = upArr x be wg wu := by
  funext j
  refine (congrArg (rFn (rDot x (rW be wg)) (rDot x (rW be wu))) (eq_ix2 j)).trans ((rFn_apply _ _ (j 0) (j 1)).trans ?_)
  exact congrArg₂ Cert.Gate.gated (rDot_dot x be wg (j 0) (j 1)) (rDot_dot x be wu (j 0) (j 1))

end Reference

end Cert.ExpertUpProof
-- ==== Proof.ExpertDown.lean ====
/-
  The down products of the experts: the kernel takes rows sorted into blocks of 512, each block all of one expert, and a
  table that says which. At row `i` (block `i / 512`) and column `j` both the kernel's array and the reference's result
  hold the product of the row with column `j` of that expert's weight, of layer 0.
-/
module

public import proofs.«01_k».proof.Proof.Gen.ExpertDown.Frame
public import proofs.«01_k».proof.Proof.Gen.ExpertDownIdeal.Frame
public import proofs.«01_k».proof.Proof.Gen.ExpertDownRefIdeal.Run
public import proofs.«01_k».proof.Pre_experts_down
public import proofs.«01_k».proof.Proof.Take
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.Value
public import Idealize.ShloMosaic.Lib.Pipeline.ValueKit.Geometry

@[expose] public section

noncomputable section

namespace Cert.ExpertDownProof

open Idealize.ShloMosaic Idealize.ShloMosaic.TcCoe Idealize.SL.Sem
open Cert.Take (Named expert)

/-! ## The precondition -/

section Precondition

open Cert.Pre_experts_down

/-- The shape relations the predicate states. -/
instance preFacts : Cert.Pre_experts_down.Facts where
  bcast_S_S136 := by decide
  reducesTo_S136_S_d0 := by decide
  h_S_ := by decide

instance : Subsingleton S_.Idx := ⟨fun a b => funext fun k => k.elim0⟩

/-- **The precondition read back.** -/
theorem named_of_pre {F : FTy → Type} [FloatOps F] (u : FVec F S69632x5632 .f32) (be : IVec S136 32) (w : FVec F S2x8x5632x2048 .f32)
    (h : fn u be w = fun _ => 1#1) : Named be := by
  have h0 := congrFun h ix0
  unfold fn at h0
  dsimp only at h0
  exact fun b => Cert.Take.word_range _ (Host.reduce_andi_all _ _ _ _ _ h0 (ix1 b))

end Precondition

section Kernel

open Cert.ExpertDownIdeal Cert.ExpertDownIdeal.Gen

/-- The products of the rows with their experts' weights. -/
def downArr (u : FVec Ideal S69632x5632 .f32) (be : IVec S136 32) (w : FVec Ideal S2x8x5632x2048 .f32) : FVec Ideal S69632x2048 .bf16 := fun j =>
  (∑ k : Fin 5632, (u (ix2 (n0 := 69632) (n1 := 5632) (j 0) k) : EReal)
    * w (ix4 (n0 := 2) (n1 := 8) (n2 := 5632) (n3 := 2048) 0
        (expert be ⟨(j 0).val / 512, by have : (j 0).val < 69632 := (j 0).isLt; omega⟩) k (j 1)) : EReal)

variable (m : (ℓ : Loc nD τ sig) → Buf (Elt Ideal) ℓ) (c : Dev nD)

/-- The argument arrays on device `c`. -/
def aU : FVec Ideal S69632x5632 .f32 := m ((c : Thread nD τ).loc main_arg0)
def aE : IVec S136 32 := m ((c : Thread nD τ).loc main_arg1)
def aW : FVec Ideal S2x8x5632x2048 .f32 := m ((c : Thread nD τ).loc main_arg2)

/-- The table the index maps read is the argument. -/
theorem tbl_eq (b : Fin 136) : (tbl m 0 : IVec S136 32) (ix1 b) = aE m 0 (ix1 b) :=
  congrFun (V_main_arg1 m 0) (ix1 b)

/-- The weight block a grid point asks for: the expert its table names for the block of rows. -/
theorem at_word {F : FTy → Type} [FloatOps F] (pf : pre0.Contents (Elt F)) (i : grid0.Coords) :
    cc0_transform_1 (F := F) k0_off1_inb numel1_S1 pf i = ![0, ((pf 0 : IVec S136 32) (ix1 (i 1))).toNat, 0, (i 0).val] := by
  have h0 : (i 0).val < 2 := (i 0).isLt
  have h1 : (i 1).val < 136 := (i 1).isLt
  unfold cc0_transform_1
  refine congrArg₂ (fun (x y : Nat) => (![0, x, 0, y] : Fin 4 → Nat)) ?_ ?_
  · refine congrArg (fun x : S136.Idx => ((pf 0 : IVec S136 32) x).toNat) (funext fun a => Fin.ext ?_)
    match a with
    | ⟨0, _⟩ =>
      change (BitVec.ofNat 32 (i 1).val).toNat + 1 * 0 = (i 1).val
      rw [BitVec.toNat_ofNat]
      omega
  · change (BitVec.ofNat 32 (i 0).val).toNat = _
    rw [BitVec.toNat_ofNat]
    omega

/-- **The side condition of the table**: a named expert's block lies in the weights. -/
theorem ok {F : FTy → Type} [FloatOps F] (m : (ℓ : Loc nD τ sig) → Buf (Elt F) ℓ)
    (h : Named (m (((0 : Dev nD) : Thread nD τ).loc main_arg1))) : Ok m := by
  intro i
  have e := at_word (tbl m) i
  rw [show (tbl m 0 : IVec S136 32) (ix1 (i 1)) = (m (((0 : Dev nD) : Thread nD τ).loc main_arg1) : IVec S136 32) (ix1 (i 1)) from
    congrFun (V_main_arg1 m 0) (ix1 (i 1))] at e
  have h1 := (h (i 1)).1
  have h0 : (i 0).val < 2 := (i 0).isLt
  refine ⟨fun a => ?_, ?_⟩
  · rw [e]
    match a with
    | ⟨0, _⟩ =>
      change (0 + 1) * 1 ≤ 2
      omega
    | ⟨1, _⟩ =>
      change ((m (((0 : Dev nD) : Thread nD τ).loc main_arg1) : IVec S136 32) (ix1 (i 1))).toNat.succ * 1 ≤ 8
      omega
    | ⟨2, _⟩ =>
      change (0 + 1) * 5632 ≤ 5632
      omega
    | ⟨3, _⟩ =>
      change ((i 0).val + 1) * 1024 ≤ 2048
      omega
  · exact .inr (Affine.block_words_dvd (of_decide_eq_true rfl) (by decide))

/-- The same of the program at words of bits. -/
theorem ok_bits (m : (ℓ : Loc Cert.ExpertDown.nD Cert.ExpertDown.τ Cert.ExpertDown.sig) → Buf (Elt Bits) ℓ)
    (h : Named (m (((0 : Dev Cert.ExpertDown.nD) : Thread Cert.ExpertDown.nD Cert.ExpertDown.τ).loc Cert.ExpertDown.main_arg1))) :
    Cert.ExpertDown.Gen.Ok m :=
  ok (F := Bits) m h

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The product of two blocks at an index. -/
theorem pay_apply (x0 : Vec Ideal S512x5632 .bf16) (x1 : Vec Ideal S1x1x5632x1024 .bf16) (r : Fin 512) (n : Fin 1024) :
    (k0_pay1 x0 x1 (ix2 r n) : EReal) = ∑ k : Fin 5632, (x0 (ix2 r k) : EReal) * x1 (ix4 0 0 k n) := by
  pointwise [k0_pay1]

/-- What the body leaves: the product of its two blocks. -/
theorem out_eq (i : grid0.Coords) (a3 : Memref sig .tc .vmem S512x5632 .bf16) (h3 : a3.IsWhole)
    (a4 : Memref sig .tc .vmem S1x1x5632x1024 .bf16) (h4 : a4.IsWhole) (a5 : Memref sig .tc .vmem S512x1024 .bf16) (h5 : a5.IsWhole)
    (x0 : Vec Ideal S512x5632 .bf16) (x1 : Vec Ideal S1x1x5632x1024 .bf16) (xt : TbBuf0 (F := Ideal) c tbM0_0) :
    out0_A_2 c i a3 h3 a4 h4 a5 h5 x0 x1 xt = k0_pay1 x0 x1 := by
  unfold out0_A_2
  rw [View.read_writes_eq_canon _ _ _ (cover0_A_2 c i a3 h3 a4 h4 a5 h5 x0 x1 xt)]
  unfold kernelRun0_A
  dsimp only
  (sl_unfold_words)
  rw [View.canon_unit_zero hz2]
  simp only [View.readAt_eq_ld, h3.read_unread, h4.read_unread, View.ld_unit_zero (S := S512x5632) hz2,
    View.ld_unit_zero (S := S1x1x5632x1024) hz4]

/-- The rows. -/
theorem V_u (j : S69632x5632.Idx) : (V (F := Ideal) m c main_v0 j : EReal) = aU m c j := by
  unfold V
  after_reads_at
  rfl

/-- The weights. -/
theorem V_w (j : S2x8x5632x2048.Idx) : (V (F := Ideal) m c main_v1 j : EReal) = aW m c j := by
  unfold V
  after_reads_at
  rfl

variable (hO : Ok m)

theorem lt_N (t : Fin (cfgM m hO).N) : t.val < 272 := lt_of_lt_of_eq t.isLt (show (cfgM m hO).N = 272 from rfl)

/-- A point's coordinates: the column block slow, the row block fast. -/
theorem coords : ∀ t : Fin grid0.N, (grid0.coords t 0).val = t.val / 136 ∧ (grid0.coords t 1).val = t.val % 136 := by decide +kernel

theorem ix_0 (t : Fin (cfgM m hO).N) : ((cfgM m hO).win 0).index t = ![t.val % 136, 0] :=
  (by decide +kernel : ∀ t : Fin grid0.N, cc0_transform_0 (grid0.coords t) = ![t.val % 136, 0]) t
theorem ix_2 (t : Fin (cfgM m hO).N) : ((cfgM m hO).win 2).index t = ![t.val % 136, t.val / 136] :=
  (by decide +kernel : ∀ t : Fin grid0.N, cc0_transform_2 (grid0.coords t) = ![t.val % 136, t.val / 136]) t
theorem ix_1 (t : Fin (cfgM m hO).N) :
    ((cfgM m hO).win 1).index t = ![0, (aE m 0 (ix1 ⟨t.val % 136, by omega⟩)).toNat, 0, t.val / 136] := by
  have e := (at_word (tbl m) (grid0.coords t)).trans
    (congrArg (fun x : BitVec 32 => (![0, x.toNat, 0, (grid0.coords t 0).val] : Fin 4 → Nat)) (tbl_eq m (grid0.coords t 1)))
  obtain ⟨c0, c1⟩ := coords t
  rw [c0] at e
  refine e.trans ?_
  rw [show grid0.coords t 1 = (⟨t.val % 136, by omega⟩ : Fin 136) from Fin.ext c1]

/-- The row block of point `t`. -/
theorem iblk_0 (t : Fin (cfgM m hO).N) (r : Fin 512) (k : Fin 5632) :
    iblk m hO c 0 t (ix2 (n0 := 512) (n1 := 5632) r k)
      = V m c main_v0 (ix2 (n0 := 69632) (n1 := 5632) ⟨512 * (t.val % 136) + r.val, by omega⟩ k) := by
  refine congrArg (V m c main_v0) (funext fun a => Fin.ext ?_)
  refine (Pipeline.Window.rect_emb_val ((cfgM m hO).win 0) t _ a).trans ?_
  rw [ix_0 m hO t]
  match a with
  | ⟨0, _⟩ =>
    change t.val % 136 * 512 + r.val = 512 * (t.val % 136) + r.val
    omega
  | ⟨1, _⟩ =>
    change 0 * 5632 + k.val = k.val
    omega

/-- The weight block of point `t`. -/
theorem iblk_1 (h : Named (aE m 0)) (t : Fin (cfgM m hO).N) (k : Fin 5632) (n : Fin 1024) :
    iblk m hO c 1 t (ix4 (n0 := 1) (n1 := 1) (n2 := 5632) (n3 := 1024) 0 0 k n)
      = V m c main_v1 (ix4 (n0 := 2) (n1 := 8) (n2 := 5632) (n3 := 2048) 0 (expert (aE m 0) ⟨t.val % 136, by omega⟩) k
          ⟨1024 * (t.val / 136) + n.val, by have := lt_N m hO t; omega⟩) := by
  refine congrArg (V m c main_v1) (funext fun a => Fin.ext ?_)
  refine (Pipeline.Window.rect_emb_val ((cfgM m hO).win 1) t _ a).trans ?_
  rw [ix_1 m hO t]
  match a with
  | ⟨0, _⟩ =>
    change 0 * 1 + 0 = 0
    omega
  | ⟨1, _⟩ =>
    have e := (h ⟨t.val % 136, by omega⟩).2
    change (aE m 0 (ix1 ⟨t.val % 136, by omega⟩)).toNat * 1 + 0 = min (aE m 0 (ix1 ⟨t.val % 136, by omega⟩)).toInt.toNat (8 - 1)
    rw [e]
    omega
  | ⟨2, _⟩ =>
    change 0 * 5632 + k.val = k.val
    omega
  | ⟨3, _⟩ =>
    change t.val / 136 * 1024 + n.val = 1024 * (t.val / 136) + n.val
    omega

/-- The rows' blocks and the column blocks cover the result. -/
theorem covers : ((cfgM m hO).win 2).Covers := by
  refine ⟨fun a => by fin_cases a <;> exact Nat.succ_pos _, fun (β : (a : Fin 2) → Fin (((cfgM m hO).win 2).nblk a)) => ?_⟩
  have h0 : (β 0).val < 136 := lt_of_lt_of_eq (β 0).isLt (show (69632 + 512 - 1) / 512 = 136 by norm_num)
  have h1 : (β 1).val < 2 := lt_of_lt_of_eq (β 1).isLt (show (2048 + 1024 - 1) / 1024 = 2 by norm_num)
  have eN : (cfgM m hO).N = 272 := rfl
  refine ⟨⟨136 * (β 1).val + (β 0).val, by exact lt_of_lt_of_eq (by omega : _ < 272) eN.symm⟩, flush0_2 (adm m hO) _, fun a => ⟨?_, .inl rfl⟩⟩
  rw [ix_2 m hO]
  match a with
  | ⟨0, _⟩ =>
    change (136 * (β 1).val + (β 0).val) % 136 = (β 0).val
    omega
  | ⟨1, _⟩ =>
    change (136 * (β 1).val + (β 0).val) / 136 = (β 1).val
    omega

/-- What point `t` leaves at an index of its block, which lies at `j` of the result. -/
theorem block_apply (h : Named (aE m 0)) (t : Fin (cfgM m hO).N) (r : Fin 512) (n : Fin 1024) (j : S69632x2048.Idx)
    (h0 : (j 0).val = 512 * (t.val % 136) + r.val) (h1 : (j 1).val = 1024 * (t.val / 136) + n.val) :
    (outsAt0 m hO c t (ix2 (n0 := 512) (n1 := 1024) r n) : EReal) = downArr (aU m c) (aE m 0) (aW m c) j := by
  have ht := lt_N m hO t
  have e0 : j 0 = (⟨512 * (t.val % 136) + r.val, by omega⟩ : Fin 69632) := Fin.ext h0
  have e1 : j 1 = (⟨1024 * (t.val / 136) + n.val, by omega⟩ : Fin 2048) := Fin.ext h1
  unfold outsAt0
  refine (congrFun (out_eq c _ _ _ _ _ _ _ (iblk m hO c 0 t) (iblk m hO c 1 t) _) (ix2 r n)).trans ((pay_apply _ _ r n).trans ?_)
  have eb : (⟨(j 0).val / 512, by rw [e0]; dsimp only; omega⟩ : Fin 136) = ⟨t.val % 136, by omega⟩ := Fin.ext (by dsimp only; omega)
  unfold downArr
  rw [eb, e0, e1]
  refine Finset.sum_congr rfl fun k _ => congrArg₂ (fun x y : EReal => x * y) ?_ ?_
  · exact (iblk_0 m c hO t r k).trans (V_u m c _)
  · exact (iblk_1 m c hO h t k n).trans (V_w m c _)

/-- Where index `y` of point `t`'s block lies in the result. -/
def place (t : Fin (cfgM m hO).N) (y : S512x1024.Idx) : S69632x2048.Idx := (((cfgM m hO).win 2).rect t).emb y

theorem place_0 (t : Fin (cfgM m hO).N) (y : S512x1024.Idx) : (place m hO t y 0).val = 512 * (t.val % 136) + (y 0).val := by
  refine (Pipeline.Window.rect_emb_val ((cfgM m hO).win 2) t y (0 : Fin 2)).trans ?_
  rw [ix_2 m hO t]
  change t.val % 136 * 512 + (y 0).val = _
  omega

theorem place_1 (t : Fin (cfgM m hO).N) (y : S512x1024.Idx) : (place m hO t y 1).val = 1024 * (t.val / 136) + (y 1).val := by
  refine (Pipeline.Window.rect_emb_val ((cfgM m hO).win 2) t y (1 : Fin 2)).trans ?_
  rw [ix_2 m hO t]
  change t.val / 136 * 1024 + (y 1).val = _
  omega

theorem block_at (h : Named (aE m 0)) (t : Fin (cfgM m hO).N) (y : S512x1024.Idx) :
    (outsAt0 m hO c t y : EReal) = downArr (aU m c) (aE m 0) (aW m c) (place m hO t y) :=
  (congrArg (outsAt0 m hO c t) (eq_ix2 y)).trans (block_apply m c hO h t (y 0) (y 1) _ (place_0 m hO t y) (place_1 m hO t y))

/-- **The kernel's array after the run** holds the products. -/
theorem final (h : Named (aE m 0)) : (dats m hO 0 c).arrAt 2 (cfgM m hO).N = downArr (aU m c) (aE m 0) (aW m c) := by
  refine (dats m hO 0 c).arrAt_eq_of_covers 2 _ (covers m hO) fun t hf y => ?_
  blk_simp
  rw [after0_2]
  exact block_at m c hO h t y

end Kernel

section Reference

open Cert.ExpertDownRefIdeal Cert.ExpertDownRefIdeal.Gen

/-- The reference's weights: each block of rows has its expert's, of layer 0. -/
def rW (be : IVec S136 32) (w : FVec Ideal S2x8x5632x2048 .f32) : FVec Ideal S136x5632x2048 .f32 :=
  Host.gather gather_S8x5632x2048_S136x1_S136x5632x2048_12_0_n_n_0_1_156322048
    (shapeCast S8x5632x2048 (extractStridedSlice S1x8x5632x2048 ![0, 0, 0, 0] w slices_S2x8x5632x2048_S1x8x5632x2048_0_0_0_0)
      shapeCasts_S1x8x5632x2048_S8x5632x2048)
    (broadcastInDim S136x1 ![0] bcast_S136_S136x1_0 be)

/-- The reference's result, from the rows and the weights of the blocks. -/
def rFn (u : FVec Ideal S69632x5632 .f32) (w : FVec Ideal S136x5632x2048 .f32) : FVec Ideal S69632x2048 .bf16 :=
  truncf .bf16 (shapeCast S69632x2048 (Host.dotGeneral dot_S136x512x5632_S136x5632x2048_S136x512x2048_2_1_1_2_0_0 none
    (shapeCast S136x512x5632 u shapeCasts_S69632x5632_S136x512x5632) w) shapeCasts_S136x512x2048_S69632x2048) bitsLt_bf16_f32

/-- Layer 0 of the stack, at an index. -/
theorem layer_apply (w : FVec Ideal S2x8x5632x2048 .f32) (e : Fin 8) (k : Fin 5632) (j : Fin 2048) :
    (shapeCast S8x5632x2048 (extractStridedSlice S1x8x5632x2048 ![0, 0, 0, 0] w slices_S2x8x5632x2048_S1x8x5632x2048_0_0_0_0)
      shapeCasts_S1x8x5632x2048_S8x5632x2048 (ix3 e k j) : EReal) = w (ix4 0 e k j) := by
  pointwise

/-- A block's weights are its expert's. -/
theorem rW_apply (be : IVec S136 32) (w : FVec Ideal S2x8x5632x2048 .f32) (b : Fin 136) (k : Fin 5632) (j : Fin 2048) :
    (rW be w (ix3 b k j) : EReal) = w (ix4 0 (expert be b) k j) := by
  refine (Cert.Take.take_apply (by decide) gather_S8x5632x2048_S136x1_S136x5632x2048_12_0_n_n_0_1_156322048.wf _ _ b k j).trans ?_
  refine (layer_apply w _ k j).trans ?_
  have e : broadcastInDim S136x1 ![0] bcast_S136_S136x1_0 be (ix2 b 0) = be (ix1 b) := by pointwise
  refine congrArg (fun x : Fin 8 => (w (ix4 0 x k j) : EReal)) (Fin.ext ?_)
  exact congrArg (fun v : BitVec 32 => min v.toInt.toNat (8 - 1)) e

/-- The result at an index: the row's product with the weights of its block. -/
theorem rFn_apply (u : FVec Ideal S69632x5632 .f32) (w : FVec Ideal S136x5632x2048 .f32) (i : Fin 69632) (j : Fin 2048) :
    (rFn u w (ix2 i j) : EReal) = ∑ k : Fin 5632, (u (ix2 i k) : EReal) * w (ix3 ⟨i.val / 512, by omega⟩ k j) := by
  pointwise [rFn]

/-- **The reference's result** holds the products. -/
theorem ref_eq (u : FVec Ideal S69632x5632 .f32) (be : IVec S136 32) (w : FVec Ideal S2x8x5632x2048 .f32) :
    rFn u (rW be w) = downArr u be w := by
  funext j
  refine (congrArg (rFn u (rW be w)) (eq_ix2 j)).trans ((rFn_apply u _ (j 0) (j 1)).trans ?_)
  exact Finset.sum_congr rfl fun k _ => congrArg (fun y : EReal => (u (ix2 (n0 := 69632) (n1 := 5632) (j 0) k) : EReal) * y) (rW_apply be w _ k (j 1))

end Reference

end Cert.ExpertDownProof
-- ==== Proof.FfnUp.lean ====
/-
  The gate and up products of the dense feed-forward layer: at row `i` (batch `i / 8192`, position `i % 8192`) and column
  `j` both the kernel's array and the reference's result hold `silu g * u`, where `g` and `u` are the products of the
  input row with column `j` of the gate and up weights of layer 0.
-/
module

public import proofs.«01_k».proof.Proof.Gen.FfnUpIdeal.Value
public import proofs.«01_k».proof.Proof.Gen.FfnUpRefIdeal.Run
public import proofs.«01_k».proof.Proof.Gate
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.FfnUpProof

open Idealize.ShloMosaic Idealize.ShloMosaic.TcCoe Idealize.SL.Sem

section Kernel

open Cert.FfnUpIdeal Cert.FfnUpIdeal.Gen

/-- The product of row `i` of the flattened input with column `j` of layer 0 of a weight. -/
def dot (x : FVec Ideal S4x8192x2048 .f32) (w : FVec Ideal S2x2048x5632 .f32) (i : Fin 32768) (j : Fin 5632) : EReal :=
  ∑ k : Fin 2048, (x (ix3 (n0 := 4) (n1 := 8192) (n2 := 2048) ⟨i.val / 8192, by omega⟩ ⟨i.val % 8192, by omega⟩ k) : EReal)
    * w (ix3 (n0 := 2) (n1 := 2048) (n2 := 5632) 0 k j)

/-- The gated products. -/
def gatedArr (x : FVec Ideal S4x8192x2048 .f32) (wg wu : FVec Ideal S2x2048x5632 .f32) : FVec Ideal S32768x5632 .bf16 := fun j =>
  Cert.Gate.gated (dot x wg (j 0) (j 1)) (dot x wu (j 0) (j 1))

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves: the gated products of its input block with its two weight blocks. -/
theorem out_eq (x0 : Vec Ideal S1024x2048 .bf16) (x1 x2 : Vec Ideal S1x2048x512 .bf16) : out0_3 x0 x1 x2 = k0_pay1 x0 x1 x2 := by
  unfold out0_3
  rw [View.canon_unit_zero hz2, View.ld_unit_zero (S := S1024x2048) hz2, View.ld_unit_zero (S := S1x2048x512) hz3,
    View.ld_unit_zero (S := S1x2048x512) hz3]

/-- The body's result at an index. -/
theorem pay_apply (x0 : Vec Ideal S1024x2048 .bf16) (x1 x2 : Vec Ideal S1x2048x512 .bf16) (r : Fin 1024) (n : Fin 512) :
    (k0_pay1 x0 x1 x2 (ix2 r n) : EReal)
      = Cert.Gate.gated (∑ k : Fin 2048, (x0 (ix2 r k) : EReal) * x1 (ix3 0 k n)) (∑ k : Fin 2048, (x0 (ix2 r k) : EReal) * x2 (ix3 0 k n)) := by
  pointwise [k0_pay1]
  exact Cert.Gate.gated_sub _ _

variable (m : (ℓ : Loc nD τ sig) → Buf (Elt Ideal) ℓ) (c : Dev nD)

/-- The argument arrays on device `c`. -/
def aX : FVec Ideal S4x8192x2048 .f32 := m ((c : Thread nD τ).loc main_arg0)
def aG : FVec Ideal S2x2048x5632 .f32 := m ((c : Thread nD τ).loc main_arg1)
def aU : FVec Ideal S2x2048x5632 .f32 := m ((c : Thread nD τ).loc main_arg2)

/-- The flattened input. -/
theorem V_x (i : Fin 32768) (k : Fin 2048) :
    (V (F := Ideal) m c main_v1 (ix2 (n0 := 32768) (n1 := 2048) i k) : EReal)
      = aX m c (ix3 ⟨i.val / 8192, by omega⟩ ⟨i.val % 8192, by omega⟩ k) := by
  unfold V
  after_reads_at
  rfl

/-- The gate's weight. -/
theorem V_g (j : S2x2048x5632.Idx) : (V (F := Ideal) m c main_v2 j : EReal) = aG m c j := by
  unfold V
  after_reads_at
  rfl

/-- The up weight. -/
theorem V_u (j : S2x2048x5632.Idx) : (V (F := Ideal) m c main_v3 j : EReal) = aU m c j := by
  unfold V
  after_reads_at
  rfl

theorem lt_N (t : Fin cfg0.N) : t.val < 352 := lt_of_lt_of_eq t.isLt (show cfg0.N = 352 from N_0)

theorem ix_0 : ∀ t : Fin cfg0.N, win0_0.index t = ![t.val / 11, 0] := (by decide +kernel : ∀ t : Fin grid0.N, _)
theorem ix_1 : ∀ t : Fin cfg0.N, win0_1.index t = ![0, 0, t.val % 11] := (by decide +kernel : ∀ t : Fin grid0.N, _)
theorem ix_2 : ∀ t : Fin cfg0.N, win0_2.index t = ![0, 0, t.val % 11] := (by decide +kernel : ∀ t : Fin grid0.N, _)
theorem ix_3 : ∀ t : Fin cfg0.N, win0_3.index t = ![t.val / 11, t.val % 11] := (by decide +kernel : ∀ t : Fin grid0.N, _)

/-- The input block of point `t`: 1024 rows of the flattened input. -/
theorem iblk_0 (t : Fin cfg0.N) (r : Fin 1024) (k : Fin 2048) :
    iblk m c 0 t (ix2 (n0 := 1024) (n1 := 2048) r k)
      = V m c main_v1 (ix2 (n0 := 32768) (n1 := 2048) ⟨1024 * (t.val / 11) + r.val, by have := lt_N t; omega⟩ k) := by
  blk_simp [iblk, ix_0 t]
  refine congrArg (V m c main_v1) ?_
  funext a
  match a with
  | ⟨0, _⟩ =>
    refine Fin.ext ?_
    blk_simp [ix_0 t]
    all_goals try simp
    all_goals try omega
  | ⟨1, _⟩ =>
    refine Fin.ext ?_
    blk_simp [ix_0 t]
    all_goals try simp
    all_goals try omega

/-- The gate's weight block of point `t`: 512 columns of layer 0. -/
theorem iblk_1 (t : Fin cfg0.N) (k : Fin 2048) (n : Fin 512) :
    iblk m c 1 t (ix3 (n0 := 1) (n1 := 2048) (n2 := 512) 0 k n)
      = V m c main_v2 (ix3 (n0 := 2) (n1 := 2048) (n2 := 5632) 0 k ⟨512 * (t.val % 11) + n.val, by omega⟩) := by
  blk_simp [iblk, ix_1 t]
  refine congrArg (V m c main_v2) ?_
  funext a
  match a with
  | ⟨0, _⟩ =>
    refine Fin.ext ?_
    blk_simp [ix_1 t]
    all_goals try simp
    all_goals try omega
  | ⟨1, _⟩ =>
    refine Fin.ext ?_
    blk_simp [ix_1 t]
    all_goals try simp
    all_goals try omega
  | ⟨2, _⟩ =>
    refine Fin.ext ?_
    blk_simp [ix_1 t]
    all_goals try simp
    all_goals try omega

/-- The up weight block of point `t`: 512 columns of layer 0. -/
theorem iblk_2 (t : Fin cfg0.N) (k : Fin 2048) (n : Fin 512) :
    iblk m c 2 t (ix3 (n0 := 1) (n1 := 2048) (n2 := 512) 0 k n)
      = V m c main_v3 (ix3 (n0 := 2) (n1 := 2048) (n2 := 5632) 0 k ⟨512 * (t.val % 11) + n.val, by omega⟩) := by
  blk_simp [iblk, ix_2 t]
  refine congrArg (V m c main_v3) ?_
  funext a
  match a with
  | ⟨0, _⟩ =>
    refine Fin.ext ?_
    blk_simp [ix_2 t]
    all_goals try simp
    all_goals try omega
  | ⟨1, _⟩ =>
    refine Fin.ext ?_
    blk_simp [ix_2 t]
    all_goals try simp
    all_goals try omega
  | ⟨2, _⟩ =>
    refine Fin.ext ?_
    blk_simp [ix_2 t]
    all_goals try simp
    all_goals try omega

/-- The block point `t` writes back, at an index. -/
theorem block_apply (t : Fin cfg0.N) (r : Fin 1024) (n : Fin 512) (j : S32768x5632.Idx)
    (h0 : (j 0).val = 1024 * (t.val / 11) + r.val) (h1 : (j 1).val = 512 * (t.val % 11) + n.val) :
    (out0_3 (iblk m c 0 t) (iblk m c 1 t) (iblk m c 2 t) (ix2 (n0 := 1024) (n1 := 512) r n) : EReal)
      = gatedArr (aX m c) (aG m c) (aU m c) j := by
  rw [out_eq, pay_apply]
  have ht := lt_N t
  have e0 : j 0 = (⟨1024 * (t.val / 11) + r.val, by omega⟩ : Fin 32768) := Fin.ext h0
  have e1 : j 1 = (⟨512 * (t.val % 11) + n.val, by omega⟩ : Fin 5632) := Fin.ext h1
  unfold gatedArr
  rw [e0, e1]
  refine congrArg₂ Cert.Gate.gated (Finset.sum_congr rfl fun k _ => ?_) (Finset.sum_congr rfl fun k _ => ?_)
  · rw [iblk_0, iblk_1, V_x, V_g]
  · rw [iblk_0, iblk_2, V_x, V_u]

/-- **The kernel's array after the run** holds the gated products. -/
theorem final : (dats m 0 c).arrAt 3 cfg0.N = gatedArr (aX m c) (aG m c) (aU m c) := by
  refine (dats m 0 c).arrAt_eq_of_covers 3 _ (by decide +kernel) fun t hf y => ?_
  blk_simp [ix_3 t]
  rw [after0_3]
  have ht := lt_N t
  refine (congrArg _ (eq_ix2 y)).trans (block_apply m c t (y 0) (y 1) _ ?_ ?_)
  · blk_simp [ix_3 t]
    all_goals try simp
    all_goals try omega
  · blk_simp [ix_3 t]
    all_goals try simp
    all_goals try omega

end Kernel

section Reference

open Cert.FfnUpRefIdeal Cert.FfnUpRefIdeal.Gen

/-- The reference's product of the input with layer 0 of a weight. -/
def rDot (x : FVec Ideal S4x8192x2048 .f32) (w : FVec Ideal S2x2048x5632 .f32) : FVec Ideal S4x8192x5632 .f32 :=
  Host.dotGeneral dot_S4x8192x2048_S2048x5632_S4x8192x5632_2_0_01_1_n_n none x
    (shapeCast S2048x5632 (extractStridedSlice S1x2048x5632 ![0, 0, 0] w slices_S2x2048x5632_S1x2048x5632_0_0_0) shapeCasts_S1x2048x5632_S2048x5632)

/-- The reference's result, from the two products. -/
def rFn (g u : FVec Ideal S4x8192x5632 .f32) : FVec Ideal S32768x5632 .bf16 :=
  truncf .bf16 (shapeCast S32768x5632 (mulf (mulf g (Host.divf (broadcastInDim S4x8192x5632 ![] bcast_S_S4x8192x5632 (constant S_ .f32 0x3F800000#32))
    (addf (broadcastInDim S4x8192x5632 ![] bcast_S_S4x8192x5632 (constant S_ .f32 0x3F800000#32)) (Host.exp (Host.negf g))))) u)
    shapeCasts_S4x8192x5632_S32768x5632) bitsLt_bf16_f32

/-- The product at an index. -/
theorem rDot_apply (x : FVec Ideal S4x8192x2048 .f32) (w : FVec Ideal S2x2048x5632 .f32) (b : Fin 4) (s : Fin 8192) (j : Fin 5632) :
    (rDot x w (ix3 b s j) : EReal) = ∑ k : Fin 2048, (x (ix3 b s k) : EReal) * w (ix3 0 k j) := by
  pointwise [rDot]

/-- The result at an index. -/
theorem rFn_apply (g u : FVec Ideal S4x8192x5632 .f32) (i : Fin 32768) (j : Fin 5632) :
    (rFn g u (ix2 i j) : EReal) = Cert.Gate.gated (g (ix3 ⟨i.val / 8192, by omega⟩ ⟨i.val % 8192, by omega⟩ j))
      (u (ix3 ⟨i.val / 8192, by omega⟩ ⟨i.val % 8192, by omega⟩ j)) := by
  pointwise [rFn]
  rfl

/-- **The reference's result** holds the gated products. -/
theorem ref_eq (x : FVec Ideal S4x8192x2048 .f32) (wg wu : FVec Ideal S2x2048x5632 .f32) :
    rFn (rDot x wg) (rDot x wu) = gatedArr x wg wu := by
  funext j
  rw [eq_ix2 j]
  exact (rFn_apply _ _ (j 0) (j 1)).trans (congrArg₂ Cert.Gate.gated (rDot_apply x wg _ _ (j 1)) (rDot_apply x wu _ _ (j 1)))

end Reference

end Cert.FfnUpProof
-- ==== Proof.ValueGate.lean ====
/-
  The projection of the retention layer's normalised input onto its values and its gate: at row `i` (batch `i / 8192`,
  position `i % 8192`) and column `j` both the kernel's array and the reference's result hold the product of the input
  row with column `4096 + j` of the packed weight of layer 0 (the first 4096 columns of it are queries and keys).
-/
module

public import proofs.«01_k».proof.Proof.Gen.ValueGateIdeal.Value
public import proofs.«01_k».proof.Proof.Gen.ValueGateRefIdeal.Run
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.ValueGateProof

open Idealize.ShloMosaic Idealize.ShloMosaic.TcCoe Idealize.SL.Sem

section Kernel

open Cert.ValueGateIdeal Cert.ValueGateIdeal.Gen

/-- The projection, by rows of the flattened input. -/
def proj (x : FVec Ideal S4x8192x2048 .f32) (w : FVec Ideal S2x2048x12288 .f32) : FVec Ideal S32768x8192 .bf16 := fun j =>
  (∑ k : Fin 2048, (x (ix3 (n0 := 4) (n1 := 8192) (n2 := 2048)
      ⟨(j 0).val / 8192, by have : (j 0).val < 32768 := (j 0).isLt; omega⟩ ⟨(j 0).val % 8192, by omega⟩ k) : EReal)
    * w (ix3 (n0 := 2) (n1 := 2048) (n2 := 12288) 0 k ⟨4096 + (j 1).val, by have : (j 1).val < 8192 := (j 1).isLt; omega⟩) : EReal)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves: the product of its two blocks. -/
theorem out_eq (x0 : Vec Ideal S1024x2048 .bf16) (x1 : Vec Ideal S1x2048x512 .bf16) : out0_2 x0 x1 = k0_pay1 x0 x1 := by
  unfold out0_2
  rw [View.canon_unit_zero hz2, View.ld_unit_zero (S := S1024x2048) hz2, View.ld_unit_zero (S := S1x2048x512) hz3]

/-- The product of two blocks at an index. -/
theorem pay_apply (x0 : Vec Ideal S1024x2048 .bf16) (x1 : Vec Ideal S1x2048x512 .bf16) (r : Fin 1024) (n : Fin 512) :
    (k0_pay1 x0 x1 (ix2 r n) : EReal) = ∑ k : Fin 2048, (x0 (ix2 r k) : EReal) * x1 (ix3 0 k n) := by
  pointwise [k0_pay1]

variable (m : (ℓ : Loc nD τ sig) → Buf (Elt Ideal) ℓ) (c : Dev nD)

/-- The argument arrays on device `c`. -/
def aX : FVec Ideal S4x8192x2048 .f32 := m ((c : Thread nD τ).loc main_arg0)
def aW : FVec Ideal S2x2048x12288 .f32 := m ((c : Thread nD τ).loc main_arg1)

/-- The flattened input. -/
theorem V_x (i : Fin 32768) (k : Fin 2048) :
    (V (F := Ideal) m c main_v1 (ix2 (n0 := 32768) (n1 := 2048) i k) : EReal)
      = aX m c (ix3 ⟨i.val / 8192, by omega⟩ ⟨i.val % 8192, by omega⟩ k) := by
  unfold V
  after_reads_at
  rfl

/-- The packed weight. -/
theorem V_w (j : S2x2048x12288.Idx) : (V (F := Ideal) m c main_v2 j : EReal) = aW m c j := by
  unfold V
  after_reads_at
  rfl

theorem lt_N (t : Fin cfg0.N) : t.val < 512 := lt_of_lt_of_eq t.isLt (show cfg0.N = 512 from N_0)

theorem ix_0 : ∀ t : Fin cfg0.N, win0_0.index t = ![t.val / 16, 0] := (by decide +kernel : ∀ t : Fin grid0.N, _)
theorem ix_1 : ∀ t : Fin cfg0.N, win0_1.index t = ![0, 0, 8 + t.val % 16] := (by decide +kernel : ∀ t : Fin grid0.N, _)
theorem ix_2 : ∀ t : Fin cfg0.N, win0_2.index t = ![t.val / 16, t.val % 16] := (by decide +kernel : ∀ t : Fin grid0.N, _)

/-- The input block of point `t`: 1024 rows of the flattened input. -/
theorem iblk_0 (t : Fin cfg0.N) (r : Fin 1024) (k : Fin 2048) :
    iblk m c 0 t (ix2 (n0 := 1024) (n1 := 2048) r k)
      = V m c main_v1 (ix2 (n0 := 32768) (n1 := 2048) ⟨1024 * (t.val / 16) + r.val, by have := lt_N t; omega⟩ k) := by
  blk_simp [iblk, ix_0 t]
  refine congrArg (V m c main_v1) ?_
  funext a
  match a with
  | ⟨0, _⟩ =>
    refine Fin.ext ?_
    blk_simp [ix_0 t]
    all_goals try simp
    all_goals try omega
  | ⟨1, _⟩ =>
    refine Fin.ext ?_
    blk_simp [ix_0 t]
    all_goals try simp
    all_goals try omega

/-- The weight block of point `t`: 512 columns of layer 0, from column 4096 on. -/
theorem iblk_1 (t : Fin cfg0.N) (k : Fin 2048) (n : Fin 512) :
    iblk m c 1 t (ix3 (n0 := 1) (n1 := 2048) (n2 := 512) 0 k n)
      = V m c main_v2 (ix3 (n0 := 2) (n1 := 2048) (n2 := 12288) 0 k ⟨4096 + 512 * (t.val % 16) + n.val, by omega⟩) := by
  blk_simp [iblk, ix_1 t]
  refine congrArg (V m c main_v2) ?_
  funext a
  match a with
  | ⟨0, _⟩ =>
    refine Fin.ext ?_
    blk_simp [ix_1 t]
    all_goals try simp
    all_goals try omega
  | ⟨1, _⟩ =>
    refine Fin.ext ?_
    blk_simp [ix_1 t]
    all_goals try simp
    all_goals try omega
  | ⟨2, _⟩ =>
    refine Fin.ext ?_
    blk_simp [ix_1 t]
    all_goals try simp
    all_goals try omega

/-- The block point `t` writes back, at an index. -/
theorem block_apply (t : Fin cfg0.N) (r : Fin 1024) (n : Fin 512) (j : S32768x8192.Idx)
    (h0 : (j 0).val = 1024 * (t.val / 16) + r.val) (h1 : (j 1).val = 512 * (t.val % 16) + n.val) :
    (out0_2 (iblk m c 0 t) (iblk m c 1 t) (ix2 (n0 := 1024) (n1 := 512) r n) : EReal) = proj (aX m c) (aW m c) j := by
  rw [out_eq, pay_apply]
  refine Finset.sum_congr rfl fun k _ => ?_
  rw [iblk_0, iblk_1, V_x, V_w]
  have ht := lt_N t
  congr 4
  · exact congrArg (· / 8192) h0.symm
  · exact congrArg (· % 8192) h0.symm
  · omega

/-- **The kernel's array after the run** is the projection. -/
theorem final : (dats m 0 c).arrAt 2 cfg0.N = proj (aX m c) (aW m c) := by
  refine (dats m 0 c).arrAt_eq_of_covers 2 _ (by decide +kernel) fun t hf y => ?_
  blk_simp [ix_2 t]
  rw [after0_2]
  have ht := lt_N t
  refine (congrArg _ (eq_ix2 y)).trans (block_apply m c t (y 0) (y 1) _ ?_ ?_)
  · blk_simp [ix_2 t]
    all_goals try simp
    all_goals try omega
  · blk_simp [ix_2 t]
    all_goals try simp
    all_goals try omega

end Kernel

section Reference

open Cert.ValueGateRefIdeal Cert.ValueGateRefIdeal.Gen

/-- The reference's result at an index: the values' columns first, then the gate's. -/
theorem ref_apply (x : FVec Ideal S4x8192x2048 .f32) (w : FVec Ideal S2x2048x12288 .f32) (i : Fin 32768) (j : Fin 8192) :
    (truncf (F := Ideal) .bf16 (shapeCast S32768x8192 (concatenate S4x8192x8192 2
      [⟨S4x8192x4096, Host.dotGeneral dot_S4x8192x2048_S2048x4096_S4x8192x4096_2_0_01_1_n_n none x
        (extractStridedSlice S2048x4096 ![0, 4096] (shapeCast S2048x12288 (extractStridedSlice S1x2048x12288 ![0, 0, 0] w
          slices_S2x2048x12288_S1x2048x12288_0_0_0) shapeCasts_S1x2048x12288_S2048x12288) slices_S2048x12288_S2048x4096_0_4096)⟩,
      ⟨S4x8192x4096, Host.dotGeneral dot_S4x8192x2048_S2048x4096_S4x8192x4096_2_0_01_1_n_n none x
        (extractStridedSlice S2048x4096 ![0, 8192] (shapeCast S2048x12288 (extractStridedSlice S1x2048x12288 ![0, 0, 0] w
          slices_S2x2048x12288_S1x2048x12288_0_0_0) shapeCasts_S1x2048x12288_S2048x12288) slices_S2048x12288_S2048x4096_0_8192)⟩]
      concatenates_S4x8192x4096_S4x8192x4096_S4x8192x8192_d2) shapeCasts_S4x8192x8192_S32768x8192) bitsLt_bf16_f32
        (ix2 (n0 := 32768) (n1 := 8192) i j) : EReal)
      = proj x w (ix2 (n0 := 32768) (n1 := 8192) i j) := by
  pointwise
  unfold proj
  by_cases h : j.val < 4096
  · rw [dif_pos h]
    rfl
  · rw [dif_neg h]
    have e : 8192 + (j.val - 4096) = 4096 + j.val := by omega
    simp only [e]
    rfl

/-- **The reference's result** is the projection. -/
theorem ref_eq (x : FVec Ideal S4x8192x2048 .f32) (w : FVec Ideal S2x2048x12288 .f32) :
    (truncf (F := Ideal) .bf16 (shapeCast S32768x8192 (concatenate S4x8192x8192 2
      [⟨S4x8192x4096, Host.dotGeneral dot_S4x8192x2048_S2048x4096_S4x8192x4096_2_0_01_1_n_n none x
        (extractStridedSlice S2048x4096 ![0, 4096] (shapeCast S2048x12288 (extractStridedSlice S1x2048x12288 ![0, 0, 0] w
          slices_S2x2048x12288_S1x2048x12288_0_0_0) shapeCasts_S1x2048x12288_S2048x12288) slices_S2048x12288_S2048x4096_0_4096)⟩,
      ⟨S4x8192x4096, Host.dotGeneral dot_S4x8192x2048_S2048x4096_S4x8192x4096_2_0_01_1_n_n none x
        (extractStridedSlice S2048x4096 ![0, 8192] (shapeCast S2048x12288 (extractStridedSlice S1x2048x12288 ![0, 0, 0] w
          slices_S2x2048x12288_S1x2048x12288_0_0_0) shapeCasts_S1x2048x12288_S2048x12288) slices_S2048x12288_S2048x4096_0_8192)⟩]
      concatenates_S4x8192x4096_S4x8192x4096_S4x8192x8192_d2) shapeCasts_S4x8192x8192_S32768x8192) bitsLt_bf16_f32)
      = proj x w := by
  funext j
  rw [eq_ix2 j]
  exact ref_apply x w (j 0) (j 1)

end Reference

end Cert.ValueGateProof
-- ==== Proof.Calls.lean ====
/-
  The claims of the further calls: each program's frames, and that the ideal kernel and the ideal reference of a call leave
  the same array. The arrays themselves are in `Proof/ExpertUp.lean`, `ExpertDown.lean`, `FfnUp.lean` and `ValueGate.lean`.
-/
module

public import proofs.«01_k».proof.Defs
public import proofs.«01_k».proof.Proof.ExpertUp
public import proofs.«01_k».proof.Proof.ExpertDown
public import proofs.«01_k».proof.Proof.FfnUp
public import proofs.«01_k».proof.Proof.ValueGate
public import Idealize.ShloMosaic.Adequacy
public import Idealize.ShloMosaic.Init

@[expose] public section

noncomputable section

namespace Cert.Calls

open Idealize.ShloMosaic Idealize.SL.Sem

/-! ## The gate and up products of the experts -/

section ExpertUp

theorem up_ok_bits {m} (h : Cert.Pre_ExpertUp (hPre_experts_up := Cert.ExpertUpProof.preFacts) m) : Cert.ExpertUp.Gen.Ok m :=
  Cert.ExpertUpProof.ok_bits m (Cert.ExpertUpProof.named_of_pre _ _ _ _ (h 0))

theorem up_named {m} (h : Cert.Pre_ExpertUpIdeal (hPre_experts_up := Cert.ExpertUpProof.preFacts) m) : Cert.Take.Named (Cert.ExpertUpProof.aE m 0) :=
  Cert.ExpertUpProof.named_of_pre _ _ _ _ (h 0)

theorem frame_up_reference : Cert.quiescent_ExpertUpRefIdeal (hExpertUpRefIdeal := Cert.ExpertUpRefIdeal.Gen.facts) := fun m g _ =>
  (θ_run _ _ _).mono (fun r h => ⟨fun c => (h c).2, sem_eq_zero_of_no_sems (by decide) r.2⟩) (Cert.ExpertUpRefIdeal.Value.run m g)

/-- The value claim. -/
theorem algebraic_up : Cert.algebraic_ExpertUpIdeal_ExpertUpRefIdeal (hExpertUpIdeal := Cert.ExpertUpIdeal.Gen.facts)
    (hExpertUpRefIdeal := Cert.ExpertUpRefIdeal.Gen.facts) (hPre_experts_up := Cert.ExpertUpProof.preFacts) := by
  intro m g m' g' hpre harg
  have hn := up_named hpre
  have hO : Cert.ExpertUpIdeal.Gen.Ok m := Cert.ExpertUpProof.ok m hn
  refine ⟨fun c => Cert.ExpertUpProof.upArr (Cert.ExpertUpProof.aX m c) (Cert.ExpertUpProof.aE m c) (Cert.ExpertUpProof.aG m c) (Cert.ExpertUpProof.aU m c), ?_, ?_⟩
  · refine (θ_run _ _ _).mono (fun r h c => ?_) (θ_run_and (Cert.ExpertUpIdeal.Gen.run_main m g hO) (Cert.ExpertUpIdeal.Gen.unchanged m g hO))
    obtain rfl : c = 0 := Subsingleton.elim _ _
    exact ⟨((h.1 0).1 3).trans (Cert.ExpertUpProof.final m 0 hO hn), h.2 0⟩
  · refine (θ_run _ _ _).mono (fun r h c => ?_) (Cert.ExpertUpRefIdeal.Value.run m' g')
    obtain ⟨e, k⟩ := h c
    refine ⟨?_, k⟩
    obtain ⟨e0, e1, e2, e3⟩ := harg c
    rw [e0, e1, e2, e3] at e
    exact e.trans (Cert.ExpertUpProof.ref_eq _ _ _ _)

end ExpertUp

/-! ## The down products of the experts -/

section ExpertDown

theorem down_ok_bits {m} (h : Cert.Pre_ExpertDown (hPre_experts_down := Cert.ExpertDownProof.preFacts) m) : Cert.ExpertDown.Gen.Ok m :=
  Cert.ExpertDownProof.ok_bits m (Cert.ExpertDownProof.named_of_pre _ _ _ (h 0))

theorem down_named {m} (h : Cert.Pre_ExpertDownIdeal (hPre_experts_down := Cert.ExpertDownProof.preFacts) m) : Cert.Take.Named (Cert.ExpertDownProof.aE m 0) :=
  Cert.ExpertDownProof.named_of_pre _ _ _ (h 0)

theorem frame_down_reference : Cert.quiescent_ExpertDownRefIdeal (hExpertDownRefIdeal := Cert.ExpertDownRefIdeal.Gen.facts) := fun m g _ =>
  (θ_run _ _ _).mono (fun r h => ⟨fun c => (h c).2, sem_eq_zero_of_no_sems (by decide) r.2⟩) (Cert.ExpertDownRefIdeal.Value.run m g)

/-- The value claim. -/
theorem algebraic_down : Cert.algebraic_ExpertDownIdeal_ExpertDownRefIdeal (hExpertDownIdeal := Cert.ExpertDownIdeal.Gen.facts)
    (hExpertDownRefIdeal := Cert.ExpertDownRefIdeal.Gen.facts) (hPre_experts_down := Cert.ExpertDownProof.preFacts) := by
  intro m g m' g' hpre harg
  have hn := down_named hpre
  have hO : Cert.ExpertDownIdeal.Gen.Ok m := Cert.ExpertDownProof.ok m hn
  refine ⟨fun c => Cert.ExpertDownProof.downArr (Cert.ExpertDownProof.aU m c) (Cert.ExpertDownProof.aE m c) (Cert.ExpertDownProof.aW m c), ?_, ?_⟩
  · refine (θ_run _ _ _).mono (fun r h c => ?_) (θ_run_and (Cert.ExpertDownIdeal.Gen.run_main m g hO) (Cert.ExpertDownIdeal.Gen.unchanged m g hO))
    obtain rfl : c = 0 := Subsingleton.elim _ _
    exact ⟨((h.1 0).1 2).trans (Cert.ExpertDownProof.final m 0 hO hn), h.2 0⟩
  · refine (θ_run _ _ _).mono (fun r h c => ?_) (Cert.ExpertDownRefIdeal.Value.run m' g')
    obtain ⟨e, k⟩ := h c
    refine ⟨?_, k⟩
    obtain ⟨e0, e1, e2⟩ := harg c
    rw [e0, e1, e2] at e
    exact e.trans (Cert.ExpertDownProof.ref_eq _ _ _)

end ExpertDown

/-! ## The gate and up products of the dense feed-forward layer -/

section FfnUp

theorem frame_ffn_reference : Cert.quiescent_FfnUpRefIdeal (hFfnUpRefIdeal := Cert.FfnUpRefIdeal.Gen.facts) := fun m g _ =>
  (θ_run _ _ _).mono (fun r h => ⟨fun c => (h c).2, sem_eq_zero_of_no_sems (by decide) r.2⟩) (Cert.FfnUpRefIdeal.Value.run m g)

/-- The value claim. -/
theorem algebraic_ffn : Cert.algebraic_FfnUpIdeal_FfnUpRefIdeal (hFfnUpIdeal := Cert.FfnUpIdeal.Gen.facts)
    (hFfnUpRefIdeal := Cert.FfnUpRefIdeal.Gen.facts) := by
  intro m g m' g' _ harg
  refine ⟨fun c => Cert.FfnUpProof.gatedArr (Cert.FfnUpProof.aX m c) (Cert.FfnUpProof.aG m c) (Cert.FfnUpProof.aU m c), ?_, ?_⟩
  · refine (θ_run _ _ _).mono (fun r h c => ?_) (Cert.FfnUpIdeal.Value.run_blocks m g)
    obtain ⟨e, k⟩ := h c
    exact ⟨e.trans (Cert.FfnUpProof.final m c), k⟩
  · refine (θ_run _ _ _).mono (fun r h c => ?_) (Cert.FfnUpRefIdeal.Value.run m' g')
    obtain ⟨e, k⟩ := h c
    refine ⟨?_, k⟩
    obtain ⟨e0, e1, e2⟩ := harg c
    rw [e0, e1, e2] at e
    exact e.trans (Cert.FfnUpProof.ref_eq _ _ _)

end FfnUp

/-! ## The value and gate projection of a retention layer -/

section ValueGate

theorem frame_vg_reference : Cert.quiescent_ValueGateRefIdeal (hValueGateRefIdeal := Cert.ValueGateRefIdeal.Gen.facts) := fun m g _ =>
  (θ_run _ _ _).mono (fun r h => ⟨fun c => (h c).2, sem_eq_zero_of_no_sems (by decide) r.2⟩) (Cert.ValueGateRefIdeal.Value.run m g)

/-- The value claim. -/
theorem algebraic_vg : Cert.algebraic_ValueGateIdeal_ValueGateRefIdeal (hValueGateIdeal := Cert.ValueGateIdeal.Gen.facts)
    (hValueGateRefIdeal := Cert.ValueGateRefIdeal.Gen.facts) := by
  intro m g m' g' _ harg
  refine ⟨fun c => Cert.ValueGateProof.proj (Cert.ValueGateProof.aX m c) (Cert.ValueGateProof.aW m c), ?_, ?_⟩
  · refine (θ_run _ _ _).mono (fun r h c => ?_) (Cert.ValueGateIdeal.Value.run_blocks m g)
    obtain ⟨e, k⟩ := h c
    exact ⟨e.trans (Cert.ValueGateProof.final m c), k⟩
  · refine (θ_run _ _ _).mono (fun r h c => ?_) (Cert.ValueGateRefIdeal.Value.run m' g')
    obtain ⟨e, k⟩ := h c
    refine ⟨?_, k⟩
    obtain ⟨e0, e1⟩ := harg c
    rw [e0, e1] at e
    exact e.trans (Cert.ValueGateProof.ref_eq _ _)

end ValueGate

end Cert.Calls

end
-- ==== Proof.Norm.lean ====
/-
  The root mean square norm over 2048 columns: a row divided by the root of the mean of its squares (with a small constant
  added) and multiplied by a gain. And the norm as a reference writes it, at an index.
-/
module

public import proofs.«01_k».proof.Proof.Gen.LastPleRefIdeal
public import Idealize.ShloMosaic.Lib.Pointwise

@[expose] public section

noncomputable section

namespace Cert.Norm

open Idealize.ShloMosaic Idealize.ShloMosaic.TcCoe

/-- One over the root of the mean square of a row. The two constants are 2048 and the float32 nearest to `1e-6`. -/
def scale (row : Fin 2048 → EReal) : EReal :=
  Ideal.rsqrt (Ideal.div (∑ k, row k * row k) (Ideal.ofBits .f32 0x45000000#32) + Ideal.ofBits .f32 0x358637BD#32)

/-- A row normed. -/
def normed (row gain : Fin 2048 → EReal) (n : Fin 2048) : EReal := row n * scale row * gain n

/-- A row of the residual stream after a projection: the product of a row with a weight is added. -/
def added {K : ℕ} (h : Fin 2048 → EReal) (o : Fin K → EReal) (w : Fin K → Fin 2048 → EReal) (n : Fin 2048) : EReal :=
  h n + ∑ k, o k * w k n

/-- Equal arguments have equal projections. -/
theorem added_congr {K : ℕ} {h h' : Fin 2048 → EReal} {o o' : Fin K → EReal} {w w' : Fin K → Fin 2048 → EReal}
    (eh : ∀ k, h k = h' k) (eo : ∀ k, o k = o' k) (ew : ∀ k n, w k n = w' k n) : added h o w = added h' o' w' := by
  rw [funext eh, funext eo, funext fun k => funext (ew k)]

/-- A sum over four chunks of `T`, added one after the other. -/
theorem added_quarters {K T : ℕ} (hK : K = 4 * T) (h : Fin 2048 → EReal) (o : Fin K → EReal) (w : Fin K → Fin 2048 → EReal)
    (p : Fin 4 → EReal) (n : Fin 2048)
    (hp : ∀ q, p q = ∑ x : Fin T, o ⟨T * q.val + x.val, by have := q.isLt; have := x.isLt; subst hK; nlinarith⟩
      * w ⟨T * q.val + x.val, by have := q.isLt; have := x.isLt; subst hK; nlinarith⟩ n) :
    h n + p 0 + p 1 + p 2 + p 3 = added h o w n := by
  subst hK
  unfold added
  rw [← Equiv.sum_comp finProdFinEquiv, Fintype.sum_prod_type, Fin.sum_univ_four, hp, hp, hp, hp]
  simp only [← add_assoc]
  have e : ∀ (q : Fin 4) (x : Fin T), (finProdFinEquiv (q, x) : Fin (4 * T))
      = ⟨T * q.val + x.val, by have := q.isLt; have := x.isLt; nlinarith⟩ := fun q x => Fin.ext (Nat.add_comm _ _)
  simp only [e]

open Cert.LastPleRefIdeal Cert.LastPleRefIdeal.Gen

/-- The norm of an array's rows, as a reference has it. -/
def host (x : FVec Ideal S4x8192x2048 .f32) (g : FVec Ideal S2048 .f32) : FVec Ideal S4x8192x2048 .f32 :=
  mulf (mulf x (broadcastInDim S4x8192x2048 ![0, 1, 2] bcast_S4x8192x1_S4x8192x2048_0_1_2 (Host.rsqrt (addf (Host.divf
    (broadcastInDim S4x8192x1 ![0, 1] bcast_S4x8192_S4x8192x1_0_1
      (Host.reduceAdd (mulf x x) (constant S_ .f32 0x00000000#32) reducesTo_S4x8192x2048_S4x8192_d2 h_S_))
    (broadcastInDim S4x8192x1 ![] bcast_S_S4x8192x1 (constant S_ .f32 0x45000000#32)))
    (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g))

/-- It norms the row of batch `b` and position `s`. -/
theorem host_apply (x : FVec Ideal S4x8192x2048 .f32) (g : FVec Ideal S2048 .f32) (b : Fin 4) (s : Fin 8192) (n : Fin 2048) :
    (host x g (ix3 b s n) : EReal) = normed (fun k => x (ix3 b s k)) (fun k => g (ix1 k)) n := by
  pointwise [host]
  rfl

/-- A flattened array, from its row of each batch and position. -/
def byRows (f : Fin 4 → Fin 8192 → Fin 2048 → EReal) : S32768x2048.Idx → EReal := fun j =>
  have hj : (j 0).val < 32768 := (j 0).isLt
  f ⟨(j 0).val / 8192, by omega⟩ ⟨(j 0).val % 8192, by omega⟩ (j 1)

/-- The flattened array at an index. -/
theorem flat_apply (x : FVec Ideal S4x8192x2048 .f32) (i : Fin 32768) (n : Fin 2048) :
    (shapeCast S32768x2048 x shapeCasts_S4x8192x2048_S32768x2048 (ix2 i n) : EReal)
      = x (ix3 ⟨i.val / 8192, by omega⟩ ⟨i.val % 8192, by omega⟩ n) := by
  pointwise

/-- An array known by rows, flattened. -/
theorem flat_eq (x : FVec Ideal S4x8192x2048 .f32) (f : Fin 4 → Fin 8192 → Fin 2048 → EReal)
    (hx : ∀ b s n, (x (ix3 b s n) : EReal) = f b s n) :
    (shapeCast S32768x2048 x shapeCasts_S4x8192x2048_S32768x2048 : FVec Ideal S32768x2048 .f32) = byRows f := by
  funext j
  rw [eq_ix2 j]
  exact (flat_apply x (j 0) (j 1)).trans (hx _ _ _)

/-- Its norm, flattened and rounded. -/
theorem flat_host_eq (x : FVec Ideal S4x8192x2048 .f32) (g : FVec Ideal S2048 .f32) (f : Fin 4 → Fin 8192 → Fin 2048 → EReal)
    (gain : Fin 2048 → EReal) (hx : ∀ b s n, (x (ix3 b s n) : EReal) = f b s n) (hg : ∀ k, (g (ix1 k) : EReal) = gain k)
    (h : FTy.bits .bf16 < FTy.bits .f32) :
    (truncf .bf16 (shapeCast S32768x2048 (host x g) shapeCasts_S4x8192x2048_S32768x2048) h : FVec Ideal S32768x2048 .bf16)
      = byRows fun b s => normed (f b s) gain := by
  funext j
  rw [eq_ix2 j]
  refine (flat_apply _ (j 0) (j 1)).trans ((host_apply x g _ _ _).trans ?_)
  exact congrFun (congrArg₂ normed (funext fun k => hx _ _ k) (funext hg)) _

/-- The fourth row of an array of gains. -/
theorem gain_apply (g : FVec Ideal S4x2048 .f32) (k : Fin 2048) :
    (shapeCast S2048 (extractStridedSlice S1x2048 ![3, 0] g slices_S4x2048_S1x2048_3_0) shapeCasts_S1x2048_S2048 (ix1 k) : EReal)
      = g (ix2 (n0 := 4) (n1 := 2048) 3 k) := by
  pointwise

end Cert.Norm
-- ==== Proof.LastPle.lean ====
/-
  The last call: the residual of the last feed-forward layer, the per-layer embedding of the last layer and the model's norm.
  At row `i` (batch `i / 8192`, position `i % 8192`) both the kernel's array and the reference's result hold `row` of that
  row's arguments.
-/
module

public import proofs.«01_k».proof.Proof.Gen.LastPleIdeal.Value
public import proofs.«01_k».proof.Proof.Gen.LastPleRefIdeal.Run
public import proofs.«01_k».proof.Proof.Norm
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.LastPleProof

open Idealize.ShloMosaic Idealize.ShloMosaic.TcCoe Idealize.SL.Sem

/-- The gate of a row after the residual: the logistic function of its norm's product with the gate's weight. -/
def gate (h gp : Fin 2048 → EReal) (wg : Fin 2048 → Fin 2048 → EReal) (n : Fin 2048) : EReal :=
  Ideal.div 1 (1 + Ideal.exp (-∑ k, Cert.Norm.normed h gp k * wg k n))

/-- The row after the embedding: the embedding's product with its up weight, gated, is added. -/
def embedded (h gp : Fin 2048 → EReal) (wg : Fin 2048 → Fin 2048 → EReal) (p : Fin 256 → EReal)
    (wu : Fin 256 → Fin 2048 → EReal) (n : Fin 2048) : EReal :=
  h n + (∑ k, p k * wu k n) * gate h gp wg n

/-- The row of the result, from the residual stream `h` and the feed-forward's output `f`. -/
def row (h f gp : Fin 2048 → EReal) (wg : Fin 2048 → Fin 2048 → EReal) (p : Fin 256 → EReal)
    (wu : Fin 256 → Fin 2048 → EReal) (gn : Fin 2048 → EReal) : Fin 2048 → EReal :=
  Cert.Norm.normed (embedded (fun k => h k + f k) gp wg p wu) gn

/-- Rows of equal arguments are equal. -/
theorem row_congr {h h' f f' gp gp' gn gn' : Fin 2048 → EReal} {wg wg' : Fin 2048 → Fin 2048 → EReal} {p p' : Fin 256 → EReal}
    {wu wu' : Fin 256 → Fin 2048 → EReal} (eh : ∀ k, h k = h' k) (ef : ∀ k, f k = f' k) (egp : ∀ k, gp k = gp' k)
    (ewg : ∀ k n, wg k n = wg' k n) (ep : ∀ k, p k = p' k) (ewu : ∀ k n, wu k n = wu' k n) (egn : ∀ k, gn k = gn' k)
    (n : Fin 2048) : row h f gp wg p wu gn n = row h' f' gp' wg' p' wu' gn' n := by
  rw [funext eh, funext ef, funext egp, funext fun k => funext (ewg k), funext ep, funext fun k => funext (ewu k), funext egn]

section Kernel

open Cert.LastPleIdeal Cert.LastPleIdeal.Gen

/-- The result, by rows of the flattened arguments. -/
def rows (h f : FVec Ideal S4x8192x2048 .f32) (gp : FVec Ideal S4x2048 .f32) (wg : FVec Ideal S4x2048x2048 .f32)
    (p : FVec Ideal S4x4x8192x256 .f32) (wu : FVec Ideal S4x256x2048 .f32) (gn : FVec Ideal S2048 .f32) :
    FVec Ideal S32768x2048 .f32 := fun j =>
  have hj : (j 0).val < 32768 := (j 0).isLt
  let b : Fin 4 := ⟨(j 0).val / 8192, by omega⟩
  let s : Fin 8192 := ⟨(j 0).val % 8192, by omega⟩
  row (fun k => h (ix3 b s k)) (fun k => f (ix3 b s k)) (fun k => gp (ix2 (n0 := 4) (n1 := 2048) 3 k))
    (fun k n => wg (ix3 (n0 := 4) (n1 := 2048) (n2 := 2048) 3 k n)) (fun k => p (ix4 (n0 := 4) (n1 := 4) (n2 := 8192) (n3 := 256) 3 b s k))
    (fun k n => wu (ix3 (n0 := 4) (n1 := 256) (n2 := 2048) 3 k n)) (fun k => gn (ix1 k)) (j 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The residual's sum in the body. -/
theorem pay2_apply (x0 : Vec Ideal S256x2048 .f32) (x1 : Vec Ideal S256x2048 .bf16) (r : Fin 256) (n : Fin 2048) :
    (k0_pay2 x0 x1 (ix2 r n) : EReal) = (x0 (ix2 r n) : EReal) + x1 (ix2 r n) := by
  pointwise [k0_pay2]

/-- The gate in the body. -/
theorem pay3_apply (x0 : Vec Ideal S256x2048 .f32) (x1 : Vec Ideal S256x2048 .bf16) (x2 : Vec Ideal S1x2048 .f32)
    (x3 : Vec Ideal S1x2048x2048 .bf16) (r : Fin 256) (n : Fin 2048) :
    (k0_pay3 x0 x1 x2 x3 (ix2 r n) : EReal)
      = gate (fun k => k0_pay2 x0 x1 (ix2 r k)) (fun k => x2 (ix2 0 k)) (fun k n => x3 (ix3 0 k n)) n := by
  pointwise [k0_pay3]
  rw [zero_sub]
  rfl

/-- The body's end: the sum with the gated product, and its norm. -/
theorem pay1_apply (v5 v30 : FVec Ideal S256x2048 .f32) (x4 : Vec Ideal S1x256x256 .f32) (x5 : Vec Ideal S1x256x2048 .bf16)
    (x6 : Vec Ideal S1x2048 .f32) (r : Fin 256) (n : Fin 2048) :
    (k0_pay1 v5 v30 (k0_pay4 x4) (k0_pay5 x5) (constant S256x2048 .f32 0x00000000#32) x6 (ix2 r n) : EReal)
      = Cert.Norm.normed (fun k => (v5 (ix2 r k) : EReal) + (∑ l : Fin 256, (x4 (ix3 0 r l) : EReal) * x5 (ix3 0 l k)) * v30 (ix2 r k))
        (fun k => x6 (ix2 0 k)) n := by
  pointwise [k0_pay1, k0_pay4, k0_pay5]
  rfl

/-- What the body leaves, at an index. -/
theorem out_apply (x0 : Vec Ideal S256x2048 .f32) (x1 : Vec Ideal S256x2048 .bf16) (x2 : Vec Ideal S1x2048 .f32)
    (x3 : Vec Ideal S1x2048x2048 .bf16) (x4 : Vec Ideal S1x256x256 .f32) (x5 : Vec Ideal S1x256x2048 .bf16)
    (x6 : Vec Ideal S1x2048 .f32) (r : Fin 256) (n : Fin 2048) :
    (out0_7 x0 x1 x2 x3 x4 x5 x6 (ix2 r n) : EReal)
      = row (fun k => x0 (ix2 r k)) (fun k => x1 (ix2 r k)) (fun k => x2 (ix2 0 k)) (fun k n => x3 (ix3 0 k n))
        (fun k => x4 (ix3 0 r k)) (fun k n => x5 (ix3 0 k n)) (fun k => x6 (ix2 0 k)) n := by
  unfold out0_7
  rw [View.canon_unit_zero hz2, View.ld_unit_zero (S := S256x2048) hz2, View.ld_unit_zero (S := S256x2048) hz2,
    View.ld_unit_zero (S := S1x2048) hz2, View.ld_unit_zero (S := S1x2048x2048) hz3, View.ld_unit_zero (S := S1x256x256) hz3,
    View.ld_unit_zero (S := S1x256x2048) hz3, View.ld_unit_zero (S := S1x2048) hz2, pay1_apply]
  unfold row
  refine congrArg (fun f => Cert.Norm.normed f _ n) (funext fun k => ?_)
  rw [pay3_apply]
  simp only [pay2_apply]
  rfl

variable (m : (ℓ : Loc nD τ sig) → Buf (Elt Ideal) ℓ) (c : Dev nD)

/-- The argument arrays on device `c`. -/
def aH : FVec Ideal S4x8192x2048 .f32 := m ((c : Thread nD τ).loc main_arg0)
def aF : FVec Ideal S4x8192x2048 .f32 := m ((c : Thread nD τ).loc main_arg1)
def aGp : FVec Ideal S4x2048 .f32 := m ((c : Thread nD τ).loc main_arg2)
def aWg : FVec Ideal S4x2048x2048 .f32 := m ((c : Thread nD τ).loc main_arg3)
def aP : FVec Ideal S4x4x8192x256 .f32 := m ((c : Thread nD τ).loc main_arg4)
def aWu : FVec Ideal S4x256x2048 .f32 := m ((c : Thread nD τ).loc main_arg5)
def aGn : FVec Ideal S2048 .f32 := m ((c : Thread nD τ).loc main_arg6)

/-- The flattened residual stream. -/
theorem V_h (i : Fin 32768) (k : Fin 2048) : (V (F := Ideal) m c main_v0 (ix2 (n0 := 32768) (n1 := 2048) i k) : EReal)
    = aH m c (ix3 ⟨i.val / 8192, by omega⟩ ⟨i.val % 8192, by omega⟩ k) := by
  unfold V
  after_reads_at
  rfl

/-- The flattened output of the feed-forward layer. -/
theorem V_f (i : Fin 32768) (k : Fin 2048) : (V (F := Ideal) m c main_v2 (ix2 (n0 := 32768) (n1 := 2048) i k) : EReal)
    = aF m c (ix3 ⟨i.val / 8192, by omega⟩ ⟨i.val % 8192, by omega⟩ k) := by
  unfold V
  after_reads_at
  rfl

/-- The gain before the gate. -/
theorem V_gp (k : Fin 2048) : (V (F := Ideal) m c main_v8 (ix2 (n0 := 1) (n1 := 2048) 0 k) : EReal) = aGp m c (ix2 3 k) := by
  unfold V
  after_reads_at
  rfl

/-- The gate's weight. -/
theorem V_wg (j : S4x2048x2048.Idx) : (V (F := Ideal) m c main_v5 j : EReal) = aWg m c j := by
  unfold V
  after_reads_at
  rfl

/-- The embeddings. -/
theorem V_p (i : Fin 32768) (k : Fin 256) : (V (F := Ideal) m c main_v6 (ix3 (n0 := 4) (n1 := 32768) (n2 := 256) 3 i k) : EReal)
    = aP m c (ix4 3 ⟨i.val / 8192, by omega⟩ ⟨i.val % 8192, by omega⟩ k) := by
  unfold V
  after_reads_at
  rfl

/-- The up weight. -/
theorem V_wu (j : S4x256x2048.Idx) : (V (F := Ideal) m c main_v7 j : EReal) = aWu m c j := by
  unfold V
  after_reads_at
  rfl

/-- The model's last gain. -/
theorem V_gn (k : Fin 2048) : (V (F := Ideal) m c main_v9 (ix2 (n0 := 1) (n1 := 2048) 0 k) : EReal) = aGn m c (ix1 k) := by
  unfold V
  after_reads_at
  rfl

theorem lt_N (t : Fin cfg0.N) : t.val < 128 := lt_of_lt_of_eq t.isLt (show cfg0.N = 128 from N_0)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![3, 0, 0] := (by decide +kernel : ∀ t : Fin grid0.N, _)
theorem ix_4 : ∀ t : Fin cfg0.N, win0_4.index t = ![3, t.val, 0] := (by decide +kernel : ∀ t : Fin grid0.N, _)
theorem ix_5 : ∀ t : Fin cfg0.N, win0_5.index t = ![3, 0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)

/-- The residual stream's block of point `t`: 256 rows. -/
theorem iblk_0 (t : Fin cfg0.N) (r : Fin 256) (k : Fin 2048) :
    iblk m c 0 t (ix2 (n0 := 256) (n1 := 2048) r k)
      = V m c main_v0 (ix2 (n0 := 32768) (n1 := 2048) ⟨256 * t.val + r.val, by have := lt_N t; omega⟩ k) := by
  blk_simp [iblk, ix_0 t]
  refine congrArg (V m c main_v0) (funext fun a => Fin.ext ?_)
  match a with
  | ⟨0, _⟩ => blk_simp [ix_0 t]; all_goals simp; all_goals omega
  | ⟨1, _⟩ => blk_simp [ix_0 t]; all_goals simp

/-- The feed-forward output's block of point `t`: 256 rows. -/
theorem iblk_1 (t : Fin cfg0.N) (r : Fin 256) (k : Fin 2048) :
    iblk m c 1 t (ix2 (n0 := 256) (n1 := 2048) r k)
      = V m c main_v2 (ix2 (n0 := 32768) (n1 := 2048) ⟨256 * t.val + r.val, by have := lt_N t; omega⟩ k) := by
  blk_simp [iblk, ix_1 t]
  refine congrArg (V m c main_v2) (funext fun a => Fin.ext ?_)
  match a with
  | ⟨0, _⟩ => blk_simp [ix_1 t]; all_goals simp; all_goals omega
  | ⟨1, _⟩ => blk_simp [ix_1 t]; all_goals simp

/-- The gain's block: the gain. -/
theorem iblk_2 (t : Fin cfg0.N) (k : Fin 2048) :
    iblk m c 2 t (ix2 (n0 := 1) (n1 := 2048) 0 k) = V m c main_v8 (ix2 (n0 := 1) (n1 := 2048) 0 k) := by
  blk_simp [iblk, ix_2 t]
  refine congrArg (V m c main_v8) (funext fun a => Fin.ext ?_)
  match a with
  | ⟨0, _⟩ => blk_simp [ix_2 t]; all_goals simp
  | ⟨1, _⟩ => blk_simp [ix_2 t]; all_goals simp

/-- The gate weight's block: layer 3. -/
theorem iblk_3 (t : Fin cfg0.N) (k n : Fin 2048) :
    iblk m c 3 t (ix3 (n0 := 1) (n1 := 2048) (n2 := 2048) 0 k n) = V m c main_v5 (ix3 (n0 := 4) (n1 := 2048) (n2 := 2048) 3 k n) := by
  blk_simp [iblk, ix_3 t]
  refine congrArg (V m c main_v5) (funext fun a => Fin.ext ?_)
  match a with
  | ⟨0, _⟩ => blk_simp [ix_3 t]; all_goals simp
  | ⟨1, _⟩ => blk_simp [ix_3 t]; all_goals simp
  | ⟨2, _⟩ => blk_simp [ix_3 t]; all_goals simp

/-- The embeddings' block of point `t`: 256 rows of layer 3. -/
theorem iblk_4 (t : Fin cfg0.N) (r k : Fin 256) :
    iblk m c 4 t (ix3 (n0 := 1) (n1 := 256) (n2 := 256) 0 r k)
      = V m c main_v6 (ix3 (n0 := 4) (n1 := 32768) (n2 := 256) 3 ⟨256 * t.val + r.val, by have := lt_N t; omega⟩ k) := by
  blk_simp [iblk, ix_4 t]
  refine congrArg (V m c main_v6) (funext fun a => Fin.ext ?_)
  match a with
  | ⟨0, _⟩ => blk_simp [ix_4 t]; all_goals simp
  | ⟨1, _⟩ => blk_simp [ix_4 t]; all_goals simp; all_goals omega
  | ⟨2, _⟩ => blk_simp [ix_4 t]; all_goals simp

/-- The up weight's block: layer 3. -/
theorem iblk_5 (t : Fin cfg0.N) (k : Fin 256) (n : Fin 2048) :
    iblk m c 5 t (ix3 (n0 := 1) (n1 := 256) (n2 := 2048) 0 k n) = V m c main_v7 (ix3 (n0 := 4) (n1 := 256) (n2 := 2048) 3 k n) := by
  blk_simp [iblk, ix_5 t]
  refine congrArg (V m c main_v7) (funext fun a => Fin.ext ?_)
  match a with
  | ⟨0, _⟩ => blk_simp [ix_5 t]; all_goals simp
  | ⟨1, _⟩ => blk_simp [ix_5 t]; all_goals simp
  | ⟨2, _⟩ => blk_simp [ix_5 t]; all_goals simp

/-- The last gain's block: the gain. -/
theorem iblk_6 (t : Fin cfg0.N) (k : Fin 2048) :
    iblk m c 6 t (ix2 (n0 := 1) (n1 := 2048) 0 k) = V m c main_v9 (ix2 (n0 := 1) (n1 := 2048) 0 k) := by
  blk_simp [iblk, ix_6 t]
  refine congrArg (V m c main_v9) (funext fun a => Fin.ext ?_)
  match a with
  | ⟨0, _⟩ => blk_simp [ix_6 t]; all_goals simp
  | ⟨1, _⟩ => blk_simp [ix_6 t]; all_goals simp

/-- The block point `t` writes back, at an index. -/
theorem block_apply (t : Fin cfg0.N) (r : Fin 256) (n : Fin 2048) (j : S32768x2048.Idx)
    (h0 : (j 0).val = 256 * t.val + r.val) (h1 : (j 1).val = n.val) :
    (out0_7 (iblk m c 0 t) (iblk m c 1 t) (iblk m c 2 t) (iblk m c 3 t) (iblk m c 4 t) (iblk m c 5 t) (iblk m c 6 t)
      (ix2 (n0 := 256) (n1 := 2048) r n) : EReal)
      = rows (aH m c) (aF m c) (aGp m c) (aWg m c) (aP m c) (aWu m c) (aGn m c) j := by
  rw [out_apply]
  have ht := lt_N t
  have e0 : j 0 = (⟨256 * t.val + r.val, by omega⟩ : Fin 32768) := Fin.ext h0
  have e1 : j 1 = (n : Fin 2048) := Fin.ext h1
  unfold rows
  simp only [e0, e1]
  exact row_congr (fun k => (iblk_0 m c t r k).trans (V_h m c _ k)) (fun k => (iblk_1 m c t r k).trans (V_f m c _ k))
    (fun k => (iblk_2 m c t k).trans (V_gp m c k)) (fun k n => (iblk_3 m c t k n).trans (V_wg m c _))
    (fun k => (iblk_4 m c t r k).trans (V_p m c _ k)) (fun k n => (iblk_5 m c t k n).trans (V_wu m c _))
    (fun k => (iblk_6 m c t k).trans (V_gn m c k)) n

/-- **The kernel's array after the run**, by rows. -/
theorem final : (dats m 0 c).arrAt 7 cfg0.N = rows (aH m c) (aF m c) (aGp m c) (aWg m c) (aP m c) (aWu m c) (aGn m c) := by
  refine (dats m 0 c).arrAt_eq_of_covers 7 _ (by decide +kernel) fun t hf y => ?_
  blk_simp [ix_7 t]
  rw [after0_7]
  have ht := lt_N t
  refine (congrArg _ (eq_ix2 y)).trans (block_apply m c t (y 0) (y 1) _ ?_ ?_)
  · blk_simp [ix_7 t]
    all_goals try simp
    all_goals try omega
  · blk_simp [ix_7 t]
    all_goals try simp
    all_goals try omega

end Kernel

section Reference

open Cert.LastPleRefIdeal Cert.LastPleRefIdeal.Gen

/-- The reference's sum with the gated product, from the stream after the residual and its norm. -/
def rEmbedded (h hn : FVec Ideal S4x8192x2048 .f32) (wg : FVec Ideal S4x2048x2048 .f32) (p : FVec Ideal S4x4x8192x256 .f32)
    (wu : FVec Ideal S4x256x2048 .f32) : FVec Ideal S4x8192x2048 .f32 :=
  addf h (mulf (Host.dotGeneral dot_S4x8192x256_S256x2048_S4x8192x2048_2_0_01_1_n_n none
      (shapeCast S4x8192x256 (extractStridedSlice S1x4x8192x256 ![3, 0, 0, 0] p slices_S4x4x8192x256_S1x4x8192x256_3_0_0_0)
        shapeCasts_S1x4x8192x256_S4x8192x256)
      (shapeCast S256x2048 (extractStridedSlice S1x256x2048 ![3, 0, 0] wu slices_S4x256x2048_S1x256x2048_3_0_0)
        shapeCasts_S1x256x2048_S256x2048))
    (Host.divf (broadcastInDim S4x8192x2048 ![] bcast_S_S4x8192x2048 (constant S_ .f32 0x3F800000#32))
      (addf (broadcastInDim S4x8192x2048 ![] bcast_S_S4x8192x2048 (constant S_ .f32 0x3F800000#32))
        (Host.exp (Host.negf (Host.dotGeneral dot_S4x8192x2048_S2048x2048_S4x8192x2048_2_0_01_1_n_n none hn
          (shapeCast S2048x2048 (extractStridedSlice S1x2048x2048 ![3, 0, 0] wg slices_S4x2048x2048_S1x2048x2048_3_0_0)
            shapeCasts_S1x2048x2048_S2048x2048)))))))

theorem rEmbedded_apply (h hn : FVec Ideal S4x8192x2048 .f32) (wg : FVec Ideal S4x2048x2048 .f32) (p : FVec Ideal S4x4x8192x256 .f32)
    (wu : FVec Ideal S4x256x2048 .f32) (b : Fin 4) (s : Fin 8192) (n : Fin 2048) :
    (rEmbedded h hn wg p wu (ix3 b s n) : EReal)
      = (h (ix3 b s n) : EReal) + (∑ k : Fin 256, (p (ix4 3 b s k) : EReal) * wu (ix3 3 k n))
        * Ideal.div 1 (1 + Ideal.exp (-∑ k : Fin 2048, (hn (ix3 b s k) : EReal) * wg (ix3 3 k n))) := by
  pointwise [rEmbedded]

/-- The reference's result. -/
def rFn (h f : FVec Ideal S4x8192x2048 .f32) (gp : FVec Ideal S4x2048 .f32) (wg : FVec Ideal S4x2048x2048 .f32)
    (p : FVec Ideal S4x4x8192x256 .f32) (wu : FVec Ideal S4x256x2048 .f32) (gn : FVec Ideal S2048 .f32) :
    FVec Ideal S32768x2048 .f32 :=
  shapeCast S32768x2048 (Cert.Norm.host (rEmbedded (addf h f) (Cert.Norm.host (addf h f)
    (shapeCast S2048 (extractStridedSlice S1x2048 ![3, 0] gp slices_S4x2048_S1x2048_3_0) shapeCasts_S1x2048_S2048)) wg p wu) gn)
    shapeCasts_S4x8192x2048_S32768x2048

/-- **The reference's result**, by rows. -/
theorem ref_eq (h f : FVec Ideal S4x8192x2048 .f32) (gp : FVec Ideal S4x2048 .f32) (wg : FVec Ideal S4x2048x2048 .f32)
    (p : FVec Ideal S4x4x8192x256 .f32) (wu : FVec Ideal S4x256x2048 .f32) (gn : FVec Ideal S2048 .f32) :
    rFn h f gp wg p wu gn = rows h f gp wg p wu gn := by
  funext j
  rw [eq_ix2 j]
  unfold rFn rows
  refine (Cert.Norm.flat_apply _ (j 0) (j 1)).trans ((Cert.Norm.host_apply _ _ _ _ _).trans ?_)
  simp only [rEmbedded_apply, Cert.Norm.host_apply, Cert.Norm.gain_apply]
  rfl

/-- The result of the reference's run is `rFn` of the arguments. -/
theorem res_eq (m : (ℓ : Loc nD τ sig) → Buf (Elt Ideal) ℓ) (c : Dev nD) :
    Cert.LastPleRefIdeal.Value.res_out0 m c = rFn (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Reference

end Cert.LastPleProof
-- ==== Proof.FfnDown.lean ====
/-
  The down projection of the dense feed-forward layer: its product is added to the residual stream, and the sum is normed for
  the embedding. The kernel adds the product in four chunks of 1408, in a scratch that the grid points of a row block hand
  on; both its arrays and the reference's results hold, at row `i`, the sum and its norm.
-/
module

public import proofs.«01_k».proof.Proof.Gen.FfnDownIdeal.Value
public import proofs.«01_k».proof.Proof.Gen.FfnDownRefIdeal.Run
public import proofs.«01_k».proof.Proof.Norm
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.FfnDownProof

open Idealize.ShloMosaic Idealize.ShloMosaic.TcCoe Idealize.SL.Sem Cert.Norm

section Kernel

open Cert.FfnDownIdeal Cert.FfnDownIdeal.Gen

/-- The row of batch `b` and position `s` after the projection. -/
def sumRow (u : FVec Ideal S4x8192x5632 .f32) (w : FVec Ideal S2x5632x2048 .f32) (h : FVec Ideal S4x8192x2048 .f32)
    (b : Fin 4) (s : Fin 8192) : Fin 2048 → EReal :=
  added (fun k => h (ix3 b s k)) (fun k : Fin 5632 => u (ix3 b s k)) (fun k n => w (ix3 (n0 := 2) (n1 := 5632) (n2 := 2048) 0 k n))

/-- The stream after the projection. -/
def sums (u : FVec Ideal S4x8192x5632 .f32) (w : FVec Ideal S2x5632x2048 .f32) (h : FVec Ideal S4x8192x2048 .f32) :
    FVec Ideal S32768x2048 .f32 := byRows (sumRow u w h)

/-- Its norm. -/
def norms (u : FVec Ideal S4x8192x5632 .f32) (w : FVec Ideal S2x5632x2048 .f32) (h : FVec Ideal S4x8192x2048 .f32)
    (g : FVec Ideal S4x2048 .f32) : FVec Ideal S32768x2048 .bf16 :=
  byRows fun b s => normed (sumRow u w h b s) fun k => g (ix2 (n0 := 4) (n1 := 2048) 0 k)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a chunk, at a row and a column. -/
def chunk (x0 : Vec Ideal S512x1408 .bf16) (x1 : Vec Ideal S1x1408x2048 .bf16) (r : Fin 512) (n : Fin 2048) : EReal :=
  ∑ k : Fin 1408, (x0 (ix2 r k) : EReal) * x1 (ix3 0 k n)

/-- A chunk is added to what is there: `h` at the first chunk, the scratch afterwards. -/
theorem pay2_apply (x0 : Vec Ideal S512x1408 .bf16) (x1 : Vec Ideal S1x1408x2048 .bf16) (a : Vec Ideal S512x2048 .f32)
    (r : Fin 512) (n : Fin 2048) : (k0_pay2 x0 x1 a (ix2 r n) : EReal) = (a (ix2 r n) : EReal) + chunk x0 x1 r n := by
  pointwise [k0_pay2, k0_pay1]
  rfl

theorem pay3_apply (x0 : Vec Ideal S512x1408 .bf16) (x1 : Vec Ideal S1x1408x2048 .bf16) (a : Vec Ideal S512x2048 .f32)
    (r : Fin 512) (n : Fin 2048) : (k0_pay3 x0 x1 a (ix2 r n) : EReal) = (a (ix2 r n) : EReal) + chunk x0 x1 r n := by
  pointwise [k0_pay3, k0_pay1]
  rfl

theorem pay4_apply (x0 : Vec Ideal S512x1408 .bf16) (x1 : Vec Ideal S1x1408x2048 .bf16) (a : Vec Ideal S512x2048 .f32)
    (r : Fin 512) (n : Fin 2048) : (k0_pay4 x0 x1 a (ix2 r n) : EReal) = (a (ix2 r n) : EReal) + chunk x0 x1 r n := by
  pointwise [k0_pay4, k0_pay1]
  rfl

/-- The norm of the last chunk's sum. -/
theorem pay5_apply (x0 : Vec Ideal S512x1408 .bf16) (x1 : Vec Ideal S1x1408x2048 .bf16) (a : Vec Ideal S512x2048 .f32)
    (x3 : Vec Ideal S1x2048 .f32) (r : Fin 512) (n : Fin 2048) :
    (k0_pay5 x0 x1 a x3 (ix2 r n) : EReal)
      = normed (fun k => (a (ix2 r k) : EReal) + chunk x0 x1 r k) (fun k => x3 (ix2 0 k)) n := by
  pointwise [k0_pay5]
  simp only [pay4_apply]
  rfl

section Body

variable (c : Dev nD) (i : grid0.Coords) (a2 : Memref sig .tc .vmem S512x1408 .bf16) (h2 : a2.IsWhole)
    (a3 : Memref sig .tc .vmem S1x1408x2048 .bf16) (h3 : a3.IsWhole) (a4 : Memref sig .tc .vmem S512x2048 .f32) (h4 : a4.IsWhole)
    (a5 : Memref sig .tc .vmem S1x2048 .f32) (h5 : a5.IsWhole) (a6 : Memref sig .tc .vmem S512x2048 .f32) (h6 : a6.IsWhole)
    (a7 : Memref sig .tc .vmem S512x2048 .bf16) (h7 : a7.IsWhole) (a8 : Memref sig .tc .vmem S512x2048 .f32) (h8 : a8.IsWhole)
    (x0 : Vec Ideal S512x1408 .bf16) (x1 : Vec Ideal S1x1408x2048 .bf16) (x2 : Vec Ideal S512x2048 .f32) (x3 : Vec Ideal S1x2048 .f32)
    (xs : Vec Ideal S512x2048 .f32)

/-- The first point of a row block stores the stream and the first chunk in the scratch. -/
theorem sout_A (hc0 : cond0_0 i) (hc1 : ¬cond0_1 i) (hc2 : ¬cond0_2 i) :
    sout0_A_0 c i a2 h2 a3 h3 a4 h4 a5 h5 a6 h6 a7 h7 a8 h8 hc0 hc1 hc2 x0 x1 x2 x3 = k0_pay2 x0 x1 x2 := by
  unfold sout0_A_0
  rw [View.read_writes_junk_eq_canon]
  unfold kernelRun0_A
  dsimp only
  sl_unfold_words
  rw [View.canon_unit_zero (S := S512x2048) hz2]
  simp only [View.readAt_eq_ld, h2.read_unread, h3.read_unread, h4.read_unread, View.ld_unit_zero (S := S512x1408) hz2,
    View.ld_unit_zero (S := S1x1408x2048) hz3, View.ld_unit_zero (S := S512x2048) hz2]

/-- The next two add their chunk to it. -/
theorem sout_B (hc0 : ¬cond0_0 i) (hc1 : cond0_1 i) (hc2 : ¬cond0_2 i) :
    sout0_B_0 c i a2 h2 a3 h3 a4 h4 a5 h5 a6 h6 a7 h7 a8 h8 hc0 hc1 hc2 x0 x1 x2 x3 xs = k0_pay3 x0 x1 xs := by
  unfold sout0_B_0
  rw [View.read_writes_junk_eq_canon]
  unfold kernelRun0_B
  dsimp only
  sl_unfold_words
  rw [View.canon_unit_zero (S := S512x2048) hz2]
  simp only [View.readAt_eq_ld, h2.read_unread, h3.read_unread, h8.read_unread, View.ld_unit_zero (S := S512x1408) hz2,
    View.ld_unit_zero (S := S1x1408x2048) hz3, View.ld_unit_zero (S := S512x2048) hz2]

/-- The last one stores the sum with its chunk in the first output … -/
theorem out4_C (hc0 : ¬cond0_0 i) (hc1 : ¬cond0_1 i) (hc2 : cond0_2 i) :
    out0_C_4 c i a2 h2 a3 h3 a4 h4 a5 h5 a6 h6 a7 h7 a8 h8 hc0 hc1 hc2 x0 x1 x2 x3 xs = k0_pay4 x0 x1 xs := by
  unfold out0_C_4
  rw [View.read_writes_junk_eq_canon]
  unfold kernelRun0_C
  dsimp only
  sl_unfold_words
  rw [View.canon_unit_zero (S := S512x2048) hz2]
  simp only [View.readAt_eq_ld, h2.read_unread, h3.read_unread, h8.read_unread, View.ld_unit_zero (S := S512x1408) hz2,
    View.ld_unit_zero (S := S1x1408x2048) hz3, View.ld_unit_zero (S := S512x2048) hz2]

/-- … and its norm in the second. -/
theorem out5_C (hc0 : ¬cond0_0 i) (hc1 : ¬cond0_1 i) (hc2 : cond0_2 i) :
    out0_C_5 c i a2 h2 a3 h3 a4 h4 a5 h5 a6 h6 a7 h7 a8 h8 hc0 hc1 hc2 x0 x1 x2 x3 xs = k0_pay5 x0 x1 xs x3 := by
  unfold out0_C_5
  rw [View.read_writes_junk_eq_canon]
  unfold kernelRun0_C
  dsimp only
  sl_unfold_words
  rw [View.canon_unit_zero (S := S512x2048) hz2]
  simp only [View.readAt_eq_ld, h2.read_unread, h3.read_unread, h5.read_unread, h8.read_unread,
    View.ld_unit_zero (S := S512x1408) hz2, View.ld_unit_zero (S := S1x1408x2048) hz3, View.ld_unit_zero (S := S512x2048) hz2,
    View.ld_unit_zero (S := S1x2048) hz2]

end Body

variable (m : (ℓ : Loc nD τ sig) → Buf (Elt Ideal) ℓ) (c : Dev nD)

/-- The argument arrays on device `c`. -/
def aU : FVec Ideal S4x8192x5632 .f32 := m ((c : Thread nD τ).loc main_arg0)
def aW : FVec Ideal S2x5632x2048 .f32 := m ((c : Thread nD τ).loc main_arg1)
def aH : FVec Ideal S4x8192x2048 .f32 := m ((c : Thread nD τ).loc main_arg2)
def aG : FVec Ideal S4x2048 .f32 := m ((c : Thread nD τ).loc main_arg3)

/-- The flattened activations. -/
theorem V_u (i : Fin 32768) (k : Fin 5632) : (V (F := Ideal) m c main_v1 (ix2 (n0 := 32768) (n1 := 5632) i k) : EReal)
    = aU m c (ix3 ⟨i.val / 8192, by omega⟩ ⟨i.val % 8192, by omega⟩ k) := by
  unfold V
  after_reads_at
  rfl

/-- The weight. -/
theorem V_w (j : S2x5632x2048.Idx) : (V (F := Ideal) m c main_v2 j : EReal) = aW m c j := by
  unfold V
  after_reads_at
  rfl

/-- The flattened residual stream. -/
theorem V_h (i : Fin 32768) (k : Fin 2048) : (V (F := Ideal) m c main_v3 (ix2 (n0 := 32768) (n1 := 2048) i k) : EReal)
    = aH m c (ix3 ⟨i.val / 8192, by omega⟩ ⟨i.val % 8192, by omega⟩ k) := by
  unfold V
  after_reads_at
  rfl

/-- The gain. -/
theorem V_g (k : Fin 2048) : (V (F := Ideal) m c main_v6 (ix2 (n0 := 1) (n1 := 2048) 0 k) : EReal) = aG m c (ix2 0 k) := by
  unfold V
  after_reads_at
  rfl

theorem lt_N (t : Fin cfg0.N) : t.val < 256 := lt_of_lt_of_eq t.isLt (show cfg0.N = 256 from N_0)

theorem ix_0 : ∀ t : Fin cfg0.N, win0_0.index t = ![t.val / 4, t.val % 4] := (by decide +kernel : ∀ t : Fin grid0.N, _)
theorem ix_1 : ∀ t : Fin cfg0.N, win0_1.index t = ![0, t.val % 4, 0] := (by decide +kernel : ∀ t : Fin grid0.N, _)
theorem ix_2 : ∀ t : Fin cfg0.N, win0_2.index t = ![t.val / 4, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val / 4, 0] := (by decide +kernel : ∀ t : Fin grid0.N, _)
theorem ix_5 : ∀ t : Fin cfg0.N, win0_5.index t = ![t.val / 4, 0] := (by decide +kernel : ∀ t : Fin grid0.N, _)
theorem flush_4 : ∀ t : Fin cfg0.N, (cfg0.win 4).flush t = true → t.val % 4 = 3 := (by decide +kernel : ∀ t : Fin grid0.N, _)
theorem flush_5 : ∀ t : Fin cfg0.N, (cfg0.win 5).flush t = true → t.val % 4 = 3 := (by decide +kernel : ∀ t : Fin grid0.N, _)

/-- The activations' block of point `t`: 512 rows of chunk `t % 4`. -/
theorem iblk_0 (t : Fin cfg0.N) (r : Fin 512) (k : Fin 1408) :
    iblk m c 0 t (ix2 (n0 := 512) (n1 := 1408) r k)
      = V m c main_v1 (ix2 (n0 := 32768) (n1 := 5632) ⟨512 * (t.val / 4) + r.val, by have := lt_N t; omega⟩
        ⟨1408 * (t.val % 4) + k.val, by omega⟩) := by
  blk_simp [iblk, ix_0 t]
  refine congrArg (V m c main_v1) (funext fun a => Fin.ext ?_)
  match a with
  | ⟨0, _⟩ => blk_simp [ix_0 t]; all_goals simp; all_goals omega
  | ⟨1, _⟩ => blk_simp [ix_0 t]; all_goals simp; all_goals omega

/-- The weight's block: chunk `t % 4` of the layer's weight. -/
theorem iblk_1 (t : Fin cfg0.N) (k : Fin 1408) (n : Fin 2048) :
    iblk m c 1 t (ix3 (n0 := 1) (n1 := 1408) (n2 := 2048) 0 k n)
      = V m c main_v2 (ix3 (n0 := 2) (n1 := 5632) (n2 := 2048) 0 ⟨1408 * (t.val % 4) + k.val, by omega⟩ n) := by
  blk_simp [iblk, ix_1 t]
  refine congrArg (V m c main_v2) (funext fun a => Fin.ext ?_)
  match a with
  | ⟨0, _⟩ => blk_simp [ix_1 t]; all_goals simp
  | ⟨1, _⟩ => blk_simp [ix_1 t]; all_goals simp; all_goals omega
  | ⟨2, _⟩ => blk_simp [ix_1 t]; all_goals simp

/-- The residual stream's block of point `t`: 512 rows. -/
theorem iblk_2 (t : Fin cfg0.N) (r : Fin 512) (k : Fin 2048) :
    iblk m c 2 t (ix2 (n0 := 512) (n1 := 2048) r k)
      = V m c main_v3 (ix2 (n0 := 32768) (n1 := 2048) ⟨512 * (t.val / 4) + r.val, by have := lt_N t; omega⟩ k) := by
  blk_simp [iblk, ix_2 t]
  refine congrArg (V m c main_v3) (funext fun a => Fin.ext ?_)
  match a with
  | ⟨0, _⟩ => blk_simp [ix_2 t]; all_goals simp; all_goals omega
  | ⟨1, _⟩ => blk_simp [ix_2 t]; all_goals simp

/-- The gain's block: the gain. -/
theorem iblk_3 (t : Fin cfg0.N) (k : Fin 2048) :
    iblk m c 3 t (ix2 (n0 := 1) (n1 := 2048) 0 k) = V m c main_v6 (ix2 (n0 := 1) (n1 := 2048) 0 k) := by
  blk_simp [iblk, ix_3 t]
  refine congrArg (V m c main_v6) (funext fun a => Fin.ext ?_)
  match a with
  | ⟨0, _⟩ => blk_simp [ix_3 t]; all_goals simp
  | ⟨1, _⟩ => blk_simp [ix_3 t]; all_goals simp

/-- The scratch after a point, at a row and a column. -/
def kept (n : ℕ) (hn : n < cfg0.N) (r : Fin 512) (k : Fin 2048) : EReal := (outsAt0 m c n hn).2.2 (ix2 (n0 := 512) (n1 := 2048) r k)

/-- The residual stream's block at a row and a column. -/
def stream (t : Fin cfg0.N) (r : Fin 512) (k : Fin 2048) : EReal := iblk m c 2 t (ix2 (n0 := 512) (n1 := 2048) r k)

theorem kept_first (n : ℕ) (hn : n < cfg0.N) (h : n % 4 = 0) (r : Fin 512) (k : Fin 2048) :
    kept m c n hn r k = stream m c ⟨n, hn⟩ r k
      + chunk (iblk m c 0 ⟨n, hn⟩) (iblk m c 1 ⟨n, hn⟩) r k := by
  unfold kept
  rw [outsAt0_A m c ⟨n, hn⟩ h (by change ¬(1 ≤ n % 4 ∧ n % 4 ≤ 2); omega) (by change ¬n % 4 = 3; omega)]
  dsimp only
  rw [sout_A, pay2_apply]
  rfl

theorem kept_next (n : ℕ) (hn : n + 1 < cfg0.N) (h : 1 ≤ (n + 1) % 4 ∧ (n + 1) % 4 ≤ 2) (r : Fin 512) (k : Fin 2048) :
    kept m c (n + 1) hn r k = kept m c n (Nat.lt_of_succ_lt hn) r k
      + chunk (iblk m c 0 ⟨n + 1, hn⟩) (iblk m c 1 ⟨n + 1, hn⟩) r k := by
  unfold kept
  rw [outsAt0_B m c ⟨n + 1, hn⟩ (by change ¬(n + 1) % 4 = 0; omega) h (by change ¬(n + 1) % 4 = 3; omega)]
  dsimp only
  rw [sout_B, pay3_apply]
  rfl

/-- The four chunks of a row block: what the last point adds up is the whole row. -/
theorem total (q : ℕ) (hq : 4 * q + 3 < cfg0.N) (r : Fin 512) (n : Fin 2048) :
    kept m c (4 * q + 2) (Nat.lt_of_succ_lt hq) r n + chunk (iblk m c 0 ⟨4 * q + 3, hq⟩) (iblk m c 1 ⟨4 * q + 3, hq⟩) r n
      = sumRow (aU m c) (aW m c) (aH m c) ⟨(512 * q + r.val) / 8192, by have := lt_N ⟨_, hq⟩; dsimp only at this; omega⟩
        ⟨(512 * q + r.val) % 8192, by omega⟩ n := by
  have hN := lt_N ⟨_, hq⟩
  dsimp only at hN
  rw [kept_next m c (4 * q + 1) (by omega) (by omega), kept_next m c (4 * q) (by omega) (by omega), kept_first m c (4 * q) (by omega) (by omega)]
  have hp : ∀ (p : Fin 4) (h : 4 * q + p.val < cfg0.N), chunk (iblk m c 0 ⟨4 * q + p.val, h⟩) (iblk m c 1 ⟨4 * q + p.val, h⟩) r n
      = ∑ x : Fin 1408, (aU m c (ix3 (n0 := 4) (n1 := 8192) (n2 := 5632) ⟨(512 * q + r.val) / 8192, by omega⟩ ⟨(512 * q + r.val) % 8192, by omega⟩
          ⟨1408 * p.val + x.val, by omega⟩) : EReal)
        * aW m c (ix3 (n0 := 2) (n1 := 5632) (n2 := 2048) 0 ⟨1408 * p.val + x.val, by omega⟩ n) := by
    intro p h
    unfold chunk
    refine Finset.sum_congr rfl fun x _ => congrArg₂ (· * ·) ?_ ?_
    · refine (iblk_0 m c _ r x).trans ((V_u m c _ _).trans (congrArg (aU m c) ?_))
      have e : (4 * q + p.val) / 4 = q := by omega
      have e' : (4 * q + p.val) % 4 = p.val := by omega
      simp only [e, e']
    · refine (iblk_1 m c _ x n).trans ((V_w m c _).trans (congrArg (aW m c) ?_))
      have e' : (4 * q + p.val) % 4 = p.val := by omega
      simp only [e']
  have hh : stream m c ⟨4 * q, by omega⟩ r n
      = aH m c (ix3 (n0 := 4) (n1 := 8192) (n2 := 2048) ⟨(512 * q + r.val) / 8192, by omega⟩ ⟨(512 * q + r.val) % 8192, by omega⟩ n) := by
    refine (iblk_2 m c _ r n).trans ((V_h m c _ _).trans (congrArg (aH m c) ?_))
    have e : 4 * q / 4 = q := by omega
    simp only [e]
  rw [hh]
  exact added_quarters (K := 5632) (T := 1408) rfl
    (fun k => aH m c (ix3 (n0 := 4) (n1 := 8192) (n2 := 2048) ⟨(512 * q + r.val) / 8192, by omega⟩ ⟨(512 * q + r.val) % 8192, by omega⟩ k))
    (fun k => aU m c (ix3 (n0 := 4) (n1 := 8192) (n2 := 5632) ⟨(512 * q + r.val) / 8192, by omega⟩ ⟨(512 * q + r.val) % 8192, by omega⟩ k))
    (fun k n => aW m c (ix3 (n0 := 2) (n1 := 5632) (n2 := 2048) 0 k n))
    (fun p => chunk (iblk m c 0 ⟨4 * q + p.val, by omega⟩) (iblk m c 1 ⟨4 * q + p.val, by omega⟩) r n) n fun p => hp p _

/-- What the last point of a row block writes back of the sum. -/
theorem last4 (t : Fin cfg0.N) (h : t.val % 4 = 3) (r : Fin 512) (n : Fin 2048) :
    ((outsAt0 m c t.val t.isLt).1 (ix2 (n0 := 512) (n1 := 2048) r n) : EReal)
      = sumRow (aU m c) (aW m c) (aH m c) ⟨(512 * (t.val / 4) + r.val) / 8192, by have := lt_N t; omega⟩
        ⟨(512 * (t.val / 4) + r.val) % 8192, by omega⟩ n := by
  obtain ⟨p, hp⟩ := t
  dsimp only at h
  obtain ⟨q, rfl⟩ : ∃ q, p = 4 * q + 3 := ⟨p / 4, by omega⟩
  rw [outsAt0_C m c ⟨4 * q + 3, hp⟩ (by change ¬(4 * q + 3) % 4 = 0; omega) (by change ¬(1 ≤ (4 * q + 3) % 4 ∧ (4 * q + 3) % 4 ≤ 2); omega) h]
  dsimp only
  rw [out4_C, pay4_apply]
  refine (total m c q _ r n).trans ?_
  have e : (4 * q + 3) / 4 = q := by omega
  simp only [e]

/-- What it writes back of the norm. -/
theorem last5 (t : Fin cfg0.N) (h : t.val % 4 = 3) (r : Fin 512) (n : Fin 2048) :
    ((outsAt0 m c t.val t.isLt).2.1 (ix2 (n0 := 512) (n1 := 2048) r n) : EReal)
      = normed (sumRow (aU m c) (aW m c) (aH m c) ⟨(512 * (t.val / 4) + r.val) / 8192, by have := lt_N t; omega⟩
        ⟨(512 * (t.val / 4) + r.val) % 8192, by omega⟩) (fun k => aG m c (ix2 (n0 := 4) (n1 := 2048) 0 k)) n := by
  obtain ⟨p, hp⟩ := t
  dsimp only at h
  obtain ⟨q, rfl⟩ : ∃ q, p = 4 * q + 3 := ⟨p / 4, by omega⟩
  rw [outsAt0_C m c ⟨4 * q + 3, hp⟩ (by change ¬(4 * q + 3) % 4 = 0; omega) (by change ¬(1 ≤ (4 * q + 3) % 4 ∧ (4 * q + 3) % 4 ≤ 2); omega) h]
  dsimp only
  rw [out5_C, pay5_apply]
  refine congrFun (congrArg₂ normed (funext fun k => (total m c q _ r k).trans ?_) (funext fun k => (iblk_3 m c _ k).trans (V_g m c k))) n
  have e : (4 * q + 3) / 4 = q := by omega
  simp only [e]

/-- **The kernel's sums after the run**, by rows. -/
theorem final4 : (dats m 0 c).arrAt 4 cfg0.N = sums (aU m c) (aW m c) (aH m c) := by
  refine (dats m 0 c).arrAt_eq_of_covers 4 _ (by decide +kernel) fun t hf y => ?_
  blk_simp [ix_4 t]
  rw [after0_4]
  have ht := lt_N t
  have hy : (y 0).val < 512 := (y 0).isLt
  refine (congrArg _ (eq_ix2 y)).trans ((last4 m c t (flush_4 t hf) (y 0) (y 1)).trans ?_)
  unfold sums byRows
  refine congrArg₂ (x := (⟨512 * (t.val / 4) + (y 0).val, by omega⟩ : Fin 32768)) (fun (i : Fin 32768) n =>
    sumRow (aU m c) (aW m c) (aH m c) ⟨i.val / 8192, by omega⟩ ⟨i.val % 8192, by omega⟩ n) (Fin.ext ?_) (Fin.ext ?_)
  · blk_simp [ix_4 t]
    all_goals try simp
    all_goals try omega
  · blk_simp [ix_4 t]
    all_goals try simp
    all_goals try omega

/-- **The kernel's norms after the run**, by rows. -/
theorem final5 : (dats m 0 c).arrAt 5 cfg0.N = norms (aU m c) (aW m c) (aH m c) (aG m c) := by
  refine (dats m 0 c).arrAt_eq_of_covers 5 _ (by decide +kernel) fun t hf y => ?_
  blk_simp [ix_5 t]
  rw [after0_5]
  have ht := lt_N t
  have hy : (y 0).val < 512 := (y 0).isLt
  refine (congrArg _ (eq_ix2 y)).trans ((last5 m c t (flush_5 t hf) (y 0) (y 1)).trans ?_)
  unfold norms byRows
  refine congrArg₂ (x := (⟨512 * (t.val / 4) + (y 0).val, by omega⟩ : Fin 32768)) (fun (i : Fin 32768) n =>
    normed (sumRow (aU m c) (aW m c) (aH m c) ⟨i.val / 8192, by omega⟩ ⟨i.val % 8192, by omega⟩)
    (fun k => aG m c (ix2 (n0 := 4) (n1 := 2048) 0 k)) n) (Fin.ext ?_) (Fin.ext ?_)
  · blk_simp [ix_5 t]
    all_goals try simp
    all_goals try omega
  · blk_simp [ix_5 t]
    all_goals try simp
    all_goals try omega

end Kernel

section Reference

open Cert.FfnDownRefIdeal Cert.FfnDownRefIdeal.Gen

/-- The reference's stream after the projection. -/
def rSum (u : FVec Ideal S4x8192x5632 .f32) (w : FVec Ideal S2x5632x2048 .f32) (h : FVec Ideal S4x8192x2048 .f32) :
    FVec Ideal S4x8192x2048 .f32 :=
  addf h (Host.dotGeneral dot_S4x8192x5632_S5632x2048_S4x8192x2048_2_0_01_1_n_n none u
    (shapeCast S5632x2048 (extractStridedSlice S1x5632x2048 ![0, 0, 0] w slices_S2x5632x2048_S1x5632x2048_0_0_0)
      shapeCasts_S1x5632x2048_S5632x2048))

theorem rSum_apply (u : FVec Ideal S4x8192x5632 .f32) (w : FVec Ideal S2x5632x2048 .f32) (h : FVec Ideal S4x8192x2048 .f32)
    (b : Fin 4) (s : Fin 8192) (n : Fin 2048) : (rSum u w h (ix3 b s n) : EReal) = sumRow u w h b s n := by
  pointwise [rSum]
  rfl

/-- The gain of the layer. -/
theorem gain_apply (g : FVec Ideal S4x2048 .f32) (k : Fin 2048) :
    (shapeCast S2048 (extractStridedSlice S1x2048 ![0, 0] g slices_S4x2048_S1x2048_0_0) shapeCasts_S1x2048_S2048 (ix1 k) : EReal)
      = g (ix2 (n0 := 4) (n1 := 2048) 0 k) := by
  pointwise

/-- The reference's norm. -/
def rNorm (u : FVec Ideal S4x8192x5632 .f32) (w : FVec Ideal S2x5632x2048 .f32) (h : FVec Ideal S4x8192x2048 .f32)
    (g : FVec Ideal S4x2048 .f32) : FVec Ideal S4x8192x2048 .f32 :=
  host (rSum u w h) (shapeCast S2048 (extractStridedSlice S1x2048 ![0, 0] g slices_S4x2048_S1x2048_0_0) shapeCasts_S1x2048_S2048)

/-- **The reference's sums**, by rows. -/
theorem ref4_eq (u : FVec Ideal S4x8192x5632 .f32) (w : FVec Ideal S2x5632x2048 .f32) (h : FVec Ideal S4x8192x2048 .f32) :
    (shapeCast S32768x2048 (rSum u w h) shapeCasts_S4x8192x2048_S32768x2048 : FVec Ideal S32768x2048 .f32) = sums u w h :=
  flat_eq _ _ (rSum_apply u w h)

/-- **The reference's norms**, by rows. -/
theorem ref5_eq (u : FVec Ideal S4x8192x5632 .f32) (w : FVec Ideal S2x5632x2048 .f32) (h : FVec Ideal S4x8192x2048 .f32)
    (g : FVec Ideal S4x2048 .f32) :
    (truncf .bf16 (shapeCast S32768x2048 (rNorm u w h g) shapeCasts_S4x8192x2048_S32768x2048) bitsLt_bf16_f32
      : FVec Ideal S32768x2048 .bf16) = norms u w h g :=
  flat_host_eq _ _ _ _ (rSum_apply u w h) (gain_apply g) _

end Reference

end Cert.FfnDownProof
-- ==== Proof.RetOut.lean ====
/-
  The output projection of a retention layer: its product is added to the residual stream, and the sum is normed for the
  feed-forward layer. The kernel adds the product in four chunks of 1024, in a scratch that the grid points of a row block
  hand on; both its arrays and the reference's results hold, at row `i`, the sum and its norm.
-/
module

public import proofs.«01_k».proof.Proof.Gen.RetOutIdeal.Value
public import proofs.«01_k».proof.Proof.Gen.RetOutRefIdeal.Run
public import proofs.«01_k».proof.Proof.Norm
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.RetOutProof

open Idealize.ShloMosaic Idealize.ShloMosaic.TcCoe Idealize.SL.Sem Cert.Norm

section Kernel

open Cert.RetOutIdeal Cert.RetOutIdeal.Gen

/-- The row of batch `b` and position `s` after the projection. -/
def sumRow (o : FVec Ideal S4x8192x4096 .f32) (w : FVec Ideal S2x4096x2048 .f32) (h : FVec Ideal S4x8192x2048 .f32)
    (b : Fin 4) (s : Fin 8192) : Fin 2048 → EReal :=
  added (fun k => h (ix3 b s k)) (fun k : Fin 4096 => o (ix3 b s k)) (fun k n => w (ix3 (n0 := 2) (n1 := 4096) (n2 := 2048) 0 k n))

/-- The stream after the projection. -/
def sums (o : FVec Ideal S4x8192x4096 .f32) (w : FVec Ideal S2x4096x2048 .f32) (h : FVec Ideal S4x8192x2048 .f32) :
    FVec Ideal S32768x2048 .f32 := byRows (sumRow o w h)

/-- Its norm. -/
def norms (o : FVec Ideal S4x8192x4096 .f32) (w : FVec Ideal S2x4096x2048 .f32) (h : FVec Ideal S4x8192x2048 .f32)
    (g : FVec Ideal S4x2048 .f32) : FVec Ideal S32768x2048 .bf16 :=
  byRows fun b s => normed (sumRow o w h b s) fun k => g (ix2 (n0 := 4) (n1 := 2048) 0 k)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a chunk, at a row and a column. -/
def chunk (x0 : Vec Ideal S512x1024 .bf16) (x1 : Vec Ideal S1x1024x2048 .bf16) (r : Fin 512) (n : Fin 2048) : EReal :=
  ∑ k : Fin 1024, (x0 (ix2 r k) : EReal) * x1 (ix3 0 k n)

/-- A chunk is added to what is there: `h` at the first chunk, the scratch afterwards. -/
theorem pay2_apply (x0 : Vec Ideal S512x1024 .bf16) (x1 : Vec Ideal S1x1024x2048 .bf16) (a : Vec Ideal S512x2048 .f32)
    (r : Fin 512) (n : Fin 2048) : (k0_pay2 x0 x1 a (ix2 r n) : EReal) = (a (ix2 r n) : EReal) + chunk x0 x1 r n := by
  pointwise [k0_pay2, k0_pay1]
  rfl

theorem pay3_apply (x0 : Vec Ideal S512x1024 .bf16) (x1 : Vec Ideal S1x1024x2048 .bf16) (a : Vec Ideal S512x2048 .f32)
    (r : Fin 512) (n : Fin 2048) : (k0_pay3 x0 x1 a (ix2 r n) : EReal) = (a (ix2 r n) : EReal) + chunk x0 x1 r n := by
  pointwise [k0_pay3, k0_pay1]
  rfl

theorem pay4_apply (x0 : Vec Ideal S512x1024 .bf16) (x1 : Vec Ideal S1x1024x2048 .bf16) (a : Vec Ideal S512x2048 .f32)
    (r : Fin 512) (n : Fin 2048) : (k0_pay4 x0 x1 a (ix2 r n) : EReal) = (a (ix2 r n) : EReal) + chunk x0 x1 r n := by
  pointwise [k0_pay4, k0_pay1]
  rfl

/-- The norm of the last chunk's sum. -/
theorem pay5_apply (x0 : Vec Ideal S512x1024 .bf16) (x1 : Vec Ideal S1x1024x2048 .bf16) (a : Vec Ideal S512x2048 .f32)
    (x3 : Vec Ideal S1x2048 .f32) (r : Fin 512) (n : Fin 2048) :
    (k0_pay5 x0 x1 a x3 (ix2 r n) : EReal)
      = normed (fun k => (a (ix2 r k) : EReal) + chunk x0 x1 r k) (fun k => x3 (ix2 0 k)) n := by
  pointwise [k0_pay5]
  simp only [pay4_apply]
  rfl

section Body

variable (c : Dev nD) (i : grid0.Coords) (a2 : Memref sig .tc .vmem S512x1024 .bf16) (h2 : a2.IsWhole)
    (a3 : Memref sig .tc .vmem S1x1024x2048 .bf16) (h3 : a3.IsWhole) (a4 : Memref sig .tc .vmem S512x2048 .f32) (h4 : a4.IsWhole)
    (a5 : Memref sig .tc .vmem S1x2048 .f32) (h5 : a5.IsWhole) (a6 : Memref sig .tc .vmem S512x2048 .f32) (h6 : a6.IsWhole)
    (a7 : Memref sig .tc .vmem S512x2048 .bf16) (h7 : a7.IsWhole) (a8 : Memref sig .tc .vmem S512x2048 .f32) (h8 : a8.IsWhole)
    (x0 : Vec Ideal S512x1024 .bf16) (x1 : Vec Ideal S1x1024x2048 .bf16) (x2 : Vec Ideal S512x2048 .f32) (x3 : Vec Ideal S1x2048 .f32)
    (xs : Vec Ideal S512x2048 .f32)

/-- The first point of a row block stores the stream and the first chunk in the scratch. -/
theorem sout_A (hc0 : cond0_0 i) (hc1 : ¬cond0_1 i) (hc2 : ¬cond0_2 i) :
    sout0_A_0 c i a2 h2 a3 h3 a4 h4 a5 h5 a6 h6 a7 h7 a8 h8 hc0 hc1 hc2 x0 x1 x2 x3 = k0_pay2 x0 x1 x2 := by
  unfold sout0_A_0
  rw [View.read_writes_junk_eq_canon]
  unfold kernelRun0_A
  dsimp only
  sl_unfold_words
  rw [View.canon_unit_zero (S := S512x2048) hz2]
  simp only [View.readAt_eq_ld, h2.read_unread, h3.read_unread, h4.read_unread, View.ld_unit_zero (S := S512x1024) hz2,
    View.ld_unit_zero (S := S1x1024x2048) hz3, View.ld_unit_zero (S := S512x2048) hz2]

/-- The next two add their chunk to it. -/
theorem sout_B (hc0 : ¬cond0_0 i) (hc1 : cond0_1 i) (hc2 : ¬cond0_2 i) :
    sout0_B_0 c i a2 h2 a3 h3 a4 h4 a5 h5 a6 h6 a7 h7 a8 h8 hc0 hc1 hc2 x0 x1 x2 x3 xs = k0_pay3 x0 x1 xs := by
  unfold sout0_B_0
  rw [View.read_writes_junk_eq_canon]
  unfold kernelRun0_B
  dsimp only
  sl_unfold_words
  rw [View.canon_unit_zero (S := S512x2048) hz2]
  simp only [View.readAt_eq_ld, h2.read_unread, h3.read_unread, h8.read_unread, View.ld_unit_zero (S := S512x1024) hz2,
    View.ld_unit_zero (S := S1x1024x2048) hz3, View.ld_unit_zero (S := S512x2048) hz2]

/-- The last one stores the sum with its chunk in the first output … -/
theorem out4_C (hc0 : ¬cond0_0 i) (hc1 : ¬cond0_1 i) (hc2 : cond0_2 i) :
    out0_C_4 c i a2 h2 a3 h3 a4 h4 a5 h5 a6 h6 a7 h7 a8 h8 hc0 hc1 hc2 x0 x1 x2 x3 xs = k0_pay4 x0 x1 xs := by
  unfold out0_C_4
  rw [View.read_writes_junk_eq_canon]
  unfold kernelRun0_C
  dsimp only
  sl_unfold_words
  rw [View.canon_unit_zero (S := S512x2048) hz2]
  simp only [View.readAt_eq_ld, h2.read_unread, h3.read_unread, h8.read_unread, View.ld_unit_zero (S := S512x1024) hz2,
    View.ld_unit_zero (S := S1x1024x2048) hz3, View.ld_unit_zero (S := S512x2048) hz2]

/-- … and its norm in the second. -/
theorem out5_C (hc0 : ¬cond0_0 i) (hc1 : ¬cond0_1 i) (hc2 : cond0_2 i) :
    out0_C_5 c i a2 h2 a3 h3 a4 h4 a5 h5 a6 h6 a7 h7 a8 h8 hc0 hc1 hc2 x0 x1 x2 x3 xs = k0_pay5 x0 x1 xs x3 := by
  unfold out0_C_5
  rw [View.read_writes_junk_eq_canon]
  unfold kernelRun0_C
  dsimp only
  sl_unfold_words
  rw [View.canon_unit_zero (S := S512x2048) hz2]
  simp only [View.readAt_eq_ld, h2.read_unread, h3.read_unread, h5.read_unread, h8.read_unread,
    View.ld_unit_zero (S := S512x1024) hz2, View.ld_unit_zero (S := S1x1024x2048) hz3, View.ld_unit_zero (S := S512x2048) hz2,
    View.ld_unit_zero (S := S1x2048) hz2]

end Body

variable (m : (ℓ : Loc nD τ sig) → Buf (Elt Ideal) ℓ) (c : Dev nD)

/-- The argument arrays on device `c`. -/
def aO : FVec Ideal S4x8192x4096 .f32 := m ((c : Thread nD τ).loc main_arg0)
def aW : FVec Ideal S2x4096x2048 .f32 := m ((c : Thread nD τ).loc main_arg1)
def aH : FVec Ideal S4x8192x2048 .f32 := m ((c : Thread nD τ).loc main_arg2)
def aG : FVec Ideal S4x2048 .f32 := m ((c : Thread nD τ).loc main_arg3)

/-- The flattened retention. -/
theorem V_o (i : Fin 32768) (k : Fin 4096) : (V (F := Ideal) m c main_v1 (ix2 (n0 := 32768) (n1 := 4096) i k) : EReal)
    = aO m c (ix3 ⟨i.val / 8192, by omega⟩ ⟨i.val % 8192, by omega⟩ k) := by
  unfold V
  after_reads_at
  rfl

/-- The weight. -/
theorem V_w (j : S2x4096x2048.Idx) : (V (F := Ideal) m c main_v2 j : EReal) = aW m c j := by
  unfold V
  after_reads_at
  rfl

/-- The flattened residual stream. -/
theorem V_h (i : Fin 32768) (k : Fin 2048) : (V (F := Ideal) m c main_v3 (ix2 (n0 := 32768) (n1 := 2048) i k) : EReal)
    = aH m c (ix3 ⟨i.val / 8192, by omega⟩ ⟨i.val % 8192, by omega⟩ k) := by
  unfold V
  after_reads_at
  rfl

/-- The gain. -/
theorem V_g (k : Fin 2048) : (V (F := Ideal) m c main_v6 (ix2 (n0 := 1) (n1 := 2048) 0 k) : EReal) = aG m c (ix2 0 k) := by
  unfold V
  after_reads_at
  rfl

theorem lt_N (t : Fin cfg0.N) : t.val < 256 := lt_of_lt_of_eq t.isLt (show cfg0.N = 256 from N_0)

theorem ix_0 : ∀ t : Fin cfg0.N, win0_0.index t = ![t.val / 4, t.val % 4] := (by decide +kernel : ∀ t : Fin grid0.N, _)
theorem ix_1 : ∀ t : Fin cfg0.N, win0_1.index t = ![0, t.val % 4, 0] := (by decide +kernel : ∀ t : Fin grid0.N, _)
theorem ix_2 : ∀ t : Fin cfg0.N, win0_2.index t = ![t.val / 4, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val / 4, 0] := (by decide +kernel : ∀ t : Fin grid0.N, _)
theorem ix_5 : ∀ t : Fin cfg0.N, win0_5.index t = ![t.val / 4, 0] := (by decide +kernel : ∀ t : Fin grid0.N, _)
theorem flush_4 : ∀ t : Fin cfg0.N, (cfg0.win 4).flush t = true → t.val % 4 = 3 := (by decide +kernel : ∀ t : Fin grid0.N, _)
theorem flush_5 : ∀ t : Fin cfg0.N, (cfg0.win 5).flush t = true → t.val % 4 = 3 := (by decide +kernel : ∀ t : Fin grid0.N, _)

/-- The retention's block of point `t`: 512 rows of chunk `t % 4`. -/
theorem iblk_0 (t : Fin cfg0.N) (r : Fin 512) (k : Fin 1024) :
    iblk m c 0 t (ix2 (n0 := 512) (n1 := 1024) r k)
      = V m c main_v1 (ix2 (n0 := 32768) (n1 := 4096) ⟨512 * (t.val / 4) + r.val, by have := lt_N t; omega⟩
        ⟨1024 * (t.val % 4) + k.val, by omega⟩) := by
  blk_simp [iblk, ix_0 t]
  refine congrArg (V m c main_v1) (funext fun a => Fin.ext ?_)
  match a with
  | ⟨0, _⟩ => blk_simp [ix_0 t]; all_goals simp; all_goals omega
  | ⟨1, _⟩ => blk_simp [ix_0 t]; all_goals simp; all_goals omega

/-- The weight's block: chunk `t % 4` of the layer's weight. -/
theorem iblk_1 (t : Fin cfg0.N) (k : Fin 1024) (n : Fin 2048) :
    iblk m c 1 t (ix3 (n0 := 1) (n1 := 1024) (n2 := 2048) 0 k n)
      = V m c main_v2 (ix3 (n0 := 2) (n1 := 4096) (n2 := 2048) 0 ⟨1024 * (t.val % 4) + k.val, by omega⟩ n) := by
  blk_simp [iblk, ix_1 t]
  refine congrArg (V m c main_v2) (funext fun a => Fin.ext ?_)
  match a with
  | ⟨0, _⟩ => blk_simp [ix_1 t]; all_goals simp
  | ⟨1, _⟩ => blk_simp [ix_1 t]; all_goals simp; all_goals omega
  | ⟨2, _⟩ => blk_simp [ix_1 t]; all_goals simp

/-- The residual stream's block of point `t`: 512 rows. -/
theorem iblk_2 (t : Fin cfg0.N) (r : Fin 512) (k : Fin 2048) :
    iblk m c 2 t (ix2 (n0 := 512) (n1 := 2048) r k)
      = V m c main_v3 (ix2 (n0 := 32768) (n1 := 2048) ⟨512 * (t.val / 4) + r.val, by have := lt_N t; omega⟩ k) := by
  blk_simp [iblk, ix_2 t]
  refine congrArg (V m c main_v3) (funext fun a => Fin.ext ?_)
  match a with
  | ⟨0, _⟩ => blk_simp [ix_2 t]; all_goals simp; all_goals omega
  | ⟨1, _⟩ => blk_simp [ix_2 t]; all_goals simp

/-- The gain's block: the gain. -/
theorem iblk_3 (t : Fin cfg0.N) (k : Fin 2048) :
    iblk m c 3 t (ix2 (n0 := 1) (n1 := 2048) 0 k) = V m c main_v6 (ix2 (n0 := 1) (n1 := 2048) 0 k) := by
  blk_simp [iblk, ix_3 t]
  refine congrArg (V m c main_v6) (funext fun a => Fin.ext ?_)
  match a with
  | ⟨0, _⟩ => blk_simp [ix_3 t]; all_goals simp
  | ⟨1, _⟩ => blk_simp [ix_3 t]; all_goals simp

/-- The scratch after a point, at a row and a column. -/
def kept (n : ℕ) (hn : n < cfg0.N) (r : Fin 512) (k : Fin 2048) : EReal := (outsAt0 m c n hn).2.2 (ix2 (n0 := 512) (n1 := 2048) r k)

/-- The residual stream's block at a row and a column. -/
def stream (t : Fin cfg0.N) (r : Fin 512) (k : Fin 2048) : EReal := iblk m c 2 t (ix2 (n0 := 512) (n1 := 2048) r k)

theorem kept_first (n : ℕ) (hn : n < cfg0.N) (h : n % 4 = 0) (r : Fin 512) (k : Fin 2048) :
    kept m c n hn r k = stream m c ⟨n, hn⟩ r k
      + chunk (iblk m c 0 ⟨n, hn⟩) (iblk m c 1 ⟨n, hn⟩) r k := by
  unfold kept
  rw [outsAt0_A m c ⟨n, hn⟩ h (by change ¬(1 ≤ n % 4 ∧ n % 4 ≤ 2); omega) (by change ¬n % 4 = 3; omega)]
  dsimp only
  rw [sout_A, pay2_apply]
  rfl

theorem kept_next (n : ℕ) (hn : n + 1 < cfg0.N) (h : 1 ≤ (n + 1) % 4 ∧ (n + 1) % 4 ≤ 2) (r : Fin 512) (k : Fin 2048) :
    kept m c (n + 1) hn r k = kept m c n (Nat.lt_of_succ_lt hn) r k
      + chunk (iblk m c 0 ⟨n + 1, hn⟩) (iblk m c 1 ⟨n + 1, hn⟩) r k := by
  unfold kept
  rw [outsAt0_B m c ⟨n + 1, hn⟩ (by change ¬(n + 1) % 4 = 0; omega) h (by change ¬(n + 1) % 4 = 3; omega)]
  dsimp only
  rw [sout_B, pay3_apply]
  rfl

/-- The four chunks of a row block: what the last point adds up is the whole row. -/
theorem total (q : ℕ) (hq : 4 * q + 3 < cfg0.N) (r : Fin 512) (n : Fin 2048) :
    kept m c (4 * q + 2) (Nat.lt_of_succ_lt hq) r n + chunk (iblk m c 0 ⟨4 * q + 3, hq⟩) (iblk m c 1 ⟨4 * q + 3, hq⟩) r n
      = sumRow (aO m c) (aW m c) (aH m c) ⟨(512 * q + r.val) / 8192, by have := lt_N ⟨_, hq⟩; dsimp only at this; omega⟩
        ⟨(512 * q + r.val) % 8192, by omega⟩ n := by
  have hN := lt_N ⟨_, hq⟩
  dsimp only at hN
  rw [kept_next m c (4 * q + 1) (by omega) (by omega), kept_next m c (4 * q) (by omega) (by omega), kept_first m c (4 * q) (by omega) (by omega)]
  have hp : ∀ (p : Fin 4) (h : 4 * q + p.val < cfg0.N), chunk (iblk m c 0 ⟨4 * q + p.val, h⟩) (iblk m c 1 ⟨4 * q + p.val, h⟩) r n
      = ∑ x : Fin 1024, (aO m c (ix3 (n0 := 4) (n1 := 8192) (n2 := 4096) ⟨(512 * q + r.val) / 8192, by omega⟩ ⟨(512 * q + r.val) % 8192, by omega⟩
          ⟨1024 * p.val + x.val, by omega⟩) : EReal)
        * aW m c (ix3 (n0 := 2) (n1 := 4096) (n2 := 2048) 0 ⟨1024 * p.val + x.val, by omega⟩ n) := by
    intro p h
    unfold chunk
    refine Finset.sum_congr rfl fun x _ => congrArg₂ (· * ·) ?_ ?_
    · refine (iblk_0 m c _ r x).trans ((V_o m c _ _).trans (congrArg (aO m c) ?_))
      have e : (4 * q + p.val) / 4 = q := by omega
      have e' : (4 * q + p.val) % 4 = p.val := by omega
      simp only [e, e']
    · refine (iblk_1 m c _ x n).trans ((V_w m c _).trans (congrArg (aW m c) ?_))
      have e' : (4 * q + p.val) % 4 = p.val := by omega
      simp only [e']
  have hh : stream m c ⟨4 * q, by omega⟩ r n
      = aH m c (ix3 (n0 := 4) (n1 := 8192) (n2 := 2048) ⟨(512 * q + r.val) / 8192, by omega⟩ ⟨(512 * q + r.val) % 8192, by omega⟩ n) := by
    refine (iblk_2 m c _ r n).trans ((V_h m c _ _).trans (congrArg (aH m c) ?_))
    have e : 4 * q / 4 = q := by omega
    simp only [e]
  rw [hh]
  exact added_quarters (K := 4096) (T := 1024) rfl
    (fun k => aH m c (ix3 (n0 := 4) (n1 := 8192) (n2 := 2048) ⟨(512 * q + r.val) / 8192, by omega⟩ ⟨(512 * q + r.val) % 8192, by omega⟩ k))
    (fun k => aO m c (ix3 (n0 := 4) (n1 := 8192) (n2 := 4096) ⟨(512 * q + r.val) / 8192, by omega⟩ ⟨(512 * q + r.val) % 8192, by omega⟩ k))
    (fun k n => aW m c (ix3 (n0 := 2) (n1 := 4096) (n2 := 2048) 0 k n))
    (fun p => chunk (iblk m c 0 ⟨4 * q + p.val, by omega⟩) (iblk m c 1 ⟨4 * q + p.val, by omega⟩) r n) n fun p => hp p _

/-- What the last point of a row block writes back of the sum. -/
theorem last4 (t : Fin cfg0.N) (h : t.val % 4 = 3) (r : Fin 512) (n : Fin 2048) :
    ((outsAt0 m c t.val t.isLt).1 (ix2 (n0 := 512) (n1 := 2048) r n) : EReal)
      = sumRow (aO m c) (aW m c) (aH m c) ⟨(512 * (t.val / 4) + r.val) / 8192, by have := lt_N t; omega⟩
        ⟨(512 * (t.val / 4) + r.val) % 8192, by omega⟩ n := by
  obtain ⟨p, hp⟩ := t
  dsimp only at h
  obtain ⟨q, rfl⟩ : ∃ q, p = 4 * q + 3 := ⟨p / 4, by omega⟩
  rw [outsAt0_C m c ⟨4 * q + 3, hp⟩ (by change ¬(4 * q + 3) % 4 = 0; omega) (by change ¬(1 ≤ (4 * q + 3) % 4 ∧ (4 * q + 3) % 4 ≤ 2); omega) h]
  dsimp only
  rw [out4_C, pay4_apply]
  refine (total m c q _ r n).trans ?_
  have e : (4 * q + 3) / 4 = q := by omega
  simp only [e]

/-- What it writes back of the norm. -/
theorem last5 (t : Fin cfg0.N) (h : t.val % 4 = 3) (r : Fin 512) (n : Fin 2048) :
    ((outsAt0 m c t.val t.isLt).2.1 (ix2 (n0 := 512) (n1 := 2048) r n) : EReal)
      = normed (sumRow (aO m c) (aW m c) (aH m c) ⟨(512 * (t.val / 4) + r.val) / 8192, by have := lt_N t; omega⟩
        ⟨(512 * (t.val / 4) + r.val) % 8192, by omega⟩) (fun k => aG m c (ix2 (n0 := 4) (n1 := 2048) 0 k)) n := by
  obtain ⟨p, hp⟩ := t
  dsimp only at h
  obtain ⟨q, rfl⟩ : ∃ q, p = 4 * q + 3 := ⟨p / 4, by omega⟩
  rw [outsAt0_C m c ⟨4 * q + 3, hp⟩ (by change ¬(4 * q + 3) % 4 = 0; omega) (by change ¬(1 ≤ (4 * q + 3) % 4 ∧ (4 * q + 3) % 4 ≤ 2); omega) h]
  dsimp only
  rw [out5_C, pay5_apply]
  refine congrFun (congrArg₂ normed (funext fun k => (total m c q _ r k).trans ?_) (funext fun k => (iblk_3 m c _ k).trans (V_g m c k))) n
  have e : (4 * q + 3) / 4 = q := by omega
  simp only [e]

/-- **The kernel's sums after the run**, by rows. -/
theorem final4 : (dats m 0 c).arrAt 4 cfg0.N = sums (aO m c) (aW m c) (aH m c) := by
  refine (dats m 0 c).arrAt_eq_of_covers 4 _ (by decide +kernel) fun t hf y => ?_
  blk_simp [ix_4 t]
  rw [after0_4]
  have ht := lt_N t
  have hy : (y 0).val < 512 := (y 0).isLt
  refine (congrArg _ (eq_ix2 y)).trans ((last4 m c t (flush_4 t hf) (y 0) (y 1)).trans ?_)
  unfold sums byRows
  refine congrArg₂ (x := (⟨512 * (t.val / 4) + (y 0).val, by omega⟩ : Fin 32768)) (fun (i : Fin 32768) n =>
    sumRow (aO m c) (aW m c) (aH m c) ⟨i.val / 8192, by omega⟩ ⟨i.val % 8192, by omega⟩ n) (Fin.ext ?_) (Fin.ext ?_)
  · blk_simp [ix_4 t]
    all_goals try simp
    all_goals try omega
  · blk_simp [ix_4 t]
    all_goals try simp
    all_goals try omega

/-- **The kernel's norms after the run**, by rows. -/
theorem final5 : (dats m 0 c).arrAt 5 cfg0.N = norms (aO m c) (aW m c) (aH m c) (aG m c) := by
  refine (dats m 0 c).arrAt_eq_of_covers 5 _ (by decide +kernel) fun t hf y => ?_
  blk_simp [ix_5 t]
  rw [after0_5]
  have ht := lt_N t
  have hy : (y 0).val < 512 := (y 0).isLt
  refine (congrArg _ (eq_ix2 y)).trans ((last5 m c t (flush_5 t hf) (y 0) (y 1)).trans ?_)
  unfold norms byRows
  refine congrArg₂ (x := (⟨512 * (t.val / 4) + (y 0).val, by omega⟩ : Fin 32768)) (fun (i : Fin 32768) n =>
    normed (sumRow (aO m c) (aW m c) (aH m c) ⟨i.val / 8192, by omega⟩ ⟨i.val % 8192, by omega⟩)
    (fun k => aG m c (ix2 (n0 := 4) (n1 := 2048) 0 k)) n) (Fin.ext ?_) (Fin.ext ?_)
  · blk_simp [ix_5 t]
    all_goals try simp
    all_goals try omega
  · blk_simp [ix_5 t]
    all_goals try simp
    all_goals try omega

end Kernel

section Reference

open Cert.RetOutRefIdeal Cert.RetOutRefIdeal.Gen

/-- The reference's stream after the projection. -/
def rSum (o : FVec Ideal S4x8192x4096 .f32) (w : FVec Ideal S2x4096x2048 .f32) (h : FVec Ideal S4x8192x2048 .f32) :
    FVec Ideal S4x8192x2048 .f32 :=
  addf h (Host.dotGeneral dot_S4x8192x4096_S4096x2048_S4x8192x2048_2_0_01_1_n_n none o
    (shapeCast S4096x2048 (extractStridedSlice S1x4096x2048 ![0, 0, 0] w slices_S2x4096x2048_S1x4096x2048_0_0_0)
      shapeCasts_S1x4096x2048_S4096x2048))

theorem rSum_apply (o : FVec Ideal S4x8192x4096 .f32) (w : FVec Ideal S2x4096x2048 .f32) (h : FVec Ideal S4x8192x2048 .f32)
    (b : Fin 4) (s : Fin 8192) (n : Fin 2048) : (rSum o w h (ix3 b s n) : EReal) = sumRow o w h b s n := by
  pointwise [rSum]
  rfl

/-- The gain of the layer. -/
theorem gain_apply (g : FVec Ideal S4x2048 .f32) (k : Fin 2048) :
    (shapeCast S2048 (extractStridedSlice S1x2048 ![0, 0] g slices_S4x2048_S1x2048_0_0) shapeCasts_S1x2048_S2048 (ix1 k) : EReal)
      = g (ix2 (n0 := 4) (n1 := 2048) 0 k) := by
  pointwise

/-- The reference's norm. -/
def rNorm (o : FVec Ideal S4x8192x4096 .f32) (w : FVec Ideal S2x4096x2048 .f32) (h : FVec Ideal S4x8192x2048 .f32)
    (g : FVec Ideal S4x2048 .f32) : FVec Ideal S4x8192x2048 .f32 :=
  host (rSum o w h) (shapeCast S2048 (extractStridedSlice S1x2048 ![0, 0] g slices_S4x2048_S1x2048_0_0) shapeCasts_S1x2048_S2048)

/-- **The reference's sums**, by rows. -/
theorem ref4_eq (o : FVec Ideal S4x8192x4096 .f32) (w : FVec Ideal S2x4096x2048 .f32) (h : FVec Ideal S4x8192x2048 .f32) :
    (shapeCast S32768x2048 (rSum o w h) shapeCasts_S4x8192x2048_S32768x2048 : FVec Ideal S32768x2048 .f32) = sums o w h :=
  flat_eq _ _ (rSum_apply o w h)

/-- **The reference's norms**, by rows. -/
theorem ref5_eq (o : FVec Ideal S4x8192x4096 .f32) (w : FVec Ideal S2x4096x2048 .f32) (h : FVec Ideal S4x8192x2048 .f32)
    (g : FVec Ideal S4x2048 .f32) :
    (truncf .bf16 (shapeCast S32768x2048 (rNorm o w h g) shapeCasts_S4x8192x2048_S32768x2048) bitsLt_bf16_f32
      : FVec Ideal S32768x2048 .bf16) = norms o w h g :=
  flat_host_eq _ _ _ _ (rSum_apply o w h) (gain_apply g) _

end Reference

end Cert.RetOutProof
-- ==== Proof.RetQk.lean ====
/-
  The query and key projection of the retention layer's normalised input. The first 2048 columns are the queries' heads, the
  next 2048 the keys', each head of 256 columns; the rotary embedding turns the two halves of a head, and the keys are
  scaled. At row `i` (batch `i / 8192`, position `i % 8192`) and column `j` both the kernel's array and the reference's result
  hold `turned` of the row's products, times the column's scale.
-/
module

public import proofs.«01_k».proof.Proof.Gen.RetQkIdeal.Value
public import proofs.«01_k».proof.Proof.Gen.RetQkRefIdeal.Run
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.RetQkProof

open Idealize.ShloMosaic Idealize.ShloMosaic.TcCoe Idealize.SL.Sem

/-- The rotary embedding of heads of 256 columns: column `j` of the first half of its head takes cosine times itself less sine
    times its partner 128 further, column `j` of the second half sine times its partner 128 before plus cosine times itself. -/
def turned (y C S : Nat → EReal) (j : Nat) : EReal :=
  if j % 256 < 128 then y j * C (j % 128) - y (j + 128) * S (j % 128) else y (j - 128) * S (j % 128) + y j * C (j % 128)

/-- The embedding sees of a row only the heads at hand: `o` columns further on it is that of the row read from `o`. -/
theorem turned_shift {y y' C C' S S' : Nat → EReal} {o n : Nat} (ho : o % 256 = 0) (hn : n < 512)
    (hy : ∀ k, k < 512 → y' k = y (o + k)) (hC : ∀ k, C' k = C k) (hS : ∀ k, S' k = S k) :
    turned y' C' S' n = turned y C S (o + n) := by
  unfold turned
  have e : (o + n) % 256 = n % 256 := by omega
  have e' : (o + n) % 128 = n % 128 := by omega
  rw [e, e', hC, hS, hy n hn]
  by_cases h : n % 256 < 128
  · rw [if_pos h, if_pos h, hy (n + 128) (by omega), Nat.add_assoc]
  · rw [if_neg h, if_neg h, hy (n - 128) (by omega), Nat.add_sub_assoc (by omega)]

section Kernel

open Cert.RetQkIdeal Cert.RetQkIdeal.Gen

/-- The product of a row with a column of the packed weight's layer 0. -/
def prod (x : FVec Ideal S4x8192x2048 .f32) (w : FVec Ideal S2x2048x12288 .f32) (b : Fin 4) (s : Fin 8192) (j : Nat) : EReal :=
  ∑ k : Fin 2048, (x (ix3 (n0 := 4) (n1 := 8192) (n2 := 2048) b s k) : EReal)
    * w (ix3 (n0 := 2) (n1 := 2048) (n2 := 12288) 0 k ⟨j % 12288, by omega⟩)

/-- The scale of a column: 1 for the queries, a sixteenth for the keys. -/
def scale (j : Nat) : EReal := if j < 2048 then 1 else Ideal.ofBits .f32 0x3D800000#32

/-- The projection by rows of the flattened input, with the tables of cosines and sines. -/
def qk (x : FVec Ideal S4x8192x2048 .f32) (w : FVec Ideal S2x2048x12288 .f32) (C S : FVec Ideal S8192x128 .f32) :
    FVec Ideal S32768x4096 .bf16 := fun j =>
  have hj : (j 0).val < 32768 := (j 0).isLt
  let b : Fin 4 := ⟨(j 0).val / 8192, by omega⟩
  let s : Fin 8192 := ⟨(j 0).val % 8192, by omega⟩
  (turned (prod x w b s) (fun d => C (ix2 (n0 := 8192) (n1 := 128) s ⟨d % 128, by omega⟩))
    (fun d => S (ix2 (n0 := 8192) (n1 := 128) s ⟨d % 128, by omega⟩)) (j 1).val * scale (j 1).val : EReal)

/-- The offsets of a whole block are zero. -/
theorem hz2 : (![0, 0] : Fin 2 → Nat) = fun _ => 0 := funext fun a => by fin_cases a <;> rfl
theorem hz3 : (![0, 0, 0] : Fin 3 → Nat) = fun _ => 0 := funext fun a => by fin_cases a <;> rfl

section Body

variable (x0 : Vec Ideal S1024x2048 .bf16) (x1 : Vec Ideal S1x2048x512 .bf16) (x2 x3 : Vec Ideal S1024x128 .f32)
    (x4 : Vec Ideal S1x512 .f32)

/-- The product in a block. -/
def acc (r : Fin 1024) (n : Nat) : EReal :=
  ∑ k : Fin 2048, (x0 (ix2 r k) : EReal) * x1 (ix3 (n0 := 1) (n1 := 2048) (n2 := 512) 0 k ⟨n % 512, by omega⟩)

/-- A block of the projection, from the blocks of input, weight, tables and scales. -/
def blk (r : Fin 1024) (n : Nat) : EReal :=
  turned (acc x0 x1 r) (fun d => x2 (ix2 (n0 := 1024) (n1 := 128) r ⟨d % 128, by omega⟩))
    (fun d => x3 (ix2 (n0 := 1024) (n1 := 128) r ⟨d % 128, by omega⟩)) n * x4 (ix2 (n0 := 1) (n1 := 512) 0 ⟨n % 512, by omega⟩)

/-- What the body stores in the first half of the block's first head. -/
theorem pay8_apply (r : Fin 1024) (n : Fin 128) :
    (k0_pay8 x0 x1 x2 x3 x4 (ix2 r n) : EReal) = blk x0 x1 x2 x3 x4 r n.val := by
  pointwise [k0_pay8, k0_pay6, k0_pay7, k0_pay2, k0_pay3, k0_pay4, k0_pay5]
  unfold blk turned acc
  have e0 : n.val % 512 = n.val := by omega
  have e1 : (n.val + 128) % 512 = 128 + n.val := by omega
  have e2 : n.val % 128 % 128 = n.val := by omega
  rw [if_pos (by omega)]
  simp only [e0, e1, e2]

/-- What it stores in the second half of the first head. -/
theorem pay9_apply (r : Fin 1024) (n : Fin 128) :
    (k0_pay9 x0 x1 x2 x3 x4 (ix2 r n) : EReal) = blk x0 x1 x2 x3 x4 r (128 + n.val) := by
  pointwise [k0_pay9, k0_pay6, k0_pay7, k0_pay2, k0_pay3, k0_pay4, k0_pay5]
  unfold blk turned acc
  have e0 : (128 + n.val) % 512 = 128 + n.val := by omega
  have e1 : ((128 + n.val) - 128) % 512 = n.val := by omega
  have e2 : (128 + n.val) % 128 % 128 = n.val := by omega
  rw [if_neg (by omega)]
  simp only [e0, e1, e2]

/-- What it stores in the first half of the second head. -/
theorem pay12_apply (r : Fin 1024) (n : Fin 128) :
    (k0_pay12 x0 x1 x2 x3 x4 (ix2 r n) : EReal) = blk x0 x1 x2 x3 x4 r (256 + n.val) := by
  pointwise [k0_pay12, k0_pay10, k0_pay11, k0_pay2, k0_pay3, k0_pay4, k0_pay5]
  unfold blk turned acc
  have e0 : (256 + n.val) % 512 = 256 + n.val := by omega
  have e1 : ((256 + n.val) + 128) % 512 = 384 + n.val := by omega
  have e2 : (256 + n.val) % 128 % 128 = n.val := by omega
  rw [if_pos (by omega)]
  simp only [e0, e1, e2]

/-- What it stores in the second half of the second head. -/
theorem pay1_apply (r : Fin 1024) (n : Fin 128) :
    (k0_pay1 (k0_pay3 x2) (k0_pay4 x3) (k0_pay5 x4) (k0_pay10 x0 x1) (k0_pay11 x0 x1) (ix2 r n) : EReal) = blk x0 x1 x2 x3 x4 r (384 + n.val) := by
  pointwise [k0_pay1, k0_pay10, k0_pay11, k0_pay2, k0_pay3, k0_pay4, k0_pay5]
  unfold blk turned acc
  have e0 : (384 + n.val) % 512 = 384 + n.val := by omega
  have e1 : ((384 + n.val) - 128) % 512 = 256 + n.val := by omega
  have e2 : (384 + n.val) % 128 % 128 = n.val := by omega
  rw [if_neg (by omega)]
  simp only [e0, e1, e2]

/-- What the body leaves, at an index: the four stores fill the block. -/
theorem out_apply (r : Fin 1024) (n : Fin 512) :
    (out0_5 x0 x1 x2 x3 x4 (ix2 r n) : EReal) = blk x0 x1 x2 x3 x4 r n.val := by
  unfold out0_5
  rw [View.ld_unit_zero (S := S1024x2048) hz2, View.ld_unit_zero (S := S1x2048x512) hz3, View.ld_unit_zero (S := S1024x128) hz2,
    View.ld_unit_zero (S := S1024x128) hz2, View.ld_unit_zero (S := S1x512) hz2]
  refine View.canon_apply_of_pieces (Val := Elt Ideal) (S := S1024x512) (e := .bf16)
    (fun y => (blk x0 x1 x2 x3 x4 (y 0) (y 1).val : EReal)) _ ?_ (ix2 r n) (cover0_5 _ _ _ _ _)
  intro p hp x
  simp only [List.mem_cons, List.not_mem_nil, or_false] at hp
  rcases hp with rfl | rfl | rfl | rfl
  · refine (congrArg _ (eq_ix2 x)).trans ((pay1_apply x0 x1 x2 x3 x4 (x 0) (x 1)).trans ?_)
    refine congrArg₂ (blk x0 x1 x2 x3 x4) (Fin.ext ?_) ?_ <;> simp
  · refine (congrArg _ (eq_ix2 x)).trans ((pay12_apply x0 x1 x2 x3 x4 (x 0) (x 1)).trans ?_)
    refine congrArg₂ (blk x0 x1 x2 x3 x4) (Fin.ext ?_) ?_ <;> simp
  · refine (congrArg _ (eq_ix2 x)).trans ((pay9_apply x0 x1 x2 x3 x4 (x 0) (x 1)).trans ?_)
    refine congrArg₂ (blk x0 x1 x2 x3 x4) (Fin.ext ?_) ?_ <;> simp
  · refine (congrArg _ (eq_ix2 x)).trans ((pay8_apply x0 x1 x2 x3 x4 (x 0) (x 1)).trans ?_)
    refine congrArg₂ (blk x0 x1 x2 x3 x4) (Fin.ext ?_) ?_ <;> simp

end Body

variable (m : (ℓ : Loc nD τ sig) → Buf (Elt Ideal) ℓ) (c : Dev nD)

/-- The argument arrays on device `c`. -/
def aX : FVec Ideal S4x8192x2048 .f32 := m ((c : Thread nD τ).loc main_arg0)
def aW : FVec Ideal S2x2048x12288 .f32 := m ((c : Thread nD τ).loc main_arg1)

/-- The angles of the rotary embedding: the position times a power of 10000 for each of the 128 pairs of columns. -/
def angles : FVec Ideal S8192x128 .f32 :=
  mulf (broadcastInDim S8192x128 ![0, 1] bcast_S8192x1_S8192x128_0_1
      (broadcastInDim S8192x1 ![0] bcast_S8192_S8192x1_0 (sitofp .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
            (mulf (broadcastInDim S128 ![] bcast_S_S128 (constant S_ .f32 0x40000000#32)) (sitofp .f32 (iotaInDim S128 32 0)))))
          (broadcastInDim S128 ![] bcast_S_S128 (constant S_ .f32 0x43800000#32))))))

/-- The tables. -/
def cosines : FVec Ideal S8192x128 .f32 := Host.cos angles
def sines : FVec Ideal S8192x128 .f32 := Host.sin angles

/-- The flattened input. -/
theorem V_x (i : Fin 32768) (k : Fin 2048) :
    (V (F := Ideal) m c main_v22 (ix2 (n0 := 32768) (n1 := 2048) i k) : EReal)
      = aX m c (ix3 ⟨i.val / 8192, by omega⟩ ⟨i.val % 8192, by omega⟩ k) := by
  unfold V
  after_reads_at
  rfl

/-- The packed weight. -/
theorem V_w (j : S2x2048x12288.Idx) : (V (F := Ideal) m c main_v23 j : EReal) = aW m c j := by
  unfold V
  after_reads_at
  rfl

/-- The table of cosines. -/
theorem V_cos : (V (F := Ideal) m c main_v16) = cosines := by
  unfold V
  after_reads_at
  rfl

/-- The table of sines. -/
theorem V_sin : (V (F := Ideal) m c main_v17) = sines := by
  unfold V
  after_reads_at
  rfl

/-- The scales of the columns, as the host makes them: ones and then sixteenths. -/
def scales : FVec Ideal S1x4096 .f32 :=
  shapeCast S1x4096 (concatenate S4096 0 [⟨S2048, broadcastInDim S2048 ![] bcast_S_S2048 (constant S_ .f32 0x3F800000#32)⟩,
    ⟨S2048, broadcastInDim S2048 ![] bcast_S_S2048 (constant S_ .f32 0x3D800000#32)⟩] concatenates_S2048_S2048_S4096_d0)
    shapeCasts_S4096_S1x4096

/-- The scale of a column, read off the table. -/
theorem scales_apply (j : Fin 4096) : (scales (ix2 (n0 := 1) (n1 := 4096) 0 j) : EReal) = scale j.val := by
  pointwise [scales]
  unfold scale
  by_cases h : j.val < 2048
  · rw [dif_pos h, if_pos h]
  · rw [dif_neg h, if_neg h]

/-- The scales of the columns. -/
theorem V_scale (j : Fin 4096) : (V (F := Ideal) m c main_v24 (ix2 (n0 := 1) (n1 := 4096) 0 j) : EReal) = scale j.val := by
  refine Eq.trans ?_ (scales_apply j)
  unfold V
  after_reads_at
  unfold scales
  pointwise
  by_cases h : j.val < 2048
  · rw [dif_pos h, dif_pos h]
    after_reads_at
  · rw [dif_neg h, dif_neg h]
    after_reads_at

/-- The grid has 256 points. -/
theorem lt_N (t : Fin cfg0.N) : t.val < 256 := lt_of_lt_of_eq t.isLt (show cfg0.N = 256 from N_0)

/-- The blocks of the grid points: eight blocks of columns to a block of rows. -/
theorem ix_0 : ∀ t : Fin cfg0.N, win0_0.index t = ![t.val / 8, 0] := (by decide +kernel : ∀ t : Fin grid0.N, _)
theorem ix_1 : ∀ t : Fin cfg0.N, win0_1.index t = ![0, 0, t.val % 8] := (by decide +kernel : ∀ t : Fin grid0.N, _)
theorem ix_2 : ∀ t : Fin cfg0.N, win0_2.index t = ![t.val / 8 % 8, 0] := (by decide +kernel : ∀ t : Fin grid0.N, _)
theorem ix_3 : ∀ t : Fin cfg0.N, win0_3.index t = ![t.val / 8 % 8, 0] := (by decide +kernel : ∀ t : Fin grid0.N, _)
theorem ix_4 : ∀ t : Fin cfg0.N, win0_4.index t = ![0, t.val % 8] := (by decide +kernel : ∀ t : Fin grid0.N, _)
theorem ix_5 : ∀ t : Fin cfg0.N, win0_5.index t = ![t.val / 8, t.val % 8] := (by decide +kernel : ∀ t : Fin grid0.N, _)

/-- The input block of point `t`: 1024 rows of the flattened input. -/
theorem iblk_0 (t : Fin cfg0.N) (r : Fin 1024) (k : Fin 2048) :
    iblk m c 0 t (ix2 (n0 := 1024) (n1 := 2048) r k)
      = V m c main_v22 (ix2 (n0 := 32768) (n1 := 2048) ⟨1024 * (t.val / 8) + r.val, by have := lt_N t; omega⟩ k) := by
  blk_simp [iblk, ix_0 t]
  refine congrArg (V m c main_v22) (funext fun a => Fin.ext ?_)
  match a with
  | ⟨0, _⟩ => blk_simp [ix_0 t]; all_goals simp; all_goals omega
  | ⟨1, _⟩ => blk_simp [ix_0 t]; all_goals simp

/-- The weight block of point `t`: 512 columns of layer 0. -/
theorem iblk_1 (t : Fin cfg0.N) (k : Fin 2048) (n : Fin 512) :
    iblk m c 1 t (ix3 (n0 := 1) (n1 := 2048) (n2 := 512) 0 k n)
      = V m c main_v23 (ix3 (n0 := 2) (n1 := 2048) (n2 := 12288) 0 k ⟨512 * (t.val % 8) + n.val, by omega⟩) := by
  blk_simp [iblk, ix_1 t]
  refine congrArg (V m c main_v23) (funext fun a => Fin.ext ?_)
  match a with
  | ⟨0, _⟩ => blk_simp [ix_1 t]; all_goals simp
  | ⟨1, _⟩ => blk_simp [ix_1 t]; all_goals simp
  | ⟨2, _⟩ => blk_simp [ix_1 t]; all_goals simp; all_goals omega

/-- The block of cosines of point `t`: the positions of its rows. -/
theorem iblk_2 (t : Fin cfg0.N) (r : Fin 1024) (k : Fin 128) :
    iblk m c 2 t (ix2 (n0 := 1024) (n1 := 128) r k)
      = V m c main_v16 (ix2 (n0 := 8192) (n1 := 128) ⟨1024 * (t.val / 8 % 8) + r.val, by omega⟩ k) := by
  blk_simp [iblk, ix_2 t]
  refine congrArg (V m c main_v16) (funext fun a => Fin.ext ?_)
  match a with
  | ⟨0, _⟩ => blk_simp [ix_2 t]; all_goals simp; all_goals omega
  | ⟨1, _⟩ => blk_simp [ix_2 t]; all_goals simp

/-- The block of sines of point `t`: the positions of its rows. -/
theorem iblk_3 (t : Fin cfg0.N) (r : Fin 1024) (k : Fin 128) :
    iblk m c 3 t (ix2 (n0 := 1024) (n1 := 128) r k)
      = V m c main_v17 (ix2 (n0 := 8192) (n1 := 128) ⟨1024 * (t.val / 8 % 8) + r.val, by omega⟩ k) := by
  blk_simp [iblk, ix_3 t]
  refine congrArg (V m c main_v17) (funext fun a => Fin.ext ?_)
  match a with
  | ⟨0, _⟩ => blk_simp [ix_3 t]; all_goals simp; all_goals omega
  | ⟨1, _⟩ => blk_simp [ix_3 t]; all_goals simp

/-- The block of scales of point `t`: its columns'. -/
theorem iblk_4 (t : Fin cfg0.N) (n : Fin 512) :
    iblk m c 4 t (ix2 (n0 := 1) (n1 := 512) 0 n)
      = V m c main_v24 (ix2 (n0 := 1) (n1 := 4096) 0 ⟨512 * (t.val % 8) + n.val, by omega⟩) := by
  blk_simp [iblk, ix_4 t]
  refine congrArg (V m c main_v24) (funext fun a => Fin.ext ?_)
  match a with
  | ⟨0, _⟩ => blk_simp [ix_4 t]; all_goals simp
  | ⟨1, _⟩ => blk_simp [ix_4 t]; all_goals simp; all_goals omega

/-- The block point `t` writes back, at an index. -/
theorem block_apply (t : Fin cfg0.N) (r : Fin 1024) (n : Fin 512) (j : S32768x4096.Idx)
    (h0 : (j 0).val = 1024 * (t.val / 8) + r.val) (h1 : (j 1).val = 512 * (t.val % 8) + n.val) :
    (out0_5 (iblk m c 0 t) (iblk m c 1 t) (iblk m c 2 t) (iblk m c 3 t) (iblk m c 4 t) (ix2 (n0 := 1024) (n1 := 512) r n) : EReal)
      = qk (aX m c) (aW m c) cosines sines j := by
  rw [out_apply]
  have ht := lt_N t
  have hs : (j 0).val % 8192 = 1024 * (t.val / 8 % 8) + r.val := by omega
  unfold blk qk
  simp only [h1]
  refine congrArg₂ (fun a b : EReal => a * b) (turned_shift (by omega) n.isLt (fun k hk => ?_) (fun k => ?_) (fun k => ?_)) ?_
  · unfold acc prod
    refine Finset.sum_congr rfl fun l _ => congrArg₂ (fun a b : EReal => a * b) ?_ ?_
    · refine (iblk_0 m c t r l).trans ((V_x m c _ l).trans (congrArg (aX m c) ?_))
      simp only [h0]
    · refine (iblk_1 m c t l _).trans ((V_w m c _).trans (congrArg (aW m c) ?_))
      refine congrArg (ix3 (n0 := 2) (n1 := 2048) (n2 := 12288) 0 l) (Fin.ext ?_)
      change 512 * (t.val % 8) + k % 512 = (512 * (t.val % 8) + k) % 12288
      omega
  · refine (iblk_2 m c t r _).trans ((congrFun (V_cos m c) _).trans (congrArg cosines ?_))
    simp only [hs]
  · refine (iblk_3 m c t r _).trans ((congrFun (V_sin m c) _).trans (congrArg sines ?_))
    simp only [hs]
  · refine (iblk_4 m c t _).trans ((V_scale m c _).trans (congrArg scale ?_))
    change 512 * (t.val % 8) + n.val % 512 = _
    omega

/-- **The kernel's array after the run**, by rows. -/
theorem final : (dats m 0 c).arrAt 5 cfg0.N = qk (aX m c) (aW m c) cosines sines := by
  refine (dats m 0 c).arrAt_eq_of_covers 5 _ (by decide +kernel) fun t hf y => ?_
  blk_simp [ix_5 t]
  rw [after0_5]
  have ht := lt_N t
  refine (congrArg _ (eq_ix2 y)).trans (block_apply m c t (y 0) (y 1) _ ?_ ?_)
  · blk_simp [ix_5 t]
    all_goals try simp
    all_goals try omega
  · blk_simp [ix_5 t]
    all_goals try simp
    all_goals try omega

end Kernel

section Reference

open Cert.RetQkRefIdeal Cert.RetQkRefIdeal.Gen

/-- The heads of the input's product with 2048 columns of the weight. -/
def heads (x : FVec Ideal S4x8192x2048 .f32) (w : FVec Ideal S2048x2048 .f32) : FVec Ideal S4x8192x8x256 .f32 :=
  shapeCast S4x8192x8x256 (Host.dotGeneral dot_S4x8192x2048_S2048x2048_S4x8192x2048_2_0_01_1_n_n none x w)
    shapeCasts_S4x8192x2048_S4x8192x8x256

/-- The weight's layer 0. -/
def layer (w : FVec Ideal S2x2048x12288 .f32) : FVec Ideal S2048x12288 .f32 :=
  shapeCast S2048x12288 (extractStridedSlice S1x2048x12288 ![0, 0, 0] w slices_S2x2048x12288_S1x2048x12288_0_0_0)
    shapeCasts_S1x2048x12288_S2048x12288

/-- A table, over batches and heads. -/
def spread (C : FVec Ideal S8192x128 .f32) : FVec Ideal S4x8192x8x128 .f32 :=
  broadcastInDim S4x8192x8x128 ![0, 1, 2, 3] bcast_S1x8192x1x128_S4x8192x8x128_0_1_2_3
    (broadcastInDim S1x8192x1x128 ![1, 2, 3] bcast_S8192x1x128_S1x8192x1x128_1_2_3
      (broadcastInDim S8192x1x128 ![0, 2] bcast_S8192x128_S8192x1x128_0_2 C))

/-- The reference's rotary embedding of heads. -/
def rotated (y : FVec Ideal S4x8192x8x256 .f32) (C S : FVec Ideal S8192x128 .f32) : FVec Ideal S4x8192x8x256 .f32 :=
  concatenate S4x8192x8x256 3
    [⟨S4x8192x8x128, subf
        (mulf (extractStridedSlice S4x8192x8x128 ![0, 0, 0, 0] y slices_S4x8192x8x256_S4x8192x8x128_0_0_0_0) (spread C))
        (mulf (extractStridedSlice S4x8192x8x128 ![0, 0, 0, 128] y slices_S4x8192x8x256_S4x8192x8x128_0_0_0_128) (spread S))⟩,
      ⟨S4x8192x8x128, addf
        (mulf (extractStridedSlice S4x8192x8x128 ![0, 0, 0, 0] y slices_S4x8192x8x256_S4x8192x8x128_0_0_0_0) (spread S))
        (mulf (extractStridedSlice S4x8192x8x128 ![0, 0, 0, 128] y slices_S4x8192x8x256_S4x8192x8x128_0_0_0_128) (spread C))⟩]
    concatenates_S4x8192x8x128_S4x8192x8x128_S4x8192x8x256_d3

/-- The reference's result as a function of its arguments and of the tables. -/
def rFn (x : FVec Ideal S4x8192x2048 .f32) (w : FVec Ideal S2x2048x12288 .f32) (C S : FVec Ideal S8192x128 .f32) :
    FVec Ideal S32768x4096 .bf16 :=
  truncf .bf16 (concatenate S32768x4096 1
    [⟨S32768x2048, shapeCast S32768x2048 (rotated (heads x (extractStridedSlice S2048x2048 ![0, 0] (layer w)
        slices_S2048x12288_S2048x2048_0_0)) C S) shapeCasts_S4x8192x8x256_S32768x2048⟩,
      ⟨S32768x2048, shapeCast S32768x2048 (mulf (rotated (heads x (extractStridedSlice S2048x2048 ![0, 2048] (layer w)
        slices_S2048x12288_S2048x2048_0_2048)) C S) (broadcastInDim S4x8192x8x256 ![] bcast_S_S4x8192x8x256
          (constant S_ .f32 0x3D800000#32))) shapeCasts_S4x8192x8x256_S32768x2048⟩]
    concatenates_S32768x2048_S32768x2048_S32768x4096_d1) bitsLt_bf16_f32

/-- The run's result is that function, of the tables of the kernel. -/
theorem res_eq (m : (ℓ : Loc nD τ sig) → Buf (Elt Ideal) ℓ) (c : Dev nD) :
    Value.res_out0 m c = rFn (m ((c : Thread nD τ).loc main_arg0)) (m ((c : Thread nD τ).loc main_arg1)) cosines sines := rfl

/-- The heads at an index. -/
theorem heads_apply (x : FVec Ideal S4x8192x2048 .f32) (w : FVec Ideal S2048x2048 .f32) (b : Fin 4) (s : Fin 8192) (h : Fin 8)
    (d : Fin 256) : (heads x w (ix4 b s h d) : EReal)
      = ∑ k : Fin 2048, (x (ix3 b s k) : EReal) * w (ix2 k ⟨256 * h.val + d.val, by omega⟩) := by
  pointwise [heads]
  refine Finset.sum_congr rfl fun k _ => congrArg (fun a : EReal => x (ix3 b s k) * a) (congrArg w ?_)
  exact congrArg (ix2 k) (Fin.ext (by dsimp only; omega))

/-- The rotary embedding at an index. -/
theorem rotated_apply (y : FVec Ideal S4x8192x8x256 .f32) (C S : FVec Ideal S8192x128 .f32) (b : Fin 4) (s : Fin 8192) (h : Fin 8)
    (d : Fin 256) : (rotated y C S (ix4 b s h d) : EReal)
      = if hd : d.val < 128 then (y (ix4 b s h d) : EReal) * C (ix2 s ⟨d.val, hd⟩)
          - y (ix4 (n0 := 4) (n1 := 8192) (n2 := 8) (n3 := 256) b s h ⟨d.val + 128, by omega⟩) * S (ix2 s ⟨d.val, hd⟩)
        else (y (ix4 (n0 := 4) (n1 := 8192) (n2 := 8) (n3 := 256) b s h ⟨d.val - 128, by omega⟩) : EReal) * S (ix2 s ⟨d.val - 128, by omega⟩)
          + y (ix4 b s h d) * C (ix2 s ⟨d.val - 128, by omega⟩) := by
  pointwise [rotated, spread]
  by_cases hd : d.val < 128
  · rw [dif_pos hd, dif_pos hd]
    simp only [Nat.add_comm 128]
  · have e : 128 + (d.val - 128) = d.val := by omega
    rw [dif_neg hd, dif_neg hd]
    simp only [e]

/-- The rotary embedding of the heads of 2048 columns of the packed weight, from column `o` on. -/
theorem rotated_heads (x : FVec Ideal S4x8192x2048 .f32) (w : FVec Ideal S2x2048x12288 .f32) (v : FVec Ideal S2048x2048 .f32)
    (C S : FVec Ideal S8192x128 .f32) (o : Nat) (ho : o % 256 = 0) (ho' : o ≤ 2048)
    (hv : ∀ k n : Fin 2048, (v (ix2 k n) : EReal) = w (ix3 (n0 := 2) (n1 := 2048) (n2 := 12288) 0 k ⟨o + n.val, by omega⟩))
    (b : Fin 4) (s : Fin 8192) (h : Fin 8) (d : Fin 256) :
    (rotated (heads x v) C S (ix4 b s h d) : EReal)
      = turned (prod x w b s) (fun d => C (ix2 (n0 := 8192) (n1 := 128) s ⟨d % 128, by omega⟩))
        (fun d => S (ix2 (n0 := 8192) (n1 := 128) s ⟨d % 128, by omega⟩)) (o + 256 * h.val + d.val) := by
  have hp : ∀ (n : Nat) (hn : n < 2048), (∑ k : Fin 2048, (x (ix3 b s k) : EReal) * v (ix2 k ⟨n, hn⟩)) = prod x w b s (o + n) := by
    intro n hn
    refine Finset.sum_congr rfl fun k _ => congrArg (fun a : EReal => x (ix3 b s k) * a) ((hv k ⟨n, hn⟩).trans (congrArg w ?_))
    exact congrArg (ix3 (n0 := 2) (n1 := 2048) (n2 := 12288) 0 k) (Fin.ext (by dsimp only; omega))
  rw [rotated_apply]
  simp only [heads_apply, hp]
  unfold turned
  by_cases hd : d.val < 128
  · have e : (o + 256 * h.val + d.val) % 128 % 128 = d.val := by omega
    rw [dif_pos hd, if_pos (by omega)]
    simp only [e]
    simp only [Nat.add_assoc]
  · have e : (o + 256 * h.val + d.val) % 128 % 128 = d.val - 128 := by omega
    have e' : o + 256 * h.val + d.val - 128 = o + (256 * h.val + (d.val - 128)) := by omega
    rw [dif_neg hd, if_neg (by omega), e']
    simp only [e]
    simp only [Nat.add_assoc]

/-- The queries' columns of the packed weight. -/
theorem queries_apply (w : FVec Ideal S2x2048x12288 .f32) (k n : Fin 2048) :
    (extractStridedSlice S2048x2048 ![0, 0] (layer w) slices_S2048x12288_S2048x2048_0_0 (ix2 k n) : EReal)
      = w (ix3 (n0 := 2) (n1 := 2048) (n2 := 12288) 0 k ⟨0 + n.val, by omega⟩) := by
  pointwise [layer]

/-- The keys' columns. -/
theorem keys_apply (w : FVec Ideal S2x2048x12288 .f32) (k n : Fin 2048) :
    (extractStridedSlice S2048x2048 ![0, 2048] (layer w) slices_S2048x12288_S2048x2048_0_2048 (ix2 k n) : EReal)
      = w (ix3 (n0 := 2) (n1 := 2048) (n2 := 12288) 0 k ⟨2048 + n.val, by omega⟩) := by
  pointwise [layer]

/-- The reference's function at an index. -/
theorem rFn_apply (x : FVec Ideal S4x8192x2048 .f32) (w : FVec Ideal S2x2048x12288 .f32) (C S : FVec Ideal S8192x128 .f32)
    (i : Fin 32768) (j : Fin 4096) : (rFn x w C S (ix2 (n0 := 32768) (n1 := 4096) i j) : EReal)
      = qk x w C S (ix2 (n0 := 32768) (n1 := 4096) i j) := by
  pointwise [rFn]
  have hq : (qk x w C S (ix2 (n0 := 32768) (n1 := 4096) i j) : EReal)
      = turned (prod x w ⟨i.val / 8192, by omega⟩ ⟨i.val % 8192, by omega⟩)
          (fun d => C (ix2 (n0 := 8192) (n1 := 128) ⟨i.val % 8192, by omega⟩ ⟨d % 128, by omega⟩))
          (fun d => S (ix2 (n0 := 8192) (n1 := 128) ⟨i.val % 8192, by omega⟩ ⟨d % 128, by omega⟩)) j.val * scale j.val := rfl
  refine Eq.trans ?_ hq.symm
  by_cases h : j.val < 2048
  · have e : 0 + 256 * (j.val / 256) + j.val % 256 = j.val := by omega
    have hs : scale j.val = 1 := if_pos h
    rw [dif_pos h, rotated_heads x w _ C S 0 rfl (by omega) (queries_apply w), hs, mul_one]
    dsimp only
    rw [e]
  · have e : 2048 + 256 * ((j.val - 2048) / 256) + (j.val - 2048) % 256 = j.val := by omega
    have hs : scale j.val = Ideal.ofBits .f32 0x3D800000#32 := if_neg h
    rw [dif_neg h, rotated_heads x w _ C S 2048 rfl (by omega) (keys_apply w), hs]
    dsimp only
    rw [e]

/-- **The reference's result**, by rows. -/
theorem ref_eq (x : FVec Ideal S4x8192x2048 .f32) (w : FVec Ideal S2x2048x12288 .f32) (C S : FVec Ideal S8192x128 .f32) :
    rFn x w C S = qk x w C S := by
  funext j
  rw [eq_ix2 j]
  exact rFn_apply x w C S (j 0) (j 1)

end Reference

end Cert.RetQkProof

end
-- ==== Proof.MlaOut.lean ====
/-
  The output projection of an attention layer: its product is added to the residual stream, and the sum is normed for the
  feed-forward layer. At row `i` both the kernel's arrays and the reference's results hold the sum and its norm.
-/
module

public import proofs.«01_k».proof.Proof.Gen.MlaOutIdeal.Value
public import proofs.«01_k».proof.Proof.Gen.MlaOutRefIdeal.Run
public import proofs.«01_k».proof.Proof.Norm
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.MlaOutProof

open Idealize.ShloMosaic Idealize.ShloMosaic.TcCoe Idealize.SL.Sem Cert.Norm

section Kernel

open Cert.MlaOutIdeal Cert.MlaOutIdeal.Gen

/-- The row of batch `b` and position `s` after the projection. -/
def sumRow (o : FVec Ideal S4x8192x2048 .f32) (w : FVec Ideal S2x2048x2048 .f32) (h : FVec Ideal S4x8192x2048 .f32)
    (b : Fin 4) (s : Fin 8192) : Fin 2048 → EReal :=
  added (fun k => h (ix3 b s k)) (fun k => o (ix3 b s k)) (fun k n => w (ix3 (n0 := 2) (n1 := 2048) (n2 := 2048) 0 k n))

/-- The stream after the projection. -/
def sums (o : FVec Ideal S4x8192x2048 .f32) (w : FVec Ideal S2x2048x2048 .f32) (h : FVec Ideal S4x8192x2048 .f32) :
    FVec Ideal S32768x2048 .f32 := byRows (sumRow o w h)

/-- Its norm. -/
def norms (o : FVec Ideal S4x8192x2048 .f32) (w : FVec Ideal S2x2048x2048 .f32) (h : FVec Ideal S4x8192x2048 .f32)
    (g : FVec Ideal S4x2048 .f32) : FVec Ideal S32768x2048 .bf16 :=
  byRows fun b s => normed (sumRow o w h b s) fun k => g (ix2 (n0 := 4) (n1 := 2048) 1 k)

theorem hz2 : (![0, 0] : Fin 2 → Nat) = fun _ => 0 := funext fun a => by fin_cases a <;> rfl
theorem hz3 : (![0, 0, 0] : Fin 3 → Nat) = fun _ => 0 := funext fun a => by fin_cases a <;> rfl

/-- The sum in the body. -/
theorem pay1_apply (x0 : Vec Ideal S512x2048 .bf16) (x1 : Vec Ideal S1x2048x2048 .bf16) (x2 : Vec Ideal S512x2048 .f32)
    (r : Fin 512) (n : Fin 2048) :
    (k0_pay1 x0 x1 x2 (ix2 r n) : EReal)
      = added (fun k => x2 (ix2 r k)) (fun k => x0 (ix2 r k)) (fun k n => x1 (ix3 0 k n)) n := by
  pointwise [k0_pay1]
  rfl

/-- The sum's norm in the body. -/
theorem pay2_apply (x0 : Vec Ideal S512x2048 .bf16) (x1 : Vec Ideal S1x2048x2048 .bf16) (x2 : Vec Ideal S512x2048 .f32)
    (x3 : Vec Ideal S1x2048 .f32) (r : Fin 512) (n : Fin 2048) :
    (k0_pay2 x0 x1 x2 x3 (ix2 r n) : EReal)
      = normed (added (fun k => x2 (ix2 r k)) (fun k => x0 (ix2 r k)) (fun k n => x1 (ix3 0 k n))) (fun k => x3 (ix2 0 k)) n := by
  pointwise [k0_pay2]
  simp only [pay1_apply]
  rfl

/-- What the body leaves of the sum, at an index. -/
theorem out4_apply (x0 : Vec Ideal S512x2048 .bf16) (x1 : Vec Ideal S1x2048x2048 .bf16) (x2 : Vec Ideal S512x2048 .f32)
    (x3 : Vec Ideal S1x2048 .f32) (r : Fin 512) (n : Fin 2048) :
    (out0_4 x0 x1 x2 x3 (ix2 r n) : EReal)
      = added (fun k => x2 (ix2 r k)) (fun k => x0 (ix2 r k)) (fun k n => x1 (ix3 0 k n)) n := by
  unfold out0_4
  rw [View.canon_unit_zero hz2, View.ld_unit_zero (S := S512x2048) hz2, View.ld_unit_zero (S := S1x2048x2048) hz3,
    View.ld_unit_zero (S := S512x2048) hz2, pay1_apply]

/-- What the body leaves of the norm, at an index. -/
theorem out5_apply (x0 : Vec Ideal S512x2048 .bf16) (x1 : Vec Ideal S1x2048x2048 .bf16) (x2 : Vec Ideal S512x2048 .f32)
    (x3 : Vec Ideal S1x2048 .f32) (r : Fin 512) (n : Fin 2048) :
    (out0_5 x0 x1 x2 x3 (ix2 r n) : EReal)
      = normed (added (fun k => x2 (ix2 r k)) (fun k => x0 (ix2 r k)) (fun k n => x1 (ix3 0 k n))) (fun k => x3 (ix2 0 k)) n := by
  unfold out0_5
  rw [View.canon_unit_zero hz2, View.ld_unit_zero (S := S512x2048) hz2, View.ld_unit_zero (S := S1x2048x2048) hz3,
    View.ld_unit_zero (S := S512x2048) hz2, View.ld_unit_zero (S := S1x2048) hz2, pay2_apply]

variable (m : (ℓ : Loc nD τ sig) → Buf (Elt Ideal) ℓ) (c : Dev nD)

/-- The argument arrays on device `c`. -/
def aO : FVec Ideal S4x8192x2048 .f32 := m ((c : Thread nD τ).loc main_arg0)
def aW : FVec Ideal S2x2048x2048 .f32 := m ((c : Thread nD τ).loc main_arg1)
def aH : FVec Ideal S4x8192x2048 .f32 := m ((c : Thread nD τ).loc main_arg2)
def aG : FVec Ideal S4x2048 .f32 := m ((c : Thread nD τ).loc main_arg3)

/-- The flattened attention. -/
theorem V_o (i : Fin 32768) (k : Fin 2048) : (V (F := Ideal) m c main_v1 (ix2 (n0 := 32768) (n1 := 2048) i k) : EReal)
    = aO m c (ix3 ⟨i.val / 8192, by omega⟩ ⟨i.val % 8192, by omega⟩ k) := by
  unfold V
  after_reads_at
  rfl

/-- The weight. -/
theorem V_w (j : S2x2048x2048.Idx) : (V (F := Ideal) m c main_v2 j : EReal) = aW m c j := by
  unfold V
  after_reads_at
  rfl

/-- The flattened residual stream. -/
theorem V_h (i : Fin 32768) (k : Fin 2048) : (V (F := Ideal) m c main_v3 (ix2 (n0 := 32768) (n1 := 2048) i k) : EReal)
    = aH m c (ix3 ⟨i.val / 8192, by omega⟩ ⟨i.val % 8192, by omega⟩ k) := by
  unfold V
  after_reads_at
  rfl

/-- The gain. -/
theorem V_g (k : Fin 2048) : (V (F := Ideal) m c main_v6 (ix2 (n0 := 1) (n1 := 2048) 0 k) : EReal) = aG m c (ix2 1 k) := by
  unfold V
  after_reads_at
  rfl

theorem lt_N (t : Fin cfg0.N) : t.val < 64 := lt_of_lt_of_eq t.isLt (show cfg0.N = 64 from N_0)

theorem ix_0 : ∀ t : Fin cfg0.N, win0_0.index t = ![t.val, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)

/-- The attention's block of point `t`: 512 rows. -/
theorem iblk_0 (t : Fin cfg0.N) (r : Fin 512) (k : Fin 2048) :
    iblk m c 0 t (ix2 (n0 := 512) (n1 := 2048) r k)
      = V m c main_v1 (ix2 (n0 := 32768) (n1 := 2048) ⟨512 * t.val + r.val, by have := lt_N t; omega⟩ k) := by
  blk_simp [iblk, ix_0 t]
  refine congrArg (V m c main_v1) (funext fun a => Fin.ext ?_)
  match a with
  | ⟨0, _⟩ => blk_simp [ix_0 t]; all_goals simp; all_goals omega
  | ⟨1, _⟩ => blk_simp [ix_0 t]; all_goals simp

/-- The weight's block: the layer's weight. -/
theorem iblk_1 (t : Fin cfg0.N) (k n : Fin 2048) :
    iblk m c 1 t (ix3 (n0 := 1) (n1 := 2048) (n2 := 2048) 0 k n) = V m c main_v2 (ix3 (n0 := 2) (n1 := 2048) (n2 := 2048) 0 k n) := by
  blk_simp [iblk, ix_1 t]
  refine congrArg (V m c main_v2) (funext fun a => Fin.ext ?_)
  match a with
  | ⟨0, _⟩ => blk_simp [ix_1 t]; all_goals simp
  | ⟨1, _⟩ => blk_simp [ix_1 t]; all_goals simp
  | ⟨2, _⟩ => blk_simp [ix_1 t]; all_goals simp

/-- The residual stream's block of point `t`: 512 rows. -/
theorem iblk_2 (t : Fin cfg0.N) (r : Fin 512) (k : Fin 2048) :
    iblk m c 2 t (ix2 (n0 := 512) (n1 := 2048) r k)
      = V m c main_v3 (ix2 (n0 := 32768) (n1 := 2048) ⟨512 * t.val + r.val, by have := lt_N t; omega⟩ k) := by
  blk_simp [iblk, ix_2 t]
  refine congrArg (V m c main_v3) (funext fun a => Fin.ext ?_)
  match a with
  | ⟨0, _⟩ => blk_simp [ix_2 t]; all_goals simp; all_goals omega
  | ⟨1, _⟩ => blk_simp [ix_2 t]; all_goals simp

/-- The gain's block: the gain. -/
theorem iblk_3 (t : Fin cfg0.N) (k : Fin 2048) :
    iblk m c 3 t (ix2 (n0 := 1) (n1 := 2048) 0 k) = V m c main_v6 (ix2 (n0 := 1) (n1 := 2048) 0 k) := by
  blk_simp [iblk, ix_3 t]
  refine congrArg (V m c main_v6) (funext fun a => Fin.ext ?_)
  match a with
  | ⟨0, _⟩ => blk_simp [ix_3 t]; all_goals simp
  | ⟨1, _⟩ => blk_simp [ix_3 t]; all_goals simp

/-- The blocks' sums are the arguments'. -/
theorem sum_blk (t : Fin cfg0.N) (r : Fin 512) :
    added (fun k => iblk m c 2 t (ix2 (n0 := 512) (n1 := 2048) r k)) (fun k => iblk m c 0 t (ix2 (n0 := 512) (n1 := 2048) r k))
      (fun k n => iblk m c 1 t (ix3 (n0 := 1) (n1 := 2048) (n2 := 2048) 0 k n))
      = sumRow (aO m c) (aW m c) (aH m c) ⟨(512 * t.val + r.val) / 8192, by have := lt_N t; omega⟩ ⟨(512 * t.val + r.val) % 8192, by omega⟩ :=
  added_congr (fun k => (iblk_2 m c t r k).trans (V_h m c _ k)) (fun k => (iblk_0 m c t r k).trans (V_o m c _ k))
    fun k n => (iblk_1 m c t k n).trans (V_w m c _)

/-- **The kernel's sums after the run**, by rows. -/
theorem final4 : (dats m 0 c).arrAt 4 cfg0.N = sums (aO m c) (aW m c) (aH m c) := by
  refine (dats m 0 c).arrAt_eq_of_covers 4 _ (by decide +kernel) fun t hf y => ?_
  blk_simp [ix_4 t]
  rw [after0_4]
  have ht := lt_N t
  refine (congrArg _ (eq_ix2 y)).trans ((out4_apply _ _ _ _ (y 0) (y 1)).trans ?_)
  refine (congrFun (sum_blk m c t (y 0)) (y 1)).trans ?_
  unfold sums byRows
  have hy : (y 0).val < 512 := (y 0).isLt
  refine congrArg₂ (x := (⟨512 * t.val + (y 0).val, by omega⟩ : Fin 32768)) (fun (i : Fin 32768) n => sumRow (aO m c) (aW m c) (aH m c) ⟨i.val / 8192, by omega⟩ ⟨i.val % 8192, by omega⟩ n) (Fin.ext ?_) (Fin.ext ?_)
  · blk_simp [ix_4 t]
    all_goals try simp
    all_goals try omega
  · blk_simp [ix_4 t]
    all_goals try simp
    all_goals try omega

/-- **The kernel's norms after the run**, by rows. -/
theorem final5 : (dats m 0 c).arrAt 5 cfg0.N = norms (aO m c) (aW m c) (aH m c) (aG m c) := by
  refine (dats m 0 c).arrAt_eq_of_covers 5 _ (by decide +kernel) fun t hf y => ?_
  blk_simp [ix_5 t]
  rw [after0_5]
  have ht := lt_N t
  refine (congrArg _ (eq_ix2 y)).trans ((out5_apply _ _ _ _ (y 0) (y 1)).trans ?_)
  refine (congrFun (congrArg₂ normed (sum_blk m c t (y 0))
    (funext fun k => (iblk_3 m c t k).trans (V_g m c k))) (y 1)).trans ?_
  unfold norms byRows
  have hy : (y 0).val < 512 := (y 0).isLt
  refine congrArg₂ (x := (⟨512 * t.val + (y 0).val, by omega⟩ : Fin 32768)) (fun (i : Fin 32768) n => normed (sumRow (aO m c) (aW m c) (aH m c) ⟨i.val / 8192, by omega⟩ ⟨i.val % 8192, by omega⟩)
    (fun k => aG m c (ix2 (n0 := 4) (n1 := 2048) 1 k)) n) (Fin.ext ?_) (Fin.ext ?_)
  · blk_simp [ix_5 t]
    all_goals try simp
    all_goals try omega
  · blk_simp [ix_5 t]
    all_goals try simp
    all_goals try omega

end Kernel

section Reference

open Cert.MlaOutRefIdeal Cert.MlaOutRefIdeal.Gen

/-- The reference's stream after the projection. -/
def rSum (o : FVec Ideal S4x8192x2048 .f32) (w : FVec Ideal S2x2048x2048 .f32) (h : FVec Ideal S4x8192x2048 .f32) :
    FVec Ideal S4x8192x2048 .f32 :=
  addf h (Host.dotGeneral dot_S4x8192x2048_S2048x2048_S4x8192x2048_2_0_01_1_n_n none o
    (shapeCast S2048x2048 (extractStridedSlice S1x2048x2048 ![0, 0, 0] w slices_S2x2048x2048_S1x2048x2048_0_0_0)
      shapeCasts_S1x2048x2048_S2048x2048))

theorem rSum_apply (o : FVec Ideal S4x8192x2048 .f32) (w : FVec Ideal S2x2048x2048 .f32) (h : FVec Ideal S4x8192x2048 .f32)
    (b : Fin 4) (s : Fin 8192) (n : Fin 2048) : (rSum o w h (ix3 b s n) : EReal) = sumRow o w h b s n := by
  pointwise [rSum]
  rfl

/-- The gain of the layer. -/
theorem gain_apply (g : FVec Ideal S4x2048 .f32) (k : Fin 2048) :
    (shapeCast S2048 (extractStridedSlice S1x2048 ![1, 0] g slices_S4x2048_S1x2048_1_0) shapeCasts_S1x2048_S2048 (ix1 k) : EReal)
      = g (ix2 (n0 := 4) (n1 := 2048) 1 k) := by
  pointwise

/-- The reference's norm. -/
def rNorm (o : FVec Ideal S4x8192x2048 .f32) (w : FVec Ideal S2x2048x2048 .f32) (h : FVec Ideal S4x8192x2048 .f32)
    (g : FVec Ideal S4x2048 .f32) : FVec Ideal S4x8192x2048 .f32 :=
  host (rSum o w h) (shapeCast S2048 (extractStridedSlice S1x2048 ![1, 0] g slices_S4x2048_S1x2048_1_0) shapeCasts_S1x2048_S2048)

/-- **The reference's sums**, by rows. -/
theorem ref4_eq (o : FVec Ideal S4x8192x2048 .f32) (w : FVec Ideal S2x2048x2048 .f32) (h : FVec Ideal S4x8192x2048 .f32) :
    (shapeCast S32768x2048 (rSum o w h) shapeCasts_S4x8192x2048_S32768x2048 : FVec Ideal S32768x2048 .f32) = sums o w h :=
  flat_eq _ _ (rSum_apply o w h)

/-- **The reference's norms**, by rows. -/
theorem ref5_eq (o : FVec Ideal S4x8192x2048 .f32) (w : FVec Ideal S2x2048x2048 .f32) (h : FVec Ideal S4x8192x2048 .f32)
    (g : FVec Ideal S4x2048 .f32) :
    (truncf .bf16 (shapeCast S32768x2048 (rNorm o w h g) shapeCasts_S4x8192x2048_S32768x2048) bitsLt_bf16_f32
      : FVec Ideal S32768x2048 .bf16) = norms o w h g :=
  flat_host_eq _ _ _ _ (rSum_apply o w h) (gain_apply g) _

end Reference

end Cert.MlaOutProof
-- ==== Proof.MoreCalls.lean ====
/-
  The claims of the calls that end in a norm (the last call, the FFN's down projection, and the output projections of the
  retention and of the attention) and of the retention's query and key projection. The arrays themselves are in
  `Proof/LastPle.lean`, `Proof/FfnDown.lean`, `Proof/RetOut.lean`, `Proof/MlaOut.lean` and `Proof/RetQk.lean`.
-/
module

public import proofs.«01_k».proof.Defs
public import proofs.«01_k».proof.Proof.Gen.LastPle.Frame
public import proofs.«01_k».proof.Proof.LastPle
public import proofs.«01_k».proof.Proof.Gen.FfnDown.Frame
public import proofs.«01_k».proof.Proof.FfnDown
public import proofs.«01_k».proof.Proof.Gen.RetOut.Frame
public import proofs.«01_k».proof.Proof.RetOut
public import proofs.«01_k».proof.Proof.Gen.MlaOut.Frame
public import proofs.«01_k».proof.Proof.Gen.RetQk.Frame
public import proofs.«01_k».proof.Proof.RetQk
public import proofs.«01_k».proof.Proof.MlaOut
public import Idealize.ShloMosaic.Adequacy
public import Idealize.ShloMosaic.Init

@[expose] public section

noncomputable section

namespace Cert.MoreCalls

open Idealize.ShloMosaic Idealize.SL.Sem

/-! ## The last call -/

section LastPle

/-- The reference of the last call runs, keeps its arguments, and declares no semaphore. -/
theorem frame_last_reference : Cert.quiescent_LastPleRefIdeal (hLastPleRefIdeal := Cert.LastPleRefIdeal.Gen.facts) := fun m g _ =>
  (θ_run _ _ _).mono (fun r h => ⟨fun c => (h c).2, sem_eq_zero_of_no_sems (by decide) r.2⟩) (Cert.LastPleRefIdeal.Value.run m g)

/-- The value claim of the last call: both leave the layer's result. -/
theorem algebraic_last : Cert.algebraic_LastPleIdeal_LastPleRefIdeal (hLastPleIdeal := Cert.LastPleIdeal.Gen.facts)
    (hLastPleRefIdeal := Cert.LastPleRefIdeal.Gen.facts) := by
  intro m g m' g' _ harg
  refine ⟨fun c => Cert.LastPleProof.rows (Cert.LastPleProof.aH m c) (Cert.LastPleProof.aF m c) (Cert.LastPleProof.aGp m c)
    (Cert.LastPleProof.aWg m c) (Cert.LastPleProof.aP m c) (Cert.LastPleProof.aWu m c) (Cert.LastPleProof.aGn m c), ?_, ?_⟩
  · refine (θ_run _ _ _).mono (fun r h c => ?_) (Cert.LastPleIdeal.Value.run_blocks m g)
    obtain ⟨e, k⟩ := h c
    exact ⟨e.trans (Cert.LastPleProof.final m c), k⟩
  · refine (θ_run _ _ _).mono (fun r h c => ?_) (Cert.LastPleRefIdeal.Value.run m' g')
    obtain ⟨e, k⟩ := h c
    refine ⟨(e.trans (Cert.LastPleProof.res_eq m' c)).trans ?_, k⟩
    obtain ⟨e0, e1, e2, e3, e4, e5, e6⟩ := harg c
    rw [e0, e1, e2, e3, e4, e5, e6]
    exact Cert.LastPleProof.ref_eq _ _ _ _ _ _ _

end LastPle

/-! ## The FFN's down projection -/

section FfnDown

open Cert.FfnDownProof

/-- The reference of the FFN's down projection runs, keeps its arguments, and declares no semaphore. -/
theorem frame_ffn_down_reference : Cert.quiescent_FfnDownRefIdeal (hFfnDownRefIdeal := Cert.FfnDownRefIdeal.Gen.facts) := fun m g _ =>
  (θ_run _ _ _).mono (fun r h => ⟨fun c => (h c).2.2, sem_eq_zero_of_no_sems (by decide) r.2⟩) (Cert.FfnDownRefIdeal.Value.run m g)

/-- The value claim of the FFN's down projection: both leave the sums and their norms. -/
theorem algebraic_ffn_down : Cert.algebraic_FfnDownIdeal_FfnDownRefIdeal (hFfnDownIdeal := Cert.FfnDownIdeal.Gen.facts)
    (hFfnDownRefIdeal := Cert.FfnDownRefIdeal.Gen.facts) := by
  intro m g m' g' _ harg
  refine ⟨fun c => sums (aU m c) (aW m c) (aH m c), fun c => norms (aU m c) (aW m c) (aH m c) (aG m c), ?_, ?_⟩
  · refine (θ_run _ _ _).mono (fun r h c => ?_) (Cert.FfnDownIdeal.Value.run_blocks m g)
    obtain ⟨e4, e5, k⟩ := h c
    exact ⟨e4.trans (final4 m c), e5.trans (final5 m c), k⟩
  · refine (θ_run _ _ _).mono (fun r h c => ?_) (Cert.FfnDownRefIdeal.Value.run m' g')
    obtain ⟨e4, e5, k⟩ := h c
    obtain ⟨e0, e1, e2, e3⟩ := harg c
    rw [e0, e1, e2] at e4
    rw [e0, e1, e2, e3] at e5
    exact ⟨e4.trans (ref4_eq _ _ _), e5.trans (ref5_eq _ _ _ _), k⟩

end FfnDown

/-! ## The output projection of the retention -/

section RetOut

open Cert.RetOutProof

/-- The reference of the output projection of the retention runs, keeps its arguments, and declares no semaphore. -/
theorem frame_ret_out_reference : Cert.quiescent_RetOutRefIdeal (hRetOutRefIdeal := Cert.RetOutRefIdeal.Gen.facts) := fun m g _ =>
  (θ_run _ _ _).mono (fun r h => ⟨fun c => (h c).2.2, sem_eq_zero_of_no_sems (by decide) r.2⟩) (Cert.RetOutRefIdeal.Value.run m g)

/-- The value claim of the output projection of the retention: both leave the sums and their norms. -/
theorem algebraic_ret_out : Cert.algebraic_RetOutIdeal_RetOutRefIdeal (hRetOutIdeal := Cert.RetOutIdeal.Gen.facts)
    (hRetOutRefIdeal := Cert.RetOutRefIdeal.Gen.facts) := by
  intro m g m' g' _ harg
  refine ⟨fun c => sums (aO m c) (aW m c) (aH m c), fun c => norms (aO m c) (aW m c) (aH m c) (aG m c), ?_, ?_⟩
  · refine (θ_run _ _ _).mono (fun r h c => ?_) (Cert.RetOutIdeal.Value.run_blocks m g)
    obtain ⟨e4, e5, k⟩ := h c
    exact ⟨e4.trans (final4 m c), e5.trans (final5 m c), k⟩
  · refine (θ_run _ _ _).mono (fun r h c => ?_) (Cert.RetOutRefIdeal.Value.run m' g')
    obtain ⟨e4, e5, k⟩ := h c
    obtain ⟨e0, e1, e2, e3⟩ := harg c
    rw [e0, e1, e2] at e4
    rw [e0, e1, e2, e3] at e5
    exact ⟨e4.trans (ref4_eq _ _ _), e5.trans (ref5_eq _ _ _ _), k⟩

end RetOut

/-! ## The output projection of the attention -/

section MlaOut

open Cert.MlaOutProof

/-- The reference of the output projection of the attention runs, keeps its arguments, and declares no semaphore. -/
theorem frame_mla_out_reference : Cert.quiescent_MlaOutRefIdeal (hMlaOutRefIdeal := Cert.MlaOutRefIdeal.Gen.facts) := fun m g _ =>
  (θ_run _ _ _).mono (fun r h => ⟨fun c => (h c).2.2, sem_eq_zero_of_no_sems (by decide) r.2⟩) (Cert.MlaOutRefIdeal.Value.run m g)

/-- The value claim of the output projection of the attention: both leave the sums and their norms. -/
theorem algebraic_mla_out : Cert.algebraic_MlaOutIdeal_MlaOutRefIdeal (hMlaOutIdeal := Cert.MlaOutIdeal.Gen.facts)
    (hMlaOutRefIdeal := Cert.MlaOutRefIdeal.Gen.facts) := by
  intro m g m' g' _ harg
  refine ⟨fun c => sums (aO m c) (aW m c) (aH m c), fun c => norms (aO m c) (aW m c) (aH m c) (aG m c), ?_, ?_⟩
  · refine (θ_run _ _ _).mono (fun r h c => ?_) (Cert.MlaOutIdeal.Value.run_blocks m g)
    obtain ⟨e4, e5, k⟩ := h c
    exact ⟨e4.trans (final4 m c), e5.trans (final5 m c), k⟩
  · refine (θ_run _ _ _).mono (fun r h c => ?_) (Cert.MlaOutRefIdeal.Value.run m' g')
    obtain ⟨e4, e5, k⟩ := h c
    obtain ⟨e0, e1, e2, e3⟩ := harg c
    rw [e0, e1, e2] at e4
    rw [e0, e1, e2, e3] at e5
    exact ⟨e4.trans (ref4_eq _ _ _), e5.trans (ref5_eq _ _ _ _), k⟩

end MlaOut

/-! ## The query and key projection of the retention -/

section RetQk

open Cert.RetQkProof

/-- The reference of the query and key projection runs, keeps its arguments, and declares no semaphore. -/
theorem frame_ret_qk_reference : Cert.quiescent_RetQkRefIdeal (hRetQkRefIdeal := Cert.RetQkRefIdeal.Gen.facts) := fun m g _ =>
  (θ_run _ _ _).mono (fun r h => ⟨fun c => (h c).2, sem_eq_zero_of_no_sems (by decide) r.2⟩) (Cert.RetQkRefIdeal.Value.run m g)

/-- Kernel and reference leave the same rotated queries and scaled keys. -/
theorem algebraic_ret_qk : Cert.algebraic_RetQkIdeal_RetQkRefIdeal (hRetQkIdeal := Cert.RetQkIdeal.Gen.facts) (hRetQkRefIdeal := Cert.RetQkRefIdeal.Gen.facts) := by
  intro m g m' g' _ harg
  refine ⟨fun c => qk (aX m c) (aW m c) cosines sines, ?_, ?_⟩
  · refine (θ_run _ _ _).mono (fun r h c => ?_) (Cert.RetQkIdeal.Value.run_blocks m g)
    obtain ⟨e, k⟩ := h c
    exact ⟨e.trans (final m c), k⟩
  · refine (θ_run _ _ _).mono (fun r h c => ?_) (Cert.RetQkRefIdeal.Value.run m' g')
    obtain ⟨e, k⟩ := h c
    refine ⟨(e.trans (res_eq m' c)).trans ?_, k⟩
    obtain ⟨e0, e1⟩ := harg c
    rw [e0, e1]
    exact ref_eq _ _ _ _

end RetQk

end Cert.MoreCalls

end
-- ==== Proof.Embed.lean ====
/-
  The per-layer embedding of a row of the residual stream: the embedding's product with its up weight, gated by the logistic
  function of the normed row's product with the gate's weight, is added to the row. And the same as a reference writes it, at
  an index.
-/
module

public import proofs.«01_k».proof.Proof.Norm

@[expose] public section

noncomputable section

namespace Cert.Embed

open Idealize.ShloMosaic Idealize.ShloMosaic.TcCoe

/-- The row `h` after the embedding `p`, with the normed row `hn`. -/
def embed (h hn : Fin 2048 → EReal) (wg : Fin 2048 → Fin 2048 → EReal) (p : Fin 256 → EReal) (wu : Fin 256 → Fin 2048 → EReal)
    (n : Fin 2048) : EReal :=
  h n + (∑ k, p k * wu k n) * Ideal.div 1 (1 + Ideal.exp (-∑ k, hn k * wg k n))

/-- Rows of equal arguments are equal. -/
theorem embed_congr {h h' hn hn' : Fin 2048 → EReal} {wg wg' : Fin 2048 → Fin 2048 → EReal} {p p' : Fin 256 → EReal}
    {wu wu' : Fin 256 → Fin 2048 → EReal} (eh : ∀ k, h k = h' k) (en : ∀ k, hn k = hn' k) (ewg : ∀ k n, wg k n = wg' k n)
    (ep : ∀ k, p k = p' k) (ewu : ∀ k n, wu k n = wu' k n) : embed h hn wg p wu = embed h' hn' wg' p' wu' := by
  rw [funext eh, funext en, funext fun k => funext (ewg k), funext ep, funext fun k => funext (ewu k)]

open Cert.LastPleRefIdeal Cert.LastPleRefIdeal.Gen

/-- The reference's stream after the embedding, of one layer's weights and embeddings. -/
def host (h hn : FVec Ideal S4x8192x2048 .f32) (wg : FVec Ideal S2048x2048 .f32) (p : FVec Ideal S4x8192x256 .f32)
    (wu : FVec Ideal S256x2048 .f32) : FVec Ideal S4x8192x2048 .f32 :=
  addf h (mulf (Host.dotGeneral dot_S4x8192x256_S256x2048_S4x8192x2048_2_0_01_1_n_n none p wu)
    (Host.divf (broadcastInDim S4x8192x2048 ![] bcast_S_S4x8192x2048 (constant S_ .f32 0x3F800000#32))
      (addf (broadcastInDim S4x8192x2048 ![] bcast_S_S4x8192x2048 (constant S_ .f32 0x3F800000#32))
        (Host.exp (Host.negf (Host.dotGeneral dot_S4x8192x2048_S2048x2048_S4x8192x2048_2_0_01_1_n_n none hn wg))))))

/-- Its row of batch `b` and position `s`. -/
theorem host_apply (h hn : FVec Ideal S4x8192x2048 .f32) (wg : FVec Ideal S2048x2048 .f32) (p : FVec Ideal S4x8192x256 .f32)
    (wu : FVec Ideal S256x2048 .f32) (b : Fin 4) (s : Fin 8192) (n : Fin 2048) :
    (host h hn wg p wu (ix3 b s n) : EReal)
      = embed (fun k => h (ix3 b s k)) (fun k => hn (ix3 b s k)) (fun k n => wg (ix2 k n)) (fun k => p (ix3 b s k))
        (fun k n => wu (ix2 k n)) n := by
  pointwise [host]
  rfl

end Cert.Embed

end
-- ==== Proof.FirstPle.lean ====
/-
  The embedding of the first layer: the normed stream opens the gate of the per-layer embedding, which is added to the residual
  stream, and the sum is normed for the next layer. At row `i` (batch `i / 8192`, position `i % 8192`) both the kernel's arrays
  and the reference's results hold the sum and its norm.
-/
module

public import proofs.«01_k».proof.Proof.Gen.FirstPleIdeal.Value
public import proofs.«01_k».proof.Proof.Gen.FirstPleRefIdeal.Run
public import proofs.«01_k».proof.Proof.Embed
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.FirstPleProof

open Idealize.ShloMosaic Idealize.ShloMosaic.TcCoe Idealize.SL.Sem Cert.Norm

section Kernel

open Cert.FirstPleIdeal Cert.FirstPleIdeal.Gen

/-- The stream's row of batch `b` and position `s` after the embedding. -/
def streamRow (h : FVec Ideal S4x8192x2048 .f32) (hn : FVec Ideal S4x8192x2048 .f32) (wg : FVec Ideal S4x2048x2048 .f32) (p : FVec Ideal S4x4x8192x256 .f32) (wu : FVec Ideal S4x256x2048 .f32)
    (b : Fin 4) (s : Fin 8192) : Fin 2048 → EReal :=
  Embed.embed (fun k => h (ix3 b s k)) (fun k => hn (ix3 b s k))
    (fun k n => wg (ix3 (n0 := 4) (n1 := 2048) (n2 := 2048) 0 k n))
    (fun k => p (ix4 (n0 := 4) (n1 := 4) (n2 := 8192) (n3 := 256) 0 b s k))
    (fun k n => wu (ix3 (n0 := 4) (n1 := 256) (n2 := 2048) 0 k n))

/-- The stream after the embedding. -/
def streams (h : FVec Ideal S4x8192x2048 .f32) (hn : FVec Ideal S4x8192x2048 .f32) (wg : FVec Ideal S4x2048x2048 .f32) (p : FVec Ideal S4x4x8192x256 .f32) (wu : FVec Ideal S4x256x2048 .f32) :
    FVec Ideal S32768x2048 .f32 := byRows (streamRow h hn wg p wu)

/-- Its norm. -/
def norms (h : FVec Ideal S4x8192x2048 .f32) (hn : FVec Ideal S4x8192x2048 .f32) (wg : FVec Ideal S4x2048x2048 .f32) (p : FVec Ideal S4x4x8192x256 .f32) (wu : FVec Ideal S4x256x2048 .f32) (gn : FVec Ideal S4x2048 .f32) :
    FVec Ideal S32768x2048 .bf16 :=
  byRows fun b s => normed (streamRow h hn wg p wu b s) fun k => gn (ix2 (n0 := 4) (n1 := 2048) 1 k)

theorem hz2 : (![0, 0] : Fin 2 → Nat) = fun _ => 0 := funext fun a => by fin_cases a <;> rfl
theorem hz3 : (![0, 0, 0] : Fin 3 → Nat) = fun _ => 0 := funext fun a => by fin_cases a <;> rfl

/-- The stream in the body. -/
theorem pay2_apply (x0 : Vec Ideal S256x2048 .f32) (x1 : Vec Ideal S256x2048 .bf16) (x2 : Vec Ideal S1x2048x2048 .bf16) (x3 : Vec Ideal S1x256x256 .f32) (x4 : Vec Ideal S1x256x2048 .bf16) (r : Fin 256) (n : Fin 2048) :
    (k0_pay2 x0 x1 x2 x3 x4 (ix2 r n) : EReal)
      = Embed.embed (fun k => x0 (ix2 r k)) (fun k => x1 (ix2 r k)) (fun k n => x2 (ix3 0 k n)) (fun k => x3 (ix3 0 r k))
        (fun k n => x4 (ix3 0 k n)) n := by
  pointwise [k0_pay2]
  rw [zero_sub]
  rfl

/-- The stream's norm in the body. -/
theorem pay1_apply (x0 : Vec Ideal S256x2048 .f32) (x1 : Vec Ideal S256x2048 .bf16) (x2 : Vec Ideal S1x2048x2048 .bf16) (x3 : Vec Ideal S1x256x256 .f32) (x4 : Vec Ideal S1x256x2048 .bf16) (x5 : Vec Ideal S1x2048 .f32) (r : Fin 256) (n : Fin 2048) :
    (k0_pay1 (k0_pay2 x0 x1 x2 x3 x4) (k0_pay3 x5) (k0_pay4 x0 x1 x2 x3 x4) (ix2 r n) : EReal)
      = normed (Embed.embed (fun k => x0 (ix2 r k)) (fun k => x1 (ix2 r k)) (fun k n => x2 (ix3 0 k n)) (fun k => x3 (ix3 0 r k))
        (fun k n => x4 (ix3 0 k n))) (fun k => x5 (ix2 0 k)) n := by
  pointwise [k0_pay1, k0_pay3, k0_pay4]
  simp only [pay2_apply]
  rfl

/-- What the body leaves of the stream, at an index. -/
theorem out6_apply (x0 : Vec Ideal S256x2048 .f32) (x1 : Vec Ideal S256x2048 .bf16) (x2 : Vec Ideal S1x2048x2048 .bf16) (x3 : Vec Ideal S1x256x256 .f32) (x4 : Vec Ideal S1x256x2048 .bf16) (x5 : Vec Ideal S1x2048 .f32) (r : Fin 256) (n : Fin 2048) :
    (out0_6 x0 x1 x2 x3 x4 x5 (ix2 r n) : EReal)
      = Embed.embed (fun k => x0 (ix2 r k)) (fun k => x1 (ix2 r k)) (fun k n => x2 (ix3 0 k n)) (fun k => x3 (ix3 0 r k))
        (fun k n => x4 (ix3 0 k n)) n := by
  unfold out0_6
  rw [View.canon_unit_zero hz2, View.ld_unit_zero (S := S256x2048) hz2, View.ld_unit_zero (S := S256x2048) hz2, View.ld_unit_zero (S := S1x2048x2048) hz3, View.ld_unit_zero (S := S1x256x256) hz3, View.ld_unit_zero (S := S1x256x2048) hz3, pay2_apply]

/-- What the body leaves of the norm, at an index. -/
theorem out7_apply (x0 : Vec Ideal S256x2048 .f32) (x1 : Vec Ideal S256x2048 .bf16) (x2 : Vec Ideal S1x2048x2048 .bf16) (x3 : Vec Ideal S1x256x256 .f32) (x4 : Vec Ideal S1x256x2048 .bf16) (x5 : Vec Ideal S1x2048 .f32) (r : Fin 256) (n : Fin 2048) :
    (out0_7 x0 x1 x2 x3 x4 x5 (ix2 r n) : EReal)
      = normed (Embed.embed (fun k => x0 (ix2 r k)) (fun k => x1 (ix2 r k)) (fun k n => x2 (ix3 0 k n)) (fun k => x3 (ix3 0 r k))
        (fun k n => x4 (ix3 0 k n))) (fun k => x5 (ix2 0 k)) n := by
  unfold out0_7
  rw [View.canon_unit_zero hz2, View.ld_unit_zero (S := S256x2048) hz2, View.ld_unit_zero (S := S256x2048) hz2, View.ld_unit_zero (S := S1x2048x2048) hz3, View.ld_unit_zero (S := S1x256x256) hz3, View.ld_unit_zero (S := S1x256x2048) hz3, View.ld_unit_zero (S := S1x2048) hz2, pay1_apply]

variable (m : (ℓ : Loc nD τ sig) → Buf (Elt Ideal) ℓ) (c : Dev nD)

/-- The argument arrays on device `c`. -/
def aH : FVec Ideal S4x8192x2048 .f32 := m ((c : Thread nD τ).loc main_arg0)
def aHn : FVec Ideal S4x8192x2048 .f32 := m ((c : Thread nD τ).loc main_arg1)
def aWg : FVec Ideal S4x2048x2048 .f32 := m ((c : Thread nD τ).loc main_arg2)
def aP : FVec Ideal S4x4x8192x256 .f32 := m ((c : Thread nD τ).loc main_arg3)
def aWu : FVec Ideal S4x256x2048 .f32 := m ((c : Thread nD τ).loc main_arg4)
def aGn : FVec Ideal S4x2048 .f32 := m ((c : Thread nD τ).loc main_arg5)

/-- The flattened residual stream. -/
theorem V_h (i : Fin 32768) (k : Fin 2048) : (V (F := Ideal) m c main_v0 (ix2 (n0 := 32768) (n1 := 2048) i k) : EReal)
    = aH m c (ix3 ⟨i.val / 8192, by omega⟩ ⟨i.val % 8192, by omega⟩ k) := by
  unfold V
  after_reads_at
  rfl

/-- Its flattened norm. -/
theorem V_hn (i : Fin 32768) (k : Fin 2048) : (V (F := Ideal) m c main_v2 (ix2 (n0 := 32768) (n1 := 2048) i k) : EReal)
    = aHn m c (ix3 ⟨i.val / 8192, by omega⟩ ⟨i.val % 8192, by omega⟩ k) := by
  unfold V
  after_reads_at
  rfl

/-- The gain of the next layer. -/
theorem V_gn (k : Fin 2048) : (V (F := Ideal) m c main_v8 (ix2 (n0 := 1) (n1 := 2048) 0 k) : EReal)
    = aGn m c (ix2 1 k) := by
  unfold V
  after_reads_at
  rfl

/-- The gate's weight. -/
theorem V_wg (j : S4x2048x2048.Idx) : (V (F := Ideal) m c main_v3 j : EReal)
    = aWg m c j := by
  unfold V
  after_reads_at
  rfl

/-- The embeddings. -/
theorem V_p (i : Fin 32768) (k : Fin 256) : (V (F := Ideal) m c main_v4 (ix3 (n0 := 4) (n1 := 32768) (n2 := 256) 0 i k) : EReal)
    = aP m c (ix4 0 ⟨i.val / 8192, by omega⟩ ⟨i.val % 8192, by omega⟩ k) := by
  unfold V
  after_reads_at
  rfl

/-- The up weight. -/
theorem V_wu (j : S4x256x2048.Idx) : (V (F := Ideal) m c main_v5 j : EReal)
    = aWu m c j := by
  unfold V
  after_reads_at
  rfl

theorem lt_N (t : Fin cfg0.N) : t.val < 128 := lt_of_lt_of_eq t.isLt (show cfg0.N = 128 from N_0)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![0, t.val, 0] := (by decide +kernel : ∀ t : Fin grid0.N, _)
theorem ix_4 : ∀ t : Fin cfg0.N, win0_4.index t = ![0, 0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)

/-- The residual stream's block of point `t`: 256 rows. -/
theorem iblk_0 (t : Fin cfg0.N) (r : Fin 256) (k : Fin 2048) :
    iblk m c 0 t (ix2 (n0 := 256) (n1 := 2048) r k)
      = V m c main_v0 (ix2 (n0 := 32768) (n1 := 2048) ⟨256 * t.val + r.val, by have := lt_N t; omega⟩ k) := by
  blk_simp [iblk, ix_0 t]
  refine congrArg (V m c main_v0) (funext fun a => Fin.ext ?_)
  match a with
  | ⟨0, _⟩ => blk_simp [ix_0 t]; all_goals simp; all_goals omega
  | ⟨1, _⟩ => blk_simp [ix_0 t]; all_goals simp

/-- The norm's block of point `t`: 256 rows. -/
theorem iblk_1 (t : Fin cfg0.N) (r : Fin 256) (k : Fin 2048) :
    iblk m c 1 t (ix2 (n0 := 256) (n1 := 2048) r k)
      = V m c main_v2 (ix2 (n0 := 32768) (n1 := 2048) ⟨256 * t.val + r.val, by have := lt_N t; omega⟩ k) := by
  blk_simp [iblk, ix_1 t]
  refine congrArg (V m c main_v2) (funext fun a => Fin.ext ?_)
  match a with
  | ⟨0, _⟩ => blk_simp [ix_1 t]; all_goals simp; all_goals omega
  | ⟨1, _⟩ => blk_simp [ix_1 t]; all_goals simp

/-- The gate weight's block: layer 0. -/
theorem iblk_2 (t : Fin cfg0.N) (k n : Fin 2048) :
    iblk m c 2 t (ix3 (n0 := 1) (n1 := 2048) (n2 := 2048) 0 k n)
      = V m c main_v3 (ix3 (n0 := 4) (n1 := 2048) (n2 := 2048) 0 k n) := by
  blk_simp [iblk, ix_2 t]
  refine congrArg (V m c main_v3) (funext fun a => Fin.ext ?_)
  match a with
  | ⟨0, _⟩ => blk_simp [ix_2 t]; all_goals simp
  | ⟨1, _⟩ => blk_simp [ix_2 t]; all_goals simp
  | ⟨2, _⟩ => blk_simp [ix_2 t]; all_goals simp

/-- The embeddings' block of point `t`: 256 rows of layer 0. -/
theorem iblk_3 (t : Fin cfg0.N) (r k : Fin 256) :
    iblk m c 3 t (ix3 (n0 := 1) (n1 := 256) (n2 := 256) 0 r k)
      = V m c main_v4 (ix3 (n0 := 4) (n1 := 32768) (n2 := 256) 0 ⟨256 * t.val + r.val, by have := lt_N t; omega⟩ k) := by
  blk_simp [iblk, ix_3 t]
  refine congrArg (V m c main_v4) (funext fun a => Fin.ext ?_)
  match a with
  | ⟨0, _⟩ => blk_simp [ix_3 t]; all_goals simp
  | ⟨1, _⟩ => blk_simp [ix_3 t]; all_goals simp; all_goals omega
  | ⟨2, _⟩ => blk_simp [ix_3 t]; all_goals simp

/-- The up weight's block: layer 0. -/
theorem iblk_4 (t : Fin cfg0.N) (k : Fin 256) (n : Fin 2048) :
    iblk m c 4 t (ix3 (n0 := 1) (n1 := 256) (n2 := 2048) 0 k n)
      = V m c main_v5 (ix3 (n0 := 4) (n1 := 256) (n2 := 2048) 0 k n) := by
  blk_simp [iblk, ix_4 t]
  refine congrArg (V m c main_v5) (funext fun a => Fin.ext ?_)
  match a with
  | ⟨0, _⟩ => blk_simp [ix_4 t]; all_goals simp
  | ⟨1, _⟩ => blk_simp [ix_4 t]; all_goals simp
  | ⟨2, _⟩ => blk_simp [ix_4 t]; all_goals simp

/-- The next gain's block: the gain. -/
theorem iblk_5 (t : Fin cfg0.N) (k : Fin 2048) :
    iblk m c 5 t (ix2 (n0 := 1) (n1 := 2048) 0 k)
      = V m c main_v8 (ix2 (n0 := 1) (n1 := 2048) 0 k) := by
  blk_simp [iblk, ix_5 t]
  refine congrArg (V m c main_v8) (funext fun a => Fin.ext ?_)
  match a with
  | ⟨0, _⟩ => blk_simp [ix_5 t]; all_goals simp
  | ⟨1, _⟩ => blk_simp [ix_5 t]; all_goals simp

/-- The blocks' streams are the arguments'. -/
theorem stream_blk (t : Fin cfg0.N) (r : Fin 256) :
    Embed.embed (fun k => iblk m c 0 t (ix2 (n0 := 256) (n1 := 2048) r k))
      (fun k => iblk m c 1 t (ix2 (n0 := 256) (n1 := 2048) r k))
      (fun k n => iblk m c 2 t (ix3 (n0 := 1) (n1 := 2048) (n2 := 2048) 0 k n))
      (fun k => iblk m c 3 t (ix3 (n0 := 1) (n1 := 256) (n2 := 256) 0 r k))
      (fun k n => iblk m c 4 t (ix3 (n0 := 1) (n1 := 256) (n2 := 2048) 0 k n))
      = streamRow (aH m c) (aHn m c) (aWg m c) (aP m c) (aWu m c)
        ⟨(256 * t.val + r.val) / 8192, by have := lt_N t; omega⟩ ⟨(256 * t.val + r.val) % 8192, by omega⟩ :=
  Embed.embed_congr (fun k => (iblk_0 m c t r k).trans (V_h m c _ k))
      (fun k => (iblk_1 m c t r k).trans (V_hn m c _ k))
      (fun k n => (iblk_2 m c t k n).trans (V_wg m c _))
      (fun k => (iblk_3 m c t r k).trans (V_p m c _ k))
      (fun k n => (iblk_4 m c t k n).trans (V_wu m c _))

/-- **The kernel's streams after the run**, by rows. -/
theorem final6 : (dats m 0 c).arrAt 6 cfg0.N = streams (aH m c) (aHn m c) (aWg m c) (aP m c) (aWu m c) := by
  refine (dats m 0 c).arrAt_eq_of_covers 6 _ (by decide +kernel) fun t hf y => ?_
  blk_simp [ix_6 t]
  rw [after0_6]
  have ht := lt_N t
  refine (congrArg _ (eq_ix2 y)).trans ((out6_apply _ _ _ _ _ _ (y 0) (y 1)).trans ?_)
  refine (congrFun (stream_blk m c t (y 0)) (y 1)).trans ?_
  unfold streams byRows
  have hy : (y 0).val < 256 := (y 0).isLt
  refine congrArg₂ (x := (⟨256 * t.val + (y 0).val, by omega⟩ : Fin 32768)) (fun (i : Fin 32768) n => streamRow (aH m c) (aHn m c) (aWg m c) (aP m c) (aWu m c) ⟨i.val / 8192, by omega⟩ ⟨i.val % 8192, by omega⟩ n) (Fin.ext ?_) (Fin.ext ?_)
  · blk_simp [ix_6 t]
    all_goals try simp
    all_goals try omega
  · blk_simp [ix_6 t]
    all_goals try simp
    all_goals try omega

/-- **The kernel's norms after the run**, by rows. -/
theorem final7 : (dats m 0 c).arrAt 7 cfg0.N = norms (aH m c) (aHn m c) (aWg m c) (aP m c) (aWu m c) (aGn m c) := by
  refine (dats m 0 c).arrAt_eq_of_covers 7 _ (by decide +kernel) fun t hf y => ?_
  blk_simp [ix_7 t]
  rw [after0_7]
  have ht := lt_N t
  refine (congrArg _ (eq_ix2 y)).trans ((out7_apply _ _ _ _ _ _ (y 0) (y 1)).trans ?_)
  refine (congrFun (congrArg₂ normed (stream_blk m c t (y 0))
    (funext fun k => (iblk_5 m c t k).trans (V_gn m c k))) (y 1)).trans ?_
  unfold norms byRows
  have hy : (y 0).val < 256 := (y 0).isLt
  refine congrArg₂ (x := (⟨256 * t.val + (y 0).val, by omega⟩ : Fin 32768)) (fun (i : Fin 32768) n => normed (streamRow (aH m c) (aHn m c) (aWg m c) (aP m c) (aWu m c) ⟨i.val / 8192, by omega⟩ ⟨i.val % 8192, by omega⟩)
    (fun k => aGn m c (ix2 (n0 := 4) (n1 := 2048) 1 k)) n) (Fin.ext ?_) (Fin.ext ?_)
  · blk_simp [ix_7 t]
    all_goals try simp
    all_goals try omega
  · blk_simp [ix_7 t]
    all_goals try simp
    all_goals try omega

end Kernel

section Reference

open Cert.FirstPleRefIdeal Cert.FirstPleRefIdeal.Gen

/-- The reference's stream after the embedding. -/
def rStream (h : FVec Ideal S4x8192x2048 .f32) (hn : FVec Ideal S4x8192x2048 .f32) (wg : FVec Ideal S4x2048x2048 .f32) (p : FVec Ideal S4x4x8192x256 .f32) (wu : FVec Ideal S4x256x2048 .f32) :
    FVec Ideal S4x8192x2048 .f32 :=
  Embed.host h hn
    (shapeCast S2048x2048 (extractStridedSlice S1x2048x2048 ![0, 0, 0] wg slices_S4x2048x2048_S1x2048x2048_0_0_0) shapeCasts_S1x2048x2048_S2048x2048)
    (shapeCast S4x8192x256 (extractStridedSlice S1x4x8192x256 ![0, 0, 0, 0] p slices_S4x4x8192x256_S1x4x8192x256_0_0_0_0) shapeCasts_S1x4x8192x256_S4x8192x256)
    (shapeCast S256x2048 (extractStridedSlice S1x256x2048 ![0, 0, 0] wu slices_S4x256x2048_S1x256x2048_0_0_0) shapeCasts_S1x256x2048_S256x2048)

/-- The layer's gate weight. -/
theorem wg_apply (wg : FVec Ideal S4x2048x2048 .f32) (k n : Fin 2048) :
    (shapeCast S2048x2048 (extractStridedSlice S1x2048x2048 ![0, 0, 0] wg slices_S4x2048x2048_S1x2048x2048_0_0_0) shapeCasts_S1x2048x2048_S2048x2048 (ix2 k n) : EReal)
      = wg (ix3 (n0 := 4) (n1 := 2048) (n2 := 2048) 0 k n) := by
  pointwise

/-- The layer's embeddings. -/
theorem p_apply (p : FVec Ideal S4x4x8192x256 .f32) (b : Fin 4) (s : Fin 8192) (k : Fin 256) :
    (shapeCast S4x8192x256 (extractStridedSlice S1x4x8192x256 ![0, 0, 0, 0] p slices_S4x4x8192x256_S1x4x8192x256_0_0_0_0) shapeCasts_S1x4x8192x256_S4x8192x256 (ix3 b s k) : EReal)
      = p (ix4 (n0 := 4) (n1 := 4) (n2 := 8192) (n3 := 256) 0 b s k) := by
  pointwise

/-- The layer's up weight. -/
theorem wu_apply (wu : FVec Ideal S4x256x2048 .f32) (k : Fin 256) (n : Fin 2048) :
    (shapeCast S256x2048 (extractStridedSlice S1x256x2048 ![0, 0, 0] wu slices_S4x256x2048_S1x256x2048_0_0_0) shapeCasts_S1x256x2048_S256x2048 (ix2 k n) : EReal)
      = wu (ix3 (n0 := 4) (n1 := 256) (n2 := 2048) 0 k n) := by
  pointwise

/-- The gain of the next layer. -/
theorem gn_apply (g : FVec Ideal S4x2048 .f32) (k : Fin 2048) :
    (shapeCast S2048 (extractStridedSlice S1x2048 ![1, 0] g slices_S4x2048_S1x2048_1_0) shapeCasts_S1x2048_S2048 (ix1 k) : EReal)
      = g (ix2 (n0 := 4) (n1 := 2048) 1 k) := by
  pointwise

/-- Its row of batch `b` and position `s`. -/
theorem rStream_apply (h : FVec Ideal S4x8192x2048 .f32) (hn : FVec Ideal S4x8192x2048 .f32) (wg : FVec Ideal S4x2048x2048 .f32) (p : FVec Ideal S4x4x8192x256 .f32) (wu : FVec Ideal S4x256x2048 .f32)
    (b : Fin 4) (s : Fin 8192) (n : Fin 2048) : (rStream h hn wg p wu (ix3 b s n) : EReal) = streamRow h hn wg p wu b s n := by
  unfold rStream
  refine (Embed.host_apply _ _ _ _ _ b s n).trans ?_
  exact congrFun (Embed.embed_congr (fun _ => rfl) (fun _ => rfl) (wg_apply wg) (p_apply p b s) (wu_apply wu)) n

/-- The reference's norm. -/
def rNorm (h : FVec Ideal S4x8192x2048 .f32) (hn : FVec Ideal S4x8192x2048 .f32) (wg : FVec Ideal S4x2048x2048 .f32) (p : FVec Ideal S4x4x8192x256 .f32) (wu : FVec Ideal S4x256x2048 .f32) (gn : FVec Ideal S4x2048 .f32) :
    FVec Ideal S4x8192x2048 .f32 :=
  host (rStream h hn wg p wu) (shapeCast S2048 (extractStridedSlice S1x2048 ![1, 0] gn slices_S4x2048_S1x2048_1_0) shapeCasts_S1x2048_S2048)

/-- **The reference's streams**, by rows. -/
theorem ref6_eq (h : FVec Ideal S4x8192x2048 .f32) (hn : FVec Ideal S4x8192x2048 .f32) (wg : FVec Ideal S4x2048x2048 .f32) (p : FVec Ideal S4x4x8192x256 .f32) (wu : FVec Ideal S4x256x2048 .f32) :
    (shapeCast S32768x2048 (rStream h hn wg p wu) shapeCasts_S4x8192x2048_S32768x2048 : FVec Ideal S32768x2048 .f32)
      = streams h hn wg p wu :=
  flat_eq _ _ (rStream_apply h hn wg p wu)

/-- **The reference's norms**, by rows. -/
theorem ref7_eq (h : FVec Ideal S4x8192x2048 .f32) (hn : FVec Ideal S4x8192x2048 .f32) (wg : FVec Ideal S4x2048x2048 .f32) (p : FVec Ideal S4x4x8192x256 .f32) (wu : FVec Ideal S4x256x2048 .f32) (gn : FVec Ideal S4x2048 .f32) :
    (truncf .bf16 (shapeCast S32768x2048 (rNorm h hn wg p wu gn) shapeCasts_S4x8192x2048_S32768x2048) bitsLt_bf16_f32
      : FVec Ideal S32768x2048 .bf16) = norms h hn wg p wu gn :=
  flat_host_eq _ _ _ _ (rStream_apply h hn wg p wu) (gn_apply gn) _

end Reference

end Cert.FirstPleProof
-- ==== Proof.MidPle.lean ====
/-
  The embedding of the second layer: the feed-forward layer's output is added to the residual stream, the sum's norm opens the
  gate of the per-layer embedding, which is added too, and the stream is normed for the next layer. At row `i` (batch
  `i / 8192`, position `i % 8192`) both the kernel's arrays and the reference's results hold the stream and its norm.
-/
module

public import proofs.«01_k».proof.Proof.Gen.MidPleIdeal.Value
public import proofs.«01_k».proof.Proof.Gen.MidPleRefIdeal.Run
public import proofs.«01_k».proof.Proof.Embed
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.MidPleProof

open Idealize.ShloMosaic Idealize.ShloMosaic.TcCoe Idealize.SL.Sem Cert.Norm

/-- The row of the stream from the residual stream `h` and the feed-forward's output `f`. -/
def stream (h f gp : Fin 2048 → EReal) (wg : Fin 2048 → Fin 2048 → EReal) (p : Fin 256 → EReal)
    (wu : Fin 256 → Fin 2048 → EReal) : Fin 2048 → EReal :=
  Embed.embed (fun k => h k + f k) (normed (fun k => h k + f k) gp) wg p wu

/-- Rows of equal arguments are equal. -/
theorem stream_congr {h h' f f' gp gp' : Fin 2048 → EReal} {wg wg' : Fin 2048 → Fin 2048 → EReal} {p p' : Fin 256 → EReal}
    {wu wu' : Fin 256 → Fin 2048 → EReal} (eh : ∀ k, h k = h' k) (ef : ∀ k, f k = f' k) (egp : ∀ k, gp k = gp' k)
    (ewg : ∀ k n, wg k n = wg' k n) (ep : ∀ k, p k = p' k) (ewu : ∀ k n, wu k n = wu' k n) :
    stream h f gp wg p wu = stream h' f' gp' wg' p' wu' := by
  unfold stream
  rw [funext eh, funext ef, funext egp]
  exact Embed.embed_congr (fun _ => rfl) (fun _ => rfl) ewg ep ewu

section Kernel

open Cert.MidPleIdeal Cert.MidPleIdeal.Gen

/-- The stream's row of batch `b` and position `s` after the embedding. -/
def streamRow (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32)
    (b : Fin 4) (s : Fin 8192) : Fin 2048 → EReal :=
  stream (fun k => h (ix3 b s k)) (fun k => f (ix3 b s k)) (fun k => gp (ix2 (n0 := 4) (n1 := 2048) 1 k))
    (fun k n => wg (ix3 (n0 := 4) (n1 := 2048) (n2 := 2048) 1 k n))
    (fun k => p (ix4 (n0 := 4) (n1 := 4) (n2 := 8192) (n3 := 256) 1 b s k))
    (fun k n => wu (ix3 (n0 := 4) (n1 := 256) (n2 := 2048) 1 k n))

/-- The stream after the embedding. -/
def streams (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32) :
    FVec Ideal S32768x2048 .f32 := byRows (streamRow h f gp wg p wu)

/-- Its norm. -/
def norms (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32) (gn : FVec Ideal S4x2048 .f32) :
    FVec Ideal S32768x2048 .bf16 :=
  byRows fun b s => normed (streamRow h f gp wg p wu b s) fun k => gn (ix2 (n0 := 4) (n1 := 2048) 2 k)

theorem hz2 : (![0, 0] : Fin 2 → Nat) = fun _ => 0 := funext fun a => by fin_cases a <;> rfl
theorem hz3 : (![0, 0, 0] : Fin 3 → Nat) = fun _ => 0 := funext fun a => by fin_cases a <;> rfl

/-- The residual's sum in the body. -/
theorem pay3_apply (x0 : Vec Ideal S256x2048 .f32) (x1 : Vec Ideal S256x2048 .bf16) (r : Fin 256) (n : Fin 2048) :
    (k0_pay3 x0 x1 (ix2 r n) : EReal) = (x0 (ix2 r n) : EReal) + x1 (ix2 r n) := by
  pointwise [k0_pay3]

/-- The gate in the body. -/
theorem pay4_apply (x0 : Vec Ideal S256x2048 .f32) (x1 : Vec Ideal S256x2048 .bf16) (x2 : Vec Ideal S1x2048 .f32)
    (x3 : Vec Ideal S1x2048x2048 .bf16) (r : Fin 256) (n : Fin 2048) :
    (k0_pay4 x0 x1 x2 x3 (ix2 r n) : EReal)
      = Ideal.div 1 (1 + Ideal.exp (-∑ k, normed (fun k => k0_pay3 x0 x1 (ix2 r k)) (fun k => x2 (ix2 0 k)) k * x3 (ix3 0 k n))) := by
  pointwise [k0_pay4]
  rw [zero_sub]
  rfl

/-- The stream in the body. -/
theorem pay1_apply (x0 : Vec Ideal S256x2048 .f32) (x1 : Vec Ideal S256x2048 .bf16) (x2 : Vec Ideal S1x2048 .f32) (x3 : Vec Ideal S1x2048x2048 .bf16) (x4 : Vec Ideal S1x256x256 .f32) (x5 : Vec Ideal S1x256x2048 .bf16) (r : Fin 256) (n : Fin 2048) :
    (k0_pay1 (k0_pay3 x0 x1) (k0_pay4 x0 x1 x2 x3) (k0_pay5 x4) (k0_pay6 x5) (constant S256x2048 .f32 0x00000000#32) (ix2 r n) : EReal)
      = stream (fun k => x0 (ix2 r k)) (fun k => x1 (ix2 r k)) (fun k => x2 (ix2 0 k)) (fun k n => x3 (ix3 0 k n))
        (fun k => x4 (ix3 0 r k)) (fun k n => x5 (ix3 0 k n)) n := by
  pointwise [k0_pay1, k0_pay5, k0_pay6]
  simp only [pay4_apply, pay3_apply]
  rfl

/-- The stream's norm in the body. -/
theorem pay2_apply (x0 : Vec Ideal S256x2048 .f32) (x1 : Vec Ideal S256x2048 .bf16) (x2 : Vec Ideal S1x2048 .f32) (x3 : Vec Ideal S1x2048x2048 .bf16) (x4 : Vec Ideal S1x256x256 .f32) (x5 : Vec Ideal S1x256x2048 .bf16) (x6 : Vec Ideal S1x2048 .f32) (r : Fin 256) (n : Fin 2048) :
    (k0_pay2 (k0_pay3 x0 x1) (k0_pay4 x0 x1 x2 x3) (k0_pay5 x4) (k0_pay6 x5) (constant S256x2048 .f32 0x00000000#32) x6 (ix2 r n) : EReal)
      = normed (stream (fun k => x0 (ix2 r k)) (fun k => x1 (ix2 r k)) (fun k => x2 (ix2 0 k)) (fun k n => x3 (ix3 0 k n))
        (fun k => x4 (ix3 0 r k)) (fun k n => x5 (ix3 0 k n))) (fun k => x6 (ix2 0 k)) n := by
  pointwise [k0_pay2]
  simp only [pay1_apply]
  rfl

/-- What the body leaves of the stream, at an index. -/
theorem out7_apply (x0 : Vec Ideal S256x2048 .f32) (x1 : Vec Ideal S256x2048 .bf16) (x2 : Vec Ideal S1x2048 .f32) (x3 : Vec Ideal S1x2048x2048 .bf16) (x4 : Vec Ideal S1x256x256 .f32) (x5 : Vec Ideal S1x256x2048 .bf16) (x6 : Vec Ideal S1x2048 .f32) (r : Fin 256) (n : Fin 2048) :
    (out0_7 x0 x1 x2 x3 x4 x5 x6 (ix2 r n) : EReal)
      = stream (fun k => x0 (ix2 r k)) (fun k => x1 (ix2 r k)) (fun k => x2 (ix2 0 k)) (fun k n => x3 (ix3 0 k n))
        (fun k => x4 (ix3 0 r k)) (fun k n => x5 (ix3 0 k n)) n := by
  unfold out0_7 k0_pay7 k0_pay8 k0_pay9 k0_pay10 k0_pay11
  rw [View.canon_unit_zero hz2, View.ld_unit_zero (S := S256x2048) hz2, View.ld_unit_zero (S := S256x2048) hz2, View.ld_unit_zero (S := S1x2048) hz2, View.ld_unit_zero (S := S1x2048x2048) hz3, View.ld_unit_zero (S := S1x256x256) hz3, View.ld_unit_zero (S := S1x256x2048) hz3, pay1_apply]

/-- What the body leaves of the norm, at an index. -/
theorem out8_apply (x0 : Vec Ideal S256x2048 .f32) (x1 : Vec Ideal S256x2048 .bf16) (x2 : Vec Ideal S1x2048 .f32) (x3 : Vec Ideal S1x2048x2048 .bf16) (x4 : Vec Ideal S1x256x256 .f32) (x5 : Vec Ideal S1x256x2048 .bf16) (x6 : Vec Ideal S1x2048 .f32) (r : Fin 256) (n : Fin 2048) :
    (out0_8 x0 x1 x2 x3 x4 x5 x6 (ix2 r n) : EReal)
      = normed (stream (fun k => x0 (ix2 r k)) (fun k => x1 (ix2 r k)) (fun k => x2 (ix2 0 k)) (fun k n => x3 (ix3 0 k n))
        (fun k => x4 (ix3 0 r k)) (fun k n => x5 (ix3 0 k n))) (fun k => x6 (ix2 0 k)) n := by
  unfold out0_8 k0_pay7 k0_pay8 k0_pay9 k0_pay10 k0_pay11
  rw [View.canon_unit_zero hz2, View.ld_unit_zero (S := S256x2048) hz2, View.ld_unit_zero (S := S256x2048) hz2, View.ld_unit_zero (S := S1x2048) hz2, View.ld_unit_zero (S := S1x2048x2048) hz3, View.ld_unit_zero (S := S1x256x256) hz3, View.ld_unit_zero (S := S1x256x2048) hz3, View.ld_unit_zero (S := S1x2048) hz2, pay2_apply]

variable (m : (ℓ : Loc nD τ sig) → Buf (Elt Ideal) ℓ) (c : Dev nD)

/-- The argument arrays on device `c`. -/
def aH : FVec Ideal S4x8192x2048 .f32 := m ((c : Thread nD τ).loc main_arg0)
def aF : FVec Ideal S4x8192x2048 .f32 := m ((c : Thread nD τ).loc main_arg1)
def aGp : FVec Ideal S4x2048 .f32 := m ((c : Thread nD τ).loc main_arg2)
def aWg : FVec Ideal S4x2048x2048 .f32 := m ((c : Thread nD τ).loc main_arg3)
def aP : FVec Ideal S4x4x8192x256 .f32 := m ((c : Thread nD τ).loc main_arg4)
def aWu : FVec Ideal S4x256x2048 .f32 := m ((c : Thread nD τ).loc main_arg5)
def aGn : FVec Ideal S4x2048 .f32 := m ((c : Thread nD τ).loc main_arg6)

/-- The flattened residual stream. -/
theorem V_h (i : Fin 32768) (k : Fin 2048) : (V (F := Ideal) m c main_v0 (ix2 (n0 := 32768) (n1 := 2048) i k) : EReal)
    = aH m c (ix3 ⟨i.val / 8192, by omega⟩ ⟨i.val % 8192, by omega⟩ k) := by
  unfold V
  after_reads_at
  rfl

/-- The flattened output of the feed-forward layer. -/
theorem V_f (i : Fin 32768) (k : Fin 2048) : (V (F := Ideal) m c main_v2 (ix2 (n0 := 32768) (n1 := 2048) i k) : EReal)
    = aF m c (ix3 ⟨i.val / 8192, by omega⟩ ⟨i.val % 8192, by omega⟩ k) := by
  unfold V
  after_reads_at
  rfl

/-- The gain before the gate. -/
theorem V_gp (k : Fin 2048) : (V (F := Ideal) m c main_v10 (ix2 (n0 := 1) (n1 := 2048) 0 k) : EReal)
    = aGp m c (ix2 1 k) := by
  unfold V
  after_reads_at
  rfl

/-- The gain of the next layer. -/
theorem V_gn (k : Fin 2048) : (V (F := Ideal) m c main_v11 (ix2 (n0 := 1) (n1 := 2048) 0 k) : EReal)
    = aGn m c (ix2 2 k) := by
  unfold V
  after_reads_at
  rfl

/-- The gate's weight. -/
theorem V_wg (j : S4x2048x2048.Idx) : (V (F := Ideal) m c main_v5 j : EReal)
    = aWg m c j := by
  unfold V
  after_reads_at
  rfl

/-- The embeddings. -/
theorem V_p (i : Fin 32768) (k : Fin 256) : (V (F := Ideal) m c main_v6 (ix3 (n0 := 4) (n1 := 32768) (n2 := 256) 1 i k) : EReal)
    = aP m c (ix4 1 ⟨i.val / 8192, by omega⟩ ⟨i.val % 8192, by omega⟩ k) := by
  unfold V
  after_reads_at
  rfl

/-- The up weight. -/
theorem V_wu (j : S4x256x2048.Idx) : (V (F := Ideal) m c main_v7 j : EReal)
    = aWu m c j := by
  unfold V
  after_reads_at
  rfl

theorem lt_N (t : Fin cfg0.N) : t.val < 128 := lt_of_lt_of_eq t.isLt (show cfg0.N = 128 from N_0)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![1, 0, 0] := (by decide +kernel : ∀ t : Fin grid0.N, _)
theorem ix_4 : ∀ t : Fin cfg0.N, win0_4.index t = ![1, t.val, 0] := (by decide +kernel : ∀ t : Fin grid0.N, _)
theorem ix_5 : ∀ t : Fin cfg0.N, win0_5.index t = ![1, 0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)

/-- The residual stream's block of point `t`: 256 rows. -/
theorem iblk_0 (t : Fin cfg0.N) (r : Fin 256) (k : Fin 2048) :
    iblk m c 0 t (ix2 (n0 := 256) (n1 := 2048) r k)
      = V m c main_v0 (ix2 (n0 := 32768) (n1 := 2048) ⟨256 * t.val + r.val, by have := lt_N t; omega⟩ k) := by
  blk_simp [iblk, ix_0 t]
  refine congrArg (V m c main_v0) (funext fun a => Fin.ext ?_)
  match a with
  | ⟨0, _⟩ => blk_simp [ix_0 t]; all_goals simp; all_goals omega
  | ⟨1, _⟩ => blk_simp [ix_0 t]; all_goals simp

/-- The feed-forward output's block of point `t`: 256 rows. -/
theorem iblk_1 (t : Fin cfg0.N) (r : Fin 256) (k : Fin 2048) :
    iblk m c 1 t (ix2 (n0 := 256) (n1 := 2048) r k)
      = V m c main_v2 (ix2 (n0 := 32768) (n1 := 2048) ⟨256 * t.val + r.val, by have := lt_N t; omega⟩ k) := by
  blk_simp [iblk, ix_1 t]
  refine congrArg (V m c main_v2) (funext fun a => Fin.ext ?_)
  match a with
  | ⟨0, _⟩ => blk_simp [ix_1 t]; all_goals simp; all_goals omega
  | ⟨1, _⟩ => blk_simp [ix_1 t]; all_goals simp

/-- The gain's block: the gain. -/
theorem iblk_2 (t : Fin cfg0.N) (k : Fin 2048) :
    iblk m c 2 t (ix2 (n0 := 1) (n1 := 2048) 0 k)
      = V m c main_v10 (ix2 (n0 := 1) (n1 := 2048) 0 k) := by
  blk_simp [iblk, ix_2 t]
  refine congrArg (V m c main_v10) (funext fun a => Fin.ext ?_)
  match a with
  | ⟨0, _⟩ => blk_simp [ix_2 t]; all_goals simp
  | ⟨1, _⟩ => blk_simp [ix_2 t]; all_goals simp

/-- The gate weight's block: layer 1. -/
theorem iblk_3 (t : Fin cfg0.N) (k n : Fin 2048) :
    iblk m c 3 t (ix3 (n0 := 1) (n1 := 2048) (n2 := 2048) 0 k n)
      = V m c main_v5 (ix3 (n0 := 4) (n1 := 2048) (n2 := 2048) 1 k n) := by
  blk_simp [iblk, ix_3 t]
  refine congrArg (V m c main_v5) (funext fun a => Fin.ext ?_)
  match a with
  | ⟨0, _⟩ => blk_simp [ix_3 t]; all_goals simp
  | ⟨1, _⟩ => blk_simp [ix_3 t]; all_goals simp
  | ⟨2, _⟩ => blk_simp [ix_3 t]; all_goals simp

/-- The embeddings' block of point `t`: 256 rows of layer 1. -/
theorem iblk_4 (t : Fin cfg0.N) (r k : Fin 256) :
    iblk m c 4 t (ix3 (n0 := 1) (n1 := 256) (n2 := 256) 0 r k)
      = V m c main_v6 (ix3 (n0 := 4) (n1 := 32768) (n2 := 256) 1 ⟨256 * t.val + r.val, by have := lt_N t; omega⟩ k) := by
  blk_simp [iblk, ix_4 t]
  refine congrArg (V m c main_v6) (funext fun a => Fin.ext ?_)
  match a with
  | ⟨0, _⟩ => blk_simp [ix_4 t]; all_goals simp
  | ⟨1, _⟩ => blk_simp [ix_4 t]; all_goals simp; all_goals omega
  | ⟨2, _⟩ => blk_simp [ix_4 t]; all_goals simp

/-- The up weight's block: layer 1. -/
theorem iblk_5 (t : Fin cfg0.N) (k : Fin 256) (n : Fin 2048) :
    iblk m c 5 t (ix3 (n0 := 1) (n1 := 256) (n2 := 2048) 0 k n)
      = V m c main_v7 (ix3 (n0 := 4) (n1 := 256) (n2 := 2048) 1 k n) := by
  blk_simp [iblk, ix_5 t]
  refine congrArg (V m c main_v7) (funext fun a => Fin.ext ?_)
  match a with
  | ⟨0, _⟩ => blk_simp [ix_5 t]; all_goals simp
  | ⟨1, _⟩ => blk_simp [ix_5 t]; all_goals simp
  | ⟨2, _⟩ => blk_simp [ix_5 t]; all_goals simp

/-- The next gain's block: the gain. -/
theorem iblk_6 (t : Fin cfg0.N) (k : Fin 2048) :
    iblk m c 6 t (ix2 (n0 := 1) (n1 := 2048) 0 k)
      = V m c main_v11 (ix2 (n0 := 1) (n1 := 2048) 0 k) := by
  blk_simp [iblk, ix_6 t]
  refine congrArg (V m c main_v11) (funext fun a => Fin.ext ?_)
  match a with
  | ⟨0, _⟩ => blk_simp [ix_6 t]; all_goals simp
  | ⟨1, _⟩ => blk_simp [ix_6 t]; all_goals simp

/-- The blocks' streams are the arguments'. -/
theorem stream_blk (t : Fin cfg0.N) (r : Fin 256) :
    stream (fun k => iblk m c 0 t (ix2 (n0 := 256) (n1 := 2048) r k))
      (fun k => iblk m c 1 t (ix2 (n0 := 256) (n1 := 2048) r k))
      (fun k => iblk m c 2 t (ix2 (n0 := 1) (n1 := 2048) 0 k))
      (fun k n => iblk m c 3 t (ix3 (n0 := 1) (n1 := 2048) (n2 := 2048) 0 k n))
      (fun k => iblk m c 4 t (ix3 (n0 := 1) (n1 := 256) (n2 := 256) 0 r k))
      (fun k n => iblk m c 5 t (ix3 (n0 := 1) (n1 := 256) (n2 := 2048) 0 k n))
      = streamRow (aH m c) (aF m c) (aGp m c) (aWg m c) (aP m c) (aWu m c)
        ⟨(256 * t.val + r.val) / 8192, by have := lt_N t; omega⟩ ⟨(256 * t.val + r.val) % 8192, by omega⟩ :=
  stream_congr (fun k => (iblk_0 m c t r k).trans (V_h m c _ k))
      (fun k => (iblk_1 m c t r k).trans (V_f m c _ k))
      (fun k => (iblk_2 m c t k).trans (V_gp m c k))
      (fun k n => (iblk_3 m c t k n).trans (V_wg m c _))
      (fun k => (iblk_4 m c t r k).trans (V_p m c _ k))
      (fun k n => (iblk_5 m c t k n).trans (V_wu m c _))

/-- **The kernel's streams after the run**, by rows. -/
theorem final7 : (dats m 0 c).arrAt 7 cfg0.N = streams (aH m c) (aF m c) (aGp m c) (aWg m c) (aP m c) (aWu m c) := by
  refine (dats m 0 c).arrAt_eq_of_covers 7 _ (by decide +kernel) fun t hf y => ?_
  blk_simp [ix_7 t]
  rw [after0_7]
  have ht := lt_N t
  refine (congrArg _ (eq_ix2 y)).trans ((out7_apply _ _ _ _ _ _ _ (y 0) (y 1)).trans ?_)
  refine (congrFun (stream_blk m c t (y 0)) (y 1)).trans ?_
  unfold streams byRows
  have hy : (y 0).val < 256 := (y 0).isLt
  refine congrArg₂ (x := (⟨256 * t.val + (y 0).val, by omega⟩ : Fin 32768)) (fun (i : Fin 32768) n => streamRow (aH m c) (aF m c) (aGp m c) (aWg m c) (aP m c) (aWu m c) ⟨i.val / 8192, by omega⟩ ⟨i.val % 8192, by omega⟩ n) (Fin.ext ?_) (Fin.ext ?_)
  · blk_simp [ix_7 t]
    all_goals try simp
    all_goals try omega
  · blk_simp [ix_7 t]
    all_goals try simp
    all_goals try omega

/-- **The kernel's norms after the run**, by rows. -/
theorem final8 : (dats m 0 c).arrAt 8 cfg0.N = norms (aH m c) (aF m c) (aGp m c) (aWg m c) (aP m c) (aWu m c) (aGn m c) := by
  refine (dats m 0 c).arrAt_eq_of_covers 8 _ (by decide +kernel) fun t hf y => ?_
  blk_simp [ix_8 t]
  rw [after0_8]
  have ht := lt_N t
  refine (congrArg _ (eq_ix2 y)).trans ((out8_apply _ _ _ _ _ _ _ (y 0) (y 1)).trans ?_)
  refine (congrFun (congrArg₂ normed (stream_blk m c t (y 0))
    (funext fun k => (iblk_6 m c t k).trans (V_gn m c k))) (y 1)).trans ?_
  unfold norms byRows
  have hy : (y 0).val < 256 := (y 0).isLt
  refine congrArg₂ (x := (⟨256 * t.val + (y 0).val, by omega⟩ : Fin 32768)) (fun (i : Fin 32768) n => normed (streamRow (aH m c) (aF m c) (aGp m c) (aWg m c) (aP m c) (aWu m c) ⟨i.val / 8192, by omega⟩ ⟨i.val % 8192, by omega⟩)
    (fun k => aGn m c (ix2 (n0 := 4) (n1 := 2048) 2 k)) n) (Fin.ext ?_) (Fin.ext ?_)
  · blk_simp [ix_8 t]
    all_goals try simp
    all_goals try omega
  · blk_simp [ix_8 t]
    all_goals try simp
    all_goals try omega

end Kernel

section Reference

open Cert.MidPleRefIdeal Cert.MidPleRefIdeal.Gen

/-- The reference's stream after the embedding. -/
def rStream (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32) :
    FVec Ideal S4x8192x2048 .f32 :=
  Embed.host (addf h f) (host (addf h f) (shapeCast S2048 (extractStridedSlice S1x2048 ![1, 0] gp slices_S4x2048_S1x2048_1_0) shapeCasts_S1x2048_S2048))
    (shapeCast S2048x2048 (extractStridedSlice S1x2048x2048 ![1, 0, 0] wg slices_S4x2048x2048_S1x2048x2048_1_0_0) shapeCasts_S1x2048x2048_S2048x2048)
    (shapeCast S4x8192x256 (extractStridedSlice S1x4x8192x256 ![1, 0, 0, 0] p slices_S4x4x8192x256_S1x4x8192x256_1_0_0_0) shapeCasts_S1x4x8192x256_S4x8192x256)
    (shapeCast S256x2048 (extractStridedSlice S1x256x2048 ![1, 0, 0] wu slices_S4x256x2048_S1x256x2048_1_0_0) shapeCasts_S1x256x2048_S256x2048)

/-- The layer's gate weight. -/
theorem wg_apply (wg : FVec Ideal S4x2048x2048 .f32) (k n : Fin 2048) :
    (shapeCast S2048x2048 (extractStridedSlice S1x2048x2048 ![1, 0, 0] wg slices_S4x2048x2048_S1x2048x2048_1_0_0) shapeCasts_S1x2048x2048_S2048x2048 (ix2 k n) : EReal)
      = wg (ix3 (n0 := 4) (n1 := 2048) (n2 := 2048) 1 k n) := by
  pointwise

/-- The layer's embeddings. -/
theorem p_apply (p : FVec Ideal S4x4x8192x256 .f32) (b : Fin 4) (s : Fin 8192) (k : Fin 256) :
    (shapeCast S4x8192x256 (extractStridedSlice S1x4x8192x256 ![1, 0, 0, 0] p slices_S4x4x8192x256_S1x4x8192x256_1_0_0_0) shapeCasts_S1x4x8192x256_S4x8192x256 (ix3 b s k) : EReal)
      = p (ix4 (n0 := 4) (n1 := 4) (n2 := 8192) (n3 := 256) 1 b s k) := by
  pointwise

/-- The layer's up weight. -/
theorem wu_apply (wu : FVec Ideal S4x256x2048 .f32) (k : Fin 256) (n : Fin 2048) :
    (shapeCast S256x2048 (extractStridedSlice S1x256x2048 ![1, 0, 0] wu slices_S4x256x2048_S1x256x2048_1_0_0) shapeCasts_S1x256x2048_S256x2048 (ix2 k n) : EReal)
      = wu (ix3 (n0 := 4) (n1 := 256) (n2 := 2048) 1 k n) := by
  pointwise

/-- The gain before the gate. -/
theorem gp_apply (g : FVec Ideal S4x2048 .f32) (k : Fin 2048) :
    (shapeCast S2048 (extractStridedSlice S1x2048 ![1, 0] g slices_S4x2048_S1x2048_1_0) shapeCasts_S1x2048_S2048 (ix1 k) : EReal)
      = g (ix2 (n0 := 4) (n1 := 2048) 1 k) := by
  pointwise

/-- The gain of the next layer. -/
theorem gn_apply (g : FVec Ideal S4x2048 .f32) (k : Fin 2048) :
    (shapeCast S2048 (extractStridedSlice S1x2048 ![2, 0] g slices_S4x2048_S1x2048_2_0) shapeCasts_S1x2048_S2048 (ix1 k) : EReal)
      = g (ix2 (n0 := 4) (n1 := 2048) 2 k) := by
  pointwise

/-- Its row of batch `b` and position `s`. -/
theorem rStream_apply (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32)
    (b : Fin 4) (s : Fin 8192) (n : Fin 2048) : (rStream h f gp wg p wu (ix3 b s n) : EReal) = streamRow h f gp wg p wu b s n := by
  unfold rStream
  refine (Embed.host_apply _ _ _ _ _ b s n).trans ?_
  refine congrFun (Embed.embed_congr (fun _ => rfl) (fun k => (host_apply _ _ b s k).trans ?_) (wg_apply wg) (p_apply p b s)
    (wu_apply wu)) n
  exact congrFun (congrArg (normed _) (funext (gp_apply gp))) k

/-- The reference's norm. -/
def rNorm (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32) (gn : FVec Ideal S4x2048 .f32) :
    FVec Ideal S4x8192x2048 .f32 :=
  host (rStream h f gp wg p wu) (shapeCast S2048 (extractStridedSlice S1x2048 ![2, 0] gn slices_S4x2048_S1x2048_2_0) shapeCasts_S1x2048_S2048)

/-- **The reference's streams**, by rows. -/
theorem ref7_eq (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32) :
    (shapeCast S32768x2048 (rStream h f gp wg p wu) shapeCasts_S4x8192x2048_S32768x2048 : FVec Ideal S32768x2048 .f32)
      = streams h f gp wg p wu :=
  flat_eq _ _ (rStream_apply h f gp wg p wu)

/-- **The reference's norms**, by rows. -/
theorem ref8_eq (h : FVec Ideal S4x8192x2048 .f32) (f : FVec Ideal S4x8192x2048 .f32) (gp : FVec Ideal S4x2048 .f32) (wg : FVec Ideal S4x2048x2048 .f32) (p : FVec Ideal S4x4x8192x256 .f32) (wu : FVec Ideal S4x256x2048 .f32) (gn : FVec Ideal S4x2048 .f32) :
    (truncf .bf16 (shapeCast S32768x2048 (rNorm h f gp wg p wu gn) shapeCasts_S4x8192x2048_S32768x2048) bitsLt_bf16_f32
      : FVec Ideal S32768x2048 .bf16) = norms h f gp wg p wu gn :=
  flat_host_eq _ _ _ _ (rStream_apply h f gp wg p wu) (gn_apply gn) _

/-- The second result of the reference's run is the norm of the arguments. -/
theorem res_eq (m : (ℓ : Loc nD τ sig) → Buf (Elt Ideal) ℓ) (c : Dev nD) :
    Cert.MidPleRefIdeal.Value.res_out1 m c = (truncf .bf16 (shapeCast S32768x2048 (rNorm
      (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      shapeCasts_S4x8192x2048_S32768x2048) bitsLt_bf16_f32 : FVec Ideal S32768x2048 .bf16) := rfl

end Reference

end Cert.MidPleProof
-- ==== Proof.MlaLatent.lean ====
/-
  The latents of an attention layer: the normed stream's product with the weight's first 512 columns gives the queries' latents,
  with the next 512 the keys' and values'; each is normed over its own 512 columns. At row `i` (batch `i / 8192`, position
  `i % 8192`) both the kernel's array and the reference's result hold the two side by side.
-/
module

public import proofs.«01_k».proof.Proof.Gen.MlaLatentIdeal.Value
public import proofs.«01_k».proof.Proof.Gen.MlaLatentRefIdeal.Run
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.MlaLatentProof

open Idealize.ShloMosaic Idealize.ShloMosaic.TcCoe Idealize.SL.Sem

/-- A row normed over 512 columns. The two constants are 512 and the float32 nearest to `1e-6`. -/
def norm512 (row gain : Fin 512 → EReal) (n : Fin 512) : EReal :=
  row n * Ideal.rsqrt (Ideal.div (∑ k, row k * row k) (Ideal.ofBits .f32 0x44000000#32) + Ideal.ofBits .f32 0x358637BD#32) * gain n

/-- The latents of a row: its product with 512 columns of a weight, normed. -/
def latent (x : Fin 2048 → EReal) (w : Fin 2048 → Fin 512 → EReal) (g : Fin 512 → EReal) : Fin 512 → EReal :=
  norm512 (fun n => ∑ k, x k * w k n) g

/-- Equal arguments have equal latents. -/
theorem latent_congr {x x' : Fin 2048 → EReal} {w w' : Fin 2048 → Fin 512 → EReal} {g g' : Fin 512 → EReal} {n n' : Fin 512}
    (ex : ∀ k, x k = x' k) (ew : ∀ k n, w k n = w' k n) (eg : ∀ n, g n = g' n) (en : n = n') :
    latent x w g n = latent x' w' g' n' := by
  rw [funext ex, funext fun k => funext (ew k), funext eg, en]

section Kernel

open Cert.MlaLatentIdeal Cert.MlaLatentIdeal.Gen

/-- Both latents, by rows of the flattened input. -/
def latents (x : FVec Ideal S4x8192x2048 .f32) (w : FVec Ideal S2x2048x1088 .f32) (gq gk : FVec Ideal S2x512 .f32) :
    FVec Ideal S32768x1024 .bf16 := fun j =>
  have h0 : (j 0).val < 32768 := (j 0).isLt
  have h1 : (j 1).val < 1024 := (j 1).isLt
  let row : Fin 2048 → EReal := fun k =>
    x (ix3 (n0 := 4) (n1 := 8192) (n2 := 2048) ⟨(j 0).val / 8192, by omega⟩ ⟨(j 0).val % 8192, by omega⟩ k)
  if h : (j 1).val < 512 then
    latent row (fun k n => w (ix3 (n0 := 2) (n1 := 2048) (n2 := 1088) 0 k ⟨n.val, by omega⟩))
      (fun n => gq (ix2 (n0 := 2) (n1 := 512) 0 n)) ⟨(j 1).val, h⟩
  else
    latent row (fun k n => w (ix3 (n0 := 2) (n1 := 2048) (n2 := 1088) 0 k ⟨512 + n.val, by omega⟩))
      (fun n => gk (ix2 (n0 := 2) (n1 := 512) 0 n)) ⟨(j 1).val - 512, by omega⟩

theorem hz2 : (![0, 0] : Fin 2 → Nat) = fun _ => 0 := funext fun a => by fin_cases a <;> rfl

/-- What the body leaves, at an index. -/
theorem out_apply (x0 : Vec Ideal S1024x2048 .bf16) (x1 : Vec Ideal S2048x512 .bf16) (x2 : Vec Ideal S1x512 .f32)
    (r : Fin 1024) (n : Fin 512) :
    (out0_3 x0 x1 x2 (ix2 r n) : EReal)
      = latent (fun k => x0 (ix2 r k)) (fun k n => x1 (ix2 k n)) (fun n => x2 (ix2 0 n)) n := by
  unfold out0_3
  rw [View.canon_unit_zero hz2, View.ld_unit_zero (S := S1024x2048) hz2, View.ld_unit_zero (S := S2048x512) hz2,
    View.ld_unit_zero (S := S1x512) hz2]
  pointwise [k0_pay1]
  rfl

variable (m : (ℓ : Loc nD τ sig) → Buf (Elt Ideal) ℓ) (c : Dev nD)

/-- The argument arrays on device `c`. -/
def aX : FVec Ideal S4x8192x2048 .f32 := m ((c : Thread nD τ).loc main_arg0)
def aW : FVec Ideal S2x2048x1088 .f32 := m ((c : Thread nD τ).loc main_arg1)
def aQ : FVec Ideal S2x512 .f32 := m ((c : Thread nD τ).loc main_arg2)
def aK : FVec Ideal S2x512 .f32 := m ((c : Thread nD τ).loc main_arg3)

/-- The flattened input. -/
theorem V_x (i : Fin 32768) (k : Fin 2048) : (V (F := Ideal) m c main_v7 (ix2 (n0 := 32768) (n1 := 2048) i k) : EReal)
    = aX m c (ix3 ⟨i.val / 8192, by omega⟩ ⟨i.val % 8192, by omega⟩ k) := by
  unfold V
  after_reads_at
  rfl

/-- The weight's first 1024 columns. -/
theorem V_w (k : Fin 2048) (j : Fin 1024) : (V (F := Ideal) m c main_v11 (ix2 (n0 := 2048) (n1 := 1024) k j) : EReal)
    = aW m c (ix3 0 k ⟨j.val, by omega⟩) := by
  unfold V
  after_reads_at
  rfl

/-- The two gains, side by side. -/
theorem V_g (j : Fin 1024) : (V (F := Ideal) m c main_v5 (ix2 (n0 := 1) (n1 := 1024) 0 j) : EReal)
    = if h : j.val < 512 then aQ m c (ix2 0 ⟨j.val, h⟩) else aK m c (ix2 0 ⟨j.val - 512, by omega⟩) := by
  unfold V
  after_reads_at
  pointwise
  by_cases h : j.val < 512
  · rw [dif_pos h, dif_pos h]
    after_reads_at
    rfl
  · rw [dif_neg h, dif_neg h]
    after_reads_at
    rfl

theorem lt_N (t : Fin cfg0.N) : t.val < 64 := lt_of_lt_of_eq t.isLt (show cfg0.N = 64 from N_0)

theorem ix_0 : ∀ t : Fin cfg0.N, win0_0.index t = ![t.val / 2, 0] := (by decide +kernel : ∀ t : Fin grid0.N, _)
theorem ix_1 : ∀ t : Fin cfg0.N, win0_1.index t = ![0, t.val % 2] := (by decide +kernel : ∀ t : Fin grid0.N, _)
theorem ix_2 : ∀ t : Fin cfg0.N, win0_2.index t = ![0, t.val % 2] := (by decide +kernel : ∀ t : Fin grid0.N, _)
theorem ix_3 : ∀ t : Fin cfg0.N, win0_3.index t = ![t.val / 2, t.val % 2] := (by decide +kernel : ∀ t : Fin grid0.N, _)

/-- The input block of point `t`: 1024 rows. -/
theorem iblk_0 (t : Fin cfg0.N) (r : Fin 1024) (k : Fin 2048) :
    iblk m c 0 t (ix2 (n0 := 1024) (n1 := 2048) r k)
      = V m c main_v7 (ix2 (n0 := 32768) (n1 := 2048) ⟨1024 * (t.val / 2) + r.val, by have := lt_N t; omega⟩ k) := by
  blk_simp [iblk, ix_0 t]
  refine congrArg (V m c main_v7) (funext fun a => Fin.ext ?_)
  match a with
  | ⟨0, _⟩ => blk_simp [ix_0 t]; all_goals simp; all_goals omega
  | ⟨1, _⟩ => blk_simp [ix_0 t]; all_goals simp

/-- The weight block of point `t`: 512 columns. -/
theorem iblk_1 (t : Fin cfg0.N) (k : Fin 2048) (n : Fin 512) :
    iblk m c 1 t (ix2 (n0 := 2048) (n1 := 512) k n)
      = V m c main_v11 (ix2 (n0 := 2048) (n1 := 1024) k ⟨512 * (t.val % 2) + n.val, by omega⟩) := by
  blk_simp [iblk, ix_1 t]
  refine congrArg (V m c main_v11) (funext fun a => Fin.ext ?_)
  match a with
  | ⟨0, _⟩ => blk_simp [ix_1 t]; all_goals simp
  | ⟨1, _⟩ => blk_simp [ix_1 t]; all_goals simp; all_goals omega

/-- The gain block of point `t`: 512 columns. -/
theorem iblk_2 (t : Fin cfg0.N) (n : Fin 512) :
    iblk m c 2 t (ix2 (n0 := 1) (n1 := 512) 0 n)
      = V m c main_v5 (ix2 (n0 := 1) (n1 := 1024) 0 ⟨512 * (t.val % 2) + n.val, by omega⟩) := by
  blk_simp [iblk, ix_2 t]
  refine congrArg (V m c main_v5) (funext fun a => Fin.ext ?_)
  match a with
  | ⟨0, _⟩ => blk_simp [ix_2 t]; all_goals simp
  | ⟨1, _⟩ => blk_simp [ix_2 t]; all_goals simp; all_goals omega

/-- The block point `t` writes back, at an index: the queries' latents at even points, the keys' and values' at odd ones. -/
theorem block_apply (t : Fin cfg0.N) (r : Fin 1024) (n : Fin 512) (j : S32768x1024.Idx)
    (h0 : (j 0).val = 1024 * (t.val / 2) + r.val) (h1 : (j 1).val = 512 * (t.val % 2) + n.val) :
    (out0_3 (iblk m c 0 t) (iblk m c 1 t) (iblk m c 2 t) (ix2 (n0 := 1024) (n1 := 512) r n) : EReal)
      = latents (aX m c) (aW m c) (aQ m c) (aK m c) j := by
  rw [out_apply]
  have ht := lt_N t
  have e0 : j 0 = (⟨1024 * (t.val / 2) + r.val, by omega⟩ : Fin 32768) := Fin.ext h0
  have hx : ∀ k, _ = _ := fun k => (iblk_0 m c t r k).trans (V_x m c _ k)
  have hw : ∀ k n, _ = _ := fun k n => (iblk_1 m c t k n).trans (V_w m c k _)
  have hg : ∀ n, _ = _ := fun n => (iblk_2 m c t n).trans (V_g m c _)
  unfold latents
  simp only [e0]
  rcases Nat.mod_two_eq_zero_or_one t.val with he | he
  · rw [dif_pos (by omega)]
    refine latent_congr hx (fun k n => (hw k n).trans ?_) (fun n => (hg n).trans ((dif_pos (by dsimp only; omega)).trans ?_))
      (Fin.ext (by dsimp only; omega))
    · exact congrArg (fun a => aW m c (ix3 0 k a)) (Fin.ext (by dsimp only; omega))
    · exact congrArg (fun a => aQ m c (ix2 0 a)) (Fin.ext (by dsimp only; omega))
  · rw [dif_neg (by omega)]
    refine latent_congr hx (fun k n => (hw k n).trans ?_) (fun n => (hg n).trans ((dif_neg (by dsimp only; omega)).trans ?_))
      (Fin.ext (by dsimp only; omega))
    · exact congrArg (fun a => aW m c (ix3 0 k a)) (Fin.ext (by dsimp only; omega))
    · exact congrArg (fun a => aK m c (ix2 0 a)) (Fin.ext (by dsimp only; omega))

/-- **The kernel's array after the run**, by rows. -/
theorem final : (dats m 0 c).arrAt 3 cfg0.N = latents (aX m c) (aW m c) (aQ m c) (aK m c) := by
  refine (dats m 0 c).arrAt_eq_of_covers 3 _ (by decide +kernel) fun t hf y => ?_
  blk_simp [ix_3 t]
  rw [after0_3]
  have ht := lt_N t
  refine (congrArg _ (eq_ix2 y)).trans (block_apply m c t (y 0) (y 1) _ ?_ ?_)
  · blk_simp [ix_3 t]
    all_goals try simp
    all_goals try omega
  · blk_simp [ix_3 t]
    all_goals try simp
    all_goals try omega

end Kernel

section Reference

open Cert.MlaLatentRefIdeal Cert.MlaLatentRefIdeal.Gen

/-- One latent as the reference has it: the product's norm. -/
def rLatent (x : FVec Ideal S4x8192x2048 .f32) (w : FVec Ideal S2048x512 .f32) (g : FVec Ideal S512 .f32) :
    FVec Ideal S4x8192x512 .f32 :=
  mulf (mulf (Host.dotGeneral dot_S4x8192x2048_S2048x512_S4x8192x512_2_0_01_1_n_n none x w)
    (broadcastInDim S4x8192x512 ![0, 1, 2] bcast_S4x8192x1_S4x8192x512_0_1_2 (Host.rsqrt (addf (Host.divf
      (broadcastInDim S4x8192x1 ![0, 1] bcast_S4x8192_S4x8192x1_0_1
        (Host.reduceAdd (mulf (Host.dotGeneral dot_S4x8192x2048_S2048x512_S4x8192x512_2_0_01_1_n_n none x w)
          (Host.dotGeneral dot_S4x8192x2048_S2048x512_S4x8192x512_2_0_01_1_n_n none x w))
          (constant S_ .f32 0x00000000#32) reducesTo_S4x8192x512_S4x8192_d2 h_S_))
      (broadcastInDim S4x8192x1 ![] bcast_S_S4x8192x1 (constant S_ .f32 0x44000000#32)))
      (broadcastInDim S4x8192x1 ![] bcast_S_S4x8192x1 (constant S_ .f32 0x358637BD#32))))))
    (broadcastInDim S4x8192x512 ![0, 1, 2] bcast_S1x1x512_S4x8192x512_0_1_2 (broadcastInDim S1x1x512 ![2] bcast_S512_S1x1x512_2 g))

/-- Its row of batch `b` and position `s`. -/
theorem rLatent_apply (x : FVec Ideal S4x8192x2048 .f32) (w : FVec Ideal S2048x512 .f32) (g : FVec Ideal S512 .f32)
    (b : Fin 4) (s : Fin 8192) (n : Fin 512) :
    (rLatent x w g (ix3 b s n) : EReal) = latent (fun k => x (ix3 b s k)) (fun k n => w (ix2 k n)) (fun n => g (ix1 n)) n := by
  pointwise [rLatent]
  rfl

/-- The two latents side by side, flattened, at an index. -/
theorem flat_apply (a b : FVec Ideal S4x8192x512 .f32) (i : Fin 32768) (j : Fin 1024) :
    (truncf (F := Ideal) .bf16 (shapeCast S32768x1024 (concatenate S4x8192x1024 2 [⟨S4x8192x512, a⟩, ⟨S4x8192x512, b⟩]
      concatenates_S4x8192x512_S4x8192x512_S4x8192x1024_d2) shapeCasts_S4x8192x1024_S32768x1024) bitsLt_bf16_f32
      (ix2 (n0 := 32768) (n1 := 1024) i j) : EReal)
      = if h : j.val < 512 then a (ix3 ⟨i.val / 8192, by omega⟩ ⟨i.val % 8192, by omega⟩ ⟨j.val, h⟩)
        else b (ix3 ⟨i.val / 8192, by omega⟩ ⟨i.val % 8192, by omega⟩ ⟨j.val - 512, by omega⟩) := by
  pointwise

/-- The queries' columns of the weight. -/
theorem wq_apply (w : FVec Ideal S2x2048x1088 .f32) (k : Fin 2048) (n : Fin 512) :
    (extractStridedSlice S2048x512 ![0, 0] (shapeCast S2048x1088 (extractStridedSlice S1x2048x1088 ![0, 0, 0] w
      slices_S2x2048x1088_S1x2048x1088_0_0_0) shapeCasts_S1x2048x1088_S2048x1088) slices_S2048x1088_S2048x512_0_0 (ix2 k n) : EReal)
      = w (ix3 (n0 := 2) (n1 := 2048) (n2 := 1088) 0 k ⟨n.val, by omega⟩) := by
  pointwise

/-- The keys' and values' columns of the weight. -/
theorem wk_apply (w : FVec Ideal S2x2048x1088 .f32) (k : Fin 2048) (n : Fin 512) :
    (extractStridedSlice S2048x512 ![0, 512] (shapeCast S2048x1088 (extractStridedSlice S1x2048x1088 ![0, 0, 0] w
      slices_S2x2048x1088_S1x2048x1088_0_0_0) shapeCasts_S1x2048x1088_S2048x1088) slices_S2048x1088_S2048x512_0_512 (ix2 k n) : EReal)
      = w (ix3 (n0 := 2) (n1 := 2048) (n2 := 1088) 0 k ⟨512 + n.val, by omega⟩) := by
  pointwise

/-- A layer's gain. -/
theorem g_apply (g : FVec Ideal S2x512 .f32) (n : Fin 512) :
    (shapeCast S512 (extractStridedSlice S1x512 ![0, 0] g slices_S2x512_S1x512_0_0) shapeCasts_S1x512_S512 (ix1 n) : EReal)
      = g (ix2 (n0 := 2) (n1 := 512) 0 n) := by
  pointwise

/-- The reference's result. -/
def rFn (x : FVec Ideal S4x8192x2048 .f32) (w : FVec Ideal S2x2048x1088 .f32) (gq gk : FVec Ideal S2x512 .f32) :
    FVec Ideal S32768x1024 .bf16 :=
  truncf (F := Ideal) .bf16 (shapeCast S32768x1024 (concatenate S4x8192x1024 2
    [⟨S4x8192x512, rLatent x (extractStridedSlice S2048x512 ![0, 0] (shapeCast S2048x1088 (extractStridedSlice S1x2048x1088 ![0, 0, 0] w
      slices_S2x2048x1088_S1x2048x1088_0_0_0) shapeCasts_S1x2048x1088_S2048x1088) slices_S2048x1088_S2048x512_0_0)
      (shapeCast S512 (extractStridedSlice S1x512 ![0, 0] gq slices_S2x512_S1x512_0_0) shapeCasts_S1x512_S512)⟩,
    ⟨S4x8192x512, rLatent x (extractStridedSlice S2048x512 ![0, 512] (shapeCast S2048x1088 (extractStridedSlice S1x2048x1088 ![0, 0, 0] w
      slices_S2x2048x1088_S1x2048x1088_0_0_0) shapeCasts_S1x2048x1088_S2048x1088) slices_S2048x1088_S2048x512_0_512)
      (shapeCast S512 (extractStridedSlice S1x512 ![0, 0] gk slices_S2x512_S1x512_0_0) shapeCasts_S1x512_S512)⟩]
    concatenates_S4x8192x512_S4x8192x512_S4x8192x1024_d2) shapeCasts_S4x8192x1024_S32768x1024) bitsLt_bf16_f32

/-- **The reference's result**: both latents, by rows. -/
theorem ref_eq (x : FVec Ideal S4x8192x2048 .f32) (w : FVec Ideal S2x2048x1088 .f32) (gq gk : FVec Ideal S2x512 .f32) :
    rFn x w gq gk = latents x w gq gk := by
  funext j
  rw [eq_ix2 j]
  unfold rFn latents
  refine (flat_apply _ _ (j 0) (j 1)).trans ?_
  by_cases h : (j 1).val < 512
  · refine (dif_pos h).trans (Eq.trans ?_ (dif_pos h).symm)
    exact (rLatent_apply _ _ _ _ _ _).trans (latent_congr (fun _ => rfl) (wq_apply w) (g_apply gq) rfl)
  · refine (dif_neg h).trans (Eq.trans ?_ (dif_neg h).symm)
    exact (rLatent_apply _ _ _ _ _ _).trans (latent_congr (fun _ => rfl) (wk_apply w) (g_apply gk) rfl)

end Reference

end Cert.MlaLatentProof
-- ==== Proof.MlaKey.lean ====
/-
  The projection of the latent attention's normed latents onto its keys. Of the packed weight's 256 columns of each head, the
  first 128 give the head's keys; the latents are the last 512 columns of the packed array. At row `i` (batch `i / 8192`,
  position `i % 8192`) and column `j` (head `j / 128`) both the kernel's array and the reference's result hold the product.
-/
module

public import proofs.«01_k».proof.Proof.Gen.MlaKeyIdeal.Value
public import proofs.«01_k».proof.Proof.Gen.MlaKeyRefIdeal.Run
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.MlaKeyProof

open Idealize.ShloMosaic Idealize.ShloMosaic.TcCoe Idealize.SL.Sem

section Kernel

open Cert.MlaKeyIdeal Cert.MlaKeyIdeal.Gen

/-- The projection, by rows of the flattened latents. -/
def proj (x : FVec Ideal S4x8192x1024 .f32) (w : FVec Ideal S2x512x4096 .f32) : FVec Ideal S32768x2048 .bf16 := fun j =>
  have h0 : (j 0).val < 32768 := (j 0).isLt
  have h1 : (j 1).val < 2048 := (j 1).isLt
  (∑ k : Fin 512, (x (ix3 (n0 := 4) (n1 := 8192) (n2 := 1024) ⟨(j 0).val / 8192, by omega⟩ ⟨(j 0).val % 8192, by omega⟩
      ⟨512 + k.val, by omega⟩) : EReal)
    * w (ix3 (n0 := 2) (n1 := 512) (n2 := 4096) 0 k ⟨(j 1).val / 128 * 256 + (j 1).val % 128, by omega⟩) : EReal)

theorem hz2 : (![0, 0] : Fin 2 → Nat) = fun _ => 0 := funext fun a => by fin_cases a <;> rfl

/-- What the body leaves: the product of its two blocks. -/
theorem out_eq (x0 : Vec Ideal S1024x512 .bf16) (x1 : Vec Ideal S512x512 .bf16) : out0_2 x0 x1 = k0_pay1 x0 x1 := by
  unfold out0_2
  rw [View.canon_unit_zero hz2, View.ld_unit_zero (S := S1024x512) hz2, View.ld_unit_zero (S := S512x512) hz2]

/-- The product of two blocks at an index. -/
theorem pay_apply (x0 : Vec Ideal S1024x512 .bf16) (x1 : Vec Ideal S512x512 .bf16) (r : Fin 1024) (n : Fin 512) :
    (k0_pay1 x0 x1 (ix2 r n) : EReal) = ∑ k : Fin 512, (x0 (ix2 r k) : EReal) * x1 (ix2 k n) := by
  pointwise [k0_pay1]

variable (m : (ℓ : Loc nD τ sig) → Buf (Elt Ideal) ℓ) (c : Dev nD)

/-- The argument arrays on device `c`. -/
def aX : FVec Ideal S4x8192x1024 .f32 := m ((c : Thread nD τ).loc main_arg0)
def aW : FVec Ideal S2x512x4096 .f32 := m ((c : Thread nD τ).loc main_arg1)

/-- The flattened latents. -/
theorem V_x (i : Fin 32768) (k : Fin 1024) : (V (F := Ideal) m c main_v4 (ix2 (n0 := 32768) (n1 := 1024) i k) : EReal)
    = aX m c (ix3 ⟨i.val / 8192, by omega⟩ ⟨i.val % 8192, by omega⟩ k) := by
  unfold V
  after_reads_at
  rfl

/-- The weight's columns of the keys. -/
theorem V_w (k : Fin 512) (j : Fin 2048) : (V (F := Ideal) m c main_v7 (ix2 (n0 := 512) (n1 := 2048) k j) : EReal)
    = aW m c (ix3 0 k ⟨j.val / 128 * 256 + j.val % 128, by omega⟩) := by
  unfold V
  after_reads_at
  rfl

theorem lt_N (t : Fin cfg0.N) : t.val < 128 := lt_of_lt_of_eq t.isLt (show cfg0.N = 128 from N_0)

theorem ix_0 : ∀ t : Fin cfg0.N, win0_0.index t = ![t.val / 4, 1] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, t.val % 4] := (by decide +kernel : ∀ t : Fin grid0.N, _)

/-- The input block of point `t`: the last 512 columns of 1024 rows. -/
theorem iblk_0 (t : Fin cfg0.N) (r : Fin 1024) (k : Fin 512) :
    iblk m c 0 t (ix2 (n0 := 1024) (n1 := 512) r k)
      = V m c main_v4 (ix2 (n0 := 32768) (n1 := 1024) ⟨1024 * (t.val / 4) + r.val, by have := lt_N t; omega⟩ ⟨512 + k.val, by omega⟩) := by
  blk_simp [iblk, ix_0 t]
  refine congrArg (V m c main_v4) (funext fun a => Fin.ext ?_)
  match a with
  | ⟨0, _⟩ => blk_simp [ix_0 t]; all_goals simp; all_goals omega
  | ⟨1, _⟩ => blk_simp [ix_0 t]; all_goals simp

/-- The weight block of point `t`: 512 columns. -/
theorem iblk_1 (t : Fin cfg0.N) (k n : Fin 512) :
    iblk m c 1 t (ix2 (n0 := 512) (n1 := 512) k n)
      = V m c main_v7 (ix2 (n0 := 512) (n1 := 2048) k ⟨512 * (t.val % 4) + n.val, by omega⟩) := by
  blk_simp [iblk, ix_1 t]
  refine congrArg (V m c main_v7) (funext fun a => Fin.ext ?_)
  match a with
  | ⟨0, _⟩ => blk_simp [ix_1 t]; all_goals simp
  | ⟨1, _⟩ => blk_simp [ix_1 t]; all_goals simp; all_goals omega

/-- The block point `t` writes back, at an index. -/
theorem block_apply (t : Fin cfg0.N) (r : Fin 1024) (n : Fin 512) (j : S32768x2048.Idx)
    (h0 : (j 0).val = 1024 * (t.val / 4) + r.val) (h1 : (j 1).val = 512 * (t.val % 4) + n.val) :
    (out0_2 (iblk m c 0 t) (iblk m c 1 t) (ix2 (n0 := 1024) (n1 := 512) r n) : EReal) = proj (aX m c) (aW m c) j := by
  rw [out_eq, pay_apply]
  refine Finset.sum_congr rfl fun k _ => ?_
  rw [iblk_0, iblk_1, V_x, V_w]
  have ht := lt_N t
  simp only [h0, h1]

/-- **The kernel's array after the run**, by rows. -/
theorem final : (dats m 0 c).arrAt 2 cfg0.N = proj (aX m c) (aW m c) := by
  refine (dats m 0 c).arrAt_eq_of_covers 2 _ (by decide +kernel) fun t hf y => ?_
  blk_simp [ix_2 t]
  rw [after0_2]
  have ht := lt_N t
  refine (congrArg _ (eq_ix2 y)).trans (block_apply m c t (y 0) (y 1) _ ?_ ?_)
  · blk_simp [ix_2 t]
    all_goals try simp
    all_goals try omega
  · blk_simp [ix_2 t]
    all_goals try simp
    all_goals try omega

end Kernel

section Reference

open Cert.MlaKeyRefIdeal Cert.MlaKeyRefIdeal.Gen

/-- The reference's result at an index. -/
theorem ref_apply (x : FVec Ideal S4x8192x1024 .f32) (w : FVec Ideal S2x512x4096 .f32) (i : Fin 32768) (j : Fin 2048) :
    (truncf (F := Ideal) .bf16 (shapeCast S32768x2048 (extractStridedSlice S4x8192x16x128 ![0, 0, 0, 0]
      (shapeCast S4x8192x16x256 (Host.dotGeneral dot_S4x8192x512_S512x4096_S4x8192x4096_2_0_01_1_n_n none
        (extractStridedSlice S4x8192x512 ![0, 0, 512] x slices_S4x8192x1024_S4x8192x512_0_0_512)
        (shapeCast S512x4096 (extractStridedSlice S1x512x4096 ![0, 0, 0] w slices_S2x512x4096_S1x512x4096_0_0_0)
          shapeCasts_S1x512x4096_S512x4096)) shapeCasts_S4x8192x4096_S4x8192x16x256) slices_S4x8192x16x256_S4x8192x16x128_0_0_0_0)
      shapeCasts_S4x8192x16x128_S32768x2048) bitsLt_bf16_f32
        (ix2 (n0 := 32768) (n1 := 2048) i j) : EReal)
      = proj x w (ix2 (n0 := 32768) (n1 := 2048) i j) := by
  pointwise
  unfold proj
  rfl

/-- **The reference's result** is the projection. -/
theorem ref_eq (x : FVec Ideal S4x8192x1024 .f32) (w : FVec Ideal S2x512x4096 .f32) :
    (truncf (F := Ideal) .bf16 (shapeCast S32768x2048 (extractStridedSlice S4x8192x16x128 ![0, 0, 0, 0]
      (shapeCast S4x8192x16x256 (Host.dotGeneral dot_S4x8192x512_S512x4096_S4x8192x4096_2_0_01_1_n_n none
        (extractStridedSlice S4x8192x512 ![0, 0, 512] x slices_S4x8192x1024_S4x8192x512_0_0_512)
        (shapeCast S512x4096 (extractStridedSlice S1x512x4096 ![0, 0, 0] w slices_S2x512x4096_S1x512x4096_0_0_0)
          shapeCasts_S1x512x4096_S512x4096)) shapeCasts_S4x8192x4096_S4x8192x16x256) slices_S4x8192x16x256_S4x8192x16x128_0_0_0_0)
      shapeCasts_S4x8192x16x128_S32768x2048) bitsLt_bf16_f32)
      = proj x w := by
  funext j
  rw [eq_ix2 j]
  exact ref_apply x w (j 0) (j 1)

end Reference

end Cert.MlaKeyProof
-- ==== Proof.MlaValue.lean ====
/-
  The projection of the latent attention's normed latents onto its values. Of the packed weight's 256 columns of each head, the
  last 128 give the head's values; the latents are the last 512 columns of the packed array. At row `i` (batch `i / 8192`,
  position `i % 8192`) and column `j` (head `j / 128`) both the kernel's array and the reference's result hold the product.
-/
module

public import proofs.«01_k».proof.Proof.Gen.MlaValueIdeal.Value
public import proofs.«01_k».proof.Proof.Gen.MlaValueRefIdeal.Run
public import Idealize.ShloMosaic.Lib.Pointwise
public import Idealize.ShloMosaic.Lib.WritesUnit
public import Idealize.ShloMosaic.Lib.Tactic
public import Idealize.ShloMosaic.Lib.StableHlo.ReadAt
public import Idealize.ShloMosaic.Lib.Pipeline.ValueKit.Geometry

@[expose] public section

noncomputable section

namespace Cert.MlaValueProof

open Idealize.ShloMosaic Idealize.ShloMosaic.TcCoe Idealize.SL.Sem

section Kernel

open Cert.MlaValueIdeal Cert.MlaValueIdeal.Gen

/-- The projection, by rows of the flattened latents. -/
def proj (x : FVec Ideal S4x8192x1024 .f32) (w : FVec Ideal S2x512x4096 .f32) : FVec Ideal S32768x2048 .bf16 := fun j =>
  have h0 : (j 0).val < 32768 := (j 0).isLt
  have h1 : (j 1).val < 2048 := (j 1).isLt
  (∑ k : Fin 512, (x (ix3 (n0 := 4) (n1 := 8192) (n2 := 1024) ⟨(j 0).val / 8192, by omega⟩ ⟨(j 0).val % 8192, by omega⟩
      ⟨512 + k.val, by omega⟩) : EReal)
    * w (ix3 (n0 := 2) (n1 := 512) (n2 := 4096) 0 k ⟨(j 1).val / 128 * 256 + (128 + (j 1).val % 128), by omega⟩) : EReal)

theorem hz2 : (![0, 0] : Fin 2 → Nat) = fun _ => 0 := funext fun a => by fin_cases a <;> rfl

/-- What the body leaves: the product of its two blocks. -/
theorem out_eq (x0 : Vec Ideal S1024x512 .bf16) (x1 : Vec Ideal S512x512 .bf16) : out0_2 x0 x1 = k0_pay1 x0 x1 := by
  unfold out0_2
  rw [View.canon_unit_zero hz2, View.ld_unit_zero (S := S1024x512) hz2, View.ld_unit_zero (S := S512x512) hz2]

/-- The product of two blocks at an index. -/
theorem pay_apply (x0 : Vec Ideal S1024x512 .bf16) (x1 : Vec Ideal S512x512 .bf16) (r : Fin 1024) (n : Fin 512) :
    (k0_pay1 x0 x1 (ix2 r n) : EReal) = ∑ k : Fin 512, (x0 (ix2 r k) : EReal) * x1 (ix2 k n) := by
  pointwise [k0_pay1]

variable (m : (ℓ : Loc nD τ sig) → Buf (Elt Ideal) ℓ) (c : Dev nD)

/-- The argument arrays on device `c`. -/
def aX : FVec Ideal S4x8192x1024 .f32 := m ((c : Thread nD τ).loc main_arg0)
def aW : FVec Ideal S2x512x4096 .f32 := m ((c : Thread nD τ).loc main_arg1)

/-- The flattened latents. -/
theorem V_x (i : Fin 32768) (k : Fin 1024) : (V (F := Ideal) m c main_v4 (ix2 (n0 := 32768) (n1 := 1024) i k) : EReal)
    = aX m c (ix3 ⟨i.val / 8192, by omega⟩ ⟨i.val % 8192, by omega⟩ k) := by
  unfold V
  after_reads_at
  rfl

/-- The weight's columns of the values. -/
theorem V_w (k : Fin 512) (j : Fin 2048) : (V (F := Ideal) m c main_v7 (ix2 (n0 := 512) (n1 := 2048) k j) : EReal)
    = aW m c (ix3 0 k ⟨j.val / 128 * 256 + (128 + j.val % 128), by omega⟩) := by
  unfold V
  after_reads_at
  rfl

theorem lt_N (t : Fin cfg0.N) : t.val < 128 := lt_of_lt_of_eq t.isLt (show cfg0.N = 128 from N_0)

theorem ix_0 : ∀ t : Fin cfg0.N, win0_0.index t = ![t.val / 4, 1] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, t.val % 4] := (by decide +kernel : ∀ t : Fin grid0.N, _)

/-- The input block of point `t`: the last 512 columns of 1024 rows. -/
theorem iblk_0 (t : Fin cfg0.N) (r : Fin 1024) (k : Fin 512) :
    iblk m c 0 t (ix2 (n0 := 1024) (n1 := 512) r k)
      = V m c main_v4 (ix2 (n0 := 32768) (n1 := 1024) ⟨1024 * (t.val / 4) + r.val, by have := lt_N t; omega⟩ ⟨512 + k.val, by omega⟩) := by
  blk_simp [iblk, ix_0 t]
  refine congrArg (V m c main_v4) (funext fun a => Fin.ext ?_)
  match a with
  | ⟨0, _⟩ => blk_simp [ix_0 t]; all_goals simp; all_goals omega
  | ⟨1, _⟩ => blk_simp [ix_0 t]; all_goals simp

/-- The weight block of point `t`: 512 columns. -/
theorem iblk_1 (t : Fin cfg0.N) (k n : Fin 512) :
    iblk m c 1 t (ix2 (n0 := 512) (n1 := 512) k n)
      = V m c main_v7 (ix2 (n0 := 512) (n1 := 2048) k ⟨512 * (t.val % 4) + n.val, by omega⟩) := by
  blk_simp [iblk, ix_1 t]
  refine congrArg (V m c main_v7) (funext fun a => Fin.ext ?_)
  match a with
  | ⟨0, _⟩ => blk_simp [ix_1 t]; all_goals simp
  | ⟨1, _⟩ => blk_simp [ix_1 t]; all_goals simp; all_goals omega

/-- The block point `t` writes back, at an index. -/
theorem block_apply (t : Fin cfg0.N) (r : Fin 1024) (n : Fin 512) (j : S32768x2048.Idx)
    (h0 : (j 0).val = 1024 * (t.val / 4) + r.val) (h1 : (j 1).val = 512 * (t.val % 4) + n.val) :
    (out0_2 (iblk m c 0 t) (iblk m c 1 t) (ix2 (n0 := 1024) (n1 := 512) r n) : EReal) = proj (aX m c) (aW m c) j := by
  rw [out_eq, pay_apply]
  refine Finset.sum_congr rfl fun k _ => ?_
  rw [iblk_0, iblk_1, V_x, V_w]
  have ht := lt_N t
  simp only [h0, h1]

/-- **The kernel's array after the run**, by rows. -/
theorem final : (dats m 0 c).arrAt 2 cfg0.N = proj (aX m c) (aW m c) := by
  refine (dats m 0 c).arrAt_eq_of_covers 2 _ (by decide +kernel) fun t hf y => ?_
  blk_simp [ix_2 t]
  rw [after0_2]
  have ht := lt_N t
  refine (congrArg _ (eq_ix2 y)).trans (block_apply m c t (y 0) (y 1) _ ?_ ?_)
  · blk_simp [ix_2 t]
    all_goals try simp
    all_goals try omega
  · blk_simp [ix_2 t]
    all_goals try simp
    all_goals try omega

end Kernel

section Reference

open Cert.MlaValueRefIdeal Cert.MlaValueRefIdeal.Gen

/-- The reference's result at an index. -/
theorem ref_apply (x : FVec Ideal S4x8192x1024 .f32) (w : FVec Ideal S2x512x4096 .f32) (i : Fin 32768) (j : Fin 2048) :
    (truncf (F := Ideal) .bf16 (shapeCast S32768x2048 (extractStridedSlice S4x8192x16x128 ![0, 0, 0, 128]
      (shapeCast S4x8192x16x256 (Host.dotGeneral dot_S4x8192x512_S512x4096_S4x8192x4096_2_0_01_1_n_n none
        (extractStridedSlice S4x8192x512 ![0, 0, 512] x slices_S4x8192x1024_S4x8192x512_0_0_512)
        (shapeCast S512x4096 (extractStridedSlice S1x512x4096 ![0, 0, 0] w slices_S2x512x4096_S1x512x4096_0_0_0)
          shapeCasts_S1x512x4096_S512x4096)) shapeCasts_S4x8192x4096_S4x8192x16x256) slices_S4x8192x16x256_S4x8192x16x128_0_0_0_128)
      shapeCasts_S4x8192x16x128_S32768x2048) bitsLt_bf16_f32
        (ix2 (n0 := 32768) (n1 := 2048) i j) : EReal)
      = proj x w (ix2 (n0 := 32768) (n1 := 2048) i j) := by
  pointwise
  unfold proj
  rfl

/-- **The reference's result** is the projection. -/
theorem ref_eq (x : FVec Ideal S4x8192x1024 .f32) (w : FVec Ideal S2x512x4096 .f32) :
    (truncf (F := Ideal) .bf16 (shapeCast S32768x2048 (extractStridedSlice S4x8192x16x128 ![0, 0, 0, 128]
      (shapeCast S4x8192x16x256 (Host.dotGeneral dot_S4x8192x512_S512x4096_S4x8192x4096_2_0_01_1_n_n none
        (extractStridedSlice S4x8192x512 ![0, 0, 512] x slices_S4x8192x1024_S4x8192x512_0_0_512)
        (shapeCast S512x4096 (extractStridedSlice S1x512x4096 ![0, 0, 0] w slices_S2x512x4096_S1x512x4096_0_0_0)
          shapeCasts_S1x512x4096_S512x4096)) shapeCasts_S4x8192x4096_S4x8192x16x256) slices_S4x8192x16x256_S4x8192x16x128_0_0_0_128)
      shapeCasts_S4x8192x16x128_S32768x2048) bitsLt_bf16_f32)
      = proj x w := by
  funext j
  rw [eq_ix2 j]
  exact ref_apply x w (j 0) (j 1)

end Reference

end Cert.MlaValueProof
-- ==== Proof.FurtherCalls.lean ====
/-
  The claims of the embeddings of the first two layers and of the latent attention's latent, key and value projections. The
  arrays themselves are in `Proof/FirstPle.lean`, `Proof/MidPle.lean`, `Proof/MlaLatent.lean`, `Proof/MlaKey.lean` and
  `Proof/MlaValue.lean`.
-/
module

public import proofs.«01_k».proof.Defs
public import proofs.«01_k».proof.Proof.Gen.FirstPle.Frame
public import proofs.«01_k».proof.Proof.FirstPle
public import proofs.«01_k».proof.Proof.Gen.MidPle.Frame
public import proofs.«01_k».proof.Proof.MidPle
public import proofs.«01_k».proof.Proof.Gen.MlaLatent.Frame
public import proofs.«01_k».proof.Proof.MlaLatent
public import proofs.«01_k».proof.Proof.Gen.MlaKey.Frame
public import proofs.«01_k».proof.Proof.MlaKey
public import proofs.«01_k».proof.Proof.Gen.MlaValue.Frame
public import proofs.«01_k».proof.Proof.MlaValue
public import Idealize.ShloMosaic.Adequacy
public import Idealize.ShloMosaic.Init

@[expose] public section

noncomputable section

namespace Cert.FurtherCalls

open Idealize.ShloMosaic Idealize.SL.Sem

/-! ## The embedding of the first layer -/

section FirstPle

open Cert.FirstPleProof

/-- The reference of the embedding of the first layer runs, keeps its arguments, and declares no semaphore. -/
theorem frame_first_ple_reference : Cert.quiescent_FirstPleRefIdeal (hFirstPleRefIdeal := Cert.FirstPleRefIdeal.Gen.facts) := fun m g _ =>
  (θ_run _ _ _).mono (fun r h => ⟨fun c => (h c).2.2, sem_eq_zero_of_no_sems (by decide) r.2⟩) (Cert.FirstPleRefIdeal.Value.run m g)

/-- The value claim of the embedding of the first layer: both leave the streams and their norms. -/
theorem algebraic_first_ple : Cert.algebraic_FirstPleIdeal_FirstPleRefIdeal (hFirstPleIdeal := Cert.FirstPleIdeal.Gen.facts)
    (hFirstPleRefIdeal := Cert.FirstPleRefIdeal.Gen.facts) := by
  intro m g m' g' _ harg
  refine ⟨fun c => streams (aH m c) (aHn m c) (aWg m c) (aP m c) (aWu m c),
    fun c => norms (aH m c) (aHn m c) (aWg m c) (aP m c) (aWu m c) (aGn m c), ?_, ?_⟩
  · refine (θ_run _ _ _).mono (fun r h c => ?_) (Cert.FirstPleIdeal.Value.run_blocks m g)
    obtain ⟨es, en, k⟩ := h c
    exact ⟨es.trans (final6 m c), en.trans (final7 m c), k⟩
  · refine (θ_run _ _ _).mono (fun r h c => ?_) (Cert.FirstPleRefIdeal.Value.run m' g')
    obtain ⟨es, en, k⟩ := h c
    obtain ⟨e0, e1, e2, e3, e4, e5⟩ := harg c
    rw [e0, e1, e2, e3, e4] at es
    rw [e0, e1, e2, e3, e4, e5] at en
    exact ⟨es.trans (ref6_eq _ _ _ _ _), en.trans (ref7_eq _ _ _ _ _ _), k⟩

end FirstPle

/-! ## The embedding of the second layer -/

section MidPle

open Cert.MidPleProof

/-- The reference of the embedding of the second layer runs, keeps its arguments, and declares no semaphore. -/
theorem frame_mid_ple_reference : Cert.quiescent_MidPleRefIdeal (hMidPleRefIdeal := Cert.MidPleRefIdeal.Gen.facts) := fun m g _ =>
  (θ_run _ _ _).mono (fun r h => ⟨fun c => (h c).2.2, sem_eq_zero_of_no_sems (by decide) r.2⟩) (Cert.MidPleRefIdeal.Value.run m g)

/-- The value claim of the embedding of the second layer: both leave the streams and their norms. -/
theorem algebraic_mid_ple : Cert.algebraic_MidPleIdeal_MidPleRefIdeal (hMidPleIdeal := Cert.MidPleIdeal.Gen.facts)
    (hMidPleRefIdeal := Cert.MidPleRefIdeal.Gen.facts) := by
  intro m g m' g' _ harg
  refine ⟨fun c => streams (aH m c) (aF m c) (aGp m c) (aWg m c) (aP m c) (aWu m c),
    fun c => norms (aH m c) (aF m c) (aGp m c) (aWg m c) (aP m c) (aWu m c) (aGn m c), ?_, ?_⟩
  · refine (θ_run _ _ _).mono (fun r h c => ?_) (Cert.MidPleIdeal.Value.run_blocks m g)
    obtain ⟨es, en, k⟩ := h c
    exact ⟨es.trans (final7 m c), en.trans (final8 m c), k⟩
  · refine (θ_run _ _ _).mono (fun r h c => ?_) (Cert.MidPleRefIdeal.Value.run m' g')
    obtain ⟨es, en, k⟩ := h c
    obtain ⟨e0, e1, e2, e3, e4, e5, e6⟩ := harg c
    rw [e0, e1, e2, e3, e4, e5] at es
    have ev := en.trans (res_eq m' c)
    rw [e0, e1, e2, e3, e4, e5, e6] at ev
    exact ⟨es.trans (ref7_eq _ _ _ _ _ _), ev.trans (ref8_eq _ _ _ _ _ _ _), k⟩

end MidPle

/-! ## The latent projection -/

section MlaLatent

open Cert.MlaLatentProof

/-- The reference of the latent projection runs, keeps its arguments, and declares no semaphore. -/
theorem frame_mla_latent_reference : Cert.quiescent_MlaLatentRefIdeal (hMlaLatentRefIdeal := Cert.MlaLatentRefIdeal.Gen.facts) := fun m g _ =>
  (θ_run _ _ _).mono (fun r h => ⟨fun c => (h c).2, sem_eq_zero_of_no_sems (by decide) r.2⟩) (Cert.MlaLatentRefIdeal.Value.run m g)

/-- The value claim of the latent projection: both leave the same array. -/
theorem algebraic_mla_latent : Cert.algebraic_MlaLatentIdeal_MlaLatentRefIdeal (hMlaLatentIdeal := Cert.MlaLatentIdeal.Gen.facts)
    (hMlaLatentRefIdeal := Cert.MlaLatentRefIdeal.Gen.facts) := by
  intro m g m' g' _ harg
  refine ⟨fun c => latents (aX m c) (aW m c) (aQ m c) (aK m c), ?_, ?_⟩
  · refine (θ_run _ _ _).mono (fun r h c => ?_) (Cert.MlaLatentIdeal.Value.run_blocks m g)
    obtain ⟨e, k⟩ := h c
    exact ⟨e.trans (final m c), k⟩
  · refine (θ_run _ _ _).mono (fun r h c => ?_) (Cert.MlaLatentRefIdeal.Value.run m' g')
    obtain ⟨e, k⟩ := h c
    obtain ⟨e0, e1, e2, e3⟩ := harg c
    rw [e0, e1, e2, e3] at e
    exact ⟨e.trans (ref_eq _ _ _ _), k⟩

end MlaLatent

/-! ## The key projection of the latent attention -/

section MlaKey

open Cert.MlaKeyProof

/-- The reference of the key projection of the latent attention runs, keeps its arguments, and declares no semaphore. -/
theorem frame_mla_key_reference : Cert.quiescent_MlaKeyRefIdeal (hMlaKeyRefIdeal := Cert.MlaKeyRefIdeal.Gen.facts) := fun m g _ =>
  (θ_run _ _ _).mono (fun r h => ⟨fun c => (h c).2, sem_eq_zero_of_no_sems (by decide) r.2⟩) (Cert.MlaKeyRefIdeal.Value.run m g)

/-- The value claim of the key projection of the latent attention: both leave the same array. -/
theorem algebraic_mla_key : Cert.algebraic_MlaKeyIdeal_MlaKeyRefIdeal (hMlaKeyIdeal := Cert.MlaKeyIdeal.Gen.facts)
    (hMlaKeyRefIdeal := Cert.MlaKeyRefIdeal.Gen.facts) := by
  intro m g m' g' _ harg
  refine ⟨fun c => proj (aX m c) (aW m c), ?_, ?_⟩
  · refine (θ_run _ _ _).mono (fun r h c => ?_) (Cert.MlaKeyIdeal.Value.run_blocks m g)
    obtain ⟨e, k⟩ := h c
    exact ⟨e.trans (final m c), k⟩
  · refine (θ_run _ _ _).mono (fun r h c => ?_) (Cert.MlaKeyRefIdeal.Value.run m' g')
    obtain ⟨e, k⟩ := h c
    obtain ⟨e0, e1⟩ := harg c
    rw [e0, e1] at e
    exact ⟨e.trans (ref_eq _ _), k⟩

end MlaKey

/-! ## The value projection of the latent attention -/

section MlaValue

open Cert.MlaValueProof

/-- The reference of the value projection of the latent attention runs, keeps its arguments, and declares no semaphore. -/
theorem frame_mla_value_reference : Cert.quiescent_MlaValueRefIdeal (hMlaValueRefIdeal := Cert.MlaValueRefIdeal.Gen.facts) := fun m g _ =>
  (θ_run _ _ _).mono (fun r h => ⟨fun c => (h c).2, sem_eq_zero_of_no_sems (by decide) r.2⟩) (Cert.MlaValueRefIdeal.Value.run m g)

/-- The value claim of the value projection of the latent attention: both leave the same array. -/
theorem algebraic_mla_value : Cert.algebraic_MlaValueIdeal_MlaValueRefIdeal (hMlaValueIdeal := Cert.MlaValueIdeal.Gen.facts)
    (hMlaValueRefIdeal := Cert.MlaValueRefIdeal.Gen.facts) := by
  intro m g m' g' _ harg
  refine ⟨fun c => proj (aX m c) (aW m c), ?_, ?_⟩
  · refine (θ_run _ _ _).mono (fun r h c => ?_) (Cert.MlaValueIdeal.Value.run_blocks m g)
    obtain ⟨e, k⟩ := h c
    exact ⟨e.trans (final m c), k⟩
  · refine (θ_run _ _ _).mono (fun r h c => ?_) (Cert.MlaValueRefIdeal.Value.run m' g')
    obtain ⟨e, k⟩ := h c
    obtain ⟨e0, e1⟩ := harg c
    rw [e0, e1] at e
    exact ⟨e.trans (ref_eq _ _), k⟩

end MlaValue

end Cert.FurtherCalls

end
-- ==== Proof.Block.lean ====
/-
  What one grid point of the attention kernel computes, as a function of the blocks it is given: the 256-lane key
  scratch (`keys`), one trip of the loop over the key blocks (`trip`), the loop (`loopSt`), the block written back
  (`attnBlk`). The three theorems at the end say that the generated run of the body leaves exactly these.
-/
module

public import proofs.«01_k».proof.Proof.Gen.KernelIdeal.Value
public import Idealize.ShloMosaic.Lib.Pointwise
public import Idealize.ShloMosaic.Lib.WritesUnit
public import Idealize.ShloMosaic.Lib.Tactic

@[expose] public section

noncomputable section

namespace Cert.Attn

open Cert.KernelIdeal Cert.KernelIdeal.Gen Idealize.ShloMosaic Idealize.ShloMosaic.TcCoe Idealize.SL.Sem

variable {F : FTy → Type} [FloatOps F] [Named F]

/-- What the loop carries: the running maximum, the running denominator, the running numerator. -/
abbrev State (F : FTy → Type) := FVec F S1024x1 .f32 × FVec F S1024x1 .f32 × FVec F S1024x128 .f32

/-- The 256-lane keys: the 128 lanes of `kn`, then the 128 lanes of `kr`. -/
def keys (kn kr : Vec F S8192x128 .bf16) : Vec F S8192x256 .bf16 := fun y =>
  if h : (y 1).val < 128 then kn (ix2 (n0 := 8192) (n1 := 128) (y 0) ⟨(y 1).val, h⟩)
  else kr (ix2 (n0 := 8192) (n1 := 128) (y 0) ⟨(y 1).val - 128, by have : (y 1).val < 256 := (y 1).isLt; omega⟩)

/-- Rows `1024 k … 1024 k + 1023` of the keys. -/
def keyBlk (K : Vec F S8192x256 .bf16) (k : Fin 8) : Vec F S1024x256 .bf16 := fun y =>
  K (ix2 (n0 := 8192) (n1 := 256) ⟨1024 * k.val + (y 0).val, by have : (y 0).val < 1024 := (y 0).isLt; omega⟩ (y 1))

/-- Rows `1024 k … 1024 k + 1023` of the values. -/
def valBlk (W : Vec F S8192x128 .bf16) (k : Fin 8) : Vec F S1024x128 .bf16 := fun y =>
  W (ix2 (n0 := 8192) (n1 := 128) ⟨1024 * k.val + (y 0).val, by have : (y 0).val < 1024 := (y 0).isLt; omega⟩ (y 1))

/-- One trip of the loop over the key blocks. -/
def trip (q : Vec F S1024x256 .bf16) (kb : Vec F S1024x256 .bf16) (vb : Vec F S1024x128 .bf16) (s : State F) : State F :=
  (k0_pay7 q s.1 kb, k0_pay10 q s.1 s.2.1 kb, k0_pay11 q s.1 s.2.2 kb vb)

/-- The loop's carried value before trip `k`. -/
def loopSt (q : Vec F S1024x256 .bf16) (K : Vec F S8192x256 .bf16) (W : Vec F S8192x128 .bf16) : ℕ → State F
  | 0 => (k0_pay3, k0_pay4, k0_pay5)
  | k + 1 => if h : k < 8 then trip q (keyBlk K ⟨k, h⟩) (valBlk W ⟨k, h⟩) (loopSt q K W k) else loopSt q K W k

/-- The block a grid point writes back: numerator over denominator after the eight trips. -/
def attnBlk (q : Vec F S1024x256 .bf16) (K : Vec F S8192x256 .bf16) (W : Vec F S8192x128 .bf16) : Vec F S1024x128 .bf16 :=
  k0_pay12 (loopSt q K W 8).2.1 (loopSt q K W 8).2.2

theorem off1_eq (k : Fin k0_t1_loop.trips) : k0_off1 k = ![1024 * k.val, 0] :=
  (by decide +kernel : ∀ k : Fin k0_t1_loop.trips, k0_off1 k = ![1024 * k.val, 0]) k

theorem off2_eq (k : Fin k0_t1_loop.trips) : k0_off2 k = ![1024 * k.val, 0] :=
  (by decide +kernel : ∀ k : Fin k0_t1_loop.trips, k0_off2 k = ![1024 * k.val, 0]) k

theorem hz2 : (![0, 0] : Fin 2 → Nat) = fun _ => 0 := funext fun a => by fin_cases a <;> rfl

/-- The key rows trip `k` loads. -/
theorem ld_keys (K : Vec F S8192x256 .bf16) (k : Fin k0_t1_loop.trips) (h : k.val < 8) :
    View.ld K (Rect.unit (s := S8192x256) (k0_off1 k) S1024x256.size (Facts₀.k0_off1_inb k)) = keyBlk K ⟨k.val, h⟩ := by
  rw [View.ld_unit]
  funext y
  unfold extractStridedSlice keyBlk
  refine congrArg K (funext fun a => Fin.ext ?_)
  have h0 := congrFun (off1_eq k) a
  match a with
  | ⟨0, _⟩ => exact congrArg (· + (y 0).val) h0
  | ⟨1, _⟩ => exact (congrArg (· + (y 1).val) h0).trans (Nat.zero_add _)

/-- The value rows trip `k` loads. -/
theorem ld_vals (W : Vec F S8192x128 .bf16) (k : Fin k0_t1_loop.trips) (h : k.val < 8) :
    View.ld W (Rect.unit (s := S8192x128) (k0_off2 k) S1024x128.size (Facts₀.k0_off2_inb k)) = valBlk W ⟨k.val, h⟩ := by
  rw [View.ld_unit]
  funext y
  unfold extractStridedSlice valBlk
  refine congrArg W (funext fun a => Fin.ext ?_)
  have h0 := congrFun (off2_eq k) a
  match a with
  | ⟨0, _⟩ => exact congrArg (· + (y 0).val) h0
  | ⟨1, _⟩ => exact (congrArg (· + (y 1).val) h0).trans (Nat.zero_add _)

/-- One trip of the generated run is `trip` of the rows it loads. -/
theorem tripR_eq (𝒱 : Variants) (c : Dev nD) (bd : Option 𝒱.V) (i : grid0.Coords) (a3 : Memref sig .tc .vmem S1024x256 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .bf16) (h6 : a6.IsWhole) (a7 : Memref sig .tc .vmem S1024x128 .bf16) (h7 : a7.IsWhole) (a8 : Memref sig .tc .vmem S8192x256 .bf16) (h8 : a8.IsWhole) (q : Vec F S1024x256 .bf16)
    (X6 : BufTy.Contents (Elt F) a6.view.ty) (X8 : BufTy.Contents (Elt F) a8.view.ty) (k : Fin k0_t1_loop.trips) (s : State F) :
    tripR_k0_t1 (F := F) 𝒱 c bd i a3 h3 a4 h4 a5 h5 a6 h6 a7 h7 a8 h8 q X6 X8 k s
      = trip q (View.ld (a8.view.read (Elt F) X8) (Rect.unit (s := S8192x256) (k0_off1 k) S1024x256.size (Facts₀.k0_off1_inb k))) (View.ld (a6.view.read (Elt F) X6) (Rect.unit (s := S8192x128) (k0_off2 k) S1024x128.size (Facts₀.k0_off2_inb k))) s := by
  unfold tripR_k0_t1 trip_k0_t1
  rfl

/-- The generated loop state is `loopSt` of the scratch and the values. -/
theorem st_eq (𝒱 : Variants) (c : Dev nD) (bd : Option 𝒱.V) (i : grid0.Coords) (a3 : Memref sig .tc .vmem S1024x256 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .bf16) (h6 : a6.IsWhole) (a7 : Memref sig .tc .vmem S1024x128 .bf16) (h7 : a7.IsWhole) (a8 : Memref sig .tc .vmem S8192x256 .bf16) (h8 : a8.IsWhole) (q : Vec F S1024x256 .bf16)
    (X6 : BufTy.Contents (Elt F) a6.view.ty) (X8 : BufTy.Contents (Elt F) a8.view.ty) (K : Vec F S8192x256 .bf16) (W : Vec F S8192x128 .bf16)
    (hK : a8.view.read (Elt F) X8 = K) (hW : a6.view.read (Elt F) X6 = W) : ∀ k : ℕ, k ≤ 8 →
    st_k0_t1 (F := F) 𝒱 c bd i a3 h3 a4 h4 a5 h5 a6 h6 a7 h7 a8 h8 q X6 X8 (k0_pay3, k0_pay4, k0_pay5) k = loopSt q K W k
  | 0, _ => rfl
  | k + 1, hk => by
    have ht : k < k0_t1_loop.trips := by rw [show k0_t1_loop.trips = 8 from by decide +kernel]; omega
    have hk8 : k < 8 := by omega
    rw [st_k0_t1_succ (F := F) 𝒱 c bd i a3 h3 a4 h4 a5 h5 a6 h6 a7 h7 a8 h8 q X6 X8 (k0_pay3, k0_pay4, k0_pay5) ⟨k, ht⟩,
      tripR_eq, hK, hW, ld_keys K ⟨k, ht⟩ hk8, ld_vals W ⟨k, ht⟩ hk8,
      st_eq 𝒱 c bd i a3 h3 a4 h4 a5 h5 a6 h6 a7 h7 a8 h8 q X6 X8 K W hK hW k (by omega), loopSt, dif_pos hk8]

/-- The two stores into the scratch, read back: the keys. -/
theorem read_scratch (v : View sig .tc .vmem S8192x256 .bf16) (f : v.ty.Contents (Elt F)) (x1 x2 : Vec F S8192x128 .bf16) :
    v.read (Elt F) (v.writes (Elt F) f
      [⟨Rect.unit (s := S8192x256) ![0, 128] S8192x128.size inb_S8192x256_S8192x128_0_128, x2⟩,
       ⟨Rect.unit (s := S8192x256) ![0, 0] S8192x128.size inb_S8192x256_S8192x128_0_0, x1⟩]) = keys x1 x2 := by
  funext y
  have hy0 : (y 0).val < 8192 := (y 0).isLt
  have hy1 : (y 1).val < 256 := (y 1).isLt
  unfold keys
  by_cases h : (y 1).val < 128
  · rw [dif_pos h]
    refine (View.read_writes_cons_unit_of_not_mem v f (off' := ![0, 128]) (size := S8192x128.size)
      inb_S8192x256_S8192x128_0_128 x2 _ y rfl 1 (.inl h)).trans ?_
    exact View.read_writes_cons_unit_of_mem v f (off' := ![0, 0]) (size := S8192x128.size) inb_S8192x256_S8192x128_0_0 x1 _ y
      (ix2 (n0 := 8192) (n1 := 128) (y 0) ⟨(y 1).val, h⟩) rfl (fun a => by
        match a with
        | ⟨0, _⟩ => exact (Nat.zero_add _).symm
        | ⟨1, _⟩ => exact (Nat.zero_add _).symm)
  · rw [dif_neg h]
    exact View.read_writes_cons_unit_of_mem v f (off' := ![0, 128]) (size := S8192x128.size) inb_S8192x256_S8192x128_0_128 x2 _ y
      (ix2 (n0 := 8192) (n1 := 128) (y 0) ⟨(y 1).val - 128, by omega⟩) rfl (fun a => by
        match a with
        | ⟨0, _⟩ => exact (Nat.zero_add _).symm
        | ⟨1, _⟩ => exact (show (y 1).val = 128 + ((y 1).val - 128) from by omega))

section Body

variable (c : Dev nD) (i : grid0.Coords) (a3 : Memref sig .tc .vmem S1024x256 .bf16) (h3 : a3.IsWhole) (a4 : Memref sig .tc .vmem S8192x128 .bf16) (h4 : a4.IsWhole) (a5 : Memref sig .tc .vmem S8192x128 .bf16) (h5 : a5.IsWhole) (a6 : Memref sig .tc .vmem S8192x128 .bf16) (h6 : a6.IsWhole) (a7 : Memref sig .tc .vmem S1024x128 .bf16) (h7 : a7.IsWhole) (a8 : Memref sig .tc .vmem S8192x256 .bf16) (h8 : a8.IsWhole)
    (x0 : Vec F S1024x256 .bf16) (x1 : Vec F S8192x128 .bf16) (x2 : Vec F S8192x128 .bf16) (x3 : Vec F S8192x128 .bf16)

/-- A point that does not rebuild the scratch writes back the attention of its queries over the scratch it finds. -/
theorem out_B (hc : ¬cond0_0 i) (xs : Vec F S8192x256 .bf16) :
    out0_B_4 c i a3 h3 a4 h4 a5 h5 a6 h6 a7 h7 a8 h8 hc x0 x1 x2 x3 xs = attnBlk x0 xs x3 := by
  unfold out0_B_4
  rw [View.read_writes_eq_canon _ _ _ (cover0_B_4 c i a3 h3 a4 h4 a5 h5 a6 h6 a7 h7 a8 h8 hc x0 x1 x2 x3 xs)]
  unfold kernelRun0_B
  dsimp only
  rw [View.canon_unit_zero (S := S1024x128) hz2]
  simp only [View.readAt_eq_ld, h3.read_unread, View.ld_unit_zero (S := S1024x256) hz2]
  rw [show Scf.trips (0#32) (Scalar.addi 0#32 8#32) 1#32 = 8 from by decide +kernel,
    st_eq _ c _ i a3 h3 a4 h4 a5 h5 a6 h6 a7 h7 a8 h8 x0 _ _ xs x3 (h8.read_unread _) (h6.read_unread _) 8 (le_refl _)]
  rfl

/-- A point that rebuilds the scratch writes back the attention of its queries over the keys it has just stored. -/
theorem out_A (hc : cond0_0 i) :
    out0_A_4 c i a3 h3 a4 h4 a5 h5 a6 h6 a7 h7 a8 h8 hc x0 x1 x2 x3 = attnBlk x0 (keys x1 x2) x3 := by
  unfold out0_A_4
  rw [View.read_writes_eq_canon _ _ _ (cover0_A_4 c i a3 h3 a4 h4 a5 h5 a6 h6 a7 h7 a8 h8 hc x0 x1 x2 x3)]
  unfold kernelRun0_A
  dsimp only
  sl_unfold_words
  rw [View.canon_unit_zero (S := S1024x128) hz2]
  simp only [View.readAt_eq_ld, h3.read_unread, h4.read_unread, h5.read_unread, View.ld_unit_zero (S := S1024x256) hz2,
    View.ld_unit_zero (S := S8192x128) hz2]
  rw [show Scf.trips (0#32) (Scalar.addi 0#32 8#32) 1#32 = 8 from by decide +kernel,
    st_eq _ c _ i a3 h3 a4 h4 a5 h5 a6 h6 a7 h7 a8 h8 x0 _ _ (keys x1 x2) x3
      (by unfold k0_pay1 k0_pay2; simp only [shapeCast_self]; exact read_scratch _ _ x1 x2) (h6.read_unread _) 8 (le_refl _)]
  rfl

/-- … and leaves those keys in the scratch. -/
theorem sout_A (hc : cond0_0 i) :
    sout0_A_0 c i a3 h3 a4 h4 a5 h5 a6 h6 a7 h7 a8 h8 hc x0 x1 x2 x3 = keys x1 x2 := by
  unfold sout0_A_0
  unfold kernelRun0_A
  dsimp only
  sl_unfold_words
  simp only [View.readAt_eq_ld, h4.read_unread, h5.read_unread, View.ld_unit_zero (S := S8192x128) hz2]
  unfold k0_pay1 k0_pay2
  simp only [shapeCast_self]
  exact read_scratch _ _ x1 x2

/-- A point that does not rebuild the scratch leaves it as it found it. -/
theorem sout_B (hc : ¬cond0_0 i) (xs : Vec F S8192x256 .bf16) :
    sout0_B_0 c i a3 h3 a4 h4 a5 h5 a6 h6 a7 h7 a8 h8 hc x0 x1 x2 x3 xs = xs := rfl

end Body

end Cert.Attn
-- ==== Proof.Softmax.lean ====
module

public import Idealize.ShloMosaic.Lib.Pointwise

/-! The mathematics of one row of an attention: a softmax built up block by block, in powers of two,
    against the softmax written at once, in powers of `e`. Every score and value is a real number;
    the running maximum starts at `⊥`. -/

@[expose] public section

noncomputable section

namespace Cert.Attn

open Idealize.ShloMosaic

/-- A finite sum of reals, read in the extended reals. -/
theorem coe_sum {ι : Type} (S : Finset ι) (f : ι → ℝ) :
    ((∑ x ∈ S, f x : ℝ) : EReal) = ∑ x ∈ S, (f x : EReal) := by
  classical
  induction S using Finset.induction_on with
  | empty => simp
  | insert a S h ih => rw [Finset.sum_insert h, Finset.sum_insert h, EReal.coe_add, ih]

/-- The larger of a number below `⊤` and of reals is below `⊤`. -/
theorem fold_max_ne_top {ι : Type} (S : Finset ι) (b : EReal) (hb : b ≠ ⊤) (f : ι → ℝ) :
    Finset.fold max b (fun x => (f x : EReal)) S ≠ ⊤ := by
  classical
  induction S using Finset.induction_on with
  | empty => simpa using hb
  | insert a S h ih =>
    rw [Finset.fold_insert h]
    rcases max_choice (f a : EReal) (Finset.fold max b (fun x => (f x : EReal)) S) with e | e <;> rw [e]
    · exact EReal.coe_ne_top _
    · exact ih

/-- The maximum of at least one real, taken from `b < ⊤`, is a real. -/
theorem exists_fold_max {ι : Type} [Fintype ι] [Nonempty ι] (b : EReal) (hb : b ≠ ⊤) (f : ι → ℝ) :
    ∃ M : ℝ, Finset.fold max b (fun x => (f x : EReal)) Finset.univ = M := by
  have ht := fold_max_ne_top Finset.univ b hb f
  have hl : Finset.fold max b (fun x => (f x : EReal)) Finset.univ ≠ ⊥ := by
    obtain ⟨i⟩ := ‹Nonempty ι›
    have h : (f i : EReal) ≤ Finset.fold max b (fun x => (f x : EReal)) Finset.univ :=
      (Finset.le_fold_max (f i : EReal)).2 (Or.inr ⟨i, Finset.mem_univ i, le_refl _⟩)
    intro e
    rw [e] at h
    exact EReal.coe_ne_bot _ (le_bot_iff.1 h)
  exact ⟨_, (EReal.coe_toReal ht hl).symm⟩

/-- The state of a row after some keys: `L` is the sum of the powers `2 ^ s` of the keys met so far,
    `A` the same sum weighted by the values. The state holds both divided by `2 ^ m`, for the running
    maximum `m`; before any key the maximum is `⊥` and both sums are `0`. -/
def Row (L A : ℝ) (m l a : EReal) : Prop :=
  (m = ⊥ ∧ l = 0 ∧ a = 0 ∧ L = 0 ∧ A = 0) ∨
    ∃ M : ℝ, m = M ∧ l = (((2 : ℝ) ^ (-M) * L : ℝ) : EReal) ∧ a = (((2 : ℝ) ^ (-M) * A : ℝ) : EReal)

/-- The power of two of a difference of reals. -/
theorem exp2_sub (x y : ℝ) :
    (FloatOps.exp2 (F := Ideal) (φ := .f32) ((x : EReal) - (y : EReal)) : EReal)
      = (((2 : ℝ) ^ (-y) * (2 : ℝ) ^ x : ℝ) : EReal) := by
  rw [← EReal.coe_sub]
  refine (Ideal.exp2_coe (x - y)).trans ?_
  congr 1
  change (2 : ℝ) ^ (x - y) = _
  rw [sub_eq_add_neg, Real.rpow_add (by norm_num), mul_comm]

/-- **One block of keys.** The state of a row after a further block of `n` keys with real scores `s`
    and values `v`. -/
theorem Row.step {n : ℕ} [NeZero n] {L A : ℝ} {m l a : EReal} (h : Row L A m l a) (b : EReal) (hb : b = ⊥)
    (s v : Fin n → ℝ) :
    let m' : EReal := max m (Finset.fold max b (fun x => (s x : EReal)) Finset.univ)
    Row (L + ∑ x, (2 : ℝ) ^ s x) (A + ∑ x, (2 : ℝ) ^ s x * v x) m'
      ((FloatOps.exp2 (F := Ideal) (φ := .f32) (m - m') : EReal) * l
        + ∑ x, (FloatOps.exp2 (F := Ideal) (φ := .f32) ((s x : EReal) - m') : EReal))
      ((FloatOps.exp2 (F := Ideal) (φ := .f32) (m - m') : EReal) * a
        + ∑ x, (FloatOps.exp2 (F := Ideal) (φ := .f32) ((s x : EReal) - m') : EReal) * (v x : EReal)) := by
  intro m'
  obtain ⟨B, hB⟩ := exists_fold_max b (by rw [hb]; exact bot_ne_top) s
  have key : ∀ (M : ℝ) (w : Fin n → ℝ), (∑ x, (FloatOps.exp2 (F := Ideal) (φ := .f32)
      ((s x : EReal) - (M : EReal)) : EReal) * (w x : EReal))
      = (((2 : ℝ) ^ (-M) * ∑ x, (2 : ℝ) ^ s x * w x : ℝ) : EReal) := by
    intro M w
    rw [Finset.mul_sum, coe_sum]
    refine Finset.sum_congr rfl fun x _ => ?_
    rw [exp2_sub, ← EReal.coe_mul, mul_assoc]
  have key1 : ∀ (M : ℝ), (∑ x, (FloatOps.exp2 (F := Ideal) (φ := .f32)
      ((s x : EReal) - (M : EReal)) : EReal))
      = (((2 : ℝ) ^ (-M) * ∑ x, (2 : ℝ) ^ s x : ℝ) : EReal) := by
    intro M
    rw [Finset.mul_sum, coe_sum]
    exact Finset.sum_congr rfl fun x _ => exp2_sub _ _
  rcases h with ⟨hm, hl, ha, hL, hA⟩ | ⟨M, hm, hl, ha⟩
  · have hm' : m' = (B : EReal) := by
      change max m _ = _
      rw [hm, hB]
      exact max_eq_right bot_le
    refine Or.inr ⟨B, hm', ?_, ?_⟩
    · rw [hm', hl, hL, mul_zero, zero_add, zero_add, key1]
    · rw [hm', ha, hA, mul_zero, zero_add, zero_add, key]
  · have hm' : m' = ((max M B : ℝ) : EReal) := by
      change max m _ = _
      rw [hm, hB]
      exact (EReal.coe_strictMono.monotone.map_max).symm
    have alpha : ∀ y : ℝ, (FloatOps.exp2 (F := Ideal) (φ := .f32) (m - m') : EReal)
        * (((2 : ℝ) ^ (-M) * y : ℝ) : EReal) = (((2 : ℝ) ^ (-(max M B)) * y : ℝ) : EReal) := by
      intro y
      rw [hm', hm, exp2_sub, ← EReal.coe_mul]
      congr 1
      have h2 : (2 : ℝ) ^ M * (2 : ℝ) ^ (-M) = 1 := by
        rw [← Real.rpow_add (by norm_num), add_neg_cancel, Real.rpow_zero]
      calc (2 : ℝ) ^ (-(max M B)) * (2 : ℝ) ^ M * ((2 : ℝ) ^ (-M) * y)
          = (2 : ℝ) ^ (-(max M B)) * ((2 : ℝ) ^ M * (2 : ℝ) ^ (-M)) * y := by ring
        _ = _ := by rw [h2, mul_one]
    refine Or.inr ⟨max M B, hm', ?_, ?_⟩
    · rw [hl, alpha, hm', key1, ← EReal.coe_add, mul_add]
    · rw [ha, alpha, hm', key, ← EReal.coe_add, mul_add]

/-- **The quotient at the end**: the maximum divides out. -/
theorem Row.div {L A : ℝ} {m l a : EReal} (h : Row L A m l a) (hL : L ≠ 0) :
    Ideal.div a l = ((A / L : ℝ) : EReal) := by
  rcases h with ⟨_, _, _, h0, _⟩ | ⟨M, _, hl, ha⟩
  · exact absurd h0 hL
  · have h2 : (2 : ℝ) ^ (-M) ≠ 0 := (Real.rpow_pos_of_pos (by norm_num) _).ne'
    rw [hl, ha, Ideal.div_coe (mul_ne_zero h2 hL), ← EReal.coe_mul]
    congr 1
    field_simp

/-- **The softmax written at once**: scores `t`, any real shift `M`. -/
theorem softmax_row {ι : Type} [Fintype ι] [Nonempty ι] (t v : ι → ℝ) (M : ℝ) :
    (∑ x, Ideal.div (Ideal.exp ((t x : EReal) - (M : EReal))) (∑ y, Ideal.exp ((t y : EReal) - (M : EReal)))
        * (v x : EReal))
      = (((∑ x, Real.exp (t x) * v x) / ∑ x, Real.exp (t x) : ℝ) : EReal) := by
  have e : ∀ x, Ideal.exp ((t x : EReal) - (M : EReal)) = ((Real.exp (-M) * Real.exp (t x) : ℝ) : EReal) := by
    intro x
    rw [← EReal.coe_sub]
    refine (Ideal.exp_coe _).trans ?_
    rw [sub_eq_add_neg, Real.exp_add, mul_comm]
  have hs : (∑ x, Real.exp (t x)) ≠ 0 :=
    (Finset.sum_pos (fun x _ => Real.exp_pos (t x)) Finset.univ_nonempty).ne'
  have hM : Real.exp (-M) ≠ 0 := (Real.exp_pos _).ne'
  have hsum : (∑ y, Ideal.exp ((t y : EReal) - (M : EReal)))
      = ((Real.exp (-M) * ∑ y, Real.exp (t y) : ℝ) : EReal) := by
    rw [Finset.mul_sum, coe_sum]
    exact Finset.sum_congr rfl fun x _ => e x
  rw [hsum, Finset.sum_div, coe_sum]
  refine Finset.sum_congr rfl fun x _ => ?_
  rw [e, Ideal.div_coe (mul_ne_zero hM hs), ← EReal.coe_mul, ← EReal.coe_mul]
  congr 1
  field_simp

/-- A power of two of a score scaled by `1 / log 2` is a power of `e`. -/
theorem two_rpow_scaled (x : ℝ) : (2 : ℝ) ^ (x * (Real.log 2)⁻¹) = Real.exp x := by
  have h : Real.log 2 ≠ 0 := (Real.log_pos (by norm_num)).ne'
  rw [Real.rpow_def_of_pos (by norm_num)]
  congr 1
  field_simp

end Cert.Attn
-- ==== Proof.Rows.lean ====
/-
  The block a grid point writes back, read at an index: for real scores and real values it is the softmax-weighted
  mean of the values (`attnBlk_apply`).
-/
module

public import proofs.«01_k».proof.Proof.Block
public import proofs.«01_k».proof.Proof.Softmax

@[expose] public section

noncomputable section

namespace Cert.Attn

open Cert.KernelIdeal Cert.KernelIdeal.Gen Idealize.ShloMosaic Idealize.ShloMosaic.TcCoe Idealize.SL.Sem

/-- The scale the queries are multiplied by: `1 / (√192 · log 2)`. -/
def scale : EReal := (((Real.sqrt 192)⁻¹ * (Real.log 2)⁻¹ : ℝ) : EReal)

theorem named_scale : (Named.named (F := Ideal) (φ := .f32) κ "scale" 0x3DD53B95#32 : EReal) = scale := by
  unfold scale
  rfl

/-- The running maximum's first value is `⊥`. -/
theorem neg_inf_word : Ideal.ofBits FTy.f32 0xFF800000#32 = ⊥ := by
  simp [Ideal.ofBits, Ideal.ieee]

/-- Key number `1024 k + x`. -/
def keyAt (k : Fin 8) (x : Fin 1024) : Fin 8192 := ⟨1024 * k.val + x.val, by omega⟩

/-- The first `k` key blocks' share of a sum over all keys. -/
def partialSum (g : Fin 8192 → ℝ) (k : ℕ) : ℝ :=
  ∑ i ∈ Finset.range k, if h : i < 8 then ∑ x : Fin 1024, g (keyAt ⟨i, h⟩ x) else 0

theorem partialSum_zero (g : Fin 8192 → ℝ) : partialSum g 0 = 0 := by
  unfold partialSum
  rw [Finset.sum_range_zero]

theorem partialSum_succ (g : Fin 8192 → ℝ) (k : ℕ) (h : k < 8) :
    partialSum g (k + 1) = partialSum g k + ∑ x : Fin 1024, g (keyAt ⟨k, h⟩ x) := by
  unfold partialSum
  rw [Finset.sum_range_succ, dif_pos h]

/-- The eight blocks together are all keys. -/
theorem partialSum_all (g : Fin 8192 → ℝ) : partialSum g 8 = ∑ j, g j := by
  unfold partialSum
  rw [Finset.sum_range, ← Equiv.sum_comp (finProdFinEquiv : Fin 8 × Fin 1024 ≃ Fin 8192) g, Fintype.sum_prod_type]
  refine Finset.sum_congr rfl fun i _ => ?_
  rw [dif_pos i.isLt]
  refine Finset.sum_congr rfl fun x _ => congrArg g (Fin.ext ?_)
  change 1024 * i.val + x.val = x.val + 1024 * i.val
  omega

/-- A key block at an index. -/
theorem keyBlk_apply (K : Vec Ideal S8192x256 .bf16) (k : Fin 8) (x : Fin 1024) (l : Fin 256) :
    keyBlk K k (ix2 x l) = K (ix2 (keyAt k x) l) := rfl

/-- A value block at an index. -/
theorem valBlk_apply (W : Vec Ideal S8192x128 .bf16) (k : Fin 8) (x : Fin 1024) (d : Fin 128) :
    valBlk W k (ix2 x d) = W (ix2 (keyAt k x) d) := rfl

/-- The state every row starts from. -/
theorem row_start (r : Fin 1024) (d : Fin 128) :
    Row 0 0 (k0_pay3 (F := Ideal) (ix2 r 0)) (k0_pay4 (F := Ideal) (ix2 r 0)) (k0_pay5 (F := Ideal) (ix2 r d)) := by
  refine Or.inl ⟨?_, ?_, ?_, rfl, rfl⟩
  · pointwise [k0_pay3]
    exact neg_inf_word
  · pointwise [k0_pay4]
  · pointwise [k0_pay5]

section Payloads

variable (q kb : Vec Ideal S1024x256 .bf16) (vb : Vec Ideal S1024x128 .bf16) (m l : FVec Ideal S1024x1 .f32)
    (a : FVec Ideal S1024x128 .f32) (r : Fin 1024)

/-- A score: the scaled query against a key. -/
theorem pay6_apply (j : Fin 1024) :
    (k0_pay6 q kb (ix2 r j) : EReal) = ∑ x : Fin 256, (q (ix2 r x) : EReal) * scale * kb (ix2 j x) := by
  pointwise [k0_pay6]
  rw [named_scale]

/-- A row's maximum. -/
theorem rowMax_apply (x : FVec Ideal S1024x1024 .f32) (b : BitVec 32) (hb : b = FKind.maximumf.neutral .f32 (.inl rfl)) :
    (multiReduction (F := Ideal) .maximumf [1] S1024 x b reduces_S1024x1024_S1024 (.inl rfl) hb (ix1 r) : EReal)
      = Finset.fold max (Ideal.ofBits FTy.f32 b) (fun j => (x (ix2 r j) : EReal)) Finset.univ := by
  refine (Ideal.multiReduction_maximumf_single x b reduces_S1024x1024_S1024 (.inl rfl) hb (ix1 r)).trans ?_
  refine congrArg (fun f => Finset.fold max (Ideal.ofBits FTy.f32 b) f Finset.univ) (funext fun j => congrArg x ?_)
  funext a
  match a with
  | ⟨0, _⟩ => rfl
  | ⟨1, _⟩ => rfl

/-- The new maximum. -/
theorem pay7_apply :
    (k0_pay7 q m kb (ix2 r 0) : EReal)
      = max (m (ix2 r 0)) (Finset.fold max (Ideal.ofBits FTy.f32 0xFF800000#32) (fun x => (k0_pay6 q kb (ix2 r x) : EReal)) Finset.univ) := by
  unfold k0_pay7
  dsimp only
  generalize k0_pay6 q kb = x
  rw [← rowMax_apply r x 0xFF800000#32 rfl]
  generalize multiReduction (F := Ideal) .maximumf [1] S1024 x 0xFF800000#32 reduces_S1024x1024_S1024 (.inl rfl) rfl = y
  pointwise

/-- A weight: two to the score less the new maximum. -/
theorem pay9_apply (j : Fin 1024) :
    (k0_pay9 q m kb (ix2 r j) : EReal)
      = FloatOps.exp2 (F := Ideal) (φ := .f32) ((k0_pay6 q kb (ix2 r j) : EReal) - k0_pay7 q m kb (ix2 r 0)) := by
  pointwise [k0_pay9]

/-- The new denominator. -/
theorem pay10_apply :
    (k0_pay10 q m l kb (ix2 r 0) : EReal)
      = (FloatOps.exp2 (F := Ideal) (φ := .f32) ((m (ix2 r 0) : EReal) - k0_pay7 q m kb (ix2 r 0)) : EReal) * l (ix2 r 0)
        + ∑ x, (k0_pay9 q m kb (ix2 r x) : EReal) := by
  pointwise [k0_pay10, k0_pay8]

/-- The new numerator. -/
theorem pay11_apply (d : Fin 128) :
    (k0_pay11 q m a kb vb (ix2 r d) : EReal)
      = (FloatOps.exp2 (F := Ideal) (φ := .f32) ((m (ix2 r 0) : EReal) - k0_pay7 q m kb (ix2 r 0)) : EReal) * a (ix2 r d)
        + ∑ x, (k0_pay9 q m kb (ix2 r x) : EReal) * (vb (ix2 x d) : EReal) := by
  pointwise [k0_pay11, k0_pay8]

end Payloads

/-- **A row through one trip.** The block `kb`, `vb` of keys and values has the real scores `s` and values `v`. -/
theorem trip_row (q kb : Vec Ideal S1024x256 .bf16) (vb : Vec Ideal S1024x128 .bf16)
    (r : Fin 1024) (d : Fin 128) (s v : Fin 1024 → ℝ)
    (hs : ∀ j, (∑ x : Fin 256, (q (ix2 r x) : EReal) * scale * kb (ix2 j x)) = (s j : EReal))
    (hv : ∀ j, (vb (ix2 j d) : EReal) = (v j : EReal))
    (S : State Ideal) (L A : ℝ) (ih : Row L A (S.1 (ix2 r 0)) (S.2.1 (ix2 r 0)) (S.2.2 (ix2 r d))) :
    Row (L + ∑ x, (2 : ℝ) ^ s x) (A + ∑ x, (2 : ℝ) ^ s x * v x)
      ((trip q kb vb S).1 (ix2 r 0)) ((trip q kb vb S).2.1 (ix2 r 0)) ((trip q kb vb S).2.2 (ix2 r d)) := by
  obtain ⟨m, l, a⟩ := S
  have e6 : ∀ x : Fin 1024, (k0_pay6 q kb (ix2 r x) : EReal) = (s x : EReal) := fun x => (pay6_apply q kb r x).trans (hs x)
  have st := Row.step ih (Ideal.ofBits FTy.f32 0xFF800000#32) neg_inf_word s v
  dsimp only at st
  have e7 := pay7_apply q kb m r
  simp only [e6] at e7
  rw [← e7] at st
  have e10 := pay10_apply q kb m l r
  have e11 := pay11_apply q kb vb m a r d
  simp only [pay9_apply, e6, hv] at e10 e11
  rw [← e10, ← e11] at st
  exact st

/-- **A row through the loop.** Before trip `k` the row's state is that of the first `1024 k` keys. -/
theorem loop_row (q : Vec Ideal S1024x256 .bf16) (K : Vec Ideal S8192x256 .bf16) (W : Vec Ideal S8192x128 .bf16)
    (r : Fin 1024) (d : Fin 128) (s v : Fin 8192 → ℝ)
    (hs : ∀ j, (∑ x : Fin 256, (q (ix2 r x) : EReal) * scale * K (ix2 j x)) = (s j : EReal))
    (hv : ∀ j, (W (ix2 j d) : EReal) = (v j : EReal)) (k : ℕ) (hk : k ≤ 8) :
    Row (partialSum (fun j => (2 : ℝ) ^ s j) k) (partialSum (fun j => (2 : ℝ) ^ s j * v j) k)
      ((loopSt q K W k).1 (ix2 r 0)) ((loopSt q K W k).2.1 (ix2 r 0)) ((loopSt q K W k).2.2 (ix2 r d)) := by
  induction k with
  | zero =>
    rw [partialSum_zero, partialSum_zero]
    unfold loopSt
    exact row_start r d
  | succ k ih =>
    have h : k < 8 := by omega
    rw [partialSum_succ _ k h, partialSum_succ _ k h, loopSt, dif_pos h]
    exact trip_row q (keyBlk K ⟨k, h⟩) (valBlk W ⟨k, h⟩) r d (fun x => s (keyAt ⟨k, h⟩ x)) (fun x => v (keyAt ⟨k, h⟩ x))
      (fun j => by simp only [keyBlk_apply]; exact hs (keyAt ⟨k, h⟩ j))
      (fun j => by rw [valBlk_apply]; exact hv (keyAt ⟨k, h⟩ j)) _ _ _ (ih (by omega))

/-- The quotient at an index. -/
theorem pay12_apply (l : FVec Ideal S1024x1 .f32) (a : FVec Ideal S1024x128 .f32) (r : Fin 1024) (d : Fin 128) :
    (k0_pay12 l a (ix2 r d) : EReal) = Ideal.div (a (ix2 r d)) (l (ix2 r 0)) := by
  pointwise [k0_pay12]

/-- **The block at an index**: the softmax-weighted mean of the values. -/
theorem attnBlk_apply (q : Vec Ideal S1024x256 .bf16) (K : Vec Ideal S8192x256 .bf16) (W : Vec Ideal S8192x128 .bf16)
    (r : Fin 1024) (d : Fin 128) (s v : Fin 8192 → ℝ)
    (hs : ∀ j, (∑ x : Fin 256, (q (ix2 r x) : EReal) * scale * K (ix2 j x)) = (s j : EReal))
    (hv : ∀ j, (W (ix2 j d) : EReal) = (v j : EReal)) :
    (attnBlk q K W (ix2 r d) : EReal)
      = (((∑ j, (2 : ℝ) ^ s j * v j) / ∑ j, (2 : ℝ) ^ s j : ℝ) : EReal) := by
  have h := loop_row q K W r d s v hs hv 8 (le_refl _)
  rw [partialSum_all, partialSum_all] at h
  have hL : (∑ j : Fin 8192, (2 : ℝ) ^ s j) ≠ 0 :=
    (Finset.sum_pos (fun j _ => Real.rpow_pos_of_pos (by norm_num) (s j)) Finset.univ_nonempty).ne'
  unfold attnBlk
  rw [pay12_apply]
  exact h.div hL

end Cert.Attn
-- ==== Proof.Layout.lean ====
/-
  The four arrays the kernel reads, as the host code lays them out: queries of 256 lanes (128 without rotation, 64 with,
  64 zeros), keys and values head after head, the shared rotated key padded with 64 zeros. And the block of each array that
  a grid point is given.
-/
module

public import proofs.«01_k».proof.Proof.Gen.KernelIdeal.Value
public import Idealize.ShloMosaic.Lib.Pointwise
public import Idealize.ShloMosaic.Lib.StableHlo.ReadAt
public import Idealize.ShloMosaic.Lib.Pipeline.ValueKit.Geometry

@[expose] public section

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The argument arrays on device `c`. -/
def aQn : FVec Ideal S4x8192x16x128 .f32 := m ((c : Thread nD τ).loc main_arg0)
def aQr : FVec Ideal S4x8192x16x64 .f32 := m ((c : Thread nD τ).loc main_arg1)
def aKn : FVec Ideal S4x8192x16x128 .f32 := m ((c : Thread nD τ).loc main_arg2)
def aKr : FVec Ideal S4x8192x64 .f32 := m ((c : Thread nD τ).loc main_arg3)
def aV : FVec Ideal S4x8192x16x128 .f32 := m ((c : Thread nD τ).loc main_arg4)

/-- The query array at batch `b`, position `s`, head `h`, lane `l`. -/
theorem V_q (b : Fin 4) (s : Fin 8192) (h : Fin 16) (l : Fin 256) (i : Fin 32768) (j : Fin 4096)
    (hi : i.val = 8192 * b.val + s.val) (hj : j.val = 256 * h.val + l.val) :
    (V (F := Ideal) m c main_v3 (ix2 (n0 := 32768) (n1 := 4096) i j) : EReal)
      = if h1 : l.val < 128 then aQn m c (ix4 b s h ⟨l.val, h1⟩)
        else if h2 : l.val < 192 then aQr m c (ix4 b s h ⟨l.val - 128, by omega⟩)
        else 0 := by
  unfold V
  after_reads_at
  have e1 : j.val % 256 = l.val := by omega
  have e2 : j.val / 256 = h.val := by omega
  have e3 : i.val / 8192 = b.val := by omega
  have e4 : i.val % 8192 = s.val := by omega
  by_cases h1 : l.val < 128
  · rw [dif_pos (by omega : j.val % 256 < 128), dif_pos h1]
    after_reads_at
    exact congrArg (aQn m c) (congr (congr (congr (congrArg ix4 (Fin.ext e3)) (Fin.ext e4)) (Fin.ext e2)) (Fin.ext e1))
  · rw [dif_neg (by omega : ¬j.val % 256 < 128), dif_neg h1]
    by_cases h2 : l.val < 192
    · rw [dif_pos (by omega : j.val % 256 - 128 < 64), dif_pos h2]
      after_reads_at
      exact congrArg (aQr m c) (congr (congr (congr (congrArg ix4 (Fin.ext e3)) (Fin.ext e4)) (Fin.ext e2))
        (Fin.ext (congrArg (· - 128) e1)))
    · rw [dif_neg (by omega : ¬j.val % 256 - 128 < 64), dif_neg h2]
      after_reads_at

/-- The keys without rotation. -/
theorem V_kn (b : Fin 4) (s : Fin 8192) (h : Fin 16) (l : Fin 128) (i : Fin 32768) (j : Fin 2048)
    (hi : i.val = 8192 * b.val + s.val) (hj : j.val = 128 * h.val + l.val) :
    (V (F := Ideal) m c main_v5 (ix2 (n0 := 32768) (n1 := 2048) i j) : EReal) = aKn m c (ix4 b s h l) := by
  unfold V
  after_reads_at
  exact congrArg (aKn m c) (congr (congr (congr (congrArg ix4 (Fin.ext (by change i.val / 8192 = b.val; omega)))
    (Fin.ext (by change i.val % 8192 = s.val; omega))) (Fin.ext (by change j.val / 128 = h.val; omega)))
    (Fin.ext (by change j.val % 128 = l.val; omega)))

/-- The rotated keys, one per position. -/
theorem V_kr (b : Fin 4) (s : Fin 8192) (l : Fin 128) (i : Fin 32768)
    (hi : i.val = 8192 * b.val + s.val) :
    (V (F := Ideal) m c main_v9 (ix2 (n0 := 32768) (n1 := 128) i l) : EReal)
      = if h1 : l.val < 64 then aKr m c (ix3 b s ⟨l.val, h1⟩) else 0 := by
  unfold V
  after_reads_at
  by_cases h1 : l.val < 64
  · rw [dif_pos h1, dif_pos h1]
    after_reads_at
    exact congrArg (aKr m c) (congr (congr (congrArg ix3 (Fin.ext (by change i.val / 8192 = b.val; omega)))
      (Fin.ext (by change i.val % 8192 = s.val; omega))) (Fin.ext rfl))
  · rw [dif_neg h1, dif_neg h1]
    after_reads_at

/-- The values. -/
theorem V_v (b : Fin 4) (s : Fin 8192) (h : Fin 16) (l : Fin 128) (i : Fin 32768) (j : Fin 2048)
    (hi : i.val = 8192 * b.val + s.val) (hj : j.val = 128 * h.val + l.val) :
    (V (F := Ideal) m c main_v11 (ix2 (n0 := 32768) (n1 := 2048) i j) : EReal) = aV m c (ix4 b s h l) := by
  unfold V
  after_reads_at
  exact congrArg (aV m c) (congr (congr (congr (congrArg ix4 (Fin.ext (by change i.val / 8192 = b.val; omega)))
    (Fin.ext (by change i.val % 8192 = s.val; omega))) (Fin.ext (by change j.val / 128 = h.val; omega)))
    (Fin.ext (by change j.val % 128 = l.val; omega)))

end Cert.Attn
-- ==== Proof.Array.lean ====
/-
  The whole result array of the kernel: the blocks of the grid points put together. Point `t` works on batch `t / 128`,
  head `t / 8 % 16` and the query tile `t % 8`; the key scratch it reads was stored at the first tile of its head.
-/
module

public import proofs.«01_k».proof.Proof.Block
public import Idealize.ShloMosaic.Lib.Pipeline.ValueKit.Geometry

@[expose] public section

noncomputable section

namespace Cert.Attn

open Cert.KernelIdeal Cert.KernelIdeal.Gen Idealize.ShloMosaic Idealize.ShloMosaic.TcCoe Idealize.SL.Sem

variable {F : FTy → Type} [FloatOps F] [Named F] (m : (ℓ : Loc nD τ sig) → Buf (Elt F) ℓ) (c : Dev nD)

theorem lt_N (t : Fin cfg0.N) : t.val < 512 := lt_of_lt_of_eq t.isLt (show cfg0.N = 512 from N_0)

/-- The batch, head and query tile of a grid point. -/
def pB (t : Fin cfg0.N) : Fin 4 := ⟨t.val / 128, by have := lt_N t; omega⟩
def pH (t : Fin cfg0.N) : Fin 16 := ⟨t.val / 8 % 16, by omega⟩
def pI (t : Fin cfg0.N) : Fin 8 := ⟨t.val % 8, by omega⟩

/-- The queries of a batch, head and tile. -/
def qBlk (b : Fin 4) (h : Fin 16) (i : Fin 8) : Vec F S1024x256 .bf16 := fun y =>
  V m c main_v3 (ix2 (n0 := 32768) (n1 := 4096)
    ⟨8192 * b.val + 1024 * i.val + (y 0).val, by have : (y 0).val < 1024 := (y 0).isLt; omega⟩
    ⟨256 * h.val + (y 1).val, by have : (y 1).val < 256 := (y 1).isLt; omega⟩)

/-- The keys without rotation of a batch and head. -/
def knBlk (b : Fin 4) (h : Fin 16) : Vec F S8192x128 .bf16 := fun y =>
  V m c main_v5 (ix2 (n0 := 32768) (n1 := 2048)
    ⟨8192 * b.val + (y 0).val, by have : (y 0).val < 8192 := (y 0).isLt; omega⟩
    ⟨128 * h.val + (y 1).val, by have : (y 1).val < 128 := (y 1).isLt; omega⟩)

/-- The rotated keys of a batch. -/
def krBlk (b : Fin 4) : Vec F S8192x128 .bf16 := fun y =>
  V m c main_v9 (ix2 (n0 := 32768) (n1 := 128)
    ⟨8192 * b.val + (y 0).val, by have : (y 0).val < 8192 := (y 0).isLt; omega⟩
    ⟨(y 1).val, (y 1).isLt⟩)

/-- The values of a batch and head. -/
def vBlk (b : Fin 4) (h : Fin 16) : Vec F S8192x128 .bf16 := fun y =>
  V m c main_v11 (ix2 (n0 := 32768) (n1 := 2048)
    ⟨8192 * b.val + (y 0).val, by have : (y 0).val < 8192 := (y 0).isLt; omega⟩
    ⟨128 * h.val + (y 1).val, by have : (y 1).val < 128 := (y 1).isLt; omega⟩)

/-- The block of the result for a batch, head and tile. -/
def oBlk (b : Fin 4) (h : Fin 16) (i : Fin 8) : Vec F S1024x128 .bf16 :=
  attnBlk (qBlk m c b h i) (keys (knBlk m c b h) (krBlk m c b)) (vBlk m c b h)

/-- The result array. -/
def oArr : Vec F S32768x2048 .bf16 := fun j =>
  oBlk m c ⟨(j 0).val / 8192, by have : (j 0).val < 32768 := (j 0).isLt; omega⟩
    ⟨(j 1).val / 128, by have : (j 1).val < 2048 := (j 1).isLt; omega⟩
    ⟨(j 0).val % 8192 / 1024, by omega⟩
    (ix2 (n0 := 1024) (n1 := 128) ⟨(j 0).val % 1024, by omega⟩ ⟨(j 1).val % 128, by omega⟩)

theorem ix_0 : ∀ t : Fin cfg0.N, win0_0.index t = ![8 * (t.val / 128) + t.val % 8, t.val / 8 % 16] :=
  (by decide +kernel : ∀ t : Fin grid0.N, _)
theorem ix_1 : ∀ t : Fin cfg0.N, win0_1.index t = ![t.val / 128, t.val / 8 % 16] :=
  (by decide +kernel : ∀ t : Fin grid0.N, _)
theorem ix_2 : ∀ t : Fin cfg0.N, win0_2.index t = ![t.val / 128, 0] :=
  (by decide +kernel : ∀ t : Fin grid0.N, _)
theorem ix_3 : ∀ t : Fin cfg0.N, win0_3.index t = ![t.val / 128, t.val / 8 % 16] :=
  (by decide +kernel : ∀ t : Fin grid0.N, _)
theorem ix_4 : ∀ t : Fin cfg0.N, win0_4.index t = ![8 * (t.val / 128) + t.val % 8, t.val / 8 % 16] :=
  (by decide +kernel : ∀ t : Fin grid0.N, _)

theorem iblk_0 (t : Fin cfg0.N) : iblk m c 0 t = qBlk m c (pB t) (pH t) (pI t) := by
  have ht := lt_N t
  funext y
  blk_simp [iblk, ix_0 t]
  unfold qBlk pB pH pI
  refine congrArg (V m c main_v3) ?_
  funext a
  match a with
  | ⟨0, _⟩ =>
    refine Fin.ext ?_
    blk_simp [ix_0 t]
    simp
    try omega
  | ⟨1, _⟩ =>
    refine Fin.ext ?_
    blk_simp [ix_0 t]
    simp
    try omega

theorem iblk_1 (t : Fin cfg0.N) : iblk m c 1 t = knBlk m c (pB t) (pH t) := by
  have ht := lt_N t
  funext y
  blk_simp [iblk, ix_1 t]
  unfold knBlk pB pH
  refine congrArg (V m c main_v5) ?_
  funext a
  match a with
  | ⟨0, _⟩ =>
    refine Fin.ext ?_
    blk_simp [ix_1 t]
    simp
    try omega
  | ⟨1, _⟩ =>
    refine Fin.ext ?_
    blk_simp [ix_1 t]
    simp
    try omega

theorem iblk_2 (t : Fin cfg0.N) : iblk m c 2 t = krBlk m c (pB t) := by
  have ht := lt_N t
  funext y
  blk_simp [iblk, ix_2 t]
  unfold krBlk pB
  refine congrArg (V m c main_v9) ?_
  funext a
  match a with
  | ⟨0, _⟩ =>
    refine Fin.ext ?_
    blk_simp [ix_2 t]
    simp
    try omega
  | ⟨1, _⟩ =>
    refine Fin.ext ?_
    blk_simp [ix_2 t]
    simp
    try omega

theorem iblk_3 (t : Fin cfg0.N) : iblk m c 3 t = vBlk m c (pB t) (pH t) := by
  have ht := lt_N t
  funext y
  blk_simp [iblk, ix_3 t]
  unfold vBlk pB pH
  refine congrArg (V m c main_v11) ?_
  funext a
  match a with
  | ⟨0, _⟩ =>
    refine Fin.ext ?_
    blk_simp [ix_3 t]
    simp
    try omega
  | ⟨1, _⟩ =>
    refine Fin.ext ?_
    blk_simp [ix_3 t]
    simp
    try omega

/-- The scratch after point `n`: the keys of its batch and head. -/
theorem scratch (n : ℕ) (hn : n < cfg0.N) :
    (outsAt0 m c n hn).2 = keys (knBlk m c (pB ⟨n, hn⟩) (pH ⟨n, hn⟩)) (krBlk m c (pB ⟨n, hn⟩)) := by
  induction n with
  | zero =>
    rw [outsAt0_A m c ⟨0, hn⟩ (Nat.zero_mod _)]
    dsimp only
    rw [sout_A, iblk_1, iblk_2]
  | succ n ih =>
    by_cases h0 : (n + 1) % 8 = 0
    · rw [outsAt0_A m c ⟨n + 1, hn⟩ h0]
      dsimp only
      rw [sout_A, iblk_1, iblk_2]
    · rw [outsAt0_B m c ⟨n + 1, hn⟩ h0]
      dsimp only
      rw [sout_B]
      refine (ih (Nat.lt_of_succ_lt hn)).trans ?_
      have hb : pB ⟨n, Nat.lt_of_succ_lt hn⟩ = pB ⟨n + 1, hn⟩ := Fin.ext (show n / 128 = (n + 1) / 128 by omega)
      have hh : pH ⟨n, Nat.lt_of_succ_lt hn⟩ = pH ⟨n + 1, hn⟩ := Fin.ext (show n / 8 % 16 = (n + 1) / 8 % 16 by omega)
      rw [hb, hh]

/-- The block point `t` writes back. -/
theorem out_block (t : Fin cfg0.N) : (outsAt0 m c t.val t.isLt).1 = oBlk m c (pB t) (pH t) (pI t) := by
  unfold oBlk
  by_cases h0 : t.val % 8 = 0
  · rw [outsAt0_A m c t h0]
    dsimp only
    rw [out_A, iblk_0, iblk_1, iblk_2, iblk_3]
  · rw [outsAt0_B m c t h0]
    dsimp only
    have ht : t.val - 1 < cfg0.N := Nat.lt_of_le_of_lt (Nat.sub_le _ _) t.isLt
    have hb : pB ⟨t.val - 1, ht⟩ = pB t := Fin.ext (show (t.val - 1) / 128 = t.val / 128 by omega)
    have hh : pH ⟨t.val - 1, ht⟩ = pH t := Fin.ext (show (t.val - 1) / 8 % 16 = t.val / 8 % 16 by omega)
    rw [out_B, scratch m c (t.val - 1) ht, hb, hh, iblk_0, iblk_3]

/-- A block of the result array. -/
theorem oArr_at (b : Fin 4) (h : Fin 16) (i : Fin 8) (r : Fin 1024) (d : Fin 128) (j : S32768x2048.Idx)
    (h0 : (j 0).val = 8192 * b.val + 1024 * i.val + r.val) (h1 : (j 1).val = 128 * h.val + d.val) :
    oArr m c j = oBlk m c b h i (ix2 (n0 := 1024) (n1 := 128) r d) := by
  unfold oArr
  have eb : (j 0).val / 8192 = b.val := by omega
  have eh : (j 1).val / 128 = h.val := by omega
  have ei : (j 0).val % 8192 / 1024 = i.val := by omega
  have er : (j 0).val % 1024 = r.val := by omega
  have ed : (j 1).val % 128 = d.val := by omega
  simp only [eb, eh, ei, er, ed]

/-- **The result array after the run.** -/
theorem final : (dats m 0 c).arrAt 4 cfg0.N = oArr m c := by
  refine (dats m 0 c).arrAt_eq_of_covers 4 _ (by decide +kernel) fun t hf y => ?_
  blk_simp [ix_4 t]
  rw [after0_4, out_block]
  have ht := lt_N t
  refine ((oArr_at m c (pB t) (pH t) (pI t) (y 0) (y 1) _ ?_ ?_).trans (congrArg _ (eq_ix2 y).symm)).symm
  · blk_simp [ix_4 t]
    unfold pB pI
    simp
    omega
  · blk_simp [ix_4 t]
    unfold pH
    simp
    omega

end Cert.Attn
-- ==== Proof.Value.lean ====
/-
  The attention of real arguments (`score`, `attn`), and that it is what the kernel's result array holds.
-/
module

public import proofs.«01_k».proof.Proof.Rows
public import proofs.«01_k».proof.Proof.Layout
public import proofs.«01_k».proof.Proof.Array

@[expose] public section

noncomputable section

namespace Cert.Attn

open Cert.KernelIdeal Cert.KernelIdeal.Gen Idealize.ShloMosaic Idealize.ShloMosaic.TcCoe Idealize.SL.Sem

/-- Five argument arrays of reals: queries and keys without and with rotation, values. -/
structure Args where
  qn : Fin 4 → Fin 8192 → Fin 16 → Fin 128 → ℝ
  qr : Fin 4 → Fin 8192 → Fin 16 → Fin 64 → ℝ
  kn : Fin 4 → Fin 8192 → Fin 16 → Fin 128 → ℝ
  kr : Fin 4 → Fin 8192 → Fin 64 → ℝ
  v : Fin 4 → Fin 8192 → Fin 16 → Fin 128 → ℝ

/-- The score of key `j` for the query of batch `b`, position `s`, head `h`. -/
def score (a : Args) (b : Fin 4) (s : Fin 8192) (h : Fin 16) (j : Fin 8192) : ℝ :=
  ((∑ x, a.qn b s h x * a.kn b j h x) + ∑ x, a.qr b s h x * a.kr b j x) * (Real.sqrt 192)⁻¹

/-- The attention: the mean of the values, weighted by the exponentials of the scores. -/
def attn (a : Args) (b : Fin 4) (s : Fin 8192) (h : Fin 16) (d : Fin 128) : ℝ :=
  (∑ j, Real.exp (score a b s h j) * a.v b j h d) / ∑ j, Real.exp (score a b s h j)

/-- The argument arrays hold the reals of `a`. -/
structure Holds (x0 : FVec Ideal S4x8192x16x128 .f32) (x1 : FVec Ideal S4x8192x16x64 .f32)
    (x2 : FVec Ideal S4x8192x16x128 .f32) (x3 : FVec Ideal S4x8192x64 .f32) (x4 : FVec Ideal S4x8192x16x128 .f32)
    (a : Args) : Prop where
  qn : ∀ b s h l, (x0 (ix4 b s h l) : EReal) = (a.qn b s h l : EReal)
  qr : ∀ b s h l, (x1 (ix4 b s h l) : EReal) = (a.qr b s h l : EReal)
  kn : ∀ b s h l, (x2 (ix4 b s h l) : EReal) = (a.kn b s h l : EReal)
  kr : ∀ b s l, (x3 (ix3 b s l) : EReal) = (a.kr b s l : EReal)
  v : ∀ b s h l, (x4 (ix4 b s h l) : EReal) = (a.v b s h l : EReal)

/-- A sum over 256 lanes is one over the first 128, one over the next 64 and one over the last 64. -/
theorem sum_lanes (f : Fin 256 → EReal) :
    ∑ x, f x = (∑ x : Fin 128, f ⟨x.val, by omega⟩)
      + ((∑ x : Fin 64, f ⟨128 + x.val, by omega⟩) + ∑ x : Fin 64, f ⟨192 + x.val, by omega⟩) := by
  rw [Fin.sum_univ_add (a := 128) (b := 128) f, Fin.sum_univ_add (a := 64) (b := 64) fun x => f (Fin.natAdd 128 x)]
  rfl

variable (m : (ℓ : Loc nD τ sig) → Buf (Elt Ideal) ℓ) (c : Dev nD)

variable (a : Args) (ha : Holds (aQn m c) (aQr m c) (aKn m c) (aKr m c) (aV m c) a)
include ha

/-- The scaled query lanes. -/
theorem q_lane (b : Fin 4) (h : Fin 16) (i : Fin 8) (r : Fin 1024) (s : Fin 8192) (hs : s.val = 1024 * i.val + r.val)
    (l : Fin 256) :
    (qBlk m c b h i (ix2 r l) : EReal) = if h1 : l.val < 128 then (a.qn b s h ⟨l.val, h1⟩ : EReal)
      else if h2 : l.val < 192 then (a.qr b s h ⟨l.val - 128, by omega⟩ : EReal) else 0 := by
  unfold qBlk
  rw [V_q m c b s h l _ _ (by change 8192 * b.val + 1024 * i.val + r.val = _; omega) rfl]
  simp only [ha.qn, ha.qr]

/-- The key lanes. -/
theorem k_lane (b : Fin 4) (h : Fin 16) (j : Fin 8192) (l : Fin 256) :
    (keys (knBlk m c b h) (krBlk m c b) (ix2 j l) : EReal) = if h1 : l.val < 128 then (a.kn b j h ⟨l.val, h1⟩ : EReal)
      else if h2 : l.val < 192 then (a.kr b j ⟨l.val - 128, by omega⟩ : EReal) else 0 := by
  unfold keys
  by_cases h1 : l.val < 128
  · rw [dif_pos h1]
    refine (dif_pos h1).trans ?_
    unfold knBlk
    exact (V_kn m c b j h ⟨l.val, h1⟩ _ _ rfl rfl).trans (ha.kn b j h _)
  · rw [dif_neg h1]
    refine (dif_neg h1).trans ?_
    unfold krBlk
    refine (V_kr m c b j ⟨l.val - 128, by omega⟩ _ rfl).trans ?_
    by_cases h2 : l.val < 192
    · rw [dif_pos h2]
      refine (dif_pos (show l.val - 128 < 64 by omega)).trans ?_
      exact ha.kr b j _
    · rw [dif_neg h2]
      exact dif_neg (show ¬l.val - 128 < 64 by omega)

/-- The kernel's score: the score over `log 2`. -/
theorem kernel_score (b : Fin 4) (h : Fin 16) (i : Fin 8) (r : Fin 1024) (s : Fin 8192) (hs : s.val = 1024 * i.val + r.val)
    (j : Fin 8192) :
    (∑ x : Fin 256, (qBlk m c b h i (ix2 r x) : EReal) * scale * keys (knBlk m c b h) (krBlk m c b) (ix2 j x))
      = ((score a b s h j * (Real.log 2)⁻¹ : ℝ) : EReal) := by
  simp only [q_lane m c a ha b h i r s hs, k_lane m c a ha b h j]
  rw [sum_lanes]
  have e1 : ∀ x : Fin 128, x.val < 128 := fun x => x.isLt
  have e2 : ∀ x : Fin 64, ¬128 + x.val < 128 := fun x => by omega
  have e3 : ∀ x : Fin 64, 128 + x.val < 192 := fun x => by omega
  have e4 : ∀ x : Fin 64, ¬192 + x.val < 128 := fun x => by omega
  have e5 : ∀ x : Fin 64, ¬192 + x.val < 192 := fun x => by omega
  simp only [e1, e2, e3, e4, e5, dif_pos, dif_neg, not_false_eq_true, mul_zero, Finset.sum_const_zero, add_zero]
  unfold scale score
  simp only [← EReal.coe_mul]
  rw [← coe_sum, ← coe_sum, ← EReal.coe_add]
  congr 1
  rw [add_mul, add_mul, Finset.sum_mul, Finset.sum_mul, Finset.sum_mul, Finset.sum_mul]
  congr 1
  · exact Finset.sum_congr rfl fun x _ => by ring
  · refine Finset.sum_congr rfl fun x _ => ?_
    have e : (⟨128 + x.val - 128, by omega⟩ : Fin 64) = x := Fin.ext (by simp)
    simp only [e]
    ring

/-- **The kernel's result array at an index** is the attention. -/
theorem kernel_apply (b : Fin 4) (s : Fin 8192) (h : Fin 16) (d : Fin 128) (j : S32768x2048.Idx)
    (h0 : (j 0).val = 8192 * b.val + s.val) (h1 : (j 1).val = 128 * h.val + d.val) :
    (oArr m c j : EReal) = (attn a b s h d : EReal) := by
  have hi : s.val / 1024 < 8 := by omega
  have hr : s.val % 1024 < 1024 := by omega
  have hs : s.val = 1024 * (⟨s.val / 1024, hi⟩ : Fin 8).val + (⟨s.val % 1024, hr⟩ : Fin 1024).val := by
    change s.val = 1024 * (s.val / 1024) + s.val % 1024
    omega
  rw [oArr_at m c b h ⟨s.val / 1024, hi⟩ ⟨s.val % 1024, hr⟩ d j (by omega) h1]
  unfold oBlk
  rw [attnBlk_apply _ _ _ _ d (fun k => score a b s h k * (Real.log 2)⁻¹) (fun k => a.v b k h d)
    (fun k => kernel_score m c a ha b h _ _ s hs k)
    (fun k => by
      unfold vBlk
      exact (V_v m c b k h d _ _ rfl rfl).trans (ha.v b k h d))]
  unfold attn
  simp only [two_rpow_scaled]

end Cert.Attn
-- ==== Proof.Reference.lean ====
/-
  The reference's result, stage by stage (scores, weights, mean of the values), read at an index: for real arguments it is
  the attention `attn`.
-/
module

public import proofs.«01_k».proof.Proof.Value
public import proofs.«01_k».proof.Proof.Gen.ReferenceIdeal.Run

@[expose] public section

noncomputable section

namespace Cert.Attn

open Cert.ReferenceIdeal Cert.ReferenceIdeal.Gen Idealize.ShloMosaic Idealize.ShloMosaic.TcCoe Idealize.SL.Sem

/-- The scores. -/
def rScore (x0 : FVec Ideal S4x8192x16x128 .f32) (x1 : FVec Ideal S4x8192x16x64 .f32)
    (x2 : FVec Ideal S4x8192x16x128 .f32) (x3 : FVec Ideal S4x8192x64 .f32) : FVec Ideal S4x16x8192x8192 .f32 :=
  mulf (addf (Host.dotGeneral dot_S4x8192x16x128_S4x8192x16x128_S4x16x8192x8192_3_3_1_1_02_02 none x0 x2)
    (transpose S4x16x8192x8192 [0, 3, 2, 1]
      (Host.dotGeneral dot_S4x8192x64_S4x8192x16x64_S4x8192x8192x16_2_3_1_12_0_0 none x3 x1)
      transposes_S4x8192x8192x16_S4x16x8192x8192_0_3_2_1))
    (broadcastInDim S4x16x8192x8192 ![] bcast_S_S4x16x8192x8192
      (Host.divf (constant S_ .f32 0x3F800000#32) (Host.sqrt (constant S_ .f32 0x43400000#32))))

/-- A row's largest score, from `⊥`. -/
def hMax (s : FVec Ideal S4x16x8192x8192 .f32) : FVec Ideal S4x16x8192 .f32 :=
  Host.reduce FloatOps.maximumf s (constant S_ .f32 0xFF800000#32) reducesTo_S4x16x8192x8192_S4x16x8192_d3 h_S_

/-- A `⊥` for every row. -/
def bots : FVec Ideal S4x16x8192 .f32 :=
  broadcastInDim S4x16x8192 ![] bcast_S_S4x16x8192 (constant S_ .f32 0xFF800000#32)

/-- A row's largest score, once more against `⊥`. -/
def rMax (s : FVec Ideal S4x16x8192x8192 .f32) : FVec Ideal S4x16x8192 .f32 := maximumf bots (hMax s)

/-- The exponentials of the scores less their row's largest. -/
def rExp (s : FVec Ideal S4x16x8192x8192 .f32) (M : FVec Ideal S4x16x8192 .f32) : FVec Ideal S4x16x8192x8192 .f32 :=
  Host.exp (subf s (broadcastInDim S4x16x8192x8192 ![0, 1, 2, 3] bcast_S4x16x8192x1_S4x16x8192x8192_0_1_2_3
    (broadcastInDim S4x16x8192x1 ![0, 1, 2] bcast_S4x16x8192_S4x16x8192x1_0_1_2 M)))

/-- The weights: each row divided by its sum. -/
def rNorm (e : FVec Ideal S4x16x8192x8192 .f32) : FVec Ideal S4x16x8192x8192 .f32 :=
  Host.divf e (broadcastInDim S4x16x8192x8192 ![0, 1, 2, 3] bcast_S4x16x8192x1_S4x16x8192x8192_0_1_2_3
    (broadcastInDim S4x16x8192x1 ![0, 1, 2] bcast_S4x16x8192_S4x16x8192x1_0_1_2
      (Host.reduceAdd e (constant S_ .f32 0x00000000#32) reducesTo_S4x16x8192x8192_S4x16x8192_d3 h_S_)))

/-- The weighted values, laid out as rows of the result. -/
def rOut (x4 : FVec Ideal S4x8192x16x128 .f32) (p : FVec Ideal S4x16x8192x8192 .f32) : FVec Ideal S32768x2048 .bf16 :=
  truncf .bf16 (shapeCast S32768x2048 (transpose S4x8192x16x128 [0, 3, 1, 2]
    (Host.dotGeneral dot_S4x8192x16x128_S4x16x8192x8192_S4x16x128x8192_1_3_3_2_02_01 none x4 p)
    transposes_S4x16x128x8192_S4x8192x16x128_0_3_1_2) shapeCasts_S4x8192x16x128_S32768x2048) bitsLt_bf16_f32

/-- The reference's result. -/
def rFn (x0 : FVec Ideal S4x8192x16x128 .f32) (x1 : FVec Ideal S4x8192x16x64 .f32)
    (x2 : FVec Ideal S4x8192x16x128 .f32) (x3 : FVec Ideal S4x8192x64 .f32) (x4 : FVec Ideal S4x8192x16x128 .f32) :
    FVec Ideal S32768x2048 .bf16 :=
  rOut x4 (rNorm (rExp (rScore x0 x1 x2 x3) (rMax (rScore x0 x1 x2 x3))))

theorem rScore_apply (x0 : FVec Ideal S4x8192x16x128 .f32) (x1 : FVec Ideal S4x8192x16x64 .f32)
    (x2 : FVec Ideal S4x8192x16x128 .f32) (x3 : FVec Ideal S4x8192x64 .f32) (b : Fin 4) (h : Fin 16) (s j : Fin 8192) :
    (rScore x0 x1 x2 x3 (ix4 b h s j) : EReal)
      = ((∑ x : Fin 128, (x0 (ix4 b s h x) : EReal) * x2 (ix4 b j h x)) + ∑ x : Fin 64, (x3 (ix3 b j x) : EReal) * x1 (ix4 b s h x))
        * Ideal.div (Ideal.ofBits FTy.f32 0x3F800000#32) (Ideal.sqrt (Ideal.ofBits FTy.f32 0x43400000#32)) := by
  pointwise [rScore]

theorem hMax_apply (x : FVec Ideal S4x16x8192x8192 .f32) (b : Fin 4) (h : Fin 16) (s : Fin 8192) :
    (hMax x (ix3 b h s) : EReal)
      = Finset.fold max (Ideal.ofBits FTy.f32 0xFF800000#32) (fun j => (x (ix4 b h s j) : EReal)) Finset.univ := by
  unfold hMax
  refine (Host.reduce_eq_fold_single FloatOps.maximumf x _ reducesTo_S4x16x8192x8192_S4x16x8192_d3
    (by decide : S4x16x8192x8192.Reduces [3] S4x16x8192) h_S_ (ix3 b h s)).trans ?_
  refine congrArg (fun f => Finset.fold max (Ideal.ofBits FTy.f32 0xFF800000#32) f Finset.univ) (funext fun j => congrArg x ?_)
  funext a
  match a with
  | ⟨0, _⟩ => rfl
  | ⟨1, _⟩ => rfl
  | ⟨2, _⟩ => rfl
  | ⟨3, _⟩ => rfl

theorem bots_apply (b : Fin 4) (h : Fin 16) (s : Fin 8192) : (bots (ix3 b h s) : EReal) = Ideal.ofBits FTy.f32 0xFF800000#32 := by
  unfold bots
  pointwise

theorem max_apply (x y : FVec Ideal S4x16x8192 .f32) (i : S4x16x8192.Idx) : (maximumf x y i : EReal) = max (x i : EReal) (y i) := rfl

theorem rMax_apply (x : FVec Ideal S4x16x8192x8192 .f32) (b : Fin 4) (h : Fin 16) (s : Fin 8192) :
    (rMax x (ix3 b h s) : EReal) = max (Ideal.ofBits FTy.f32 0xFF800000#32)
      (Finset.fold max (Ideal.ofBits FTy.f32 0xFF800000#32) (fun j => (x (ix4 b h s j) : EReal)) Finset.univ) := by
  rw [← hMax_apply, ← bots_apply b h s]
  unfold rMax
  exact max_apply bots (hMax x) (ix3 b h s)

theorem rExp_apply (x : FVec Ideal S4x16x8192x8192 .f32) (M : FVec Ideal S4x16x8192 .f32) (b : Fin 4) (h : Fin 16) (s j : Fin 8192) :
    (rExp x M (ix4 b h s j) : EReal) = Ideal.exp ((x (ix4 b h s j) : EReal) - M (ix3 b h s)) := by
  pointwise [rExp]

theorem rNorm_apply (x : FVec Ideal S4x16x8192x8192 .f32) (b : Fin 4) (h : Fin 16) (s j : Fin 8192) :
    (rNorm x (ix4 b h s j) : EReal) = Ideal.div (x (ix4 b h s j)) (∑ k, (x (ix4 b h s k) : EReal)) := by
  pointwise [rNorm]

theorem rOut_apply (x4 : FVec Ideal S4x8192x16x128 .f32) (p : FVec Ideal S4x16x8192x8192 .f32) (i : Fin 32768) (j : Fin 2048) :
    (rOut x4 p (ix2 i j) : EReal) = ∑ k : Fin 8192, (x4 (ix4 ⟨i.val / 8192, by omega⟩ k ⟨j.val / 128, by omega⟩ ⟨j.val % 128, by omega⟩) : EReal)
      * p (ix4 ⟨i.val / 8192, by omega⟩ ⟨j.val / 128, by omega⟩ ⟨i.val % 8192, by omega⟩ k) := by
  pointwise [rOut]

/-- The word of `192`. -/
theorem word_192 : Ideal.ofBits FTy.f32 0x43400000#32 = ((192 : ℝ) : EReal) := by
  simp [Ideal.ofBits, Ideal.ieee, -EReal.coe_mul]
  norm_num

/-- The factor on the scores: `1 / √192`. -/
theorem factor : Ideal.div (Ideal.ofBits FTy.f32 0x3F800000#32) (Ideal.sqrt (Ideal.ofBits FTy.f32 0x43400000#32))
    = (((Real.sqrt 192)⁻¹ : ℝ) : EReal) := by
  have h : Real.sqrt 192 ≠ 0 := (Real.sqrt_pos.2 (by norm_num)).ne'
  rw [word_192, Ideal.ofBits_one_f32, Ideal.sqrt_coe, if_neg (by norm_num), Ideal.div_coe h, one_mul, one_div]

variable (x0 : FVec Ideal S4x8192x16x128 .f32) (x1 : FVec Ideal S4x8192x16x64 .f32)
    (x2 : FVec Ideal S4x8192x16x128 .f32) (x3 : FVec Ideal S4x8192x64 .f32) (x4 : FVec Ideal S4x8192x16x128 .f32)
    (a : Args) (ha : Holds x0 x1 x2 x3 x4 a)
include ha

/-- The reference's scores are the scores. -/
theorem ref_score (b : Fin 4) (h : Fin 16) (s j : Fin 8192) :
    (rScore x0 x1 x2 x3 (ix4 b h s j) : EReal) = (score a b s h j : EReal) := by
  rw [rScore_apply, factor]
  simp only [ha.qn, ha.qr, ha.kn, ha.kr, ← EReal.coe_mul]
  rw [← coe_sum, ← coe_sum, ← EReal.coe_add, ← EReal.coe_mul]
  unfold score
  congr 3
  exact Finset.sum_congr rfl fun x _ => mul_comm _ _

/-- **The reference's result at an index** is the attention. -/
theorem ref_apply (i : Fin 32768) (j : Fin 2048) :
    (rFn x0 x1 x2 x3 x4 (ix2 i j) : EReal)
      = (attn a ⟨i.val / 8192, by omega⟩ ⟨i.val % 8192, by omega⟩ ⟨j.val / 128, by omega⟩ ⟨j.val % 128, by omega⟩ : EReal) := by
  unfold rFn
  rw [rOut_apply]
  simp only [rNorm_apply, rExp_apply, rMax_apply, ref_score x0 x1 x2 x3 x4 a ha]
  obtain ⟨M, hM⟩ := exists_fold_max (Ideal.ofBits FTy.f32 0xFF800000#32) (by rw [neg_inf_word]; exact bot_ne_top)
    (fun k => score a ⟨i.val / 8192, by omega⟩ ⟨i.val % 8192, by omega⟩ ⟨j.val / 128, by omega⟩ k)
  rw [hM, neg_inf_word, max_eq_right bot_le]
  unfold attn
  rw [← softmax_row _ _ M]
  refine Finset.sum_congr rfl fun k _ => ?_
  rw [ha.v, mul_comm]

end Cert.Attn
-- ==== Proof.Finite.lean ====
/-
  The precondition `finite`, read back: where it holds, every element of every argument is a real number.
-/
module

public import proofs.«01_k».proof.Pre_finite
public import proofs.«01_k».proof.Proof.Value
public import Idealize.ShloMosaic.Lib.ReduceAll

@[expose] public section

noncomputable section

namespace Cert.Attn

open Cert.Pre_finite Idealize.ShloMosaic

/-- The shape relations the predicate states. -/
instance finiteFacts : Cert.Pre_finite.Facts where
  bcast_S_S4x8192x16x128 := by decide
  reducesTo_S4x8192x16x128_S_d0_1_2_3 := by decide
  h_S_ := by decide
  bcast_S_S4x8192x16x64 := by decide
  reducesTo_S4x8192x16x64_S_d0_1_2_3 := by decide
  bcast_S_S4x8192x64 := by decide
  reducesTo_S4x8192x64_S_d0_1_2 := by decide

/-- The word of `+∞`. -/
theorem inf_word : Ideal.ofBits FTy.f32 0x7F800000#32 = ⊤ := by
  simp [Ideal.ofBits, Ideal.ieee]

/-- A number whose magnitude is below `⊤` is a real. -/
theorem real_of_abs_lt (x : EReal) (h : Ideal.cmp .olt (max x (-x)) ⊤ = 1#1) : ∃ r : ℝ, x = r := by
  have hlt : max x (-x) < ⊤ := by
    by_contra hn
    simp [Ideal.cmp, hn] at h
  induction x with
  | bot => simp at hlt
  | top => simp at hlt
  | coe r => exact ⟨r, rfl⟩

/-- `jnp.all(jnp.abs(x) < jnp.inf)` says that every element of `x` is a real. -/
theorem real_of_all {s t u : Shape} [Subsingleton t.Idx] {axes : List (Fin s.rank)} (x w : FVec Ideal s .f32) (hw : ∀ i, (w i : EReal) = ⊤)
    (init : u.Idx → BitVec 1) (h : s.ReducesTo axes t) (hu : 0 < u.numel) (j : t.Idx)
    (e : Host.reduce IntOp.andi (cmpf .olt (Host.absf x) w) init h hu j = 1#1) (i : s.Idx) : ∃ r : ℝ, (x i : EReal) = r := by
  have e1 := Host.reduce_andi_all _ init h hu j e i
  refine real_of_abs_lt (x i) ?_
  rw [← hw i]
  exact e1

instance : Subsingleton S_.Idx := ⟨fun a b => funext fun k => k.elim0⟩

/-- **The precondition read back.** -/
theorem holds_of_finite (x0 : FVec Ideal S4x8192x16x128 .f32) (x1 : FVec Ideal S4x8192x16x64 .f32)
    (x2 : FVec Ideal S4x8192x16x128 .f32) (x3 : FVec Ideal S4x8192x64 .f32) (x4 : FVec Ideal S4x8192x16x128 .f32)
    (h : Cert.Pre_finite.fn (F := Ideal) x0 x1 x2 x3 x4 = fun _ => 1#1) : ∃ a : Args, Holds x0 x1 x2 x3 x4 a := by
  have h0 := congrFun h ix0
  unfold fn fn_part1 at h0
  dsimp only at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have r0 := real_of_all x0 _ (fun _ => inf_word) _ _ _ _ e0
  have r1 := real_of_all x1 _ (fun _ => inf_word) _ _ _ _ e1
  have r2 := real_of_all x2 _ (fun _ => inf_word) _ _ _ _ e2
  have r3 := real_of_all x3 _ (fun _ => inf_word) _ _ _ _ e3
  have r4 := real_of_all x4 _ (fun _ => inf_word) _ _ _ _ e4
  exact ⟨⟨fun b s h l => (r0 (ix4 b s h l)).choose, fun b s h l => (r1 (ix4 b s h l)).choose,
      fun b s h l => (r2 (ix4 b s h l)).choose, fun b s l => (r3 (ix3 b s l)).choose, fun b s h l => (r4 (ix4 b s h l)).choose⟩,
    ⟨fun b s h l => (r0 (ix4 b s h l)).choose_spec, fun b s h l => (r1 (ix4 b s h l)).choose_spec,
      fun b s h l => (r2 (ix4 b s h l)).choose_spec, fun b s l => (r3 (ix3 b s l)).choose_spec, fun b s h l => (r4 (ix4 b s h l)).choose_spec⟩⟩

end Cert.Attn
-- ==== Proof.lean ====
/-
  The certificate. The attention: the three programs run and end quiescent, the ideal kernel is the kernel with its scale
  named, and for finite arguments the ideal kernel and the ideal reference leave the same array (both hold
  `Cert.Attn.attn`). The further calls' claims are in `Proof/Calls.lean`,
  `Proof/MoreCalls.lean` and `Proof/FurtherCalls.lean`.
-/
module

public import proofs.«01_k».proof.Proof.Calls
public import proofs.«01_k».proof.Proof.MoreCalls
public import proofs.«01_k».proof.Proof.FurtherCalls
public import proofs.«01_k».proof.Proof.Gen.FfnUp.Frame
public import proofs.«01_k».proof.Proof.Gen.ValueGate.Frame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem

/-- For arguments of reals the kernel's array is the reference's result. -/
theorem arrays_eq (m : (ℓ : Loc Cert.KernelIdeal.nD Cert.KernelIdeal.τ Cert.KernelIdeal.sig) → Buf (Elt Ideal) ℓ)
    (c : Dev Cert.KernelIdeal.nD) (a : Cert.Attn.Args)
    (ha : Cert.Attn.Holds (Cert.Attn.aQn m c) (Cert.Attn.aQr m c) (Cert.Attn.aKn m c) (Cert.Attn.aKr m c) (Cert.Attn.aV m c) a) :
    Cert.Attn.oArr m c
      = Cert.Attn.rFn (Cert.Attn.aQn m c) (Cert.Attn.aQr m c) (Cert.Attn.aKn m c) (Cert.Attn.aKr m c) (Cert.Attn.aV m c) := by
  funext j
  rw [eq_ix2 j]
  have h0 : (j 0).val < 32768 := (j 0).isLt
  have h1 : (j 1).val < 2048 := (j 1).isLt
  refine (Cert.Attn.kernel_apply m c a ha ⟨(j 0).val / 8192, by omega⟩ ⟨(j 0).val % 8192, by omega⟩ ⟨(j 1).val / 128, by omega⟩
    ⟨(j 1).val % 128, by omega⟩ _ ?_ ?_).trans (Cert.Attn.ref_apply _ _ _ _ _ a ha (j 0) (j 1)).symm
  · change (j 0).val = 8192 * ((j 0).val / 8192) + (j 0).val % 8192
    omega
  · change (j 1).val = 128 * ((j 1).val / 128) + (j 1).val % 128
    omega

/-- The value claim. -/
theorem algebraic : Cert.algebraic_KernelIdeal_ReferenceIdeal_pre_finite (hKernelIdeal := Cert.KernelIdeal.Gen.facts)
    (hReferenceIdeal := Cert.ReferenceIdeal.Gen.facts) (hPre_finite := Cert.Attn.finiteFacts) := by
  intro m g m' g' hpre harg
  refine ⟨fun c => Cert.Attn.oArr m c, ?_, ?_⟩
  · refine (θ_run _ _ _).mono (fun r h c => ?_) (Cert.KernelIdeal.Value.run_blocks m g)
    obtain ⟨e, k⟩ := h c
    exact ⟨e.trans (Cert.Attn.final m c), k⟩
  · refine (θ_run _ _ _).mono (fun r h c => ?_) (Cert.ReferenceIdeal.Value.run m' g')
    obtain ⟨e, k⟩ := h c
    refine ⟨?_, k⟩
    obtain ⟨a, ha⟩ := Cert.Attn.holds_of_finite _ _ _ _ _ (hpre c)
    obtain ⟨e0, e1, e2, e3, e4⟩ := harg c
    rw [e0, e1, e2, e3, e4] at e
    exact e.trans (arrays_eq m c a ha).symm

/-- The reference runs, keeps its arguments, and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems (by decide) r.2⟩) (Cert.ReferenceIdeal.Value.run m g)

/-- Everything that is claimed. -/
theorem claim : Cert.Claim :=
  ⟨Cert.Kernel.Gen.facts, Cert.KernelIdeal.Gen.facts, Cert.ReferenceIdeal.Gen.facts,
    Cert.ExpertUp.Gen.facts, Cert.ExpertUpIdeal.Gen.facts, Cert.ExpertUpRefIdeal.Gen.facts,
    Cert.ExpertDown.Gen.facts, Cert.ExpertDownIdeal.Gen.facts, Cert.ExpertDownRefIdeal.Gen.facts,
    Cert.FfnUp.Gen.facts, Cert.FfnUpIdeal.Gen.facts, Cert.FfnUpRefIdeal.Gen.facts,
    Cert.ValueGate.Gen.facts, Cert.ValueGateIdeal.Gen.facts, Cert.ValueGateRefIdeal.Gen.facts,
    Cert.LastPle.Gen.facts, Cert.LastPleIdeal.Gen.facts, Cert.LastPleRefIdeal.Gen.facts,
    Cert.FfnDown.Gen.facts, Cert.FfnDownIdeal.Gen.facts, Cert.FfnDownRefIdeal.Gen.facts,
    Cert.RetOut.Gen.facts, Cert.RetOutIdeal.Gen.facts, Cert.RetOutRefIdeal.Gen.facts,
    Cert.MlaOut.Gen.facts, Cert.MlaOutIdeal.Gen.facts, Cert.MlaOutRefIdeal.Gen.facts,
    Cert.RetQk.Gen.facts, Cert.RetQkIdeal.Gen.facts, Cert.RetQkRefIdeal.Gen.facts,
    Cert.FirstPle.Gen.facts, Cert.FirstPleIdeal.Gen.facts, Cert.FirstPleRefIdeal.Gen.facts,
    Cert.MidPle.Gen.facts, Cert.MidPleIdeal.Gen.facts, Cert.MidPleRefIdeal.Gen.facts,
    Cert.MlaLatent.Gen.facts, Cert.MlaLatentIdeal.Gen.facts, Cert.MlaLatentRefIdeal.Gen.facts,
    Cert.MlaKey.Gen.facts, Cert.MlaKeyIdeal.Gen.facts, Cert.MlaKeyRefIdeal.Gen.facts,
    Cert.MlaValue.Gen.facts, Cert.MlaValueIdeal.Gen.facts, Cert.MlaValueRefIdeal.Gen.facts,
    Cert.Attn.finiteFacts, Cert.ExpertUpProof.preFacts, Cert.ExpertDownProof.preFacts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g h => Cert.ExpertUp.Gen.frame m g (Cert.Calls.up_ok_bits h),
    fun m g h => Cert.ExpertUpIdeal.Gen.frame m g (Cert.ExpertUpProof.ok m (Cert.Calls.up_named h)),
    Cert.Calls.frame_up_reference,
    fun m g _ => Cert.Calls.frame_up_reference m g trivial,
    fun m g h => Cert.ExpertDown.Gen.frame m g (Cert.Calls.down_ok_bits h),
    fun m g h => Cert.ExpertDownIdeal.Gen.frame m g (Cert.ExpertDownProof.ok m (Cert.Calls.down_named h)),
    Cert.Calls.frame_down_reference,
    fun m g _ => Cert.Calls.frame_down_reference m g trivial,
    fun m g _ => Cert.FfnUp.Gen.frame m g,
    fun m g _ => Cert.FfnUpIdeal.Gen.frame m g,
    Cert.Calls.frame_ffn_reference,
    fun m g _ => Cert.ValueGate.Gen.frame m g,
    fun m g _ => Cert.ValueGateIdeal.Gen.frame m g,
    Cert.Calls.frame_vg_reference,
    fun m g _ => Cert.LastPle.Gen.frame m g,
    fun m g _ => Cert.LastPleIdeal.Gen.frame m g,
    Cert.MoreCalls.frame_last_reference,
    fun m g _ => Cert.FfnDown.Gen.frame m g,
    fun m g _ => Cert.FfnDownIdeal.Gen.frame m g,
    Cert.MoreCalls.frame_ffn_down_reference,
    fun m g _ => Cert.RetOut.Gen.frame m g,
    fun m g _ => Cert.RetOutIdeal.Gen.frame m g,
    Cert.MoreCalls.frame_ret_out_reference,
    fun m g _ => Cert.MlaOut.Gen.frame m g,
    fun m g _ => Cert.MlaOutIdeal.Gen.frame m g,
    Cert.MoreCalls.frame_mla_out_reference,
    fun m g _ => Cert.RetQk.Gen.frame m g,
    fun m g _ => Cert.RetQkIdeal.Gen.frame m g,
    Cert.MoreCalls.frame_ret_qk_reference,
    fun m g _ => Cert.FirstPle.Gen.frame m g,
    fun m g _ => Cert.FirstPleIdeal.Gen.frame m g,
    Cert.FurtherCalls.frame_first_ple_reference,
    fun m g _ => Cert.MidPle.Gen.frame m g,
    fun m g _ => Cert.MidPleIdeal.Gen.frame m g,
    Cert.FurtherCalls.frame_mid_ple_reference,
    fun m g _ => Cert.MlaLatent.Gen.frame m g,
    fun m g _ => Cert.MlaLatentIdeal.Gen.frame m g,
    Cert.FurtherCalls.frame_mla_latent_reference,
    fun m g _ => Cert.MlaKey.Gen.frame m g,
    fun m g _ => Cert.MlaKeyIdeal.Gen.frame m g,
    Cert.FurtherCalls.frame_mla_key_reference,
    fun m g _ => Cert.MlaValue.Gen.frame m g,
    fun m g _ => Cert.MlaValueIdeal.Gen.frame m g,
    Cert.FurtherCalls.frame_mla_value_reference,
    IdealRules.named_const.statement Cert.KernelIdeal.κ "scale" .f32 0x3DD53B95#32 _ rfl,
    algebraic,
    trivial, Cert.Calls.algebraic_up,
    trivial, Cert.Calls.algebraic_down,
    trivial, Cert.Calls.algebraic_ffn,
    trivial, Cert.Calls.algebraic_vg,
    trivial, Cert.MoreCalls.algebraic_last,
    trivial, Cert.MoreCalls.algebraic_ffn_down,
    trivial, Cert.MoreCalls.algebraic_ret_out,
    trivial, Cert.MoreCalls.algebraic_mla_out,
    trivial, Cert.MoreCalls.algebraic_ret_qk,
    trivial, Cert.FurtherCalls.algebraic_first_ple,
    trivial, Cert.FurtherCalls.algebraic_mid_ple,
    trivial, Cert.FurtherCalls.algebraic_mla_latent,
    trivial, Cert.FurtherCalls.algebraic_mla_key,
    trivial, Cert.FurtherCalls.algebraic_mla_value⟩

end Cert.Proof

end
